-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_grouped [hPre_grouped : Cert.Pre_grouped.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_grouped.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_grouped [hPre_grouped : Cert.Pre_grouped.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_grouped.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_dispatchable [hPre_dispatchable : Cert.Pre_dispatchable.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_dispatchable.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_dispatchable [hPre_dispatchable : Cert.Pre_dispatchable.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_dispatchable.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_grouped [hKernel4Ideal : Cert.Kernel4Ideal.Facts] [hPre_grouped : Cert.Pre_grouped.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_grouped m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_grouped [hReference4Ideal : Cert.Reference4Ideal.Facts] [hPre_grouped : Cert.Pre_grouped.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_grouped m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Kernel5Ideal_pre_dispatchable [hKernel5Ideal : Cert.Kernel5Ideal.Facts] [hPre_dispatchable : Cert.Pre_dispatchable.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_dispatchable m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Reference5Ideal_pre_dispatchable [hReference5Ideal : Cert.Reference5Ideal.Facts] [hPre_dispatchable : Cert.Pre_dispatchable.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_dispatchable m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v17_0)) (v1 : (c : Dev Cert.Kernel2Ideal.nD) → Buf (Elt Ideal) ((c.tc : Thread Cert.Kernel2Ideal.nD Cert.Kernel2Ideal.τ).loc Cert.Kernel2Ideal.main_v17_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17_0) = v0 c
          ∧ r.2.mem ((c.tc : Thread Cert.Kernel2Ideal.nD Cert.Kernel2Ideal.τ).loc Cert.Kernel2Ideal.main_v17_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v26) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v21_0)) (v1 : (c : Dev Cert.Kernel3Ideal.nD) → Buf (Elt Ideal) ((c.tc : Thread Cert.Kernel3Ideal.nD Cert.Kernel3Ideal.τ).loc Cert.Kernel3Ideal.main_v21_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21_0) = v0 c
          ∧ r.2.mem ((c.tc : Thread Cert.Kernel3Ideal.nD Cert.Kernel3Ideal.τ).loc Cert.Kernel3Ideal.main_v21_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v31) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal_pre_grouped [hKernel4Ideal : Cert.Kernel4Ideal.Facts] [hReference4Ideal : Cert.Reference4Ideal.Facts] [hPre_grouped : Cert.Pre_grouped.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_grouped m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_dispatchable [hKernel5Ideal : Cert.Kernel5Ideal.Facts] [hReference5Ideal : Cert.Reference5Ideal.Facts] [hPre_dispatchable : Cert.Pre_dispatchable.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_dispatchable m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v85) = v0 c
          ∧ r.2.mem ((c.tc : Thread Cert.Reference5Ideal.nD Cert.Reference5Ideal.τ).loc Cert.Reference5Ideal.main_v94) = v1 c
          ∧ r.2.mem ((c.tc : Thread Cert.Reference5Ideal.nD Cert.Reference5Ideal.τ).loc Cert.Reference5Ideal.main_v74) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_routed : Cert.Pre_routed.Facts) (hPre_grouped : Cert.Pre_grouped.Facts) (hPre_dispatchable : Cert.Pre_dispatchable.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_grouped (hKernel4Ideal := hKernel4Ideal) (hPre_grouped := hPre_grouped)
    ∧ quiescent_Reference4Ideal (hReference4Ideal := hReference4Ideal)
    ∧ quiescent_Reference4Ideal_pre_grouped (hReference4Ideal := hReference4Ideal) (hPre_grouped := hPre_grouped)
    ∧ quiescent_Kernel5 (hKernel5 := hKernel5)
    ∧ quiescent_Kernel5Ideal (hKernel5Ideal := hKernel5Ideal)
    ∧ quiescent_Kernel5Ideal_pre_dispatchable (hKernel5Ideal := hKernel5Ideal) (hPre_dispatchable := hPre_dispatchable)
    ∧ quiescent_Reference5Ideal (hReference5Ideal := hReference5Ideal)
    ∧ quiescent_Reference5Ideal_pre_dispatchable (hReference5Ideal := hReference5Ideal) (hPre_dispatchable := hPre_dispatchable)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_grouped (hKernel4Ideal := hKernel4Ideal) (hReference4Ideal := hReference4Ideal) (hPre_grouped := hPre_grouped)
    ∧ preserves_Kernel5_Kernel5Ideal
    ∧ algebraic_Kernel5Ideal_Reference5Ideal_pre_dispatchable (hKernel5Ideal := hKernel5Ideal) (hReference5Ideal := hReference5Ideal) (hPre_dispatchable := hPre_dispatchable)
-- ==== Pre_dispatchable.lean ====
abbrev S32768x1024 : Shape := ⟨2, ![32768, 1024]⟩
abbrev S32768x128 : Shape := ⟨2, ![32768, 128]⟩
abbrev S32768x1 : Shape := ⟨2, ![32768, 1]⟩
abbrev S32768 : Shape := ⟨1, ![32768]⟩
abbrev S_ : Shape := ⟨0, ![]⟩

class Facts : Prop where
  slices_S32768x128_S32768x1_0_32 : S32768x128.Slices ![0, 32] S32768x1
  shapeCasts_S32768x1_S32768 : S32768x1.ShapeCasts S32768
  bcast_S_S32768 : S_.BroadcastsInDim S32768 (![] : Fin 0 → Fin S32768.rank)
  reducesTo_S32768_S_d0 : S32768.ReducesTo [0] S_
  h_S_ : 0 < S_.numel
  bcast_S_S32768x128 : S_.BroadcastsInDim S32768x128 (![] : Fin 0 → Fin S32768x128.rank)
  reducesTo_S32768x128_S_d0_1 : S32768x128.ReducesTo [0, 1] S_

variable [Facts]

def fn_part1 {F : FTy → Type} [FloatOps F] (main_v13 : IVec S_ 1) (main_v16 : IVec S_ 1) : IVec S_ 1 :=
  let main_v17 : IVec S_ 1 := andi main_v13 main_v16
  main_v17

def fn {F : FTy → Type} [FloatOps F] (main_arg0 : FVec F S32768x1024 .bf16) (main_arg1 : FVec F S32768x128 .f32) : IVec S_ 1 :=
  let main_v0 : FVec F S32768x1 .f32 := (extractStridedSlice S32768x1 ![0, 32] · slices_S32768x128_S32768x1_0_32) main_arg1
  let main_v1 : FVec F S32768 .f32 := shapeCast S32768 main_v0 shapeCasts_S32768x1_S32768
  let main_cst : FVec F S_ .f32 := constant S_ .f32 0x00000000#32
  let main_v2 : FVec F S32768 .f32 := broadcastInDim S32768 ![] bcast_S_S32768 main_cst
  let main_v3 : IVec S32768 1 := cmpf .oeq main_v1 main_v2
  let main_cst_0 : FVec F S_ .f32 := constant S_ .f32 0x3F800000#32
  let main_v4 : FVec F S32768 .f32 := broadcastInDim S32768 ![] bcast_S_S32768 main_cst_0
  let main_v5 : IVec S32768 1 := cmpf .oeq main_v1 main_v4
  let main_v6 : IVec S32768 1 := ori main_v3 main_v5
  let main_cst_1 : FVec F S_ .f32 := constant S_ .f32 0x40000000#32
  let main_v7 : FVec F S32768 .f32 := broadcastInDim S32768 ![] bcast_S_S32768 main_cst_1
  let main_v8 : IVec S32768 1 := cmpf .oeq main_v1 main_v7
  let main_v9 : IVec S32768 1 := ori main_v6 main_v8
  let main_cst_2 : FVec F S_ .f32 := constant S_ .f32 0x40400000#32
  let main_v10 : FVec F S32768 .f32 := broadcastInDim S32768 ![] bcast_S_S32768 main_cst_2
  let main_v11 : IVec S32768 1 := cmpf .oeq main_v1 main_v10
  let main_v12 : IVec S32768 1 := ori main_v9 main_v11
  let main_c : IVec S_ 1 := constantI S_ 1 1#1
  let main_v13 : IVec S_ 1 := (fun x v => Host.reduce IntOp.andi x v reducesTo_S32768_S_d0 h_S_) main_v12 main_c
  let main_cst_3 : FVec F S_ .f32 := constant S_ .f32 0x7F800000#32
  let main_v14 : FVec F S32768x128 .f32 := broadcastInDim S32768x128 ![] bcast_S_S32768x128 main_cst_3
  let main_v15 : IVec S32768x128 1 := cmpf .olt main_arg1 main_v14
  let main_c_4 : IVec S_ 1 := constantI S_ 1 1#1
  let main_v16 : IVec S_ 1 := (fun x v => Host.reduce IntOp.andi x v reducesTo_S32768x128_S_d0_1 h_S_) main_v15 main_c_4
  fn_part1 (F := F) main_v13 main_v16
-- ==== Pre_grouped.lean ====
abbrev S32x1536x1024 : Shape := ⟨3, ![32, 1536, 1024]⟩
abbrev S32768x128 : Shape := ⟨2, ![32768, 128]⟩
abbrev S32768x1024 : Shape := ⟨2, ![32768, 1024]⟩
abbrev S32768x1 : Shape := ⟨2, ![32768, 1]⟩
abbrev S32768 : Shape := ⟨1, ![32768]⟩
abbrev S_ : Shape := ⟨0, ![]⟩

class Facts : Prop where
  slices_S32768x128_S32768x1_0_32 : S32768x128.Slices ![0, 32] S32768x1
  shapeCasts_S32768x1_S32768 : S32768x1.ShapeCasts S32768
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : FVec F S32x1536x1024 .f32) (main_arg1 : FVec F S32768x128 .f32) (main_arg2 : FVec F S32768x1024 .f32) : IVec S_ 1 :=
  let main_v0 : FVec F S32768x1 .f32 := (extractStridedSlice S32768x1 ![0, 32] · slices_S32768x128_S32768x1_0_32) main_arg1
  let main_v1 : FVec F S32768 .f32 := shapeCast S32768 main_v0 shapeCasts_S32768x1_S32768
  let main_cst : FVec F S_ .f32 := constant S_ .f32 0x00000000#32
  let main_v2 : FVec F S32768 .f32 := broadcastInDim S32768 ![] bcast_S_S32768 main_cst
  let main_v3 : IVec S32768 1 := cmpf .oeq main_v1 main_v2
  let main_cst_0 : FVec F S_ .f32 := constant S_ .f32 0x3F800000#32
  let main_v4 : FVec F S32768 .f32 := broadcastInDim S32768 ![] bcast_S_S32768 main_cst_0
  let main_v5 : IVec S32768 1 := cmpf .oeq main_v1 main_v4
  let main_v6 : IVec S32768 1 := ori main_v3 main_v5
  let main_cst_1 : FVec F S_ .f32 := constant S_ .f32 0x40000000#32
  let main_v7 : FVec F S32768 .f32 := broadcastInDim S32768 ![] bcast_S_S32768 main_cst_1
  let main_v8 : IVec S32768 1 := cmpf .oeq main_v1 main_v7
  let main_v9 : IVec S32768 1 := ori main_v6 main_v8
  let main_cst_2 : FVec F S_ .f32 := constant S_ .f32 0x40400000#32
  let main_v10 : FVec F S32768 .f32 := broadcastInDim S32768 ![] bcast_S_S32768 main_cst_2
  let main_v11 : IVec S32768 1 := cmpf .oeq main_v1 main_v10
  let main_v12 : IVec S32768 1 := ori main_v9 main_v11
  let main_c : IVec S_ 1 := constantI S_ 1 1#1
  let main_v13 : IVec S_ 1 := (fun x v => Host.reduce IntOp.andi x v reducesTo_S32768_S_d0 h_S_) main_v12 main_c
  main_v13
-- ==== Pre_routed.lean ====
abbrev S256 : Shape := ⟨1, ![256]⟩
abbrev S32x1536x1024 : Shape := ⟨3, ![32, 1536, 1024]⟩
abbrev S32x1536x128 : Shape := ⟨3, ![32, 1536, 128]⟩
abbrev S32x1024x256 : Shape := ⟨3, ![32, 1024, 256]⟩
abbrev S32x256x1024 : Shape := ⟨3, ![32, 256, 1024]⟩
abbrev S32x4x2 : Shape := ⟨3, ![32, 4, 2]⟩
abbrev S32x4x1 : Shape := ⟨3, ![32, 4, 1]⟩
abbrev S32x4 : Shape := ⟨2, ![32, 4]⟩
abbrev S_ : Shape := ⟨0, ![]⟩
abbrev S32x4x8 : Shape := ⟨3, ![32, 4, 8]⟩
abbrev S32x32 : Shape := ⟨2, ![32, 32]⟩
abbrev S32x1x32 : Shape := ⟨3, ![32, 1, 32]⟩
abbrev S1536 : Shape := ⟨1, ![1536]⟩
abbrev S1x1536x1 : Shape := ⟨3, ![1, 1536, 1]⟩
abbrev S32x1536x32 : Shape := ⟨3, ![32, 1536, 32]⟩

class Facts : Prop where
  shapeCasts_S256_S32x4x2 : S256.ShapeCasts S32x4x2
  slices_S32x4x2_S32x4x1_0_0_0 : S32x4x2.Slices ![0, 0, 0] S32x4x1
  shapeCasts_S32x4x1_S32x4 : S32x4x1.ShapeCasts S32x4
  slices_S32x4x2_S32x4x1_0_0_1 : S32x4x2.Slices ![0, 0, 1] S32x4x1
  bcast_S_S32x4 : S_.BroadcastsInDim S32x4 (![] : Fin 0 → Fin S32x4.rank)
  bcast_S32x4_S32x4x8_0_1 : S32x4.BroadcastsInDim S32x4x8 (![0, 1] : Fin 2 → Fin S32x4x8.rank)
  shapeCasts_S32x4x8_S32x32 : S32x4x8.ShapeCasts S32x32
  bcast_S32x32_S32x1x32_0_2 : S32x32.BroadcastsInDim S32x1x32 (![0, 2] : Fin 2 → Fin S32x1x32.rank)
  bcast_S1536_S1x1536x1_1 : S1536.BroadcastsInDim S1x1536x1 (![1] : Fin 1 → Fin S1x1536x1.rank)
  bcast_S1x1536x1_S32x1536x32_0_1_2 : S1x1536x1.BroadcastsInDim S32x1536x32 (![0, 1, 2] : Fin 3 → Fin S32x1536x32.rank)
  bcast_S32x1x32_S32x1536x32_0_1_2 : S32x1x32.BroadcastsInDim S32x1536x32 (![0, 1, 2] : Fin 3 → Fin S32x1536x32.rank)
  bcast_S_S32x1x32 : S_.BroadcastsInDim S32x1x32 (![] : Fin 0 → Fin S32x1x32.rank)
  reducesTo_S32x4_S_d0_1 : S32x4.ReducesTo [0, 1] S_
  h_S_ : 0 < S_.numel
  slices_S32x1536x128_S32x1536x32_0_0_0 : S32x1536x128.Slices ![0, 0, 0] S32x1536x32
  bcast_S_S32x1536x32 : S_.BroadcastsInDim S32x1536x32 (![] : Fin 0 → Fin S32x1536x32.rank)

variable [Facts]

def fn_where {F : FTy → Type} [FloatOps F] (arg0 : IVec S32x1536x32 1) (arg1 : FVec F S32x1536x32 .f32) (arg2 : FVec F S_ .f32) : FVec F S32x1536x32 .f32 :=
  let v0 : FVec F S_ .f32 := id arg2
  let v1 : FVec F S32x1536x32 .f32 := broadcastInDim S32x1536x32 ![] bcast_S_S32x1536x32 v0
  let v2 : FVec F S32x1536x32 .f32 := select arg0 arg1 v1
  v2

def fn_part2 {F : FTy → Type} [FloatOps F] (main_arg2 : FVec F S32x1536x128 .f32) (main_v26 : IVec S32x4 1) (main_v29 : IVec S32x1x32 32) (main_v32 : IVec S32x1x32 32) (main_v34 : IVec S1x1536x1 32) (main_v37 : IVec S32x1536x32 1) (main_v38 : IVec S32x1x32 32) : IVec S32x1536x32 1 :=
  let main_v39 : IVec S32x1x32 32 := muli main_v38 main_v32
  let main_v40 : IVec S32x1x32 32 := addi main_v29 main_v39
  let main_v41 : IVec S32x1536x32 32 := broadcastInDim S32x1536x32 ![0, 1, 2] bcast_S1x1536x1_S32x1536x32_0_1_2 main_v34
  let main_v42 : IVec S32x1536x32 32 := broadcastInDim S32x1536x32 ![0, 1, 2] bcast_S32x1x32_S32x1536x32_0_1_2 main_v40
  let main_v43 : IVec S32x1536x32 1 := cmpi .sge main_v41 main_v42
  let main_v44 : IVec S32x1536x32 1 := ori main_v37 main_v43
  let main_c_8 : IVec S_ 1 := constantI S_ 1 1#1
  let main_v45 : IVec S_ 1 := (fun x v => Host.reduce IntOp.andi x v reducesTo_S32x4_S_d0_1 h_S_) main_v26 main_c_8
  let main_v46 : FVec F S32x1536x32 .f32 := (extractStridedSlice S32x1536x32 ![0, 0, 0] · slices_S32x1536x128_S32x1536x32_0_0_0) main_arg2
  let main_cst : FVec F S_ .f32 := constant S_ .f32 0x00000000#32
  let main_v47 : FVec F S32x1536x32 .f32 := fn_where (F := F) main_v44 main_v46 main_cst
  let main_cst_9 : FVec F S_ .f32 := constant S_ .f32 0x00000000#32
  let main_v48 : FVec F S32x1536x32 .f32 := broadcastInDim S32x1536x32 ![] bcast_S_S32x1536x32 main_cst_9
  let main_v49 : IVec S32x1536x32 1 := cmpf .oeq main_v47 main_v48
  let main_v50 : IVec S32x1536x32 1 := broadcastInDim S32x1536x32 ![] bcast_S_S32x1536x32 main_v45
  let main_v51 : IVec S32x1536x32 1 := andi main_v50 main_v49
  main_v51

def fn_part1 {F : FTy → Type} [FloatOps F] (main_arg2 : FVec F S32x1536x128 .f32) (main_v2 : IVec S32x4 32) (main_v4 : IVec S32x4 32) (main_v15 : IVec S32x4 1) (main_v17 : IVec S32x4 32) (main_c_4 : IVec S_ 32) : IVec S32x1536x32 1 :=
  let main_v18 : IVec S32x4 32 := broadcastInDim S32x4 ![] bcast_S_S32x4 main_c_4
  let main_v19 : IVec S32x4 1 := cmpi .eq main_v17 main_v18
  let main_v20 : IVec S32x4 1 := andi main_v15 main_v19
  let main_c_5 : IVec S_ 32 := constantI S_ 32 128#32
  let main_v21 : IVec S32x4 32 := broadcastInDim S32x4 ![] bcast_S_S32x4 main_c_5
  let main_v22 : IVec S32x4 32 := muli main_v21 main_v4
  let main_v23 : IVec S32x4 32 := addi main_v2 main_v22
  let main_c_6 : IVec S_ 32 := constantI S_ 32 1536#32
  let main_v24 : IVec S32x4 32 := broadcastInDim S32x4 ![] bcast_S_S32x4 main_c_6
  let main_v25 : IVec S32x4 1 := cmpi .sle main_v23 main_v24
  let main_v26 : IVec S32x4 1 := andi main_v20 main_v25
  let main_v27 : IVec S32x4x8 32 := broadcastInDim S32x4x8 ![0, 1] bcast_S32x4_S32x4x8_0_1 main_v2
  let main_v28 : IVec S32x32 32 := shapeCast S32x32 main_v27 shapeCasts_S32x4x8_S32x32
  let main_v29 : IVec S32x1x32 32 := broadcastInDim S32x1x32 ![0, 2] bcast_S32x32_S32x1x32_0_2 main_v28
  let main_v30 : IVec S32x4x8 32 := broadcastInDim S32x4x8 ![0, 1] bcast_S32x4_S32x4x8_0_1 main_v4
  let main_v31 : IVec S32x32 32 := shapeCast S32x32 main_v30 shapeCasts_S32x4x8_S32x32
  let main_v32 : IVec S32x1x32 32 := broadcastInDim S32x1x32 ![0, 2] bcast_S32x32_S32x1x32_0_2 main_v31
  let main_v33 : IVec S1536 32 := iotaInDim S1536 32 0
  let main_v34 : IVec S1x1536x1 32 := broadcastInDim S1x1536x1 ![1] bcast_S1536_S1x1536x1_1 main_v33
  let main_v35 : IVec S32x1536x32 32 := broadcastInDim S32x1536x32 ![0, 1, 2] bcast_S1x1536x1_S32x1536x32_0_1_2 main_v34
  let main_v36 : IVec S32x1536x32 32 := broadcastInDim S32x1536x32 ![0, 1, 2] bcast_S32x1x32_S32x1536x32_0_1_2 main_v29
  let main_v37 : IVec S32x1536x32 1 := cmpi .slt main_v35 main_v36
  let main_c_7 : IVec S_ 32 := constantI S_ 32 128#32
  let main_v38 : IVec S32x1x32 32 := broadcastInDim S32x1x32 ![] bcast_S_S32x1x32 main_c_7
  fn_part2 (F := F) main_arg2 main_v26 main_v29 main_v32 main_v34 main_v37 main_v38

def fn {F : FTy → Type} [FloatOps F] (main_arg0 : IVec S256 32) (main_arg1 : FVec F S32x1536x1024 .bf16) (main_arg2 : FVec F S32x1536x128 .f32) (main_arg3 : FVec F S32x1024x256 .f32) (main_arg4 : FVec F S32x1024x256 .f32) (main_arg5 : FVec F S32x256x1024 .f32) : IVec S32x1536x32 1 :=
  let main_v0 : IVec S32x4x2 32 := shapeCast S32x4x2 main_arg0 shapeCasts_S256_S32x4x2
  let main_v1 : IVec S32x4x1 32 := (extractStridedSlice S32x4x1 ![0, 0, 0] · slices_S32x4x2_S32x4x1_0_0_0) main_v0
  let main_v2 : IVec S32x4 32 := shapeCast S32x4 main_v1 shapeCasts_S32x4x1_S32x4
  let main_v3 : IVec S32x4x1 32 := (extractStridedSlice S32x4x1 ![0, 0, 1] · slices_S32x4x2_S32x4x1_0_0_1) main_v0
  let main_v4 : IVec S32x4 32 := shapeCast S32x4 main_v3 shapeCasts_S32x4x1_S32x4
  let main_c : IVec S_ 32 := constantI S_ 32 0#32
  let main_v5 : IVec S32x4 32 := broadcastInDim S32x4 ![] bcast_S_S32x4 main_c
  let main_v6 : IVec S32x4 1 := cmpi .sge main_v2 main_v5
  let main_c_0 : IVec S_ 32 := constantI S_ 32 0#32
  let main_v7 : IVec S32x4 32 := broadcastInDim S32x4 ![] bcast_S_S32x4 main_c_0
  let main_v8 : IVec S32x4 1 := cmpi .sge main_v4 main_v7
  let main_v9 : IVec S32x4 1 := andi main_v6 main_v8
  let main_c_1 : IVec S_ 32 := constantI S_ 32 12#32
  let main_v10 : IVec S32x4 32 := broadcastInDim S32x4 ![] bcast_S_S32x4 main_c_1
  let main_v11 : IVec S32x4 1 := cmpi .sle main_v4 main_v10
  let main_v12 : IVec S32x4 1 := andi main_v9 main_v11
  let main_c_2 : IVec S_ 32 := constantI S_ 32 1536#32
  let main_v13 : IVec S32x4 32 := broadcastInDim S32x4 ![] bcast_S_S32x4 main_c_2
  let main_v14 : IVec S32x4 1 := cmpi .sle main_v2 main_v13
  let main_v15 : IVec S32x4 1 := andi main_v12 main_v14
  let main_c_3 : IVec S_ 32 := constantI S_ 32 127#32
  let main_v16 : IVec S32x4 32 := broadcastInDim S32x4 ![] bcast_S_S32x4 main_c_3
  let main_v17 : IVec S32x4 32 := andi main_v2 main_v16
  let main_c_4 : IVec S_ 32 := constantI S_ 32 0#32
  fn_part1 (F := F) main_arg2 main_v2 main_v4 main_v15 main_v17 main_c_4
-- ==== Kernel.lean ====
abbrev S256 : Shape := ⟨1, ![256]⟩
abbrev S32x1536x1024 : Shape := ⟨3, ![32, 1536, 1024]⟩
abbrev S32x1536x128 : Shape := ⟨3, ![32, 1536, 128]⟩
abbrev S32x1024x256 : Shape := ⟨3, ![32, 1024, 256]⟩
abbrev S32x256x1024 : Shape := ⟨3, ![32, 256, 1024]⟩
abbrev S2x1536x1024 : Shape := ⟨3, ![2, 1536, 1024]⟩
abbrev S2x1536x128 : Shape := ⟨3, ![2, 1536, 128]⟩
abbrev S4x1024x256 : Shape := ⟨3, ![4, 1024, 256]⟩
abbrev S4x256x1024 : Shape := ⟨3, ![4, 256, 1024]⟩
abbrev S1 : Shape := ⟨1, ![1]⟩
abbrev S1x256x1024 : Shape := ⟨3, ![1, 256, 1024]⟩
abbrev S256x1024 : Shape := ⟨2, ![256, 1024]⟩
abbrev S512x1024 : Shape := ⟨2, ![512, 1024]⟩
abbrev S1x256x128 : Shape := ⟨3, ![1, 256, 128]⟩
abbrev S256x128 : Shape := ⟨2, ![256, 128]⟩
abbrev S512x128 : Shape := ⟨2, ![512, 128]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x384x1024 : Shape := ⟨3, ![1, 384, 1024]⟩
abbrev S384x1024 : Shape := ⟨2, ![384, 1024]⟩
abbrev S640x1024 : Shape := ⟨2, ![640, 1024]⟩
abbrev S1x384x128 : Shape := ⟨3, ![1, 384, 128]⟩
abbrev S384x128 : Shape := ⟨2, ![384, 128]⟩
abbrev S640x128 : Shape := ⟨2, ![640, 128]⟩
abbrev S640 : Shape := ⟨1, ![640]⟩
abbrev S640x1 : Shape := ⟨2, ![640, 1]⟩
abbrev S640x256 : Shape := ⟨2, ![640, 256]⟩
abbrev S768x1024 : Shape := ⟨2, ![768, 1024]⟩
abbrev S768x128 : Shape := ⟨2, ![768, 128]⟩
abbrev S768 : Shape := ⟨1, ![768]⟩
abbrev S768x1 : Shape := ⟨2, ![768, 1]⟩
abbrev S768x256 : Shape := ⟨2, ![768, 256]⟩
abbrev S256x1 : Shape := ⟨2, ![256, 1]⟩
abbrev S256x256 : Shape := ⟨2, ![256, 256]⟩
abbrev S384 : Shape := ⟨1, ![384]⟩
abbrev S384x1 : Shape := ⟨2, ![384, 1]⟩
abbrev S384x256 : Shape := ⟨2, ![384, 256]⟩
abbrev S1x128x1024 : Shape := ⟨3, ![1, 128, 1024]⟩
abbrev S128x1024 : Shape := ⟨2, ![128, 1024]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S128x256 : Shape := ⟨2, ![128, 256]⟩

abbrev nBuf : Space → Nat
  | .hbm => 9
  | .vmem => 12
  | .smem => 1
  | _ => 0

abbrev bufTy : (tb : Table) → Fin (tcTables nBuf tb) → BufTy
  | .hbm, ⟨0, _⟩ => ⟨S32x1536x1024, .bf16⟩
  | .hbm, ⟨1, _⟩ => ⟨S32x1536x128, .f32⟩
  | .hbm, ⟨2, _⟩ => ⟨S32x1024x256, .f32⟩
  | .hbm, ⟨3, _⟩ => ⟨S32x1024x256, .f32⟩
  | .hbm, ⟨4, _⟩ => ⟨S32x256x1024, .f32⟩
  | .hbm, ⟨5, _⟩ => ⟨S32x1024x256, .bf16⟩
  | .hbm, ⟨6, _⟩ => ⟨S32x1024x256, .bf16⟩
  | .hbm, ⟨7, _⟩ => ⟨S32x256x1024, .bf16⟩
  | .hbm, ⟨8, _⟩ => ⟨S32x1536x1024, .f32⟩
  | .local _ .vmem, ⟨0, _⟩ => ⟨S2x1536x1024, .bf16⟩
  | .local _ .vmem, ⟨1, _⟩ => ⟨S2x1536x1024, .bf16⟩
  | .local _ .vmem, ⟨2, _⟩ => ⟨S2x1536x128, .f32⟩
  | .local _ .vmem, ⟨3, _⟩ => ⟨S2x1536x128, .f32⟩
  | .local _ .vmem, ⟨4, _⟩ => ⟨S4x1024x256, .bf16⟩
  | .local _ .vmem, ⟨5, _⟩ => ⟨S4x1024x256, .bf16⟩
  | .local _ .vmem, ⟨6, _⟩ => ⟨S4x1024x256, .bf16⟩
  | .local _ .vmem, ⟨7, _⟩ => ⟨S4x1024x256, .bf16⟩
  | .local _ .vmem, ⟨8, _⟩ => ⟨S4x256x1024, .bf16⟩
  | .local _ .vmem, ⟨9, _⟩ => ⟨S4x256x1024, .bf16⟩
  | .local _ .vmem, ⟨10, _⟩ => ⟨S2x1536x1024, .f32⟩
  | .local _ .vmem, ⟨11, _⟩ => ⟨S2x1536x1024, .f32⟩
  | .local _ .smem, ⟨0, _⟩ => ⟨S256, .i32⟩
  | _, _ => ⟨S32x1536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32_6 : BitVec 32) : Fin 1 → Nat :=
  let arg0 : BitVec 32 := BitVec.ofNat 32 (i 0).val
  let c2_i32 : BitVec 32 := 2#32
  let v21 : BitVec 32 := Scalar.muli arg0 c2_i32
  let v22 : BitVec 32 := Scalar.addi v21 c0_i32_6
  let c4_i32_7 : BitVec 32 := 4#32
  let v23 : BitVec 32 := Scalar.muli v22 c4_i32_7
  let arg1 : BitVec 32 := BitVec.ofNat 32 (i 1).val
  let c4_i32 : BitVec 32 := 4#32
  let v0 : BitVec 32 := Scalar.muli arg1 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let v24 : BitVec 32 := Scalar.addi v23 v17
  let c2_i32_8 : BitVec 32 := 2#32
  let v25 : BitVec 32 := Scalar.muli v24 c2_i32_8
  let v26 : Index := Scalar.indexCast v25
  ![v26.toNat]
def k0_off2 (i : grid0.Coords) (c0_i32_6 : BitVec 32) : Fin 1 → Nat :=
  let arg0 : BitVec 32 := BitVec.ofNat 32 (i 0).val
  let c2_i32 : BitVec 32 := 2#32
  let v21 : BitVec 32 := Scalar.muli arg0 c2_i32
  let v22 : BitVec 32 := Scalar.addi v21 c0_i32_6
  let c4_i32_7 : BitVec 32 := 4#32
  let v23 : BitVec 32 := Scalar.muli v22 c4_i32_7
  let arg1 : BitVec 32 := BitVec.ofNat 32 (i 1).val
  let c4_i32 : BitVec 32 := 4#32
  let v0 : BitVec 32 := Scalar.muli arg1 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c8_i32 : BitVec 32 := 8#32
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let v1 : BitVec 32 := Scalar.divsi v0 c8_i32
  let c1_i32 : BitVec 32 := 1#32
  let v16 : BitVec 32 := Scalar.subi v1 c1_i32
  let v17 : BitVec 32 := Scalar.select v15 v16 v1
  let v24 : BitVec 32 := Scalar.addi v23 v17
  let c2_i32_8 : BitVec 32 := 2#32
  let v25 : BitVec 32 := Scalar.muli v24 c2_i32_8
  let c1_i32_9 : BitVec 32 := 1#32
  let v28 : BitVec 32 := Scalar.addi v25 c1_i32_9
  let v29 : Index := Scalar.indexCast v28
  ![v29.toNat]
def k0_mult1 (v27 : BitVec 32) : BitVec 32 :=
  v27
def k0_cond2 (v30 : BitVec 32) (v40 : BitVec 32) : BitVec 1 :=
  let c2_i32_18 : BitVec 32 := 2#32
  let v48 : BitVec 1 := Scalar.cmpi .eq v30 c2_i32_18
  let c2_i32_19 : BitVec 32 := 2#32
  let v49 : BitVec 1 := Scalar.cmpi .eq v40 c2_i32_19
  let v50 : BitVec 1 := Scalar.andi v48 v49
  let v51 : BitVec 32 := Scalar.extui v50
  let c0_i32_20 : BitVec 32 := 0#32
  let v52 : BitVec 1 := Scalar.cmpi .ne v51 c0_i32_20
  v52

def k0_mult2 (v37 : BitVec 32) : BitVec 32 :=
  v37
def k0_off3 (v27 : BitVec 32) : Fin 3 → Nat :=
  let c0 : Index := 0#32
  let v71 : BitVec 32 := v27
  let v73 : Index := Scalar.indexCast v71
  let c0_31 : Index := 0#32
  ![0, v73.toNat, 0]
def k0_off4 (v37 : BitVec 32) : Fin 3 → Nat :=
  let c1 : Index := 1#32
  let v72 : BitVec 32 := v37
  let v76 : Index := Scalar.indexCast v72
  let c0_32 : Index := 0#32
  ![1, v76.toNat, 0]
def k0_off5 (v27 : BitVec 32) : Fin 3 → Nat :=
  let c0_33 : Index := 0#32
  let v71 : BitVec 32 := v27
  let v80 : Index := Scalar.indexCast v71
  let c0_34 : Index := 0#32
  ![0, v80.toNat, 0]
def k0_off6 (v37 : BitVec 32) : Fin 3 → Nat :=
  let c1_35 : Index := 1#32
  let v72 : BitVec 32 := v37
  let v83 : Index := Scalar.indexCast v72
  let c0_36 : Index := 0#32
  ![1, v83.toNat, 0]
def k0_mult3 (v27 : BitVec 32) : BitVec 32 :=
  v27
def k0_cond3 (v30 : BitVec 32) (v40 : BitVec 32) : BitVec 1 :=
  let c2_i32_21 : BitVec 32 := 2#32
  let v53 : BitVec 1 := Scalar.cmpi .eq v30 c2_i32_21
  let c3_i32_22 : BitVec 32 := 3#32
  let v54 : BitVec 1 := Scalar.cmpi .eq v40 c3_i32_22
  let v55 : BitVec 1 := Scalar.andi v53 v54
  let v56 : BitVec 32 := Scalar.extui v55
  let c0_i32_23 : BitVec 32 := 0#32
  let v57 : BitVec 1 := Scalar.cmpi .ne v56 c0_i32_23
  v57

def k0_mult4 (v37 : BitVec 32) : BitVec 32 :=
  v37
def k0_off7 (v27 : BitVec 32) : Fin 3 → Nat :=
  let c0 : Index := 0#32
  let v71 : BitVec 32 := v27
  let v73 : Index := Scalar.indexCast v71
  let c0_31 : Index := 0#32
  ![0, v73.toNat, 0]
def k0_off8 (v37 : BitVec 32) : Fin 3 → Nat :=
  let c1 : Index := 1#32
  let v72 : BitVec 32 := v37
  let v76 : Index := Scalar.indexCast v72
  let c0_32 : Index := 0#32
  ![1, v76.toNat, 0]
def k0_off9 (v27 : BitVec 32) : Fin 3 → Nat :=
  let c0_33 : Index := 0#32
  let v71 : BitVec 32 := v27
  let v80 : Index := Scalar.indexCast v71
  let c0_34 : Index := 0#32
  ![0, v80.toNat, 0]
def k0_off10 (v37 : BitVec 32) : Fin 3 → Nat :=
  let c1_35 : Index := 1#32
  let v72 : BitVec 32 := v37
  let v83 : Index := Scalar.indexCast v72
  let c0_36 : Index := 0#32
  ![1, v83.toNat, 0]
def k0_mult5 (v27 : BitVec 32) : BitVec 32 :=
  v27
def k0_cond4 (v30 : BitVec 32) (v40 : BitVec 32) : BitVec 1 :=
  let c3_i32_24 : BitVec 32 := 3#32
  let v58 : BitVec 1 := Scalar.cmpi .eq v30 c3_i32_24
  let c2_i32_25 : BitVec 32 := 2#32
  let v59 : BitVec 1 := Scalar.cmpi .eq v40 c2_i32_25
  let v60 : BitVec 1 := Scalar.andi v58 v59
  let v61 : BitVec 32 := Scalar.extui v60
  let c0_i32_26 : BitVec 32 := 0#32
  let v62 : BitVec 1 := Scalar.cmpi .ne v61 c0_i32_26
  v62

def k0_mult6 (v37 : BitVec 32) : BitVec 32 :=
  v37
def k0_off11 (v27 : BitVec 32) : Fin 3 → Nat :=
  let c0 : Index := 0#32
  let v71 : BitVec 32 := v27
  let v73 : Index := Scalar.indexCast v71
  let c0_31 : Index := 0#32
  ![0, v73.toNat, 0]
def k0_off12 (v37 : BitVec 32) : Fin 3 → Nat :=
  let c1 : Index := 1#32
  let v72 : BitVec 32 := v37
  let v76 : Index := Scalar.indexCast v72
  let c0_32 : Index := 0#32
  ![1, v76.toNat, 0]
def k0_off13 (v27 : BitVec 32) : Fin 3 → Nat :=
  let c0_33 : Index := 0#32
  let v71 : BitVec 32 := v27
  let v80 : Index := Scalar.indexCast v71
  let c0_34 : Index := 0#32
  ![0, v80.toNat, 0]
def k0_off14 (v37 : BitVec 32) : Fin 3 → Nat :=
  let c1_35 : Index := 1#32
  let v72 : BitVec 32 := v37
  let v83 : Index := Scalar.indexCast v72
  let c0_36 : Index := 0#32
  ![1, v83.toNat, 0]
def k0_mult7 (v27 : BitVec 32) : BitVec 32 :=
  v27
def k0_cond5 (v30 : BitVec 32) (v40 : BitVec 32) : BitVec 1 :=
  let c3_i32_27 : BitVec 32 := 3#32
  let v63 : BitVec 1 := Scalar.cmpi .eq v30 c3_i32_27
  let c3_i32_28 : BitVec 32 := 3#32
  let v64 : BitVec 1 := Scalar.cmpi .eq v40 c3_i32_28
  let v65 : BitVec 1 := Scalar.andi v63 v64
  let v66 : BitVec 32 := Scalar.extui v65
  let c0_i32_29 : BitVec 32 := 0#32
  let v67 : BitVec 1 := Scalar.cmpi .ne v66 c0_i32_29
  v67

def k0_mult8 (v37 : BitVec 32) : BitVec 32 :=
  v37
def k0_off15 (v27 : BitVec 32) : Fin 3 → Nat :=
  let c0 : Index := 0#32
  let v71 : BitVec 32 := v27
  let v73 : Index := Scalar.indexCast v71
  let c0_31 : Index := 0#32
  ![0, v73.toNat, 0]
def k0_off16 (v37 : BitVec 32) : Fin 3 → Nat :=
  let c1 : Index := 1#32
  let v72 : BitVec 32 := v37
  let v76 : Index := Scalar.indexCast v72
  let c0_32 : Index := 0#32
  ![1, v76.toNat, 0]
def k0_off17 (v27 : BitVec 32) : Fin 3 → Nat :=
  let c0_33 : Index := 0#32
  let v71 : BitVec 32 := v27
  let v80 : Index := Scalar.indexCast v71
  let c0_34 : Index := 0#32
  ![0, v80.toNat, 0]
def k0_off18 (v37 : BitVec 32) : Fin 3 → Nat :=
  let c1_35 : Index := 1#32
  let v72 : BitVec 32 := v37
  let v83 : Index := Scalar.indexCast v72
  let c0_36 : Index := 0#32
  ![1, v83.toNat, 0]
@[reducible] def k0_t1_loop (v30 : BitVec 32) : Scf.Loop 32 :=
  let c0_i32_46 : BitVec 32 := 0#32
  let c0_i32_38 : BitVec 32 := 0#32
  let v82 : BitVec 1 := Scalar.cmpi .sgt v30 c0_i32_38
  let v83 : BitVec 32 := Scalar.extui v82
  let c0_i32_39 : BitVec 32 := 0#32
  let v84 : BitVec 1 := Scalar.cmpi .slt v30 c0_i32_39
  let v85 : BitVec 32 := Scalar.extui v84
  let v86 : BitVec 32 := Scalar.subi v83 v85
  let c2_i32_37 : BitVec 32 := 2#32
  let c0_i32_40 : BitVec 32 := 0#32
  let v87 : BitVec 1 := Scalar.cmpi .sgt c2_i32_37 c0_i32_40
  let v88 : BitVec 32 := Scalar.extui v87
  let c0_i32_41 : BitVec 32 := 0#32
  let v89 : BitVec 1 := Scalar.cmpi .slt c2_i32_37 c0_i32_41
  let v90 : BitVec 32 := Scalar.extui v89
  let v91 : BitVec 32 := Scalar.subi v88 v90
  let v92 : BitVec 1 := Scalar.cmpi .ne v86 v91
  let v93 : BitVec 32 := Scalar.remsi v30 c2_i32_37
  let c0_i32_42 : BitVec 32 := 0#32
  let v94 : BitVec 1 := Scalar.cmpi .ne v93 c0_i32_42
  let v95 : BitVec 1 := Scalar.andi v92 v94
  let v81 : BitVec 32 := Scalar.divsi v30 c2_i32_37
  let c1_i32_43 : BitVec 32 := 1#32
  let v96 : BitVec 32 := Scalar.subi v81 c1_i32_43
  let v97 : BitVec 32 := Scalar.select v95 v96 v81
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v30 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let v98 : BitVec 32 := Scalar.subi v97 v80
  let c0_i32_44 : BitVec 32 := 0#32
  let v99 : BitVec 32 := Scalar.maxsi v98 c0_i32_44
  let v100 : BitVec 32 := Scalar.subi v99 c0_i32_46
  let c1_i32_47 : BitVec 32 := 1#32
  let v102 : BitVec 32 := Scalar.divsi v100 c1_i32_47
  let v103 : BitVec 32 := Scalar.muli v102 c1_i32_47
  let v104 : BitVec 32 := Scalar.addi c0_i32_46 v103
  let c1_i32_48 : BitVec 32 := 1#32
  ⟨c0_i32_46, v104, c1_i32_48⟩
def k0_cond6 (v30 : BitVec 32) (v40 : BitVec 32) : BitVec 1 :=
  let c2_i32_15 : BitVec 32 := 2#32
  let v41 : BitVec 1 := Scalar.cmpi .sge v30 c2_i32_15
  let c3_i32 : BitVec 32 := 3#32
  let v42 : BitVec 1 := Scalar.cmpi .sle v30 c3_i32
  let v43 : BitVec 1 := Scalar.andi v41 v42
  let c2_i32_16 : BitVec 32 := 2#32
  let v44 : BitVec 1 := Scalar.cmpi .sge v40 c2_i32_16
  let v45 : BitVec 1 := Scalar.andi v43 v44
  let c3_i32_17 : BitVec 32 := 3#32
  let v46 : BitVec 1 := Scalar.cmpi .sle v40 c3_i32_17
  let v47 : BitVec 1 := Scalar.andi v45 v46
  let v_true : BitVec 1 := 1#1
  let v68 : BitVec 1 := Scalar.xori v47 v_true
  let v69 : BitVec 32 := Scalar.extui v68
  let c0_i32_30 : BitVec 32 := 0#32
  let v70 : BitVec 1 := Scalar.cmpi .ne v69 c0_i32_30
  v70

def k0_mult9 (v27 : BitVec 32) (v30 : BitVec 32) (k0_t1 : Fin (k0_t1_loop v30).trips) : BitVec 32 :=
  let c0_i32_46 : BitVec 32 := 0#32
  let c1_i32_48 : BitVec 32 := 1#32
  let arg9 : BitVec 32 := Scf.iv c0_i32_46 c1_i32_48 k0_t1
  let c256_i32 : BitVec 32 := 256#32
  let v155 : BitVec 32 := Scalar.muli arg9 c256_i32
  let v156 : BitVec 32 := Scalar.addi v27 v155
  v156
def k0_off19 (v27 : BitVec 32) (v30 : BitVec 32) (k0_t1 : Fin (k0_t1_loop v30).trips) : Fin 3 → Nat :=
  let c0 : Index := 0#32
  let c0_i32_46 : BitVec 32 := 0#32
  let c1_i32_48 : BitVec 32 := 1#32
  let arg9 : BitVec 32 := Scf.iv c0_i32_46 c1_i32_48 k0_t1
  let c256_i32 : BitVec 32 := 256#32
  let v155 : BitVec 32 := Scalar.muli arg9 c256_i32
  let v156 : BitVec 32 := Scalar.addi v27 v155
  let v157 : BitVec 32 := v156
  let v158 : Index := Scalar.indexCast v157
  let c0_79 : Index := 0#32
  ![0, v158.toNat, 0]
def k0_off20 (v27 : BitVec 32) (v30 : BitVec 32) (k0_t1 : Fin (k0_t1_loop v30).trips) : Fin 3 → Nat :=
  let c0_80 : Index := 0#32
  let c0_i32_46 : BitVec 32 := 0#32
  let c1_i32_48 : BitVec 32 := 1#32
  let arg9 : BitVec 32 := Scf.iv c0_i32_46 c1_i32_48 k0_t1
  let c256_i32 : BitVec 32 := 256#32
  let v155 : BitVec 32 := Scalar.muli arg9 c256_i32
  let v156 : BitVec 32 := Scalar.addi v27 v155
  let v157 : BitVec 32 := v156
  let v161 : Index := Scalar.indexCast v157
  let c0_81 : Index := 0#32
  ![0, v161.toNat, 0]
@[reducible] def k0_t2_loop (v30 : BitVec 32) : Scf.Loop 32 :=
  let c0_i32_46 : BitVec 32 := 0#32
  let c0_i32_38 : BitVec 32 := 0#32
  let v82 : BitVec 1 := Scalar.cmpi .sgt v30 c0_i32_38
  let v83 : BitVec 32 := Scalar.extui v82
  let c0_i32_39 : BitVec 32 := 0#32
  let v84 : BitVec 1 := Scalar.cmpi .slt v30 c0_i32_39
  let v85 : BitVec 32 := Scalar.extui v84
  let v86 : BitVec 32 := Scalar.subi v83 v85
  let c2_i32_37 : BitVec 32 := 2#32
  let c0_i32_40 : BitVec 32 := 0#32
  let v87 : BitVec 1 := Scalar.cmpi .sgt c2_i32_37 c0_i32_40
  let v88 : BitVec 32 := Scalar.extui v87
  let c0_i32_41 : BitVec 32 := 0#32
  let v89 : BitVec 1 := Scalar.cmpi .slt c2_i32_37 c0_i32_41
  let v90 : BitVec 32 := Scalar.extui v89
  let v91 : BitVec 32 := Scalar.subi v88 v90
  let v92 : BitVec 1 := Scalar.cmpi .ne v86 v91
  let v93 : BitVec 32 := Scalar.remsi v30 c2_i32_37
  let c0_i32_42 : BitVec 32 := 0#32
  let v94 : BitVec 1 := Scalar.cmpi .ne v93 c0_i32_42
  let v95 : BitVec 1 := Scalar.andi v92 v94
  let v81 : BitVec 32 := Scalar.divsi v30 c2_i32_37
  let c1_i32_43 : BitVec 32 := 1#32
  let v96 : BitVec 32 := Scalar.subi v81 c1_i32_43
  let v97 : BitVec 32 := Scalar.select v95 v96 v81
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v30 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let v98 : BitVec 32 := Scalar.subi v97 v80
  let c0_i32_44 : BitVec 32 := 0#32
  let v99 : BitVec 32 := Scalar.maxsi v98 c0_i32_44
  let v100 : BitVec 32 := Scalar.subi v99 c0_i32_46
  let c1_i32_47 : BitVec 32 := 1#32
  let v102 : BitVec 32 := Scalar.divsi v100 c1_i32_47
  let v103 : BitVec 32 := Scalar.muli v102 c1_i32_47
  let v104 : BitVec 32 := Scalar.addi c0_i32_46 v103
  let v101 : BitVec 32 := Scalar.addi c0_i32_46 v100
  let c1_i32_49 : BitVec 32 := 1#32
  ⟨v104, v101, c1_i32_49⟩
def k0_mult10 (v27 : BitVec 32) (v30 : BitVec 32) (k0_t2 : Fin (k0_t2_loop v30).trips) : BitVec 32 :=
  let c0_i32_46 : BitVec 32 := 0#32
  let c0_i32_38 : BitVec 32 := 0#32
  let v82 : BitVec 1 := Scalar.cmpi .sgt v30 c0_i32_38
  let v83 : BitVec 32 := Scalar.extui v82
  let c0_i32_39 : BitVec 32 := 0#32
  let v84 : BitVec 1 := Scalar.cmpi .slt v30 c0_i32_39
  let v85 : BitVec 32 := Scalar.extui v84
  let v86 : BitVec 32 := Scalar.subi v83 v85
  let c2_i32_37 : BitVec 32 := 2#32
  let c0_i32_40 : BitVec 32 := 0#32
  let v87 : BitVec 1 := Scalar.cmpi .sgt c2_i32_37 c0_i32_40
  let v88 : BitVec 32 := Scalar.extui v87
  let c0_i32_41 : BitVec 32 := 0#32
  let v89 : BitVec 1 := Scalar.cmpi .slt c2_i32_37 c0_i32_41
  let v90 : BitVec 32 := Scalar.extui v89
  let v91 : BitVec 32 := Scalar.subi v88 v90
  let v92 : BitVec 1 := Scalar.cmpi .ne v86 v91
  let v93 : BitVec 32 := Scalar.remsi v30 c2_i32_37
  let c0_i32_42 : BitVec 32 := 0#32
  let v94 : BitVec 1 := Scalar.cmpi .ne v93 c0_i32_42
  let v95 : BitVec 1 := Scalar.andi v92 v94
  let v81 : BitVec 32 := Scalar.divsi v30 c2_i32_37
  let c1_i32_43 : BitVec 32 := 1#32
  let v96 : BitVec 32 := Scalar.subi v81 c1_i32_43
  let v97 : BitVec 32 := Scalar.select v95 v96 v81
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v30 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let v98 : BitVec 32 := Scalar.subi v97 v80
  let c0_i32_44 : BitVec 32 := 0#32
  let v99 : BitVec 32 := Scalar.maxsi v98 c0_i32_44
  let v100 : BitVec 32 := Scalar.subi v99 c0_i32_46
  let c1_i32_47 : BitVec 32 := 1#32
  let v102 : BitVec 32 := Scalar.divsi v100 c1_i32_47
  let v103 : BitVec 32 := Scalar.muli v102 c1_i32_47
  let v104 : BitVec 32 := Scalar.addi c0_i32_46 v103
  let c1_i32_49 : BitVec 32 := 1#32
  let arg9 : BitVec 32 := Scf.iv v104 c1_i32_49 k0_t2
  let c256_i32 : BitVec 32 := 256#32
  let v155 : BitVec 32 := Scalar.muli arg9 c256_i32
  let v156 : BitVec 32 := Scalar.addi v27 v155
  v156
def k0_off21 (v27 : BitVec 32) (v30 : BitVec 32) (k0_t2 : Fin (k0_t2_loop v30).trips) : Fin 3 → Nat :=
  let c0 : Index := 0#32
  let c0_i32_46 : BitVec 32 := 0#32
  let c0_i32_38 : BitVec 32 := 0#32
  let v82 : BitVec 1 := Scalar.cmpi .sgt v30 c0_i32_38
  let v83 : BitVec 32 := Scalar.extui v82
  let c0_i32_39 : BitVec 32 := 0#32
  let v84 : BitVec 1 := Scalar.cmpi .slt v30 c0_i32_39
  let v85 : BitVec 32 := Scalar.extui v84
  let v86 : BitVec 32 := Scalar.subi v83 v85
  let c2_i32_37 : BitVec 32 := 2#32
  let c0_i32_40 : BitVec 32 := 0#32
  let v87 : BitVec 1 := Scalar.cmpi .sgt c2_i32_37 c0_i32_40
  let v88 : BitVec 32 := Scalar.extui v87
  let c0_i32_41 : BitVec 32 := 0#32
  let v89 : BitVec 1 := Scalar.cmpi .slt c2_i32_37 c0_i32_41
  let v90 : BitVec 32 := Scalar.extui v89
  let v91 : BitVec 32 := Scalar.subi v88 v90
  let v92 : BitVec 1 := Scalar.cmpi .ne v86 v91
  let v93 : BitVec 32 := Scalar.remsi v30 c2_i32_37
  let c0_i32_42 : BitVec 32 := 0#32
  let v94 : BitVec 1 := Scalar.cmpi .ne v93 c0_i32_42
  let v95 : BitVec 1 := Scalar.andi v92 v94
  let v81 : BitVec 32 := Scalar.divsi v30 c2_i32_37
  let c1_i32_43 : BitVec 32 := 1#32
  let v96 : BitVec 32 := Scalar.subi v81 c1_i32_43
  let v97 : BitVec 32 := Scalar.select v95 v96 v81
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v30 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let v98 : BitVec 32 := Scalar.subi v97 v80
  let c0_i32_44 : BitVec 32 := 0#32
  let v99 : BitVec 32 := Scalar.maxsi v98 c0_i32_44
  let v100 : BitVec 32 := Scalar.subi v99 c0_i32_46
  let c1_i32_47 : BitVec 32 := 1#32
  let v102 : BitVec 32 := Scalar.divsi v100 c1_i32_47
  let v103 : BitVec 32 := Scalar.muli v102 c1_i32_47
  let v104 : BitVec 32 := Scalar.addi c0_i32_46 v103
  let c1_i32_49 : BitVec 32 := 1#32
  let arg9 : BitVec 32 := Scf.iv v104 c1_i32_49 k0_t2
  let c256_i32 : BitVec 32 := 256#32
  let v155 : BitVec 32 := Scalar.muli arg9 c256_i32
  let v156 : BitVec 32 := Scalar.addi v27 v155
  let v157 : BitVec 32 := v156
  let v158 : Index := Scalar.indexCast v157
  let c0_79 : Index := 0#32
  ![0, v158.toNat, 0]
def k0_off22 (v27 : BitVec 32) (v30 : BitVec 32) (k0_t2 : Fin (k0_t2_loop v30).trips) : Fin 3 → Nat :=
  let c0_80 : Index := 0#32
  let c0_i32_46 : BitVec 32 := 0#32
  let c0_i32_38 : BitVec 32 := 0#32
  let v82 : BitVec 1 := Scalar.cmpi .sgt v30 c0_i32_38
  let v83 : BitVec 32 := Scalar.extui v82
  let c0_i32_39 : BitVec 32 := 0#32
  let v84 : BitVec 1 := Scalar.cmpi .slt v30 c0_i32_39
  let v85 : BitVec 32 := Scalar.extui v84
  let v86 : BitVec 32 := Scalar.subi v83 v85
  let c2_i32_37 : BitVec 32 := 2#32
  let c0_i32_40 : BitVec 32 := 0#32
  let v87 : BitVec 1 := Scalar.cmpi .sgt c2_i32_37 c0_i32_40
  let v88 : BitVec 32 := Scalar.extui v87
  let c0_i32_41 : BitVec 32 := 0#32
  let v89 : BitVec 1 := Scalar.cmpi .slt c2_i32_37 c0_i32_41
  let v90 : BitVec 32 := Scalar.extui v89
  let v91 : BitVec 32 := Scalar.subi v88 v90
  let v92 : BitVec 1 := Scalar.cmpi .ne v86 v91
  let v93 : BitVec 32 := Scalar.remsi v30 c2_i32_37
  let c0_i32_42 : BitVec 32 := 0#32
  let v94 : BitVec 1 := Scalar.cmpi .ne v93 c0_i32_42
  let v95 : BitVec 1 := Scalar.andi v92 v94
  let v81 : BitVec 32 := Scalar.divsi v30 c2_i32_37
  let c1_i32_43 : BitVec 32 := 1#32
  let v96 : BitVec 32 := Scalar.subi v81 c1_i32_43
  let v97 : BitVec 32 := Scalar.select v95 v96 v81
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v30 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let v98 : BitVec 32 := Scalar.subi v97 v80
  let c0_i32_44 : BitVec 32 := 0#32
  let v99 : BitVec 32 := Scalar.maxsi v98 c0_i32_44
  let v100 : BitVec 32 := Scalar.subi v99 c0_i32_46
  let c1_i32_47 : BitVec 32 := 1#32
  let v102 : BitVec 32 := Scalar.divsi v100 c1_i32_47
  let v103 : BitVec 32 := Scalar.muli v102 c1_i32_47
  let v104 : BitVec 32 := Scalar.addi c0_i32_46 v103
  let c1_i32_49 : BitVec 32 := 1#32
  let arg9 : BitVec 32 := Scf.iv v104 c1_i32_49 k0_t2
  let c256_i32 : BitVec 32 := 256#32
  let v155 : BitVec 32 := Scalar.muli arg9 c256_i32
  let v156 : BitVec 32 := Scalar.addi v27 v155
  let v157 : BitVec 32 := v156
  let v161 : Index := Scalar.indexCast v157
  let c0_81 : Index := 0#32
  ![0, v161.toNat, 0]
def k0_mult11 (v27 : BitVec 32) (v30 : BitVec 32) : BitVec 32 :=
  let c0_i32_38 : BitVec 32 := 0#32
  let v82 : BitVec 1 := Scalar.cmpi .sgt v30 c0_i32_38
  let v83 : BitVec 32 := Scalar.extui v82
  let c0_i32_39 : BitVec 32 := 0#32
  let v84 : BitVec 1 := Scalar.cmpi .slt v30 c0_i32_39
  let v85 : BitVec 32 := Scalar.extui v84
  let v86 : BitVec 32 := Scalar.subi v83 v85
  let c2_i32_37 : BitVec 32 := 2#32
  let c0_i32_40 : BitVec 32 := 0#32
  let v87 : BitVec 1 := Scalar.cmpi .sgt c2_i32_37 c0_i32_40
  let v88 : BitVec 32 := Scalar.extui v87
  let c0_i32_41 : BitVec 32 := 0#32
  let v89 : BitVec 1 := Scalar.cmpi .slt c2_i32_37 c0_i32_41
  let v90 : BitVec 32 := Scalar.extui v89
  let v91 : BitVec 32 := Scalar.subi v88 v90
  let v92 : BitVec 1 := Scalar.cmpi .ne v86 v91
  let v93 : BitVec 32 := Scalar.remsi v30 c2_i32_37
  let c0_i32_42 : BitVec 32 := 0#32
  let v94 : BitVec 1 := Scalar.cmpi .ne v93 c0_i32_42
  let v95 : BitVec 1 := Scalar.andi v92 v94
  let v81 : BitVec 32 := Scalar.divsi v30 c2_i32_37
  let c1_i32_43 : BitVec 32 := 1#32
  let v96 : BitVec 32 := Scalar.subi v81 c1_i32_43
  let v97 : BitVec 32 := Scalar.select v95 v96 v81
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v30 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let v98 : BitVec 32 := Scalar.subi v97 v80
  let c0_i32_44 : BitVec 32 := 0#32
  let v99 : BitVec 32 := Scalar.maxsi v98 c0_i32_44
  let c256_i32 : BitVec 32 := 256#32
  let v155 : BitVec 32 := Scalar.muli v99 c256_i32
  let v156 : BitVec 32 := Scalar.addi v27 v155
  v156
def k0_cond7 (v30 : BitVec 32) : BitVec 1 :=
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v30 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let c1_i32_50 : BitVec 32 := 1#32
  let v105 : BitVec 1 := Scalar.cmpi .eq v80 c1_i32_50
  let c3_i32_51 : BitVec 32 := 3#32
  let v106 : BitVec 1 := Scalar.cmpi .sge v30 c3_i32_51
  let v107 : BitVec 1 := Scalar.andi v105 v106
  let v108 : BitVec 32 := Scalar.extui v107
  let c0_i32_52 : BitVec 32 := 0#32
  let v109 : BitVec 1 := Scalar.cmpi .ne v108 c0_i32_52
  v109

def k0_off23 (v27 : BitVec 32) (v30 : BitVec 32) : Fin 3 → Nat :=
  let c0 : Index := 0#32
  let c0_i32_38 : BitVec 32 := 0#32
  let v82 : BitVec 1 := Scalar.cmpi .sgt v30 c0_i32_38
  let v83 : BitVec 32 := Scalar.extui v82
  let c0_i32_39 : BitVec 32 := 0#32
  let v84 : BitVec 1 := Scalar.cmpi .slt v30 c0_i32_39
  let v85 : BitVec 32 := Scalar.extui v84
  let v86 : BitVec 32 := Scalar.subi v83 v85
  let c2_i32_37 : BitVec 32 := 2#32
  let c0_i32_40 : BitVec 32 := 0#32
  let v87 : BitVec 1 := Scalar.cmpi .sgt c2_i32_37 c0_i32_40
  let v88 : BitVec 32 := Scalar.extui v87
  let c0_i32_41 : BitVec 32 := 0#32
  let v89 : BitVec 1 := Scalar.cmpi .slt c2_i32_37 c0_i32_41
  let v90 : BitVec 32 := Scalar.extui v89
  let v91 : BitVec 32 := Scalar.subi v88 v90
  let v92 : BitVec 1 := Scalar.cmpi .ne v86 v91
  let v93 : BitVec 32 := Scalar.remsi v30 c2_i32_37
  let c0_i32_42 : BitVec 32 := 0#32
  let v94 : BitVec 1 := Scalar.cmpi .ne v93 c0_i32_42
  let v95 : BitVec 1 := Scalar.andi v92 v94
  let v81 : BitVec 32 := Scalar.divsi v30 c2_i32_37
  let c1_i32_43 : BitVec 32 := 1#32
  let v96 : BitVec 32 := Scalar.subi v81 c1_i32_43
  let v97 : BitVec 32 := Scalar.select v95 v96 v81
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v30 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let v98 : BitVec 32 := Scalar.subi v97 v80
  let c0_i32_44 : BitVec 32 := 0#32
  let v99 : BitVec 32 := Scalar.maxsi v98 c0_i32_44
  let c256_i32 : BitVec 32 := 256#32
  let v155 : BitVec 32 := Scalar.muli v99 c256_i32
  let v156 : BitVec 32 := Scalar.addi v27 v155
  let v157 : BitVec 32 := v156
  let v158 : Index := Scalar.indexCast v157
  let c0_79 : Index := 0#32
  ![0, v158.toNat, 0]
def k0_off24 (v27 : BitVec 32) (v30 : BitVec 32) : Fin 3 → Nat :=
  let c0_80 : Index := 0#32
  let c0_i32_38 : BitVec 32 := 0#32
  let v82 : BitVec 1 := Scalar.cmpi .sgt v30 c0_i32_38
  let v83 : BitVec 32 := Scalar.extui v82
  let c0_i32_39 : BitVec 32 := 0#32
  let v84 : BitVec 1 := Scalar.cmpi .slt v30 c0_i32_39
  let v85 : BitVec 32 := Scalar.extui v84
  let v86 : BitVec 32 := Scalar.subi v83 v85
  let c2_i32_37 : BitVec 32 := 2#32
  let c0_i32_40 : BitVec 32 := 0#32
  let v87 : BitVec 1 := Scalar.cmpi .sgt c2_i32_37 c0_i32_40
  let v88 : BitVec 32 := Scalar.extui v87
  let c0_i32_41 : BitVec 32 := 0#32
  let v89 : BitVec 1 := Scalar.cmpi .slt c2_i32_37 c0_i32_41
  let v90 : BitVec 32 := Scalar.extui v89
  let v91 : BitVec 32 := Scalar.subi v88 v90
  let v92 : BitVec 1 := Scalar.cmpi .ne v86 v91
  let v93 : BitVec 32 := Scalar.remsi v30 c2_i32_37
  let c0_i32_42 : BitVec 32 := 0#32
  let v94 : BitVec 1 := Scalar.cmpi .ne v93 c0_i32_42
  let v95 : BitVec 1 := Scalar.andi v92 v94
  let v81 : BitVec 32 := Scalar.divsi v30 c2_i32_37
  let c1_i32_43 : BitVec 32 := 1#32
  let v96 : BitVec 32 := Scalar.subi v81 c1_i32_43
  let v97 : BitVec 32 := Scalar.select v95 v96 v81
  let c2_i32_31 : BitVec 32 := 2#32
  let c0_i32_32 : BitVec 32 := 0#32
  let v71 : BitVec 1 := Scalar.cmpi .eq c2_i32_31 c0_i32_32
  let c1_i32_33 : BitVec 32 := 1#32
  let v72 : BitVec 32 := Scalar.select v71 c1_i32_33 c2_i32_31
  let v73 : BitVec 32 := Scalar.remsi v30 v72
  let c0_i32_35 : BitVec 32 := 0#32
  let v75 : BitVec 1 := Scalar.cmpi .slt v73 c0_i32_35
  let c0_i32_36 : BitVec 32 := 0#32
  let v76 : BitVec 1 := Scalar.cmpi .slt v72 c0_i32_36
  let v77 : BitVec 1 := Scalar.xori v75 v76
  let c0_i32_34 : BitVec 32 := 0#32
  let v74 : BitVec 1 := Scalar.cmpi .ne v73 c0_i32_34
  let v78 : BitVec 1 := Scalar.andi v77 v74
  let v79 : BitVec 32 := Scalar.addi v73 v72
  let v80 : BitVec 32 := Scalar.select v78 v79 v73
  let v98 : BitVec 32 := Scalar.subi v97 v80
  let c0_i32_44 : BitVec 32 := 0#32
  let v99 : BitVec 32 := Scalar.maxsi v98 c0_i32_44
  let c256_i32 : BitVec 32 := 256#32
  let v155 : BitVec 32 := Scalar.muli v99 c256_i32
  let v156 : BitVec 32 := Scalar.addi v27 v155
  let v157 : BitVec 32 := v156
  let v161 : Index := Scalar.indexCast v157
  let c0_81 : Index := 0#32
  ![0, v161.toNat, 0]
def k0_mult12 (v27 : BitVec 32) : BitVec 32 :=
  v27
def k0_cond8 (v30 : BitVec 32) : BitVec 1 :=
  let c1_i32_53 : BitVec 32 := 1#32
  let v110 : BitVec 1 := Scalar.cmpi .eq v30 c1_i32_53
  let v111 : BitVec 32 := Scalar.extui v110
  let c0_i32_54 : BitVec 32 := 0#32
  let v112 : BitVec 1 := Scalar.cmpi .ne v111 c0_i32_54
  v112

def k0_off25 (v27 : BitVec 32) : Fin 3 → Nat :=
  let c0 : Index := 0#32
  let v155 : BitVec 32 := v27
  let v156 : Index := Scalar.indexCast v155
  let c0_79 : Index := 0#32
  ![0, v156.toNat, 0]
def k0_off26 (v27 : BitVec 32) : Fin 3 → Nat :=
  let c0_80 : Index := 0#32
  let v155 : BitVec 32 := v27
  let v159 : Index := Scalar.indexCast v155
  let c0_81 : Index := 0#32
  ![0, v159.toNat, 0]
@[reducible] def k0_t3_loop (v40 : BitVec 32) : Scf.Loop 32 :=
  let c0_i32_70 : BitVec 32 := 0#32
  let c0_i32_62 : BitVec 32 := 0#32
  let v124 : BitVec 1 := Scalar.cmpi .sgt v40 c0_i32_62
  let v125 : BitVec 32 := Scalar.extui v124
  let c0_i32_63 : BitVec 32 := 0#32
  let v126 : BitVec 1 := Scalar.cmpi .slt v40 c0_i32_63
  let v127 : BitVec 32 := Scalar.extui v126
  let v128 : BitVec 32 := Scalar.subi v125 v127
  let c2_i32_61 : BitVec 32 := 2#32
  let c0_i32_64 : BitVec 32 := 0#32
  let v129 : BitVec 1 := Scalar.cmpi .sgt c2_i32_61 c0_i32_64
  let v130 : BitVec 32 := Scalar.extui v129
  let c0_i32_65 : BitVec 32 := 0#32
  let v131 : BitVec 1 := Scalar.cmpi .slt c2_i32_61 c0_i32_65
  let v132 : BitVec 32 := Scalar.extui v131
  let v133 : BitVec 32 := Scalar.subi v130 v132
  let v134 : BitVec 1 := Scalar.cmpi .ne v128 v133
  let v135 : BitVec 32 := Scalar.remsi v40 c2_i32_61
  let c0_i32_66 : BitVec 32 := 0#32
  let v136 : BitVec 1 := Scalar.cmpi .ne v135 c0_i32_66
  let v137 : BitVec 1 := Scalar.andi v134 v136
  let v123 : BitVec 32 := Scalar.divsi v40 c2_i32_61
  let c1_i32_67 : BitVec 32 := 1#32
  let v138 : BitVec 32 := Scalar.subi v123 c1_i32_67
  let v139 : BitVec 32 := Scalar.select v137 v138 v123
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v40 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v140 : BitVec 32 := Scalar.subi v139 v122
  let c0_i32_68 : BitVec 32 := 0#32
  let v141 : BitVec 32 := Scalar.maxsi v140 c0_i32_68
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_72 : BitVec 32 := 1#32
  ⟨c0_i32_70, v146, c1_i32_72⟩
def k0_mult13 (v37 : BitVec 32) (v40 : BitVec 32) (k0_t3 : Fin (k0_t3_loop v40).trips) : BitVec 32 :=
  let c0_i32_70 : BitVec 32 := 0#32
  let c1_i32_72 : BitVec 32 := 1#32
  let arg9 : BitVec 32 := Scf.iv c0_i32_70 c1_i32_72 k0_t3
  let c256_i32 : BitVec 32 := 256#32
  let v155 : BitVec 32 := Scalar.muli arg9 c256_i32
  let v156 : BitVec 32 := Scalar.addi v37 v155
  v156
def k0_off27 (v37 : BitVec 32) (v40 : BitVec 32) (k0_t3 : Fin (k0_t3_loop v40).trips) : Fin 3 → Nat :=
  let c1 : Index := 1#32
  let c0_i32_70 : BitVec 32 := 0#32
  let c1_i32_72 : BitVec 32 := 1#32
  let arg9 : BitVec 32 := Scf.iv c0_i32_70 c1_i32_72 k0_t3
  let c256_i32 : BitVec 32 := 256#32
  let v155 : BitVec 32 := Scalar.muli arg9 c256_i32
  let v156 : BitVec 32 := Scalar.addi v37 v155
  let v157 : BitVec 32 := v156
  let v158 : Index := Scalar.indexCast v157
  let c0 : Index := 0#32
  ![1, v158.toNat, 0]
def k0_off28 (v37 : BitVec 32) (v40 : BitVec 32) (k0_t3 : Fin (k0_t3_loop v40).trips) : Fin 3 → Nat :=
  let c1_79 : Index := 1#32
  let c0_i32_70 : BitVec 32 := 0#32
  let c1_i32_72 : BitVec 32 := 1#32
  let arg9 : BitVec 32 := Scf.iv c0_i32_70 c1_i32_72 k0_t3
  let c256_i32 : BitVec 32 := 256#32
  let v155 : BitVec 32 := Scalar.muli arg9 c256_i32
  let v156 : BitVec 32 := Scalar.addi v37 v155
  let v157 : BitVec 32 := v156
  let v161 : Index := Scalar.indexCast v157
  let c0_80 : Index := 0#32
  ![1, v161.toNat, 0]
@[reducible] def k0_t4_loop (v40 : BitVec 32) : Scf.Loop 32 :=
  let c0_i32_70 : BitVec 32 := 0#32
  let c0_i32_62 : BitVec 32 := 0#32
  let v124 : BitVec 1 := Scalar.cmpi .sgt v40 c0_i32_62
  let v125 : BitVec 32 := Scalar.extui v124
  let c0_i32_63 : BitVec 32 := 0#32
  let v126 : BitVec 1 := Scalar.cmpi .slt v40 c0_i32_63
  let v127 : BitVec 32 := Scalar.extui v126
  let v128 : BitVec 32 := Scalar.subi v125 v127
  let c2_i32_61 : BitVec 32 := 2#32
  let c0_i32_64 : BitVec 32 := 0#32
  let v129 : BitVec 1 := Scalar.cmpi .sgt c2_i32_61 c0_i32_64
  let v130 : BitVec 32 := Scalar.extui v129
  let c0_i32_65 : BitVec 32 := 0#32
  let v131 : BitVec 1 := Scalar.cmpi .slt c2_i32_61 c0_i32_65
  let v132 : BitVec 32 := Scalar.extui v131
  let v133 : BitVec 32 := Scalar.subi v130 v132
  let v134 : BitVec 1 := Scalar.cmpi .ne v128 v133
  let v135 : BitVec 32 := Scalar.remsi v40 c2_i32_61
  let c0_i32_66 : BitVec 32 := 0#32
  let v136 : BitVec 1 := Scalar.cmpi .ne v135 c0_i32_66
  let v137 : BitVec 1 := Scalar.andi v134 v136
  let v123 : BitVec 32 := Scalar.divsi v40 c2_i32_61
  let c1_i32_67 : BitVec 32 := 1#32
  let v138 : BitVec 32 := Scalar.subi v123 c1_i32_67
  let v139 : BitVec 32 := Scalar.select v137 v138 v123
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v40 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v140 : BitVec 32 := Scalar.subi v139 v122
  let c0_i32_68 : BitVec 32 := 0#32
  let v141 : BitVec 32 := Scalar.maxsi v140 c0_i32_68
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let v143 : BitVec 32 := Scalar.addi c0_i32_70 v142
  let c1_i32_73 : BitVec 32 := 1#32
  ⟨v146, v143, c1_i32_73⟩
def k0_mult14 (v37 : BitVec 32) (v40 : BitVec 32) (k0_t4 : Fin (k0_t4_loop v40).trips) : BitVec 32 :=
  let c0_i32_70 : BitVec 32 := 0#32
  let c0_i32_62 : BitVec 32 := 0#32
  let v124 : BitVec 1 := Scalar.cmpi .sgt v40 c0_i32_62
  let v125 : BitVec 32 := Scalar.extui v124
  let c0_i32_63 : BitVec 32 := 0#32
  let v126 : BitVec 1 := Scalar.cmpi .slt v40 c0_i32_63
  let v127 : BitVec 32 := Scalar.extui v126
  let v128 : BitVec 32 := Scalar.subi v125 v127
  let c2_i32_61 : BitVec 32 := 2#32
  let c0_i32_64 : BitVec 32 := 0#32
  let v129 : BitVec 1 := Scalar.cmpi .sgt c2_i32_61 c0_i32_64
  let v130 : BitVec 32 := Scalar.extui v129
  let c0_i32_65 : BitVec 32 := 0#32
  let v131 : BitVec 1 := Scalar.cmpi .slt c2_i32_61 c0_i32_65
  let v132 : BitVec 32 := Scalar.extui v131
  let v133 : BitVec 32 := Scalar.subi v130 v132
  let v134 : BitVec 1 := Scalar.cmpi .ne v128 v133
  let v135 : BitVec 32 := Scalar.remsi v40 c2_i32_61
  let c0_i32_66 : BitVec 32 := 0#32
  let v136 : BitVec 1 := Scalar.cmpi .ne v135 c0_i32_66
  let v137 : BitVec 1 := Scalar.andi v134 v136
  let v123 : BitVec 32 := Scalar.divsi v40 c2_i32_61
  let c1_i32_67 : BitVec 32 := 1#32
  let v138 : BitVec 32 := Scalar.subi v123 c1_i32_67
  let v139 : BitVec 32 := Scalar.select v137 v138 v123
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v40 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v140 : BitVec 32 := Scalar.subi v139 v122
  let c0_i32_68 : BitVec 32 := 0#32
  let v141 : BitVec 32 := Scalar.maxsi v140 c0_i32_68
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_73 : BitVec 32 := 1#32
  let arg9 : BitVec 32 := Scf.iv v146 c1_i32_73 k0_t4
  let c256_i32 : BitVec 32 := 256#32
  let v155 : BitVec 32 := Scalar.muli arg9 c256_i32
  let v156 : BitVec 32 := Scalar.addi v37 v155
  v156
def k0_off29 (v37 : BitVec 32) (v40 : BitVec 32) (k0_t4 : Fin (k0_t4_loop v40).trips) : Fin 3 → Nat :=
  let c1 : Index := 1#32
  let c0_i32_70 : BitVec 32 := 0#32
  let c0_i32_62 : BitVec 32 := 0#32
  let v124 : BitVec 1 := Scalar.cmpi .sgt v40 c0_i32_62
  let v125 : BitVec 32 := Scalar.extui v124
  let c0_i32_63 : BitVec 32 := 0#32
  let v126 : BitVec 1 := Scalar.cmpi .slt v40 c0_i32_63
  let v127 : BitVec 32 := Scalar.extui v126
  let v128 : BitVec 32 := Scalar.subi v125 v127
  let c2_i32_61 : BitVec 32 := 2#32
  let c0_i32_64 : BitVec 32 := 0#32
  let v129 : BitVec 1 := Scalar.cmpi .sgt c2_i32_61 c0_i32_64
  let v130 : BitVec 32 := Scalar.extui v129
  let c0_i32_65 : BitVec 32 := 0#32
  let v131 : BitVec 1 := Scalar.cmpi .slt c2_i32_61 c0_i32_65
  let v132 : BitVec 32 := Scalar.extui v131
  let v133 : BitVec 32 := Scalar.subi v130 v132
  let v134 : BitVec 1 := Scalar.cmpi .ne v128 v133
  let v135 : BitVec 32 := Scalar.remsi v40 c2_i32_61
  let c0_i32_66 : BitVec 32 := 0#32
  let v136 : BitVec 1 := Scalar.cmpi .ne v135 c0_i32_66
  let v137 : BitVec 1 := Scalar.andi v134 v136
  let v123 : BitVec 32 := Scalar.divsi v40 c2_i32_61
  let c1_i32_67 : BitVec 32 := 1#32
  let v138 : BitVec 32 := Scalar.subi v123 c1_i32_67
  let v139 : BitVec 32 := Scalar.select v137 v138 v123
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v40 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v140 : BitVec 32 := Scalar.subi v139 v122
  let c0_i32_68 : BitVec 32 := 0#32
  let v141 : BitVec 32 := Scalar.maxsi v140 c0_i32_68
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_73 : BitVec 32 := 1#32
  let arg9 : BitVec 32 := Scf.iv v146 c1_i32_73 k0_t4
  let c256_i32 : BitVec 32 := 256#32
  let v155 : BitVec 32 := Scalar.muli arg9 c256_i32
  let v156 : BitVec 32 := Scalar.addi v37 v155
  let v157 : BitVec 32 := v156
  let v158 : Index := Scalar.indexCast v157
  let c0 : Index := 0#32
  ![1, v158.toNat, 0]
def k0_off30 (v37 : BitVec 32) (v40 : BitVec 32) (k0_t4 : Fin (k0_t4_loop v40).trips) : Fin 3 → Nat :=
  let c1_79 : Index := 1#32
  let c0_i32_70 : BitVec 32 := 0#32
  let c0_i32_62 : BitVec 32 := 0#32
  let v124 : BitVec 1 := Scalar.cmpi .sgt v40 c0_i32_62
  let v125 : BitVec 32 := Scalar.extui v124
  let c0_i32_63 : BitVec 32 := 0#32
  let v126 : BitVec 1 := Scalar.cmpi .slt v40 c0_i32_63
  let v127 : BitVec 32 := Scalar.extui v126
  let v128 : BitVec 32 := Scalar.subi v125 v127
  let c2_i32_61 : BitVec 32 := 2#32
  let c0_i32_64 : BitVec 32 := 0#32
  let v129 : BitVec 1 := Scalar.cmpi .sgt c2_i32_61 c0_i32_64
  let v130 : BitVec 32 := Scalar.extui v129
  let c0_i32_65 : BitVec 32 := 0#32
  let v131 : BitVec 1 := Scalar.cmpi .slt c2_i32_61 c0_i32_65
  let v132 : BitVec 32 := Scalar.extui v131
  let v133 : BitVec 32 := Scalar.subi v130 v132
  let v134 : BitVec 1 := Scalar.cmpi .ne v128 v133
  let v135 : BitVec 32 := Scalar.remsi v40 c2_i32_61
  let c0_i32_66 : BitVec 32 := 0#32
  let v136 : BitVec 1 := Scalar.cmpi .ne v135 c0_i32_66
  let v137 : BitVec 1 := Scalar.andi v134 v136
  let v123 : BitVec 32 := Scalar.divsi v40 c2_i32_61
  let c1_i32_67 : BitVec 32 := 1#32
  let v138 : BitVec 32 := Scalar.subi v123 c1_i32_67
  let v139 : BitVec 32 := Scalar.select v137 v138 v123
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v40 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v140 : BitVec 32 := Scalar.subi v139 v122
  let c0_i32_68 : BitVec 32 := 0#32
  let v141 : BitVec 32 := Scalar.maxsi v140 c0_i32_68
  let v142 : BitVec 32 := Scalar.subi v141 c0_i32_70
  let c1_i32_71 : BitVec 32 := 1#32
  let v144 : BitVec 32 := Scalar.divsi v142 c1_i32_71
  let v145 : BitVec 32 := Scalar.muli v144 c1_i32_71
  let v146 : BitVec 32 := Scalar.addi c0_i32_70 v145
  let c1_i32_73 : BitVec 32 := 1#32
  let arg9 : BitVec 32 := Scf.iv v146 c1_i32_73 k0_t4
  let c256_i32 : BitVec 32 := 256#32
  let v155 : BitVec 32 := Scalar.muli arg9 c256_i32
  let v156 : BitVec 32 := Scalar.addi v37 v155
  let v157 : BitVec 32 := v156
  let v161 : Index := Scalar.indexCast v157
  let c0_80 : Index := 0#32
  ![1, v161.toNat, 0]
def k0_mult15 (v37 : BitVec 32) (v40 : BitVec 32) : BitVec 32 :=
  let c0_i32_62 : BitVec 32 := 0#32
  let v124 : BitVec 1 := Scalar.cmpi .sgt v40 c0_i32_62
  let v125 : BitVec 32 := Scalar.extui v124
  let c0_i32_63 : BitVec 32 := 0#32
  let v126 : BitVec 1 := Scalar.cmpi .slt v40 c0_i32_63
  let v127 : BitVec 32 := Scalar.extui v126
  let v128 : BitVec 32 := Scalar.subi v125 v127
  let c2_i32_61 : BitVec 32 := 2#32
  let c0_i32_64 : BitVec 32 := 0#32
  let v129 : BitVec 1 := Scalar.cmpi .sgt c2_i32_61 c0_i32_64
  let v130 : BitVec 32 := Scalar.extui v129
  let c0_i32_65 : BitVec 32 := 0#32
  let v131 : BitVec 1 := Scalar.cmpi .slt c2_i32_61 c0_i32_65
  let v132 : BitVec 32 := Scalar.extui v131
  let v133 : BitVec 32 := Scalar.subi v130 v132
  let v134 : BitVec 1 := Scalar.cmpi .ne v128 v133
  let v135 : BitVec 32 := Scalar.remsi v40 c2_i32_61
  let c0_i32_66 : BitVec 32 := 0#32
  let v136 : BitVec 1 := Scalar.cmpi .ne v135 c0_i32_66
  let v137 : BitVec 1 := Scalar.andi v134 v136
  let v123 : BitVec 32 := Scalar.divsi v40 c2_i32_61
  let c1_i32_67 : BitVec 32 := 1#32
  let v138 : BitVec 32 := Scalar.subi v123 c1_i32_67
  let v139 : BitVec 32 := Scalar.select v137 v138 v123
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v40 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v140 : BitVec 32 := Scalar.subi v139 v122
  let c0_i32_68 : BitVec 32 := 0#32
  let v141 : BitVec 32 := Scalar.maxsi v140 c0_i32_68
  let c256_i32 : BitVec 32 := 256#32
  let v155 : BitVec 32 := Scalar.muli v141 c256_i32
  let v156 : BitVec 32 := Scalar.addi v37 v155
  v156
def k0_cond9 (v40 : BitVec 32) : BitVec 1 :=
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v40 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let c1_i32_74 : BitVec 32 := 1#32
  let v147 : BitVec 1 := Scalar.cmpi .eq v122 c1_i32_74
  let c3_i32_75 : BitVec 32 := 3#32
  let v148 : BitVec 1 := Scalar.cmpi .sge v40 c3_i32_75
  let v149 : BitVec 1 := Scalar.andi v147 v148
  let v150 : BitVec 32 := Scalar.extui v149
  let c0_i32_76 : BitVec 32 := 0#32
  let v151 : BitVec 1 := Scalar.cmpi .ne v150 c0_i32_76
  v151

def k0_off31 (v37 : BitVec 32) (v40 : BitVec 32) : Fin 3 → Nat :=
  let c1 : Index := 1#32
  let c0_i32_62 : BitVec 32 := 0#32
  let v124 : BitVec 1 := Scalar.cmpi .sgt v40 c0_i32_62
  let v125 : BitVec 32 := Scalar.extui v124
  let c0_i32_63 : BitVec 32 := 0#32
  let v126 : BitVec 1 := Scalar.cmpi .slt v40 c0_i32_63
  let v127 : BitVec 32 := Scalar.extui v126
  let v128 : BitVec 32 := Scalar.subi v125 v127
  let c2_i32_61 : BitVec 32 := 2#32
  let c0_i32_64 : BitVec 32 := 0#32
  let v129 : BitVec 1 := Scalar.cmpi .sgt c2_i32_61 c0_i32_64
  let v130 : BitVec 32 := Scalar.extui v129
  let c0_i32_65 : BitVec 32 := 0#32
  let v131 : BitVec 1 := Scalar.cmpi .slt c2_i32_61 c0_i32_65
  let v132 : BitVec 32 := Scalar.extui v131
  let v133 : BitVec 32 := Scalar.subi v130 v132
  let v134 : BitVec 1 := Scalar.cmpi .ne v128 v133
  let v135 : BitVec 32 := Scalar.remsi v40 c2_i32_61
  let c0_i32_66 : BitVec 32 := 0#32
  let v136 : BitVec 1 := Scalar.cmpi .ne v135 c0_i32_66
  let v137 : BitVec 1 := Scalar.andi v134 v136
  let v123 : BitVec 32 := Scalar.divsi v40 c2_i32_61
  let c1_i32_67 : BitVec 32 := 1#32
  let v138 : BitVec 32 := Scalar.subi v123 c1_i32_67
  let v139 : BitVec 32 := Scalar.select v137 v138 v123
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v40 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v140 : BitVec 32 := Scalar.subi v139 v122
  let c0_i32_68 : BitVec 32 := 0#32
  let v141 : BitVec 32 := Scalar.maxsi v140 c0_i32_68
  let c256_i32 : BitVec 32 := 256#32
  let v155 : BitVec 32 := Scalar.muli v141 c256_i32
  let v156 : BitVec 32 := Scalar.addi v37 v155
  let v157 : BitVec 32 := v156
  let v158 : Index := Scalar.indexCast v157
  let c0 : Index := 0#32
  ![1, v158.toNat, 0]
def k0_off32 (v37 : BitVec 32) (v40 : BitVec 32) : Fin 3 → Nat :=
  let c1_79 : Index := 1#32
  let c0_i32_62 : BitVec 32 := 0#32
  let v124 : BitVec 1 := Scalar.cmpi .sgt v40 c0_i32_62
  let v125 : BitVec 32 := Scalar.extui v124
  let c0_i32_63 : BitVec 32 := 0#32
  let v126 : BitVec 1 := Scalar.cmpi .slt v40 c0_i32_63
  let v127 : BitVec 32 := Scalar.extui v126
  let v128 : BitVec 32 := Scalar.subi v125 v127
  let c2_i32_61 : BitVec 32 := 2#32
  let c0_i32_64 : BitVec 32 := 0#32
  let v129 : BitVec 1 := Scalar.cmpi .sgt c2_i32_61 c0_i32_64
  let v130 : BitVec 32 := Scalar.extui v129
  let c0_i32_65 : BitVec 32 := 0#32
  let v131 : BitVec 1 := Scalar.cmpi .slt c2_i32_61 c0_i32_65
  let v132 : BitVec 32 := Scalar.extui v131
  let v133 : BitVec 32 := Scalar.subi v130 v132
  let v134 : BitVec 1 := Scalar.cmpi .ne v128 v133
  let v135 : BitVec 32 := Scalar.remsi v40 c2_i32_61
  let c0_i32_66 : BitVec 32 := 0#32
  let v136 : BitVec 1 := Scalar.cmpi .ne v135 c0_i32_66
  let v137 : BitVec 1 := Scalar.andi v134 v136
  let v123 : BitVec 32 := Scalar.divsi v40 c2_i32_61
  let c1_i32_67 : BitVec 32 := 1#32
  let v138 : BitVec 32 := Scalar.subi v123 c1_i32_67
  let v139 : BitVec 32 := Scalar.select v137 v138 v123
  let c2_i32_55 : BitVec 32 := 2#32
  let c0_i32_56 : BitVec 32 := 0#32
  let v113 : BitVec 1 := Scalar.cmpi .eq c2_i32_55 c0_i32_56
  let c1_i32_57 : BitVec 32 := 1#32
  let v114 : BitVec 32 := Scalar.select v113 c1_i32_57 c2_i32_55
  let v115 : BitVec 32 := Scalar.remsi v40 v114
  let c0_i32_59 : BitVec 32 := 0#32
  let v117 : BitVec 1 := Scalar.cmpi .slt v115 c0_i32_59
  let c0_i32_60 : BitVec 32 := 0#32
  let v118 : BitVec 1 := Scalar.cmpi .slt v114 c0_i32_60
  let v119 : BitVec 1 := Scalar.xori v117 v118
  let c0_i32_58 : BitVec 32 := 0#32
  let v116 : BitVec 1 := Scalar.cmpi .ne v115 c0_i32_58
  let v120 : BitVec 1 := Scalar.andi v119 v116
  let v121 : BitVec 32 := Scalar.addi v115 v114
  let v122 : BitVec 32 := Scalar.select v120 v121 v115
  let v140 : BitVec 32 := Scalar.subi v139 v122
  let c0_i32_68 : BitVec 32 := 0#32
  let v141 : BitVec 32 := Scalar.maxsi v140 c0_i32_68
  let c256_i32 : BitVec 32 := 256#32
  let v155 : BitVec 32 := Scalar.muli v141 c256_i32
  let v156 : BitVec 32 := Scalar.addi v37 v155
  let v157 : BitVec 32 := v156
  let v161 : Index := Scalar.indexCast v157
  let c0_80 : Index := 0#32
  ![1, v161.toNat, 0]
def k0_mult16 (v37 : BitVec 32) : BitVec 32 :=
  v37
def k0_cond10 (v40 : BitVec 32) : BitVec 1 :=
  let c1_i32_77 : BitVec 32 := 1#32
  let v152 : BitVec 1 := Scalar.cmpi .eq v40 c1_i32_77
  let v153 : BitVec 32 := Scalar.extui v152
  let c0_i32_78 : BitVec 32 := 0#32
  let v154 : BitVec 1 := Scalar.cmpi .ne v153 c0_i32_78
  v154

def k0_off33 (v37 : BitVec 32) : Fin 3 → Nat :=
  let c1 : Index := 1#32
  let v155 : BitVec 32 := v37
  let v156 : Index := Scalar.indexCast v155
  let c0 : Index := 0#32
  ![1, v156.toNat, 0]
def k0_off34 (v37 : BitVec 32) : Fin 3 → Nat :=
  let c1_79 : Index := 1#32
  let v155 : BitVec 32 := v37
  let v159 : Index := Scalar.indexCast v155
  let c0_80 : Index := 0#32
  ![1, v159.toNat, 0]

def k0_chk1_0 (v27 : BitVec 32) (v30 : BitVec 32) (v37 : BitVec 32) (v40 : BitVec 32) : Prop :=
  (∀ (k0_h2 : k0_cond2 v30 v40 = 1#1), 128 ∣ (k0_mult1 v27).toNat) ∧
  (∀ (k0_h2 : k0_cond2 v30 v40 = 1#1), 128 ∣ (k0_mult2 v37).toNat) ∧
  (∀ (k0_h2 : k0_cond2 v30 v40 = 1#1), ∀ a, (k0_off3 v27) a + S1x256x1024.size a ≤ S2x1536x1024.size a) ∧
  (∀ (k0_h2 : k0_cond2 v30 v40 = 1#1), ∀ a, (k0_off4 v37) a + S1x256x1024.size a ≤ S2x1536x1024.size a) ∧
  (∀ (k0_h2 : k0_cond2 v30 v40 = 1#1), ∀ a, (k0_off5 v27) a + S1x256x128.size a ≤ S2x1536x128.size a) ∧
  (∀ (k0_h2 : k0_cond2 v30 v40 = 1#1), ∀ a, (k0_off6 v37) a + S1x256x128.size a ≤ S2x1536x128.size a) ∧
  (∀ (k0_h3 : k0_cond3 v30 v40 = 1#1), 128 ∣ (k0_mult3 v27).toNat) ∧
  (∀ (k0_h3 : k0_cond3 v30 v40 = 1#1), 128 ∣ (k0_mult4 v37).toNat) ∧
  (∀ (k0_h3 : k0_cond3 v30 v40 = 1#1), ∀ a, (k0_off7 v27) a + S1x256x1024.size a ≤ S2x1536x1024.size a) ∧
  (∀ (k0_h3 : k0_cond3 v30 v40 = 1#1), ∀ a, (k0_off8 v37) a + S1x384x1024.size a ≤ S2x1536x1024.size a) ∧
  (∀ (k0_h3 : k0_cond3 v30 v40 = 1#1), ∀ a, (k0_off9 v27) a + S1x256x128.size a ≤ S2x1536x128.size a) ∧
  (∀ (k0_h3 : k0_cond3 v30 v40 = 1#1), ∀ a, (k0_off10 v37) a + S1x384x128.size a ≤ S2x1536x128.size a) ∧
  (∀ (k0_h4 : k0_cond4 v30 v40 = 1#1), 128 ∣ (k0_mult5 v27).toNat) ∧
  (∀ (k0_h4 : k0_cond4 v30 v40 = 1#1), 128 ∣ (k0_mult6 v37).toNat) ∧
  (∀ (k0_h4 : k0_cond4 v30 v40 = 1#1), ∀ a, (k0_off11 v27) a + S1x384x1024.size a ≤ S2x1536x1024.size a) ∧
  (∀ (k0_h4 : k0_cond4 v30 v40 = 1#1), ∀ a, (k0_off12 v37) a + S1x256x1024.size a ≤ S2x1536x1024.size a) ∧
  (∀ (k0_h4 : k0_cond4 v30 v40 = 1#1), ∀ a, (k0_off13 v27) a + S1x384x128.size a ≤ S2x1536x128.size a) ∧
  (∀ (k0_h4 : k0_cond4 v30 v40 = 1#1), ∀ a, (k0_off14 v37) a + S1x256x128.size a ≤ S2x1536x128.size a) ∧
  (∀ (k0_h5 : k0_cond5 v30 v40 = 1#1), 128 ∣ (k0_mult7 v27).toNat) ∧
  (∀ (k0_h5 : k0_cond5 v30 v40 = 1#1), 128 ∣ (k0_mult8 v37).toNat) ∧
  (∀ (k0_h5 : k0_cond5 v30 v40 = 1#1), ∀ a, (k0_off15 v27) a + S1x384x1024.size a ≤ S2x1536x1024.size a) ∧
  (∀ (k0_h5 : k0_cond5 v30 v40 = 1#1), ∀ a, (k0_off16 v37) a + S1x384x1024.size a ≤ S2x1536x1024.size a) ∧
  (∀ (k0_h5 : k0_cond5 v30 v40 = 1#1), ∀ a, (k0_off17 v27) a + S1x384x128.size a ≤ S2x1536x128.size a) ∧
  (∀ (k0_h5 : k0_cond5 v30 v40 = 1#1), ∀ a, (k0_off18 v37) a + S1x384x128.size a ≤ S2x1536x128.size a) ∧
  (∀ (k0_h6 : k0_cond6 v30 v40 = 1#1), (k0_t1_loop v30).OK) ∧
  (∀ k0_t1 : Fin (k0_t1_loop v30).trips, ∀ (k0_h6 : k0_cond6 v30 v40 = 1#1), 128 ∣ (k0_mult9 v27 v30 k0_t1).toNat) ∧
  (∀ k0_t1 : Fin (k0_t1_loop v30).trips, ∀ (k0_h6 : k0_cond6 v30 v40 = 1#1), ∀ a, (k0_off19 v27 v30 k0_t1) a + S1x256x1024.size a ≤ S2x1536x1024.size a) ∧
  (∀ k0_t1 : Fin (k0_t1_loop v30).trips, ∀ (k0_h6 : k0_cond6 v30 v40 = 1#1), ∀ a, (k0_off20 v27 v30 k0_t1) a + S1x256x128.size a ≤ S2x1536x128.size a) ∧
  (∀ (k0_h6 : k0_cond6 v30 v40 = 1#1), (k0_t2_loop v30).OK) ∧
  (∀ k0_t2 : Fin (k0_t2_loop v30).trips, ∀ (k0_h6 : k0_cond6 v30 v40 = 1#1), 128 ∣ (k0_mult10 v27 v30 k0_t2).toNat) ∧
  (∀ k0_t2 : Fin (k0_t2_loop v30).trips, ∀ (k0_h6 : k0_cond6 v30 v40 = 1#1), ∀ a, (k0_off21 v27 v30 k0_t2) a + S1x256x1024.size a ≤ S2x1536x1024.size a) ∧
  (∀ k0_t2 : Fin (k0_t2_loop v30).trips, ∀ (k0_h6 : k0_cond6 v30 v40 = 1#1), ∀ a, (k0_off22 v27 v30 k0_t2) a + S1x256x128.size a ≤ S2x1536x128.size a)
def k0_chk1_1 (v27 : BitVec 32) (v30 : BitVec 32) (v37 : BitVec 32) (v40 : BitVec 32) : Prop :=
  (∀ (k0_h6 : k0_cond6 v30 v40 = 1#1), ∀ (k0_h7 : k0_cond7 v30 = 1#1), 128 ∣ (k0_mult11 v27 v30).toNat) ∧
  (∀ (k0_h6 : k0_cond6 v30 v40 = 1#1), ∀ (k0_h7 : k0_cond7 v30 = 1#1), ∀ a, (k0_off23 v27 v30) a + S1x384x1024.size a ≤ S2x1536x1024.size a) ∧
  (∀ (k0_h6 : k0_cond6 v30 v40 = 1#1), ∀ (k0_h7 : k0_cond7 v30 = 1#1), ∀ a, (k0_off24 v27 v30) a + S1x384x128.size a ≤ S2x1536x128.size a) ∧
  (∀ (k0_h6 : k0_cond6 v30 v40 = 1#1), ∀ (k0_h8 : k0_cond8 v30 = 1#1), 128 ∣ (k0_mult12 v27).toNat) ∧
  (∀ (k0_h6 : k0_cond6 v30 v40 = 1#1), ∀ (k0_h8 : k0_cond8 v30 = 1#1), ∀ a, (k0_off25 v27) a + S1x128x1024.size a ≤ S2x1536x1024.size a) ∧
  (∀ (k0_h6 : k0_cond6 v30 v40 = 1#1), ∀ (k0_h8 : k0_cond8 v30 = 1#1), ∀ a, (k0_off26 v27) a + S1x128x128.size a ≤ S2x1536x128.size a) ∧
  (∀ (k0_h6 : k0_cond6 v30 v40 = 1#1), (k0_t3_loop v40).OK) ∧
  (∀ k0_t3 : Fin (k0_t3_loop v40).trips, ∀ (k0_h6 : k0_cond6 v30 v40 = 1#1), 128 ∣ (k0_mult13 v37 v40 k0_t3).toNat) ∧
  (∀ k0_t3 : Fin (k0_t3_loop v40).trips, ∀ (k0_h6 : k0_cond6 v30 v40 = 1#1), ∀ a, (k0_off27 v37 v40 k0_t3) a + S1x256x1024.size a ≤ S2x1536x1024.size a) ∧
  (∀ k0_t3 : Fin (k0_t3_loop v40).trips, ∀ (k0_h6 : k0_cond6 v30 v40 = 1#1), ∀ a, (k0_off28 v37 v40 k0_t3) a + S1x256x128.size a ≤ S2x1536x128.size a) ∧
  (∀ (k0_h6 : k0_cond6 v30 v40 = 1#1), (k0_t4_loop v40).OK) ∧
  (∀ k0_t4 : Fin (k0_t4_loop v40).trips, ∀ (k0_h6 : k0_cond6 v30 v40 = 1#1), 128 ∣ (k0_mult14 v37 v40 k0_t4).toNat) ∧
  (∀ k0_t4 : Fin (k0_t4_loop v40).trips, ∀ (k0_h6 : k0_cond6 v30 v40 = 1#1), ∀ a, (k0_off29 v37 v40 k0_t4) a + S1x256x1024.size a ≤ S2x1536x1024.size a) ∧
  (∀ k0_t4 : Fin (k0_t4_loop v40).trips, ∀ (k0_h6 : k0_cond6 v30 v40 = 1#1), ∀ a, (k0_off30 v37 v40 k0_t4) a + S1x256x128.size a ≤ S2x1536x128.size a) ∧
  (∀ (k0_h6 : k0_cond6 v30 v40 = 1#1), ∀ (k0_h9 : k0_cond9 v40 = 1#1), 128 ∣ (k0_mult15 v37 v40).toNat) ∧
  (∀ (k0_h6 : k0_cond6 v30 v40 = 1#1), ∀ (k0_h9 : k0_cond9 v40 = 1#1), ∀ a, (k0_off31 v37 v40) a + S1x384x1024.size a ≤ S2x1536x1024.size a) ∧
  (∀ (k0_h6 : k0_cond6 v30 v40 = 1#1), ∀ (k0_h9 : k0_cond9 v40 = 1#1), ∀ a, (k0_off32 v37 v40) a + S1x384x128.size a ≤ S2x1536x128.size a) ∧
  (∀ (k0_h6 : k0_cond6 v30 v40 = 1#1), ∀ (k0_h10 : k0_cond10 v40 = 1#1), 128 ∣ (k0_mult16 v37).toNat) ∧
  (∀ (k0_h6 : k0_cond6 v30 v40 = 1#1), ∀ (k0_h10 : k0_cond10 v40 = 1#1), ∀ a, (k0_off33 v37) a + S1x128x1024.size a ≤ S2x1536x1024.size a) ∧
  (∀ (k0_h6 : k0_cond6 v30 v40 = 1#1), ∀ (k0_h10 : k0_cond10 v40 = 1#1), ∀ a, (k0_off34 v37) a + S1x128x128.size a ≤ S2x1536x128.size a)
def k0_chk1 (v27 : BitVec 32) (v30 : BitVec 32) (v37 : BitVec 32) (v40 : BitVec 32) : Prop :=
  k0_chk1_0 v27 v30 v37 v40 ∧
  k0_chk1_1 v27 v30 v37 v40
theorem k0_mult1_dvd : ∀ (v27 : BitVec 32) (v30 : BitVec 32) (v37 : BitVec 32) (v40 : BitVec 32) (k0_hw1 : k0_chk1 v27 v30 v37 v40), ∀ (k0_h2 : k0_cond2 v30 v40 = 1#1), 128 ∣ (k0_mult1 v27).toNat := fun v27 v30 v37 v40 k0_hw1 k0_h2 => k0_hw1.1.1 k0_h2
theorem k0_mult2_dvd : ∀ (v27 : BitVec 32) (v30 : BitVec 32) (v37 : BitVec 32) (v40 : BitVec 32) (k0_hw1 : k0_chk1 v27 v30 v37 v40), ∀ (k0_h2 : k0_cond2 v30 v40 = 1#1), 128 ∣ (k0_mult2 v37).toNat := fun v27 v30 v37 v40 k0_hw1 k0_h2 => k0_hw1.1.2.1 k0_h2
theorem k0_off3_inb : ∀ (v27 : BitVec 32) (v30 : BitVec 32) (v37 : BitVec 32) (v40 : BitVec 32) (k0_hw1 : k0_chk1 v27 v30 v37 v40), ∀ (k0_h2 : k0_cond2 v30 v40 = 1#1), ∀ a, (k0_off3 v27) a + S1x256x1024.size a ≤ S2x1536x1024.size a := fun v27 v30 v37 v40 k0_hw1 k0_h2 => k0_hw1.1.2.2.1 k0_h2
theorem k0_off4_inb : ∀ (v27 : BitVec 32) (v30 : BitVec 32) (v37 : BitVec 32) (v40 : BitVec 32) (k0_hw1 : k0_chk1 v27 v30 v37 v40), ∀ (k0_h2 : k0_cond2 v30 v40 = 1#1), ∀ a, (k0_off4 v37) a + S1x256x1024.size a ≤ S2x1536x1024.size a := fun v27 v30 v37 v40 k0_hw1 k0_h2 => k0_hw1.1.2.2.2.1 k0_h2
theorem k0_off5_inb : ∀ (v27 : BitVec 32) (v30 : BitVec 32) (v37 : BitVec 32) (v40 : BitVec 32) (k0_hw1 : k0_chk1 v27 v30 v37 v40), ∀ (k0_h2 : k0_cond2 v30 v40 = 1#1), ∀ a, (k0_off5 v27) a + S1x256x128.size a ≤ S2x1536x128.size a := fun v27 v30 v37 v40 k0_hw1 k0_h2 => k0_hw1.1.2.2.2.2.1 k0_h2
theorem k0_off6_inb : ∀ (v27 : BitVec 32) (v30 : BitVec 32) (v37 : BitVec 32) (v40 : BitVec 32) (k0_hw1 : k0_chk1 v27 v30 v37 v40), ∀ (k0_h2 : k0_cond2 v30 v40 = 1#1), ∀ a, (k0_off6 v37) a + S1x256x128.size a ≤ S2x1536x128.size a := fun v27 v30 v37 v40 k0_hw1 k0_h2 => k0_hw1.1.2.2.2.2.2.1 k0_h2
theorem k0_mult3_dvd : ∀ (v27 : BitVec 32) (v30 : BitVec 32) (v37 : BitVec 32) (v40 : BitVec 32) (k0_hw1 : k0_chk1 v27 v30 v37 v40), ∀ (k0_h3 : k0_cond3 v30 v40 = 1#1), 128 ∣ (k0_mult3 v27).toNat := fun v27 v30 v37 v40 k0_hw1 k0_h3 => k0_hw1.1.2.2.2.2.2.2.1 k0_h3
theorem k0_mult4_dvd : ∀ (v27 : BitVec 32) (v30 : BitVec 32) (v37 : BitVec 32) (v40 : BitVec 32) (k0_hw1 : k0_chk1 v27 v30 v37 v40), ∀ (k0_h3 : k0_cond3 v30 v40 = 1#1), 128 ∣ (k0_mult4 v37).toNat := fun v27 v30 v37 v40 k0_hw1 k0_h3 => k0_hw1.1.2.2.2.2.2.2.2.1 k0_h3
theorem k0_off7_inb : ∀ (v27 : BitVec 32) (v30 : BitVec 32) (v37 : BitVec 32) (v40 : BitVec 32) (k0_hw1 : k0_chk1 v27 v30 v37 v40), ∀ (k0_h3 : k0_cond3 v30 v40 = 1#1), ∀ a, (k0_off7 v27) a + S1x256x1024.size a ≤ S2x1536x1024.size a := fun v27 v30 v37 v40 k0_hw1 k0_h3 => k0_hw1.1.2.2.2.2.2.2.2.2.1 k0_h3
theorem k0_off8_inb : ∀ (v27 : BitVec 32) (v30 : BitVec 32) (v37 : BitVec 32) (v40 : BitVec 32) (k0_hw1 : k0_chk1 v27 v30 v37 v40), ∀ (k0_h3 : k0_cond3 v30 v40 = 1#1), ∀ a, (k0_off8 v37) a + S1x384x1024.size a ≤ S2x1536x1024.size a := fun v27 v30 v37 v40 k0_hw1 k0_h3 => k0_hw1.1.2.2.2.2.2.2.2.2.2.1 k0_h3
theorem k0_off9_inb : ∀ (v27 : BitVec 32) (v30 : BitVec 32) (v37 : BitVec 32) (v40 : BitVec 32) (k0_hw1 : k0_chk1 v27 v30 v37 v40), ∀ (k0_h3 : k0_cond3 v30 v40 = 1#1), ∀ a, (k0_off9 v27) a + S1x256x128.size a ≤ S2x1536x128.size a := fun v27 v30 v37 v40 k0_hw1 k0_h3 => k0_hw1.1.2.2.2.2.2.2.2.2.2.2.1 k0_h3
theorem k0_off10_inb : ∀ (v27 : BitVec 32) (v30 : BitVec 32) (v37 : BitVec 32) (v40 : BitVec 32) (k0_hw1 : k0_chk1 v27 v30 v37 v40), ∀ (k0_h3 : k0_cond3 v30 v40 = 1#1), ∀ a, (k0_off10 v37) a + S1x384x128.size a ≤ S2x1536x128.size a := fun v27 v30 v37 v40 k0_hw1 k0_h3 => k0_hw1.1.2.2.2.2.2.2.2.2.2.2.2.1 k0_h3
theorem k0_mult5_dvd : ∀ (v27 : BitVec 32) (v30 : BitVec 32) (v37 : BitVec 32) (v40 : BitVec 32) (k0_hw1 : k0_chk1 v27 v30 v37 v40), ∀ (k0_h4 : k0_cond4 v30 v40 = 1#1), 128 ∣ (k0_mult5 v27).toNat := fun v27 v30 v37 v40 k0_hw1 k0_h4 => k0_hw1.1.2.2.2.2.2.2.2.2.2.2.2.2.1 k0_h4
theorem k0_mult6_dvd : ∀ (v27 : BitVec 32) (v30 : BitVec 32) (v37 : BitVec 32) (v40 : BitVec 32) (k0_hw1 : k0_chk1 v27 v30 v37 v40), ∀ (k0_h4 : k0_cond4 v30 v40 = 1#1), 128 ∣ (k0_mult6 v37).toNat := fun v27 v30 v37 v40 k0_hw1 k0_h4 => k0_hw1.1.2.2.2.2.2.2.2.2.2.2.2.2.2.1 k0_h4
theorem k0_off11_inb : ∀ (v27 : BitVec 32) (v30 : BitVec 32) (v37 : BitVec 32) (v40 : BitVec 32) (k0_hw1 : k0_chk1 v27 v30 v37 v40), ∀ (k0_h4 : k0_cond4 v30 v40 = 1#1), ∀ a, (k0_off11 v27) a + S1x384x1024.size a ≤ S2x1536x1024.size a := fun v27 v30 v37 v40 k0_hw1 k0_h4 => k0_hw1.1.2.2.2.2.2.2.2.2.2.2.2.2.2.2.1 k0_h4
theorem k0_off12_inb : ∀ (v27 : BitVec 32) (v30 : BitVec 32) (v37 : BitVec 32) (v40 : BitVec 32) (k0_hw1 : k0_chk1 v27 v30 v37 v40), ∀ (k0_h4 : k0_cond4 v30 v40 = 1#1), ∀ a, (k0_off12 v37) a + S1x256x1024.size a ≤ S2x1536x1024.size a := fun v27 v30 v37 v40 k0_hw1 k0_h4 => k0_hw1.1.2.2.2.2.2.2.2.2.2.2.2.2.2.2.2.1 k0_h4
theorem k0_off13_inb : ∀ (v27 : BitVec 32) (v30 : BitVec 32) (v37 : BitVec 32) (v40 : BitVec 32) (k0_hw1 : k0_chk1 v27 v30 v37 v40), ∀ (k0_h4 : k0_cond4 v30 v40 = 1#1), ∀ a, (k0_off13 v27) a + S1x384x128.size a ≤ S2x1536x128.size a := fun v27 v30 v37 v40 k0_hw1 k0_h4 => k0_hw1.1.2.2.2.2.2.2.2.2.2.2.2.2.2.2.2.2.1 k0_h4
theorem k0_off14_inb : ∀ (v27 : BitVec 32) (v30 : BitVec 32) (v37 : BitVec 32) (v40 : BitVec 32) (k0_hw1 : k0_chk1 v27 v30 v37 v40), ∀ (k0_h4 : k0_cond4 v30 v40 = 1#1), ∀ a, (k0_off14 v37) a + S1x256x128.size a ≤ S2x1536x128.size a := fun v27 v30 v37 v40 k0_hw1 k0_h4 => k0_hw1.1.2.2.2.2.2.2.2.2.2.2.2.2.2.2.2.2.2.1 k0_h4
theorem k0_mult7_dvd : ∀ (v27 : BitVec 32) (v30 : BitVec 32) (v37 : BitVec 32) (v40 : BitVec 32) (k0_hw1 : k0_chk1 v27 v30 v37 v40), ∀ (k0_h5 : k0_cond5 v30 v40 = 1#1), 128 ∣ (k0_mult7 v27).toNat := fun v27 v30 v37 v40 k0_hw1 k0_h5 => k0_hw1.1.2.2.2.2.2.2.2.2.2.2.2.2.2.2.2.2.2.2.1 k0_h5
theorem k0_mult8_dvd : ∀ (v27 : BitVec 32) (v30 : BitVec 32) (v37 : BitVec 32) (v40 : BitVec 32) (k0_hw1 : k0_chk1 v27 v30 v37 v40), ∀ (k0_h5 : k0_cond5 v30 v40 = 1#1), 128 ∣ (k0_mult8 v37).toNat := fun v27 v30 v37 v40 k0_hw1 k0_h5 => k0_hw1.1.2.2.2.2.2.2.2.2.2.2.2.2.2.2.2.2.2.2.2.1 k0_h5
theorem k0_off15_inb : ∀ (v27 : BitVec 32) (v30 : BitVec 32) (v37 : BitVec 32) (v40 : BitVec 32) (k0_hw1 : k0_chk1 v27 v30 v37 v40), ∀ (k0_h5 : k0_cond5 v30 v40 = 1#1), ∀ a, (k0_off15 v27) a + S1x384x1024.size a ≤ S2x1536x1024.size a := fun v27 v30 v37 v40 k0_hw1 k0_h5 => k0_hw1.1.2.2.2.2.2.2.2.2.2.2.2.2.2.2.2.2.2.2.2.2.1 k0_h5
theorem k0_off16_inb : ∀ (v27 : BitVec 32) (v30 : BitVec 32) (v37 : BitVec 32) (v40 : BitVec 32) (k0_hw1 : k0_chk1 v27 v30 v37 v40), ∀ (k0_h5 : k0_cond5 v30 v40 = 1#1), ∀ a, (k0_off16 v37) a + S1x384x1024.size a ≤ S2x1536x1024.size a := fun v27 v30 v37 v40 k0_hw1 k0_h5 => k0_hw1.1.2.2.2.2.2.2.2.2.2.2.2.2.2.2.2.2.2.2.2.2.2.1 k0_h5
theorem k0_off17_inb : ∀ (v27 : BitVec 32) (v30 : BitVec 32) (v37 : BitVec 32) (v40 : BitVec 32) (k0_hw1 : k0_chk1 v27 v30 v37 v40), ∀ (k0_h5 : k0_cond5 v30 v40 = 1#1), ∀ a, (k0_off17 v27) a + S1x384x128.size a ≤ S2x1536x128.size a := fun v27 v30 v37 v40 k0_hw1 k0_h5 => k0_hw1.1.2.2.2.2.2.2.2.2.2.2.2.2.2.2.2.2.2.2.2.2.2.2.1 k0_h5
theorem k0_off18_inb : ∀ (v27 : BitVec 32) (v30 : BitVec 32) (v37 : BitVec 32) (v40 : BitVec 32) (k0_hw1 : k0_chk1 v27 v30 v37 v40), ∀ (k0_h5 : k0_cond5 v30 v40 = 1#1), ∀ a, (k0_off18 v37) a + S1x384x128.size a ≤ S2x1536x128.size a := fun v27 v30 v37 v40 k0_hw1 k0_h5 => k0_hw1.1.2.2.2.2.2.2.2.2.2.2.2.2.2.2.2.2.2.2.2.2.2.2.2.1 k0_h5
theorem k0_t1_ok : ∀ (v27 : BitVec 32) (v30 : BitVec 32) (v37 : BitVec 32) (v40 : BitVec 32) (k0_hw1 : k0_chk1 v27 v30 v37 v40), ∀ (k0_h6 : k0_cond6 v30 v40 = 1#1), (k0_t1_loop v30).OK := fun v27 v30 v37 v40 k0_hw1 k0_h6 => k0_hw1.1.2.2.2.2.2.2.2.2.2.2.2.2.2.2.2.2.2.2.2.2.2.2.2.2.1 k0_h6
theorem k0_mult9_dvd : ∀ (v27 : BitVec 32) (v30 : BitVec 32) (v37 : BitVec 32) (v40 : BitVec 32) (k0_hw1 : k0_chk1 v27 v30 v37 v40) (k0_t1 : Fin (k0_t1_loop v30).trips), ∀ (k0_h6 : k0_cond6 v30 v40 = 1#1), 128 ∣ (k0_mult9 v27 v30 k0_t1).toNat := fun v27 v30 v37 v40 k0_hw1 k0_t1 k0_h6 => k0_hw1.1.2.2.2.2.2.2.2.2.2.2.2.2.2.2.2.2.2.2.2.2.2.2.2.2.2.1 k0_t1 k0_h6
theorem k0_off19_inb : ∀ (v27 : BitVec 32) (v30 : BitVec 32) (v37 : BitVec 32) (v40 : BitVec 32) (k0_hw1 : k0_chk1 v27 v30 v37 v40) (k0_t1 : Fin (k0_t1_loop v30).trips), ∀ (k0_h6 : k0_cond6 v30 v40 = 1#1), ∀ a, (k0_off19 v27 v30 k0_t1) a + S1x256x1024.size a ≤ S2x1536x1024.size a := fun v27 v30 v37 v40 k0_hw1 k0_t1 k0_h6 => k0_hw1.1.2.2.2.2.2.2.2.2.2.2.2.2.2.2.2.2.2.2.2.2.2.2.2.2.2.2.1 k0_t1 k0_h6
theorem k0_off20_inb : ∀ (v27 : BitVec 32) (v30 : BitVec 32) (v37 : BitVec 32) (v40 : BitVec 32) (k0_hw1 : k0_chk1 v27 v30 v37 v40) (k0_t1 : Fin (k0_t1_loop v30).trips), ∀ (k0_h6 : k0_cond6 v30 v40 = 1#1), ∀ a, (k0_off20 v27 v30 k0_t1) a + S1x256x128.size a ≤ S2x1536x128.size a := fun v27 v30 v37 v40 k0_hw1 k0_t1 k0_h6 => k0_hw1.1.2.2.2.2.2.2.2.2.2.2.2.2.2.2.2.2.2.2.2.2.2.2.2.2.2.2.2.1 k0_t1 k0_h6
theorem k0_t2_ok : ∀ (v27 : BitVec 32) (v30 : BitVec 32) (v37 : BitVec 32) (v40 : BitVec 32) (k0_hw1 : k0_chk1 v27 v30 v37 v40), ∀ (k0_h6 : k0_cond6 v30 v40 = 1#1), (k0_t2_loop v30).OK := fun v27 v30 v37 v40 k0_hw1 k0_h6 => k0_hw1.1.2.2.2.2.2.2.2.2.2.2.2.2.2.2.2.2.2.2.2.2.2.2.2.2.2.2.2.2.1 k0_h6
theorem k0_mult10_dvd : ∀ (v27 : BitVec 32) (v30 : BitVec 32) (v37 : BitVec 32) (v40 : BitVec 32) (k0_hw1 : k0_chk1 v27 v30 v37 v40) (k0_t2 : Fin (k0_t2_loop v30).trips), ∀ (k0_h6 : k0_cond6 v30 v40 = 1#1), 128 ∣ (k0_mult10 v27 v30 k0_t2).toNat := fun v27 v30 v37 v40 k0_hw1 k0_t2 k0_h6 => k0_hw1.1.2.2.2.2.2.2.2.2.2.2.2.2.2.2.2.2.2.2.2.2.2.2.2.2.2.2.2.2.2.1 k0_t2 k0_h6
theorem k0_off21_inb : ∀ (v27 : BitVec 32) (v30 : BitVec 32) (v37 : BitVec 32) (v40 : BitVec 32) (k0_hw1 : k0_chk1 v27 v30 v37 v40) (k0_t2 : Fin (k0_t2_loop v30).trips), ∀ (k0_h6 : k0_cond6 v30 v40 = 1#1), ∀ a, (k0_off21 v27 v30 k0_t2) a + S1x256x1024.size a ≤ S2x1536x1024.size a := fun v27 v30 v37 v40 k0_hw1 k0_t2 k0_h6 => k0_hw1.1.2.2.2.2.2.2.2.2.2.2.2.2.2.2.2.2.2.2.2.2.2.2.2.2.2.2.2.2.2.2.1 k0_t2 k0_h6
theorem k0_off22_inb : ∀ (v27 : BitVec 32) (v30 : BitVec 32) (v37 : BitVec 32) (v40 : BitVec 32) (k0_hw1 : k0_chk1 v27 v30 v37 v40) (k0_t2 : Fin (k0_t2_loop v30).trips), ∀ (k0_h6 : k0_cond6 v30 v40 = 1#1), ∀ a, (k0_off22 v27 v30 k0_t2) a + S1x256x128.size a ≤ S2x1536x128.size a := fun v27 v30 v37 v40 k0_hw1 k0_t2 k0_h6 => k0_hw1.1.2.2.2.2.2.2.2.2.2.2.2.2.2.2.2.2.2.2.2.2.2.2.2.2.2.2.2.2.2.2.2 k0_t2 k0_h6
theorem k0_mult11_dvd : ∀ (v27 : BitVec 32) (v30 : BitVec 32) (v37 : BitVec 32) (v40 : BitVec 32) (k0_hw1 : k0_chk1 v27 v30 v37 v40), ∀ (k0_h6 : k0_cond6 v30 v40 = 1#1), ∀ (k0_h7 : k0_cond7 v30 = 1#1), 128 ∣ (k0_mult11 v27 v30).toNat := fun v27 v30 v37 v40 k0_hw1 k0_h6 k0_h7 => k0_hw1.2.1 k0_h6 k0_h7
theorem k0_off23_inb : ∀ (v27 : BitVec 32) (v30 : BitVec 32) (v37 : BitVec 32) (v40 : BitVec 32) (k0_hw1 : k0_chk1 v27 v30 v37 v40), ∀ (k0_h6 : k0_cond6 v30 v40 = 1#1), ∀ (k0_h7 : k0_cond7 v30 = 1#1), ∀ a, (k0_off23 v27 v30) a + S1x384x1024.size a ≤ S2x1536x1024.size a := fun v27 v30 v37 v40 k0_hw1 k0_h6 k0_h7 => k0_hw1.2.2.1 k0_h6 k0_h7
theorem k0_off24_inb : ∀ (v27 : BitVec 32) (v30 : BitVec 32) (v37 : BitVec 32) (v40 : BitVec 32) (k0_hw1 : k0_chk1 v27 v30 v37 v40), ∀ (k0_h6 : k0_cond6 v30 v40 = 1#1), ∀ (k0_h7 : k0_cond7 v30 = 1#1), ∀ a, (k0_off24 v27 v30) a + S1x384x128.size a ≤ S2x1536x128.size a := fun v27 v30 v37 v40 k0_hw1 k0_h6 k0_h7 => k0_hw1.2.2.2.1 k0_h6 k0_h7
theorem k0_mult12_dvd : ∀ (v27 : BitVec 32) (v30 : BitVec 32) (v37 : BitVec 32) (v40 : BitVec 32) (k0_hw1 : k0_chk1 v27 v30 v37 v40), ∀ (k0_h6 : k0_cond6 v30 v40 = 1#1), ∀ (k0_h8 : k0_cond8 v30 = 1#1), 128 ∣ (k0_mult12 v27).toNat := fun v27 v30 v37 v40 k0_hw1 k0_h6 k0_h8 => k0_hw1.2.2.2.2.1 k0_h6 k0_h8
theorem k0_off25_inb : ∀ (v27 : BitVec 32) (v30 : BitVec 32) (v37 : BitVec 32) (v40 : BitVec 32) (k0_hw1 : k0_chk1 v27 v30 v37 v40), ∀ (k0_h6 : k0_cond6 v30 v40 = 1#1), ∀ (k0_h8 : k0_cond8 v30 = 1#1), ∀ a, (k0_off25 v27) a + S1x128x1024.size a ≤ S2x1536x1024.size a := fun v27 v30 v37 v40 k0_hw1 k0_h6 k0_h8 => k0_hw1.2.2.2.2.2.1 k0_h6 k0_h8
theorem k0_off26_inb : ∀ (v27 : BitVec 32) (v30 : BitVec 32) (v37 : BitVec 32) (v40 : BitVec 32) (k0_hw1 : k0_chk1 v27 v30 v37 v40), ∀ (k0_h6 : k0_cond6 v30 v40 = 1#1), ∀ (k0_h8 : k0_cond8 v30 = 1#1), ∀ a, (k0_off26 v27) a + S1x128x128.size a ≤ S2x1536x128.size a := fun v27 v30 v37 v40 k0_hw1 k0_h6 k0_h8 => k0_hw1.2.2.2.2.2.2.1 k0_h6 k0_h8
theorem k0_t3_ok : ∀ (v27 : BitVec 32) (v30 : BitVec 32) (v37 : BitVec 32) (v40 : BitVec 32) (k0_hw1 : k0_chk1 v27 v30 v37 v40), ∀ (k0_h6 : k0_cond6 v30 v40 = 1#1), (k0_t3_loop v40).OK := fun v27 v30 v37 v40 k0_hw1 k0_h6 => k0_hw1.2.2.2.2.2.2.2.1 k0_h6
theorem k0_mult13_dvd : ∀ (v27 : BitVec 32) (v30 : BitVec 32) (v37 : BitVec 32) (v40 : BitVec 32) (k0_hw1 : k0_chk1 v27 v30 v37 v40) (k0_t3 : Fin (k0_t3_loop v40).trips), ∀ (k0_h6 : k0_cond6 v30 v40 = 1#1), 128 ∣ (k0_mult13 v37 v40 k0_t3).toNat := fun v27 v30 v37 v40 k0_hw1 k0_t3 k0_h6 => k0_hw1.2.2.2.2.2.2.2.2.1 k0_t3 k0_h6
theorem k0_off27_inb : ∀ (v27 : BitVec 32) (v30 : BitVec 32) (v37 : BitVec 32) (v40 : BitVec 32) (k0_hw1 : k0_chk1 v27 v30 v37 v40) (k0_t3 : Fin (k0_t3_loop v40).trips), ∀ (k0_h6 : k0_cond6 v30 v40 = 1#1), ∀ a, (k0_off27 v37 v40 k0_t3) a + S1x256x1024.size a ≤ S2x1536x1024.size a := fun v27 v30 v37 v40 k0_hw1 k0_t3 k0_h6 => k0_hw1.2.2.2.2.2.2.2.2.2.1 k0_t3 k0_h6
theorem k0_off28_inb : ∀ (v27 : BitVec 32) (v30 : BitVec 32) (v37 : BitVec 32) (v40 : BitVec 32) (k0_hw1 : k0_chk1 v27 v30 v37 v40) (k0_t3 : Fin (k0_t3_loop v40).trips), ∀ (k0_h6 : k0_cond6 v30 v40 = 1#1), ∀ a, (k0_off28 v37 v40 k0_t3) a + S1x256x128.size a ≤ S2x1536x128.size a := fun v27 v30 v37 v40 k0_hw1 k0_t3 k0_h6 => k0_hw1.2.2.2.2.2.2.2.2.2.2.1 k0_t3 k0_h6
theorem k0_t4_ok : ∀ (v27 : BitVec 32) (v30 : BitVec 32) (v37 : BitVec 32) (v40 : BitVec 32) (k0_hw1 : k0_chk1 v27 v30 v37 v40), ∀ (k0_h6 : k0_cond6 v30 v40 = 1#1), (k0_t4_loop v40).OK := fun v27 v30 v37 v40 k0_hw1 k0_h6 => k0_hw1.2.2.2.2.2.2.2.2.2.2.2.1 k0_h6
theorem k0_mult14_dvd : ∀ (v27 : BitVec 32) (v30 : BitVec 32) (v37 : BitVec 32) (v40 : BitVec 32) (k0_hw1 : k0_chk1 v27 v30 v37 v40) (k0_t4 : Fin (k0_t4_loop v40).trips), ∀ (k0_h6 : k0_cond6 v30 v40 = 1#1), 128 ∣ (k0_mult14 v37 v40 k0_t4).toNat := fun v27 v30 v37 v40 k0_hw1 k0_t4 k0_h6 => k0_hw1.2.2.2.2.2.2.2.2.2.2.2.2.1 k0_t4 k0_h6
theorem k0_off29_inb : ∀ (v27 : BitVec 32) (v30 : BitVec 32) (v37 : BitVec 32) (v40 : BitVec 32) (k0_hw1 : k0_chk1 v27 v30 v37 v40) (k0_t4 : Fin (k0_t4_loop v40).trips), ∀ (k0_h6 : k0_cond6 v30 v40 = 1#1), ∀ a, (k0_off29 v37 v40 k0_t4) a + S1x256x1024.size a ≤ S2x1536x1024.size a := fun v27 v30 v37 v40 k0_hw1 k0_t4 k0_h6 => k0_hw1.2.2.2.2.2.2.2.2.2.2.2.2.2.1 k0_t4 k0_h6
theorem k0_off30_inb : ∀ (v27 : BitVec 32) (v30 : BitVec 32) (v37 : BitVec 32) (v40 : BitVec 32) (k0_hw1 : k0_chk1 v27 v30 v37 v40) (k0_t4 : Fin (k0_t4_loop v40).trips), ∀ (k0_h6 : k0_cond6 v30 v40 = 1#1), ∀ a, (k0_off30 v37 v40 k0_t4) a + S1x256x128.size a ≤ S2x1536x128.size a := fun v27 v30 v37 v40 k0_hw1 k0_t4 k0_h6 => k0_hw1.2.2.2.2.2.2.2.2.2.2.2.2.2.2.1 k0_t4 k0_h6
theorem k0_mult15_dvd : ∀ (v27 : BitVec 32) (v30 : BitVec 32) (v37 : BitVec 32) (v40 : BitVec 32) (k0_hw1 : k0_chk1 v27 v30 v37 v40), ∀ (k0_h6 : k0_cond6 v30 v40 = 1#1), ∀ (k0_h9 : k0_cond9 v40 = 1#1), 128 ∣ (k0_mult15 v37 v40).toNat := fun v27 v30 v37 v40 k0_hw1 k0_h6 k0_h9 => k0_hw1.2.2.2.2.2.2.2.2.2.2.2.2.2.2.2.1 k0_h6 k0_h9
theorem k0_off31_inb : ∀ (v27 : BitVec 32) (v30 : BitVec 32) (v37 : BitVec 32) (v40 : BitVec 32) (k0_hw1 : k0_chk1 v27 v30 v37 v40), ∀ (k0_h6 : k0_cond6 v30 v40 = 1#1), ∀ (k0_h9 : k0_cond9 v40 = 1#1), ∀ a, (k0_off31 v37 v40) a + S1x384x1024.size a ≤ S2x1536x1024.size a := fun v27 v30 v37 v40 k0_hw1 k0_h6 k0_h9 => k0_hw1.2.2.2.2.2.2.2.2.2.2.2.2.2.2.2.2.1 k0_h6 k0_h9
theorem k0_off32_inb : ∀ (v27 : BitVec 32) (v30 : BitVec 32) (v37 : BitVec 32) (v40 : BitVec 32) (k0_hw1 : k0_chk1 v27 v30 v37 v40), ∀ (k0_h6 : k0_cond6 v30 v40 = 1#1), ∀ (k0_h9 : k0_cond9 v40 = 1#1), ∀ a, (k0_off32 v37 v40) a + S1x384x128.size a ≤ S2x1536x128.size a := fun v27 v30 v37 v40 k0_hw1 k0_h6 k0_h9 => k0_hw1.2.2.2.2.2.2.2.2.2.2.2.2.2.2.2.2.2.1 k0_h6 k0_h9
theorem k0_mult16_dvd : ∀ (v27 : BitVec 32) (v30 : BitVec 32) (v37 : BitVec 32) (v40 : BitVec 32) (k0_hw1 : k0_chk1 v27 v30 v37 v40), ∀ (k0_h6 : k0_cond6 v30 v40 = 1#1), ∀ (k0_h10 : k0_cond10 v40 = 1#1), 128 ∣ (k0_mult16 v37).toNat := fun v27 v30 v37 v40 k0_hw1 k0_h6 k0_h10 => k0_hw1.2.2.2.2.2.2.2.2.2.2.2.2.2.2.2.2.2.2.1 k0_h6 k0_h10
theorem k0_off33_inb : ∀ (v27 : BitVec 32) (v30 : BitVec 32) (v37 : BitVec 32) (v40 : BitVec 32) (k0_hw1 : k0_chk1 v27 v30 v37 v40), ∀ (k0_h6 : k0_cond6 v30 v40 = 1#1), ∀ (k0_h10 : k0_cond10 v40 = 1#1), ∀ a, (k0_off33 v37) a + S1x128x1024.size a ≤ S2x1536x1024.size a := fun v27 v30 v37 v40 k0_hw1 k0_h6 k0_h10 => k0_hw1.2.2.2.2.2.2.2.2.2.2.2.2.2.2.2.2.2.2.2.1 k0_h6 k0_h10
theorem k0_off34_inb : ∀ (v27 : BitVec 32) (v30 : BitVec 32) (v37 : BitVec 32) (v40 : BitVec 32) (k0_hw1 : k0_chk1 v27 v30 v37 v40), ∀ (k0_h6 : k0_cond6 v30 v40 = 1#1), ∀ (k0_h10 : k0_cond10 v40 = 1#1), ∀ a, (k0_off34 v37) a + S1x128x128.size a ≤ S2x1536x128.size a := fun v27 v30 v37 v40 k0_hw1 k0_h6 k0_h10 => k0_hw1.2.2.2.2.2.2.2.2.2.2.2.2.2.2.2.2.2.2.2.2 k0_h6 k0_h10

def k0_cond1 (i : grid0.Coords) : BitVec 1 :=
  let arg1 : BitVec 32 := BitVec.ofNat 32 (i 1).val
  let c0_i32_4 : BitVec 32 := 0#32
  let v18 : BitVec 1 := Scalar.cmpi .eq arg1 c0_i32_4
  let v19 : BitVec 32 := Scalar.extui v18
  let c0_i32_5 : BitVec 32 := 0#32
  let v20 : BitVec 1 := Scalar.cmpi .ne v19 c0_i32_5
  v20

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x1536x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2x1536x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S256 : Shape := ⟨1, ![256]⟩
abbrev S32x1536x1024 : Shape := ⟨3, ![32, 1536, 1024]⟩
abbrev S32x1536x128 : Shape := ⟨3, ![32, 1536, 128]⟩
abbrev S32x1024x256 : Shape := ⟨3, ![32, 1024, 256]⟩
abbrev S32x256x1024 : Shape := ⟨3, ![32, 256, 1024]⟩
abbrev S32x1536x32x256 : Shape := ⟨4, ![32, 1536, 32, 256]⟩
abbrev S_ : Shape := ⟨0, ![]⟩
abbrev S32x1536x32 : Shape := ⟨3, ![32, 1536, 32]⟩
abbrev S32x1536x32x1 : Shape := ⟨4, ![32, 1536, 32, 1]⟩

abbrev nBuf : Space → Nat
  | .hbm => 24
  | .vmem => 0
  | .smem => 0
  | _ => 0

abbrev bufTy : (tb : Table) → Fin (tcTables nBuf tb) → BufTy
  | .hbm, ⟨0, _⟩ => ⟨S256, .i32⟩
  | .hbm, ⟨1, _⟩ => ⟨S32x1536x1024, .bf16⟩
  | .hbm, ⟨2, _⟩ => ⟨S32x1536x128, .f32⟩
  | .hbm, ⟨3, _⟩ => ⟨S32x1024x256, .f32⟩
  | .hbm, ⟨4, _⟩ => ⟨S32x1024x256, .f32⟩
  | .hbm, ⟨5, _⟩ => ⟨S32x256x1024, .f32⟩
  | .hbm, ⟨6, _⟩ => ⟨S32x1536x1024, .f32⟩
  | .hbm, ⟨7, _⟩ => ⟨S32x1536x32x256, .f32⟩
  | .hbm, ⟨8, _⟩ => ⟨S32x1536x32x256, .f32⟩
  | .hbm, ⟨9, _⟩ => ⟨S32x1536x32x256, .f32⟩
  | .hbm, ⟨10, _⟩ => ⟨S_, .f32⟩
  | .hbm, ⟨11, _⟩ => ⟨S32x1536x32x256, .f32⟩
  | .hbm, ⟨12, _⟩ => ⟨S32x1536x32x256, .f32⟩
  | .hbm, ⟨13, _⟩ => ⟨S_, .f32⟩
  | .hbm, ⟨14, _⟩ => ⟨S32x1536x32x256, .f32⟩
  | .hbm, ⟨15, _⟩ => ⟨S32x1536x32x256, .f32⟩
  | .hbm, ⟨16, _⟩ => ⟨S32x1536x32x256, .f32⟩
  | .hbm, ⟨17, _⟩ => ⟨S32x1536x32x256, .f32⟩
  | .hbm, ⟨18, _⟩ => ⟨S32x1536x32x256, .f32⟩
  | .hbm, ⟨19, _⟩ => ⟨S32x1536x32, .f32⟩
  | .hbm, ⟨20, _⟩ => ⟨S32x1536x32x1, .f32⟩
  | .hbm, ⟨21, _⟩ => ⟨S32x1536x32x256, .f32⟩
  | .hbm, ⟨22, _⟩ => ⟨S32x1536x32x256, .f32⟩
  | .hbm, ⟨23, _⟩ => ⟨S32x1536x1024, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x5664 : Shape := ⟨2, ![1024, 5664]⟩
abbrev S32768x1024 : Shape := ⟨2, ![32768, 1024]⟩
abbrev S1024x1024 : Shape := ⟨2, ![1024, 1024]⟩
abbrev S1024x1536 : Shape := ⟨2, ![1024, 1536]⟩
abbrev S1024x5632 : Shape := ⟨2, ![1024, 5632]⟩
abbrev S_ : Shape := ⟨0, ![]⟩
abbrev S1024x128 : Shape := ⟨2, ![1024, 128]⟩
abbrev S1024x16 : Shape := ⟨2, ![1024, 16]⟩
abbrev S1 : Shape := ⟨1, ![1]⟩
abbrev S1x1024 : Shape := ⟨2, ![1, 1024]⟩
abbrev S32768x5632 : Shape := ⟨2, ![32768, 5632]⟩
abbrev S32768x128 : Shape := ⟨2, ![32768, 128]⟩
abbrev S512x1024 : Shape := ⟨2, ![512, 1024]⟩
abbrev S512x5632 : Shape := ⟨2, ![512, 5632]⟩
abbrev S512x128 : Shape := ⟨2, ![512, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 25
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5664, .f32⟩
  | .hbm, ⟨3, _⟩ => ⟨S32768x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1536, .f32⟩
  | .hbm, ⟨9, _⟩ => ⟨S1024x5632, .f32⟩
  | .hbm, ⟨10, _⟩ => ⟨S1024x5632, .bf16⟩
  | .hbm, ⟨11, _⟩ => ⟨S_, .f32⟩
  | .hbm, ⟨12, _⟩ => ⟨S1024x128, .f32⟩
  | .hbm, ⟨13, _⟩ => ⟨S1024x16, .f32⟩
  | .hbm, ⟨14, _⟩ => ⟨S_, .i32⟩
  | .hbm, ⟨15, _⟩ => ⟨S1, .i32⟩
  | .hbm, ⟨16, _⟩ => ⟨S1024x128, .f32⟩
  | .hbm, ⟨17, _⟩ => ⟨S1024x16, .f32⟩
  | .hbm, ⟨18, _⟩ => ⟨S_, .i32⟩
  | .hbm, ⟨19, _⟩ => ⟨S1, .i32⟩
  | .hbm, ⟨20, _⟩ => ⟨S1024x128, .f32⟩
  | .hbm, ⟨21, _⟩ => ⟨S1024x128, .bf16⟩
  | .hbm, ⟨22, _⟩ => ⟨S1x1024, .f32⟩
  | .hbm, ⟨23, _⟩ => ⟨S32768x5632, .bf16⟩
  | .hbm, ⟨24, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S1024x128, .bf16⟩
  | .local _ .vmem, ⟨5, _⟩ => ⟨S512x5632, .bf16⟩
  | .local _ .vmem, ⟨6, _⟩ => ⟨S512x5632, .bf16⟩
  | .local _ .vmem, ⟨7, _⟩ => ⟨S512x128, .f32⟩
  | .local _ .vmem, ⟨8, _⟩ => ⟨S512x128, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_c : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S8x4096x1024 : Shape := ⟨3, ![8, 4096, 1024]⟩
abbrev S1024 : Shape := ⟨1, ![1024]⟩
abbrev S1024x5664 : Shape := ⟨2, ![1024, 5664]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5664 : Shape := ⟨3, ![8, 4096, 5664]⟩
abbrev S8x4096x1536 : Shape := ⟨3, ![8, 4096, 1536]⟩
abbrev S8x4096x16 : Shape := ⟨3, ![8, 4096, 16]⟩
abbrev S8x4096x5632 : Shape := ⟨3, ![8, 4096, 5632]⟩
abbrev S8x4096x96 : Shape := ⟨3, ![8, 4096, 96]⟩
abbrev S8x4096x128 : Shape := ⟨3, ![8, 4096, 128]⟩
abbrev S32768x5632 : Shape := ⟨2, ![32768, 5632]⟩
abbrev S32768x128 : Shape := ⟨2, ![32768, 128]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5664, .f32⟩
  | .hbm, ⟨3, _⟩ => ⟨S8x4096x1024, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x1024, .f32⟩
  | .hbm, ⟨15, _⟩ => ⟨S8x4096x1024, .f32⟩
  | .hbm, ⟨16, _⟩ => ⟨S1x1x1024, .f32⟩
  | .hbm, ⟨17, _⟩ => ⟨S8x4096x1024, .f32⟩
  | .hbm, ⟨18, _⟩ => ⟨S8x4096x1024, .f32⟩
  | .hbm, ⟨19, _⟩ => ⟨S8x4096x5664, .f32⟩
  | .hbm, ⟨20, _⟩ => ⟨S8x4096x1024, .f32⟩
  | .hbm, ⟨21, _⟩ => ⟨S8x4096x1536, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S8x4096x16, .f32⟩
  | .hbm, ⟨26, _⟩ => ⟨S8x4096x16, .f32⟩
  | .hbm, ⟨27, _⟩ => ⟨S8x4096x5632, .f32⟩
  | .hbm, ⟨28, _⟩ => ⟨S_, .f32⟩
  | .hbm, ⟨29, _⟩ => ⟨S8x4096x96, .f32⟩
  | .hbm, ⟨30, _⟩ => ⟨S8x4096x128, .f32⟩
  | .hbm, ⟨31, _⟩ => ⟨S32768x5632, .f32⟩
  | .hbm, ⟨32, _⟩ => ⟨S32768x5632, .bf16⟩
  | .hbm, ⟨33, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel3.lean ====
abbrev S32768x1024 : Shape := ⟨2, ![32768, 1024]⟩
abbrev S2048x1024 : Shape := ⟨2, ![2048, 1024]⟩
abbrev S1024 : Shape := ⟨1, ![1024]⟩
abbrev S1024x32 : Shape := ⟨2, ![1024, 32]⟩
abbrev S1024x4 : Shape := ⟨2, ![1024, 4]⟩
abbrev S32 : Shape := ⟨1, ![32]⟩
abbrev S4 : Shape := ⟨1, ![4]⟩
abbrev S_ : Shape := ⟨0, ![]⟩
abbrev S1024x128 : Shape := ⟨2, ![1024, 128]⟩
abbrev S1 : Shape := ⟨1, ![1]⟩
abbrev S1x128 : Shape := ⟨2, ![1, 128]⟩
abbrev S2 : Shape := ⟨1, ![2]⟩
abbrev S1024x1024 : Shape := ⟨2, ![1024, 1024]⟩
abbrev S1x1024 : Shape := ⟨2, ![1, 1024]⟩
abbrev S32768x128 : Shape := ⟨2, ![32768, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 43
  | .vmem => 18
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S1024x4, .f32⟩
  | .hbm, ⟨8, _⟩ => ⟨S32, .f32⟩
  | .hbm, ⟨9, _⟩ => ⟨S4, .f32⟩
  | .hbm, ⟨10, _⟩ => ⟨S_, .f32⟩
  | .hbm, ⟨11, _⟩ => ⟨S1024x128, .f32⟩
  | .hbm, ⟨12, _⟩ => ⟨S_, .i32⟩
  | .hbm, ⟨13, _⟩ => ⟨S1, .i32⟩
  | .hbm, ⟨14, _⟩ => ⟨S1024x128, .f32⟩
  | .hbm, ⟨15, _⟩ => ⟨S_, .i32⟩
  | .hbm, ⟨16, _⟩ => ⟨S1, .i32⟩
  | .hbm, ⟨17, _⟩ => ⟨S1024x128, .f32⟩
  | .hbm, ⟨18, _⟩ => ⟨S_, .f32⟩
  | .hbm, ⟨19, _⟩ => ⟨S1x128, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S_, .i32⟩
  | .hbm, ⟨29, _⟩ => ⟨S1, .i32⟩
  | .hbm, ⟨30, _⟩ => ⟨S_, .i32⟩
  | .hbm, ⟨31, _⟩ => ⟨S1, .i32⟩
  | .hbm, ⟨32, _⟩ => ⟨S2, .i32⟩
  | .hbm, ⟨33, _⟩ => ⟨S1x128, .f32⟩
  | .hbm, ⟨34, _⟩ => ⟨S1x128, .f32⟩
  | .hbm, ⟨35, _⟩ => ⟨S2048x1024, .bf16⟩
  | .hbm, ⟨36, _⟩ => ⟨S1024x1024, .bf16⟩
  | .hbm, ⟨37, _⟩ => ⟨S1024x1024, .bf16⟩
  | .hbm, ⟨38, _⟩ => ⟨S1x1024, .f32⟩
  | .hbm, ⟨39, _⟩ => ⟨S1x1024, .f32⟩
  | .hbm, ⟨40, _⟩ => ⟨S32768x1024, .f32⟩
  | .hbm, ⟨41, _⟩ => ⟨S32768x1024, .bf16⟩
  | .hbm, ⟨42, _⟩ => ⟨S32768x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x128, .f32⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x128, .f32⟩
  | .local _ .vmem, ⟨17, _⟩ => ⟨S512x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_c_2 : Ref sig .tc := ⟨.hbm, 20, rfl⟩
abbrev main_v6 : Ref sig .tc := ⟨.hbm, 21, rfl⟩
abbrev main_c_3 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_c_5 : Ref sig .tc := ⟨.hbm, 28, rfl⟩
abbrev main_v11 : Ref sig .tc := ⟨.hbm, 29, rfl⟩
abbrev main_c_6 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21_0 : Ref sig .tc := ⟨.hbm, 40, rfl⟩
abbrev main_v21_1 : Ref sig .tc := ⟨.hbm, 41, rfl⟩
abbrev main_v21_2 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32768x1024 : Shape := ⟨2, ![32768, 1024]⟩
abbrev S2048x1024 : Shape := ⟨2, ![2048, 1024]⟩
abbrev S1024 : Shape := ⟨1, ![1024]⟩
abbrev S1024x32 : Shape := ⟨2, ![1024, 32]⟩
abbrev S1024x4 : Shape := ⟨2, ![1024, 4]⟩
abbrev S32 : Shape := ⟨1, ![32]⟩
abbrev S4 : Shape := ⟨1, ![4]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2048 : Shape := ⟨2, ![32768, 2048]⟩

abbrev nBuf : Space → Nat
  | .hbm => 48
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S1024x32, .f32⟩
  | .hbm, ⟨7, _⟩ => ⟨S1024x4, .f32⟩
  | .hbm, ⟨8, _⟩ => ⟨S32, .f32⟩
  | .hbm, ⟨9, _⟩ => ⟨S4, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S_, .f32⟩
  | .hbm, ⟨19, _⟩ => ⟨S32768x1, .f32⟩
  | .hbm, ⟨20, _⟩ => ⟨S32768x1, .f32⟩
  | .hbm, ⟨21, _⟩ => ⟨S32768x1, .f32⟩
  | .hbm, ⟨22, _⟩ => ⟨S32768x1024, .f32⟩
  | .hbm, ⟨23, _⟩ => ⟨S32768x1024, .f32⟩
  | .hbm, ⟨24, _⟩ => ⟨S1x1024, .f32⟩
  | .hbm, ⟨25, _⟩ => ⟨S32768x1024, .f32⟩
  | .hbm, ⟨26, _⟩ => ⟨S32768x1024, .f32⟩
  | .hbm, ⟨27, _⟩ => ⟨S32768x1024, .f32⟩
  | .hbm, ⟨28, _⟩ => ⟨S32768x2048, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S1x1024, .f32⟩
  | .hbm, ⟨45, _⟩ => ⟨S32768x1024, .f32⟩
  | .hbm, ⟨46, _⟩ => ⟨S32768x1024, .f32⟩
  | .hbm, ⟨47, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel4.lean ====
abbrev S32x1536x1024 : Shape := ⟨3, ![32, 1536, 1024]⟩
abbrev S32768x128 : Shape := ⟨2, ![32768, 128]⟩
abbrev S32768x1024 : Shape := ⟨2, ![32768, 1024]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S1x1536x1024 : Shape := ⟨3, ![1, 1536, 1024]⟩
abbrev S1024x128 : Shape := ⟨2, ![1024, 128]⟩
abbrev S128 : Shape := ⟨1, ![128]⟩
abbrev S1x128 : Shape := ⟨2, ![1, 128]⟩
abbrev S1x1 : Shape := ⟨2, ![1, 1]⟩
abbrev S1024x1536 : Shape := ⟨2, ![1024, 1536]⟩
abbrev S1536x1024 : Shape := ⟨2, ![1536, 1024]⟩

abbrev nBuf : Space → Nat
  | .hbm => 11
  | .vmem => 9
  | .smem => 0
  | _ => 0

abbrev bufTy : (tb : Table) → Fin (tcTables nBuf tb) → BufTy
  | .hbm, ⟨0, _⟩ => ⟨S32x1536x1024, .f32⟩
  | .hbm, ⟨1, _⟩ => ⟨S32768x128, .f32⟩
  | .hbm, ⟨2, _⟩ => ⟨S32768x1024, .f32⟩
  | .hbm, ⟨3, _⟩ => ⟨S1024, .i32⟩
  | .hbm, ⟨4, _⟩ => ⟨S1x1024, .i32⟩
  | .hbm, ⟨5, _⟩ => ⟨S1024x1, .i32⟩
  | .hbm, ⟨6, _⟩ => ⟨S1024x1024, .i32⟩
  | .hbm, ⟨7, _⟩ => ⟨S1024x1024, .i32⟩
  | .hbm, ⟨8, _⟩ => ⟨S1024x1024, .i1⟩
  | .hbm, ⟨9, _⟩ => ⟨S1024x1024, .bf16⟩
  | .hbm, ⟨10, _⟩ => ⟨S32768x1024, .f32⟩
  | .local _ .vmem, ⟨0, _⟩ => ⟨S1x1536x1024, .f32⟩
  | .local _ .vmem, ⟨1, _⟩ => ⟨S1x1536x1024, .f32⟩
  | .local _ .vmem, ⟨2, _⟩ => ⟨S1024x128, .f32⟩
  | .local _ .vmem, ⟨3, _⟩ => ⟨S1024x128, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | _, _ => ⟨S32x1536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x1536x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S32x1536x1024 : Shape := ⟨3, ![32, 1536, 1024]⟩
abbrev S32768x128 : Shape := ⟨2, ![32768, 128]⟩
abbrev S32768x1024 : Shape := ⟨2, ![32768, 1024]⟩
abbrev S32768x1 : Shape := ⟨2, ![32768, 1]⟩
abbrev S32768 : Shape := ⟨1, ![32768]⟩
abbrev S32x1024 : Shape := ⟨2, ![32, 1024]⟩
abbrev S1024 : Shape := ⟨1, ![1024]⟩
abbrev S32x1x1024 : Shape := ⟨3, ![32, 1, 1024]⟩
abbrev S32x1024x1 : Shape := ⟨3, ![32, 1024, 1]⟩
abbrev S32x1024x1024 : Shape := ⟨3, ![32, 1024, 1024]⟩
abbrev S1x1024 : Shape := ⟨2, ![1, 1024]⟩
abbrev S1024x1 : Shape := ⟨2, ![1024, 1]⟩
abbrev S1024x1024 : Shape := ⟨2, ![1024, 1024]⟩
abbrev S1x1024x1024 : Shape := ⟨3, ![1, 1024, 1024]⟩
abbrev S_ : Shape := ⟨0, ![]⟩
abbrev S4 : Shape := ⟨1, ![4]⟩
abbrev S1x1x4 : Shape := ⟨3, ![1, 1, 4]⟩
abbrev S32x1024x4 : Shape := ⟨3, ![32, 1024, 4]⟩
abbrev S32x4 : Shape := ⟨2, ![32, 4]⟩
abbrev S32x1x4 : Shape := ⟨3, ![32, 1, 4]⟩

abbrev nBuf : Space → Nat
  | .hbm => 78
  | .vmem => 0
  | .smem => 0
  | _ => 0

abbrev bufTy : (tb : Table) → Fin (tcTables nBuf tb) → BufTy
  | .hbm, ⟨0, _⟩ => ⟨S32x1536x1024, .f32⟩
  | .hbm, ⟨1, _⟩ => ⟨S32768x128, .f32⟩
  | .hbm, ⟨2, _⟩ => ⟨S32768x1024, .f32⟩
  | .hbm, ⟨3, _⟩ => ⟨S32768x1, .f32⟩
  | .hbm, ⟨4, _⟩ => ⟨S32768, .f32⟩
  | .hbm, ⟨5, _⟩ => ⟨S32x1024, .f32⟩
  | .hbm, ⟨6, _⟩ => ⟨S1024, .i32⟩
  | .hbm, ⟨7, _⟩ => ⟨S32x1x1024, .f32⟩
  | .hbm, ⟨8, _⟩ => ⟨S32x1024x1, .f32⟩
  | .hbm, ⟨9, _⟩ => ⟨S32x1024x1024, .f32⟩
  | .hbm, ⟨10, _⟩ => ⟨S32x1024x1024, .f32⟩
  | .hbm, ⟨11, _⟩ => ⟨S32x1024x1024, .i1⟩
  | .hbm, ⟨12, _⟩ => ⟨S1x1024, .i32⟩
  | .hbm, ⟨13, _⟩ => ⟨S1024x1, .i32⟩
  | .hbm, ⟨14, _⟩ => ⟨S1024x1024, .i32⟩
  | .hbm, ⟨15, _⟩ => ⟨S1024x1024, .i32⟩
  | .hbm, ⟨16, _⟩ => ⟨S1024x1024, .i1⟩
  | .hbm, ⟨17, _⟩ => ⟨S1x1024x1024, .i1⟩
  | .hbm, ⟨18, _⟩ => ⟨S32x1024x1024, .i1⟩
  | .hbm, ⟨19, _⟩ => ⟨S32x1024x1024, .i1⟩
  | .hbm, ⟨20, _⟩ => ⟨S_, .f32⟩
  | .hbm, ⟨21, _⟩ => ⟨S_, .f32⟩
  | .hbm, ⟨22, _⟩ => ⟨S32x1024x1024, .f32⟩
  | .hbm, ⟨23, _⟩ => ⟨S32x1024x1024, .f32⟩
  | .hbm, ⟨24, _⟩ => ⟨S32x1024x1024, .f32⟩
  | .hbm, ⟨25, _⟩ => ⟨S32x1024x1024, .f32⟩
  | .hbm, ⟨26, _⟩ => ⟨S_, .f32⟩
  | .hbm, ⟨27, _⟩ => ⟨S32x1024, .f32⟩
  | .hbm, ⟨28, _⟩ => ⟨S32x1024x1, .f32⟩
  | .hbm, ⟨29, _⟩ => ⟨S4, .i32⟩
  | .hbm, ⟨30, _⟩ => ⟨S4, .f32⟩
  | .hbm, ⟨31, _⟩ => ⟨S1x1x4, .f32⟩
  | .hbm, ⟨32, _⟩ => ⟨S32x1024x4, .f32⟩
  | .hbm, ⟨33, _⟩ => ⟨S32x1024x4, .f32⟩
  | .hbm, ⟨34, _⟩ => ⟨S32x1024x4, .i1⟩
  | .hbm, ⟨35, _⟩ => ⟨S_, .f32⟩
  | .hbm, ⟨36, _⟩ => ⟨S_, .f32⟩
  | .hbm, ⟨37, _⟩ => ⟨S32x1024x4, .f32⟩
  | .hbm, ⟨38, _⟩ => ⟨S32x1024x4, .f32⟩
  | .hbm, ⟨39, _⟩ => ⟨S32x1024x4, .f32⟩
  | .hbm, ⟨40, _⟩ => ⟨S32x1024x4, .f32⟩
  | .hbm, ⟨41, _⟩ => ⟨S_, .f32⟩
  | .hbm, ⟨42, _⟩ => ⟨S32x4, .f32⟩
  | .hbm, ⟨43, _⟩ => ⟨S_, .f32⟩
  | .hbm, ⟨44, _⟩ => ⟨S32x4, .f32⟩
  | .hbm, ⟨45, _⟩ => ⟨S32x4, .f32⟩
  | .hbm, ⟨46, _⟩ => ⟨S32x4, .f32⟩
  | .hbm, ⟨47, _⟩ => ⟨S_, .f32⟩
  | .hbm, ⟨48, _⟩ => ⟨S32x4, .f32⟩
  | .hbm, ⟨49, _⟩ => ⟨S32x4, .f32⟩
  | .hbm, ⟨50, _⟩ => ⟨S4, .i32⟩
  | .hbm, ⟨51, _⟩ => ⟨S4, .f32⟩
  | .hbm, ⟨52, _⟩ => ⟨S32x1024x1, .f32⟩
  | .hbm, ⟨53, _⟩ => ⟨S1x1x4, .f32⟩
  | .hbm, ⟨54, _⟩ => ⟨S32x1024x4, .f32⟩
  | .hbm, ⟨55, _⟩ => ⟨S32x1024x4, .f32⟩
  | .hbm, ⟨56, _⟩ => ⟨S32x1024x4, .i1⟩
  | .hbm, ⟨57, _⟩ => ⟨S32x1x4, .f32⟩
  | .hbm, ⟨58, _⟩ => ⟨S_, .f32⟩
  | .hbm, ⟨59, _⟩ => ⟨S_, .f32⟩
  | .hbm, ⟨60, _⟩ => ⟨S32x1024x4, .f32⟩
  | .hbm, ⟨61, _⟩ => ⟨S32x1024x4, .f32⟩
  | .hbm, ⟨62, _⟩ => ⟨S32x1024x4, .f32⟩
  | .hbm, ⟨63, _⟩ => ⟨S_, .f32⟩
  | .hbm, ⟨64, _⟩ => ⟨S32x1024, .f32⟩
  | .hbm, ⟨65, _⟩ => ⟨S32x1024, .f32⟩
  | .hbm, ⟨66, _⟩ => ⟨S32x1024, .i32⟩
  | .hbm, ⟨67, _⟩ => ⟨S32x1024x1, .i32⟩
  | .hbm, ⟨68, _⟩ => ⟨S_, .i32⟩
  | .hbm, ⟨69, _⟩ => ⟨S32x1024x1, .i32⟩
  | .hbm, ⟨70, _⟩ => ⟨S32x1024x1, .i1⟩
  | .hbm, ⟨71, _⟩ => ⟨S_, .i32⟩
  | .hbm, ⟨72, _⟩ => ⟨S32x1024x1, .i32⟩
  | .hbm, ⟨73, _⟩ => ⟨S32x1024x1, .i32⟩
  | .hbm, ⟨74, _⟩ => ⟨S32x1024x1, .i32⟩
  | .hbm, ⟨75, _⟩ => ⟨S32x1024x1024, .f32⟩
  | .hbm, ⟨76, _⟩ => ⟨S32768x1024, .f32⟩
  | .hbm, ⟨77, _⟩ => ⟨S32768x1024, .f32⟩
  | _, _ => ⟨S32x1536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call3_c : Ref sig .tc := ⟨.hbm, 68, rfl⟩
abbrev main_call3_v0 : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩

abbrev nD : Nat := 1
abbrev τ : Topo := Topo.v7x

variable {F : FTy → Type} [FloatOps F]
-- ==== Kernel5.lean ====
abbrev S32768x1024 : Shape := ⟨2, ![32768, 1024]⟩
abbrev S32768x128 : Shape := ⟨2, ![32768, 128]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S32x1536x1024 : Shape := ⟨3, ![32, 1536, 1024]⟩
abbrev S32x1536x128 : Shape := ⟨3, ![32, 1536, 128]⟩
abbrev S32x8x128 : Shape := ⟨3, ![32, 8, 128]⟩
abbrev S1024x128 : Shape := ⟨2, ![1024, 128]⟩
abbrev S1x1536x1024 : Shape := ⟨3, ![1, 1536, 1024]⟩
abbrev S1x1536x128 : Shape := ⟨3, ![1, 1536, 128]⟩
abbrev S1x8x128 : Shape := ⟨3, ![1, 8, 128]⟩
abbrev S128x1024 : Shape := ⟨2, ![128, 1024]⟩
abbrev S8x1024 : Shape := ⟨2, ![8, 1024]⟩
abbrev S8 : Shape := ⟨1, ![8]⟩
abbrev S8x1 : Shape := ⟨2, ![8, 1]⟩
abbrev S1x1 : Shape := ⟨2, ![1, 1]⟩
abbrev S1536x1024 : Shape := ⟨2, ![1536, 1024]⟩
abbrev S1024x1280 : Shape := ⟨2, ![1024, 1280]⟩
abbrev S1536x1280 : Shape := ⟨2, ![1536, 1280]⟩
abbrev S1536x128 : Shape := ⟨2, ![1536, 128]⟩
abbrev S8x128 : Shape := ⟨2, ![8, 128]⟩

abbrev nBuf : Space → Nat
  | .hbm => 12
  | .vmem => 11
  | .smem => 0
  | _ => 0

abbrev bufTy : (tb : Table) → Fin (tcTables nBuf tb) → BufTy
  | .hbm, ⟨0, _⟩ => ⟨S32768x1024, .bf16⟩
  | .hbm, ⟨1, _⟩ => ⟨S32768x128, .f32⟩
  | .hbm, ⟨2, _⟩ => ⟨S1024, .i32⟩
  | .hbm, ⟨3, _⟩ => ⟨S1024x1, .i32⟩
  | .hbm, ⟨4, _⟩ => ⟨S1x1024, .i32⟩
  | .hbm, ⟨5, _⟩ => ⟨S1024x1024, .i32⟩
  | .hbm, ⟨6, _⟩ => ⟨S1024x1024, .i32⟩
  | .hbm, ⟨7, _⟩ => ⟨S1024x1024, .i1⟩
  | .hbm, ⟨8, _⟩ => ⟨S1024x1024, .bf16⟩
  | .hbm, ⟨9, _⟩ => ⟨S32x1536x1024, .bf16⟩
  | .hbm, ⟨10, _⟩ => ⟨S32x1536x128, .f32⟩
  | .hbm, ⟨11, _⟩ => ⟨S32x8x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x1024, .bf16⟩
  | .local _ .vmem, ⟨5, _⟩ => ⟨S1x1536x1024, .bf16⟩
  | .local _ .vmem, ⟨6, _⟩ => ⟨S1x1536x1024, .bf16⟩
  | .local _ .vmem, ⟨7, _⟩ => ⟨S1x1536x128, .f32⟩
  | .local _ .vmem, ⟨8, _⟩ => ⟨S1x1536x128, .f32⟩
  | .local _ .vmem, ⟨9, _⟩ => ⟨S1x8x128, .f32⟩
  | .local _ .vmem, ⟨10, _⟩ => ⟨S1x8x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7_0 : Ref sig .tc := ⟨.hbm, 9, rfl⟩
abbrev main_v7_1 : Ref sig .tc := ⟨.hbm, 10, rfl⟩
abbrev main_v7_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1536x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S32768x1024 : Shape := ⟨2, ![32768, 1024]⟩
abbrev S32768x128 : Shape := ⟨2, ![32768, 128]⟩
abbrev S32768x1 : Shape := ⟨2, ![32768, 1]⟩
abbrev S32768 : Shape := ⟨1, ![32768]⟩
abbrev S32x1024 : Shape := ⟨2, ![32, 1024]⟩
abbrev S1024 : Shape := ⟨1, ![1024]⟩
abbrev S32x1x1024 : Shape := ⟨3, ![32, 1, 1024]⟩
abbrev S32x1024x1 : Shape := ⟨3, ![32, 1024, 1]⟩
abbrev S32x1024x1024 : Shape := ⟨3, ![32, 1024, 1024]⟩
abbrev S1x1024 : Shape := ⟨2, ![1, 1024]⟩
abbrev S1024x1 : Shape := ⟨2, ![1024, 1]⟩
abbrev S1024x1024 : Shape := ⟨2, ![1024, 1024]⟩
abbrev S1x1024x1024 : Shape := ⟨3, ![1, 1024, 1024]⟩
abbrev S_ : Shape := ⟨0, ![]⟩
abbrev S4 : Shape := ⟨1, ![4]⟩
abbrev S1x1x4 : Shape := ⟨3, ![1, 1, 4]⟩
abbrev S32x1024x4 : Shape := ⟨3, ![32, 1024, 4]⟩
abbrev S32x4 : Shape := ⟨2, ![32, 4]⟩
abbrev S32x1x4 : Shape := ⟨3, ![32, 1, 4]⟩
abbrev S32 : Shape := ⟨1, ![32]⟩
abbrev S32x1 : Shape := ⟨2, ![32, 1]⟩
abbrev S8 : Shape := ⟨1, ![8]⟩
abbrev S8x1 : Shape := ⟨2, ![8, 1]⟩
abbrev S1x4 : Shape := ⟨2, ![1, 4]⟩
abbrev S8x4 : Shape := ⟨2, ![8, 4]⟩
abbrev S32x8x4 : Shape := ⟨3, ![32, 8, 4]⟩
abbrev S32x8 : Shape := ⟨2, ![32, 8]⟩
abbrev S32x8x1 : Shape := ⟨3, ![32, 8, 1]⟩
abbrev S32x8x126 : Shape := ⟨3, ![32, 8, 126]⟩
abbrev S32x8x128 : Shape := ⟨3, ![32, 8, 128]⟩
abbrev S49152x1024 : Shape := ⟨2, ![49152, 1024]⟩
abbrev S32x1536x1024 : Shape := ⟨3, ![32, 1536, 1024]⟩
abbrev S49152x128 : Shape := ⟨2, ![49152, 128]⟩
abbrev S32x1536x128 : Shape := ⟨3, ![32, 1536, 128]⟩

abbrev nBuf : Space → Nat
  | .hbm => 131
  | .vmem => 0
  | .smem => 0
  | _ => 0

abbrev hbmTy0_0 (i : Nat) : BufTy := match i % 128 with
  | 0 => ⟨S32768x1024, .bf16⟩
  | 1 => ⟨S32768x128, .f32⟩
  | 2 => ⟨S32768x1, .f32⟩
  | 3 => ⟨S32768, .f32⟩
  | 4 => ⟨S32x1024, .f32⟩
  | 5 => ⟨S1024, .i32⟩
  | 6 => ⟨S32x1x1024, .f32⟩
  | 7 => ⟨S32x1024x1, .f32⟩
  | 8 => ⟨S32x1024x1024, .f32⟩
  | 9 => ⟨S32x1024x1024, .f32⟩
  | 10 => ⟨S32x1024x1024, .i1⟩
  | 11 => ⟨S1x1024, .i32⟩
  | 12 => ⟨S1024x1, .i32⟩
  | 13 => ⟨S1024x1024, .i32⟩
  | 14 => ⟨S1024x1024, .i32⟩
  | 15 => ⟨S1024x1024, .i1⟩
  | 16 => ⟨S1x1024x1024, .i1⟩
  | 17 => ⟨S32x1024x1024, .i1⟩
  | 18 => ⟨S32x1024x1024, .i1⟩
  | 19 => ⟨S_, .f32⟩
  | 20 => ⟨S_, .f32⟩
  | 21 => ⟨S32x1024x1024, .f32⟩
  | 22 => ⟨S32x1024x1024, .f32⟩
  | 23 => ⟨S32x1024x1024, .f32⟩
  | 24 => ⟨S32x1024x1024, .f32⟩
  | 25 => ⟨S_, .f32⟩
  | 26 => ⟨S32x1024, .f32⟩
  | 27 => ⟨S32x1024x1, .f32⟩
  | 28 => ⟨S4, .i32⟩
  | 29 => ⟨S4, .f32⟩
  | 30 => ⟨S1x1x4, .f32⟩
  | 31 => ⟨S32x1024x4, .f32⟩
  | 32 => ⟨S32x1024x4, .f32⟩
  | 33 => ⟨S32x1024x4, .i1⟩
  | 34 => ⟨S_, .f32⟩
  | 35 => ⟨S_, .f32⟩
  | 36 => ⟨S32x1024x4, .f32⟩
  | 37 => ⟨S32x1024x4, .f32⟩
  | 38 => ⟨S32x1024x4, .f32⟩
  | 39 => ⟨S32x1024x4, .f32⟩
  | 40 => ⟨S_, .f32⟩
  | 41 => ⟨S32x4, .f32⟩
  | 42 => ⟨S_, .f32⟩
  | 43 => ⟨S32x4, .f32⟩
  | 44 => ⟨S32x4, .f32⟩
  | 45 => ⟨S32x4, .f32⟩
  | 46 => ⟨S_, .f32⟩
  | 47 => ⟨S32x4, .f32⟩
  | 48 => ⟨S32x4, .f32⟩
  | 49 => ⟨S4, .i32⟩
  | 50 => ⟨S4, .f32⟩
  | 51 => ⟨S32x1024x1, .f32⟩
  | 52 => ⟨S1x1x4, .f32⟩
  | 53 => ⟨S32x1024x4, .f32⟩
  | 54 => ⟨S32x1024x4, .f32⟩
  | 55 => ⟨S32x1024x4, .i1⟩
  | 56 => ⟨S32x1x4, .f32⟩
  | 57 => ⟨S_, .f32⟩
  | 58 => ⟨S_, .f32⟩
  | 59 => ⟨S32x1024x4, .f32⟩
  | 60 => ⟨S32x1024x4, .f32⟩
  | 61 => ⟨S32x1024x4, .f32⟩
  | 62 => ⟨S_, .f32⟩
  | 63 => ⟨S32x1024, .f32⟩
  | 64 => ⟨S32x1024, .f32⟩
  | 65 => ⟨S32x1024, .i32⟩
  | 66 => ⟨S32, .i32⟩
  | 67 => ⟨S32x1, .i32⟩
  | 68 => ⟨S_, .i32⟩
  | 69 => ⟨S32x1, .i32⟩
  | 70 => ⟨S32x1, .i32⟩
  | 71 => ⟨S32x1024, .i32⟩
  | 72 => ⟨S32x1024, .i32⟩
  | 73 => ⟨S32768, .i32⟩
  | 74 => ⟨S4, .i32⟩
  | 75 => ⟨S8, .i32⟩
  | 76 => ⟨S_, .i32⟩
  | 77 => ⟨S8, .i32⟩
  | 78 => ⟨S8, .i32⟩
  | 79 => ⟨S8x1, .i32⟩
  | 80 => ⟨S1x4, .i32⟩
  | 81 => ⟨S8x4, .i32⟩
  | 82 => ⟨S8x4, .i32⟩
  | 83 => ⟨S8x4, .i1⟩
  | 84 => ⟨S32x1x4, .f32⟩
  | 85 => ⟨S_, .f32⟩
  | 86 => ⟨S_, .f32⟩
  | 87 => ⟨S32x8x4, .i1⟩
  | 88 => ⟨S32x8x4, .f32⟩
  | 89 => ⟨S32x8x4, .f32⟩
  | 90 => ⟨S32x8x4, .f32⟩
  | 91 => ⟨S_, .f32⟩
  | 92 => ⟨S32x8, .f32⟩
  | 93 => ⟨S_, .f32⟩
  | 94 => ⟨S32x4, .f32⟩
  | 95 => ⟨S32x4, .f32⟩
  | 96 => ⟨S32x4, .f32⟩
  | 97 => ⟨S_, .f32⟩
  | 98 => ⟨S32x4, .f32⟩
  | 99 => ⟨S32x8, .f32⟩
  | 100 => ⟨S32x8x1, .f32⟩
  | 101 => ⟨S32x8x1, .f32⟩
  | 102 => ⟨S_, .f32⟩
  | 103 => ⟨S32x8x126, .f32⟩
  | 104 => ⟨S32x8x128, .f32⟩
  | 105 => ⟨S32768x1024, .f32⟩
  | 106 => ⟨S_, .f32⟩
  | 107 => ⟨S49152x1024, .f32⟩
  | 108 => ⟨S_, .i32⟩
  | 109 => ⟨S32768, .i32⟩
  | 110 => ⟨S32768, .i1⟩
  | 111 => ⟨S_, .i32⟩
  | 112 => ⟨S32768, .i32⟩
  | 113 => ⟨S32768, .i32⟩
  | 114 => ⟨S32768, .i32⟩
  | 115 => ⟨S32768x1, .i32⟩
  | 116 => ⟨S49152x1024, .f32⟩
  | 117 => ⟨S32x1536x1024, .f32⟩
  | 118 => ⟨S32x1536x1024, .bf16⟩
  | 119 => ⟨S_, .f32⟩
  | 120 => ⟨S49152x128, .f32⟩
  | 121 => ⟨S_, .i32⟩
  | 122 => ⟨S32768, .i32⟩
  | 123 => ⟨S32768, .i1⟩
  | 124 => ⟨S_, .i32⟩
  | 125 => ⟨S32768, .i32⟩
  | 126 => ⟨S32768, .i32⟩
  | 127 => ⟨S32768, .i32⟩
  | _ => ⟨S32768x1024, .bf16⟩

abbrev hbmTy0_1 (i : Nat) : BufTy := match i % 128 with
  | 0 => ⟨S32768x1, .i32⟩
  | 1 => ⟨S49152x128, .f32⟩
  | 2 => ⟨S32x1536x128, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_cst_3 : Ref sig .tc := ⟨.hbm, 35, rfl⟩
abbrev main_call1_v0 : Ref sig .tc := ⟨.hbm, 36, rfl⟩
abbrev main_call1_v1 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_7 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c_9 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_10 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_v64 : Ref sig .tc := ⟨.hbm, 90, rfl⟩
abbrev main_cst_11 : Ref sig .tc := ⟨.hbm, 91, rfl⟩
abbrev main_v65 : Ref sig .tc := ⟨.hbm, 92, rfl⟩
abbrev main_cst_12 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_13 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_14 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_cst_15 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_18 : Ref sig .tc := ⟨.hbm, 119, rfl⟩
abbrev main_v86 : Ref sig .tc := ⟨.hbm, 120, rfl⟩
abbrev main_c_19 : Ref sig .tc := ⟨.hbm, 121, rfl⟩
abbrev main_v87 : Ref sig .tc := ⟨.hbm, 122, rfl⟩
abbrev main_v88 : Ref sig .tc := ⟨.hbm, 123, rfl⟩
abbrev main_c_20 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩

abbrev nD : Nat := 1
abbrev τ : Topo := Topo.v7x

variable {F : FTy → Type} [FloatOps F]
-- ==== Proof.Mlp.lean ====
/-
  The vocabulary of the routed-experts kernel, over any float operations: what one run of rows gets from the four
  experts of a grid point (`mlpRows`), at a number of rows `N` that is a variable, and the two ways in which the
  kernel lays runs out: one run of one row block (`runRows`), or a run of each of the two row blocks joined
  (`pairRows`).
-/
module

public import proofs.«01_k».proof.Proof.Gen.KernelIdeal.Skeleton
public import Idealize.ShloMosaic.Lib.MatmulPlain
public import Idealize.ShloMosaic.Lib.VecWindow
public import Idealize.ShloMosaic.Lib.ValueLayout
public import Idealize.ShloMosaic.Lib.ValueLayoutCasts

@[expose] public section

noncomputable section

namespace Cert.Proof

open Cert.KernelIdeal Cert.KernelIdeal.Gen
open Idealize.ShloMosaic Idealize.ShloMosaic.ValueIdx

variable {F : FTy → Type} [FloatOps F]

/-- `a` rows of `b` entries. -/
abbrev sh2 (a b : ℕ) : Shape := ⟨2, ![a, b]⟩
/-- `a` blocks of `b` rows of `c` entries. -/
abbrev sh3 (a b c : ℕ) : Shape := ⟨3, ![a, b, c]⟩

/-- The shape conditions of the operations on a run of `N` rows. -/
structure RowsOK (N : ℕ) : Prop where
  io : (sh2 N 128).Iotas .tc 32 [1]
  red : (sh2 N 128).Reduces [1] ⟨1, ![N]⟩
  col : (⟨1, ![N]⟩ : Shape).ShapeCasts (sh2 N 1)
  wide : (sh2 N 1).Broadcasts (sh2 N 256)

/-- Each row's gate for the expert number `w`: the row's entry in lane `w`, as a column. -/
def gateCol {N : ℕ} (h : RowsOK N) (w : BitVec 32) (g : FVec F (sh2 N 128) .f32) : FVec F (sh2 N 1) .f32 :=
  shapeCast (sh2 N 1)
    (multiReduction .add [1] ⟨1, ![N]⟩
      (select (cmpi .eq (iota .tc (sh2 N 128) 32 [1] h.io) (broadcast (sh2 N 128) w)) g
        (broadcast (sh2 N 128) (Scalar.ofBits .f32 0x00000000#32 : F .f32)))
      0x00000000#32 h.red (.inl rfl) rfl) h.col

/-- `silu` as the kernel computes it: `x / (1 + exp (0 - x))`. -/
def siluV {s : Shape} (x : FVec F s .f32) : FVec F s .f32 :=
  divf x (addf (broadcast s (Scalar.ofBits .f32 0x3F800000#32 : F .f32))
    (exp (subf (broadcast s (Scalar.ofBits .f32 0x00000000#32 : F .f32)) x)))

/-- A product of a run of rows with a projection to the hidden width, from nothing. -/
def intoHidden {N : ℕ} (x : FVec F (sh2 N 1024) .bf16) (w : Vec F S1x1024x256 .bf16) : FVec F (sh2 N 256) .f32 :=
  matmul (DotDims.plain N 1024 256) none x (shapeCast S1024x256 w shapeCasts_S1x1024x256_S1024x256)
    (constant (sh2 N 256) .f32 0x00000000#32)

/-- What expert number `w` adds to a run of rows. -/
def expertTerm {N : ℕ} (h : RowsOK N) (w : BitVec 32) (x : FVec F (sh2 N 1024) .bf16) (g : FVec F (sh2 N 128) .f32)
    (wg wu : Vec F S1x1024x256 .bf16) (wd : Vec F S1x256x1024 .bf16) : FVec F (sh2 N 1024) .f32 :=
  matmul (DotDims.plain N 256 1024) none
    (truncf .bf16 (mulf (mulf (siluV (intoHidden x wg)) (intoHidden x wu)) (broadcastTo (sh2 N 256) (gateCol h w g) h.wide))
      bitsLt_bf16_f32)
    (shapeCast S256x1024 wd shapeCasts_S1x256x1024_S256x1024) (constant (sh2 N 1024) .f32 0x00000000#32)

/-- Matrix `k` of a block of four projections to the hidden width. -/
def mat4 (W : Vec F S4x1024x256 .bf16) (k : ℕ) (hk : ∀ a, (![k, 0, 0] : Fin 3 → ℕ) a + S1x1024x256.size a ≤ S4x1024x256.size a) :
    Vec F S1x1024x256 .bf16 := VecWindow.window W ![k, 0, 0] S1x1024x256.size hk

/-- Matrix `k` of a block of four projections from the hidden width. -/
def mat4d (W : Vec F S4x256x1024 .bf16) (k : ℕ) (hk : ∀ a, (![k, 0, 0] : Fin 3 → ℕ) a + S1x256x1024.size a ≤ S4x256x1024.size a) :
    Vec F S1x256x1024 .bf16 := VecWindow.window W ![k, 0, 0] S1x256x1024.size hk

/-- A run of rows `y` with what the four experts of grid column `e` add. -/
def mlpRows {N : ℕ} (h : RowsOK N) (e : BitVec 32) (W5 W6 : Vec F S4x1024x256 .bf16) (W7 : Vec F S4x256x1024 .bf16)
    (x : FVec F (sh2 N 1024) .bf16) (g : FVec F (sh2 N 128) .f32) (y : FVec F (sh2 N 1024) .f32) : FVec F (sh2 N 1024) .f32 :=
  addf (addf (addf (addf y
    (expertTerm h (Scalar.addi (Scalar.muli e 4#32) 0#32) x g (mat4 W5 0 inb_S4x1024x256_S1x1024x256_0_0_0)
      (mat4 W6 0 inb_S4x1024x256_S1x1024x256_0_0_0) (mat4d W7 0 inb_S4x256x1024_S1x256x1024_0_0_0)))
    (expertTerm h (Scalar.addi (Scalar.muli e 4#32) 1#32) x g (mat4 W5 1 inb_S4x1024x256_S1x1024x256_1_0_0)
      (mat4 W6 1 inb_S4x1024x256_S1x1024x256_1_0_0) (mat4d W7 1 inb_S4x256x1024_S1x256x1024_1_0_0)))
    (expertTerm h (Scalar.addi (Scalar.muli e 4#32) 2#32) x g (mat4 W5 2 inb_S4x1024x256_S1x1024x256_2_0_0)
      (mat4 W6 2 inb_S4x1024x256_S1x1024x256_2_0_0) (mat4d W7 2 inb_S4x256x1024_S1x256x1024_2_0_0)))
    (expertTerm h (Scalar.addi (Scalar.muli e 4#32) 3#32) x g (mat4 W5 3 inb_S4x1024x256_S1x1024x256_3_0_0)
      (mat4 W6 3 inb_S4x1024x256_S1x1024x256_3_0_0) (mat4d W7 3 inb_S4x256x1024_S1x256x1024_3_0_0))

/-- `N` rows from row `a` of row block `s`. -/
def rowsAt {α : Type} {C : ℕ} (N : ℕ) (X : (sh3 2 1536 C).Idx → α) (s : Fin 2) (a : ℕ) : (sh2 N C).Idx → α :=
  fun j => X (ix3 s (Fin.ofNat 1536 (a + (j 0).val)) ⟨(j 1).val, (j 1).isLt⟩)

/-- `Y` with the `N` rows `p` put from row `a` of row block `s`. -/
def putRows {α : Type} {C : ℕ} {N : ℕ} (s : Fin 2) (a : ℕ) (p : (sh2 N C).Idx → α) (Y : (sh3 2 1536 C).Idx → α) : (sh3 2 1536 C).Idx → α :=
  fun j => if h : (j 0).val = s.val ∧ a ≤ (j 1).val ∧ (j 1).val < a + N then
      p (ix2 ⟨(j 1).val - a, by omega⟩ ⟨(j 2).val, (j 2).isLt⟩) else Y j

/-- A load of `N` rows, its unit axis dropped. -/
theorem window_rows {α : Type} {C N : ℕ} (X : (sh3 2 1536 C).Idx → α) (s : Fin 2) (a : ℕ) (off : Fin 3 → ℕ) (ho : off = ![s.val, a, 0])
    (inb : ∀ k, off k + (![1, N, C] : Fin 3 → ℕ) k ≤ (sh3 2 1536 C).size k)
    (hc : (sh3 1 N C).ShapeCasts (sh2 N C)) :
    shapeCast (sh2 N C) (VecWindow.window X off ![1, N, C] inb) hc = rowsAt N X s a := by
  subst ho
  funext j
  rw [eq_ix2 j]
  refine (shapeCast_1ab_ab_apply _ hc (j 0) (j 1)).trans ?_
  have hb := inb 1
  have h0 : (![s.val, a, 0] : Fin 3 → ℕ) 1 = a := rfl
  have h1 : (![1, N, C] : Fin 3 → ℕ) 1 = N := rfl
  have h2 : (sh3 2 1536 C).size 1 = 1536 := rfl
  rw [h0, h1, h2] at hb
  have hj : (j 0).val < N := (j 0).isLt
  refine congrArg X (funext fun k => Fin.ext ?_)
  match k with
  | ⟨0, _⟩ => show s.val + 1 * 0 = s.val; omega
  | ⟨1, _⟩ => show a + 1 * (j 0).val = (a + (j 0).val) % 1536; omega
  | ⟨2, _⟩ => show 0 + 1 * (j 1).val = (j 1).val; omega

/-- A store of `N` rows, a unit axis added to them. -/
theorem put_rows {α : Type} {C N : ℕ} (Y : (sh3 2 1536 C).Idx → α) (s : Fin 2) (a : ℕ) (off : Fin 3 → ℕ) (ho : off = ![s.val, a, 0])
    (p : (sh2 N C).Idx → α) (hc : (sh2 N C).ShapeCasts (sh3 1 N C)) :
    VecWindow.put (s := sh3 2 1536 C) Y off ![1, N, C] (shapeCast (sh3 1 N C) p hc) = putRows s a p Y := by
  subst ho
  funext j
  unfold VecWindow.put putRows
  by_cases h : (j 0).val = s.val ∧ a ≤ (j 1).val ∧ (j 1).val < a + N
  · have h' : ∀ k, (![s.val, a, 0] : Fin 3 → ℕ) k ≤ (j k).val ∧ (j k).val < (![s.val, a, 0] : Fin 3 → ℕ) k + (![1, N, C] : Fin 3 → ℕ) k := fun k => by
      match k with
      | ⟨0, _⟩ => exact ⟨Nat.le_of_eq h.1.symm, by show (j 0).val < s.val + 1; omega⟩
      | ⟨1, _⟩ => exact h.2
      | ⟨2, _⟩ => exact ⟨Nat.zero_le _, by have hj : (j 2).val < C := (j 2).isLt; show (j 2).val < 0 + C; omega⟩
    rw [dif_pos h, dif_pos h']
    refine Eq.trans ?_ (shapeCast_ab_1ab_apply p hc (0 : Fin 1) ⟨(j 1).val - a, by omega⟩ ⟨(j 2).val, (j 2).isLt⟩)
    refine congrArg (shapeCast (sh3 1 N C) p hc) (funext fun k => Fin.ext ?_)
    match k with
    | ⟨0, _⟩ => show (j 0).val - s.val = 0; omega
    | ⟨1, _⟩ => rfl
    | ⟨2, _⟩ => rfl
  · rw [dif_neg h, dif_neg]
    intro h'
    refine h ⟨?_, h' 1⟩
    have h0 := h' 0
    have e0 : (![s.val, a, 0] : Fin 3 → ℕ) 0 = s.val := rfl
    have e1 : (![1, N, C] : Fin 3 → ℕ) 0 = 1 := rfl
    rw [e0, e1] at h0
    omega

/-- The four experts' work on one run: `N` rows from row `a` of row block `s`. -/
def runRows {N : ℕ} (h : RowsOK N) (e : BitVec 32) (X : Vec F S2x1536x1024 .bf16) (G : Vec F S2x1536x128 .f32)
    (W5 W6 : Vec F S4x1024x256 .bf16) (W7 : Vec F S4x256x1024 .bf16) (s : Fin 2) (a : ℕ) (Y : Vec F S2x1536x1024 .f32) :
    Vec F S2x1536x1024 .f32 :=
  putRows s a (mlpRows h e W5 W6 W7 (rowsAt N X s a) (rowsAt N G s a) (rowsAt N Y s a)) Y

/-- The shape conditions of joining `N0` and `N1` rows into `N`, and of taking them apart. -/
structure PairOK (N0 N1 N : ℕ) : Prop where
  rows : RowsOK N
  cat : Shape.Concatenates [sh2 N0 1024, sh2 N1 1024] (sh2 N 1024) 0
  catG : Shape.Concatenates [sh2 N0 128, sh2 N1 128] (sh2 N 128) 0
  top : (sh2 N 1024).Slices ![0, 0] (sh2 N0 1024)
  bot : (sh2 N 1024).Slices ![N0, 0] (sh2 N1 1024)

/-- A run of each row block, joined. -/
def catRows {e : EltTy} {N0 N1 N C : ℕ} (h : Shape.Concatenates [sh2 N0 C, sh2 N1 C] (sh2 N C) 0) (X : Vec F (sh3 2 1536 C) e) (a0 a1 : ℕ) : Vec F (sh2 N C) e :=
  concatenate (sh2 N C) 0 [⟨sh2 N0 C, rowsAt N0 X 0 a0⟩, ⟨sh2 N1 C, rowsAt N1 X 1 a1⟩] h

/-- The four experts' work on a run of each row block, joined: `N0` rows from row `a0` of the first, `N1` rows from
    row `a1` of the second. -/
def pairRows {N0 N1 N : ℕ} (h : PairOK N0 N1 N) (e : BitVec 32) (X : Vec F S2x1536x1024 .bf16) (G : Vec F S2x1536x128 .f32)
    (W5 W6 : Vec F S4x1024x256 .bf16) (W7 : Vec F S4x256x1024 .bf16) (a0 a1 : ℕ) (Y : Vec F S2x1536x1024 .f32) :
    Vec F S2x1536x1024 .f32 :=
  let p := mlpRows h.rows e W5 W6 W7 (catRows h.cat X a0 a1) (catRows h.catG G a0 a1) (catRows h.cat Y a0 a1)
  putRows 1 a1 (extractStridedSlice (sh2 N1 1024) ![N0, 0] p h.bot)
    (putRows 0 a0 (extractStridedSlice (sh2 N0 1024) ![0, 0] p h.top) Y)

end Cert.Proof

end
-- ==== Proof.Body.lean ====
module

public import proofs.«01_k».proof.Proof.Mlp
public import proofs.«01_k».proof.Proof.Gen.KernelIdeal.Loops
public import Idealize.ShloMosaic.Lib.Tactic

@[expose] public section

set_option maxRecDepth 8192
set_option maxHeartbeats 4000000

noncomputable section

namespace Cert.Proof

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem rows128 : RowsOK 128 := ⟨iota_S128x128_d1_w32, reduces_S128x128_S128, shapeCasts_S128_S128x1, broadcasts_S128x1_S128x256⟩
theorem rows256 : RowsOK 256 := ⟨iota_S256x128_d1_w32, reduces_S256x128_S256, shapeCasts_S256_S256x1, broadcasts_S256x1_S256x256⟩
theorem rows384 : RowsOK 384 := ⟨iota_S384x128_d1_w32, reduces_S384x128_S384, shapeCasts_S384_S384x1, broadcasts_S384x1_S384x256⟩
theorem rows512 : RowsOK 512 := ⟨iota_S512x128_d1_w32, reduces_S512x128_S512, shapeCasts_S512_S512x1, broadcasts_S512x1_S512x256⟩
theorem rows640 : RowsOK 640 := ⟨iota_S640x128_d1_w32, reduces_S640x128_S640, shapeCasts_S640_S640x1, broadcasts_S640x1_S640x256⟩
theorem rows768 : RowsOK 768 := ⟨iota_S768x128_d1_w32, reduces_S768x128_S768, shapeCasts_S768_S768x1, broadcasts_S768x1_S768x256⟩

theorem pair512 : PairOK 256 256 512 := ⟨rows512, concatenates_S256x1024_S256x1024_S512x1024_d0, concatenates_S256x128_S256x128_S512x128_d0,
  slices_S512x1024_o0_0_S256x1024, slices_S512x1024_o256_0_S256x1024⟩
theorem pair640 : PairOK 256 384 640 := ⟨rows640, concatenates_S256x1024_S384x1024_S640x1024_d0, concatenates_S256x128_S384x128_S640x128_d0,
  slices_S640x1024_o0_0_S256x1024, slices_S640x1024_o256_0_S384x1024⟩
theorem pair640' : PairOK 384 256 640 := ⟨rows640, concatenates_S384x1024_S256x1024_S640x1024_d0, concatenates_S384x128_S256x128_S640x128_d0,
  slices_S640x1024_o0_0_S384x1024, slices_S640x1024_o384_0_S256x1024⟩
theorem pair768 : PairOK 384 384 768 := ⟨rows768, concatenates_S384x1024_S384x1024_S768x1024_d0, concatenates_S384x128_S384x128_S768x128_d0,
  slices_S768x1024_o0_0_S384x1024, slices_S768x1024_o384_0_S384x1024⟩

local notation "𝕄" => MT nD τ sig Unit (Elt F) ℕ (UR sig nD τ) ℕ

/-- The body's buffers: the inputs at what they hold, and the output block holding `Y`. -/
abbrev Bufs (c : Dev nD) (arg3 : Memref sig .tc .vmem S2x1536x1024 .bf16) (arg4 : Memref sig .tc .vmem S2x1536x128 .f32)
    (arg5 : Memref sig .tc .vmem S4x1024x256 .bf16) (arg6 : Memref sig .tc .vmem S4x1024x256 .bf16)
    (arg7 : Memref sig .tc .vmem S4x256x1024 .bf16) (arg8 : Memref sig .tc .vmem S2x1536x1024 .f32)
    (X3 : BufTy.Contents (Elt F) arg3.view.ty) (X4 : BufTy.Contents (Elt F) arg4.view.ty) (X5 : BufTy.Contents (Elt F) arg5.view.ty)
    (X6 : BufTy.Contents (Elt F) arg6.view.ty) (X7 : BufTy.Contents (Elt F) arg7.view.ty) (Y : Vec F S2x1536x1024 .f32) : sProp 𝕄 :=
  iprop((arg3.view.loc (c : Thread nD τ) ↦[arg3.view.set]{fullShare} X3) ∗ (arg4.view.loc (c : Thread nD τ) ↦[arg4.view.set]{fullShare} X4) ∗
    (arg5.view.loc (c : Thread nD τ) ↦[arg5.view.set]{fullShare} X5) ∗ (arg6.view.loc (c : Thread nD τ) ↦[arg6.view.set]{fullShare} X6) ∗
    (arg7.view.loc (c : Thread nD τ) ↦[arg7.view.set]{fullShare} X7) ∗ ∃ f, ⌜arg8.view.read (Elt F) f = Y⌝ ∗ (arg8.view.loc (c : Thread nD τ) ↦[arg8.view.set]{fullShare} f))

/-- What a store of a finished run leaves in the output block. -/
theorem store_run {N : ℕ} (h : RowsOK N) (e : BitVec 32) (X : Vec F S2x1536x1024 .bf16) (G : Vec F S2x1536x128 .f32)
    (W5 W6 : Vec F S4x1024x256 .bf16) (W7 : Vec F S4x256x1024 .bf16) (s : Fin 2) (a : ℕ) (off offG : Fin 3 → ℕ)
    (ho : off = ![s.val, a, 0]) (hoG : offG = ![s.val, a, 0])
    (inb : ∀ k, off k + (![1, N, 1024] : Fin 3 → ℕ) k ≤ (sh3 2 1536 1024).size k)
    (inbG : ∀ k, offG k + (![1, N, 128] : Fin 3 → ℕ) k ≤ (sh3 2 1536 128).size k)
    (hc : (sh3 1 N 1024).ShapeCasts (sh2 N 1024)) (hcG : (sh3 1 N 128).ShapeCasts (sh2 N 128))
    (hc' : (sh2 N 1024).ShapeCasts (sh3 1 N 1024))
    (v : View sig .tc .vmem S2x1536x1024 .f32) (f : BufTy.Contents (Elt F) v.ty) (Y : Vec F S2x1536x1024 .f32)
    (hf : v.read (Elt F) f = Y) (w : Vec F (sh3 1 N 1024) .f32)
    (hw : w = shapeCast (sh3 1 N 1024) (mlpRows h e W5 W6 W7 (shapeCast (sh2 N 1024) (VecWindow.window X off ![1, N, 1024] inb) hc)
      (shapeCast (sh2 N 128) (VecWindow.window G offG ![1, N, 128] inbG) hcG)
      (shapeCast (sh2 N 1024) (VecWindow.window (v.read (Elt F) f) off ![1, N, 1024] inb) hc)) hc') :
    v.read (Elt F) (v.writes (Elt F) f [⟨Rect.unit off ![1, N, 1024] inb, w⟩]) = runRows h e X G W5 W6 W7 s a Y := by
  subst hf
  rw [View.read_writes_cons_put v f inb w [] rfl, hw]
  refine (put_rows _ s a off ho _ hc').trans ?_
  unfold runRows
  congr 2
  · exact window_rows X s a off ho inb hc
  · exact window_rows G s a offG hoG inbG hcG
  · exact window_rows _ s a off ho inb hc

/-- What the two stores of a finished joined run leave in the output block. -/
theorem store_pair {N0 N1 N : ℕ} (h : PairOK N0 N1 N) (e : BitVec 32) (X : Vec F S2x1536x1024 .bf16) (G : Vec F S2x1536x128 .f32)
    (W5 W6 : Vec F S4x1024x256 .bf16) (W7 : Vec F S4x256x1024 .bf16) (a0 a1 : ℕ) (off0 off1 offG0 offG1 : Fin 3 → ℕ)
    (ho0 : off0 = ![0, a0, 0]) (ho1 : off1 = ![1, a1, 0]) (hoG0 : offG0 = ![0, a0, 0]) (hoG1 : offG1 = ![1, a1, 0])
    (inb0 : ∀ k, off0 k + (![1, N0, 1024] : Fin 3 → ℕ) k ≤ (sh3 2 1536 1024).size k)
    (inb1 : ∀ k, off1 k + (![1, N1, 1024] : Fin 3 → ℕ) k ≤ (sh3 2 1536 1024).size k)
    (inbG0 : ∀ k, offG0 k + (![1, N0, 128] : Fin 3 → ℕ) k ≤ (sh3 2 1536 128).size k)
    (inbG1 : ∀ k, offG1 k + (![1, N1, 128] : Fin 3 → ℕ) k ≤ (sh3 2 1536 128).size k)
    (hc0 : (sh3 1 N0 1024).ShapeCasts (sh2 N0 1024)) (hc1 : (sh3 1 N1 1024).ShapeCasts (sh2 N1 1024))
    (hcG0 : (sh3 1 N0 128).ShapeCasts (sh2 N0 128)) (hcG1 : (sh3 1 N1 128).ShapeCasts (sh2 N1 128))
    (hc0' : (sh2 N0 1024).ShapeCasts (sh3 1 N0 1024)) (hc1' : (sh2 N1 1024).ShapeCasts (sh3 1 N1 1024))
    (v : View sig .tc .vmem S2x1536x1024 .f32) (f : BufTy.Contents (Elt F) v.ty) (Y : Vec F S2x1536x1024 .f32)
    (hf : v.read (Elt F) f = Y) (w0 : Vec F (sh3 1 N0 1024) .f32) (w1 : Vec F (sh3 1 N1 1024) .f32) (p : FVec F (sh2 N 1024) .f32)
    (hp : p = mlpRows h.rows e W5 W6 W7
      (concatenate (sh2 N 1024) 0 [⟨sh2 N0 1024, shapeCast (sh2 N0 1024) (VecWindow.window X off0 ![1, N0, 1024] inb0) hc0⟩,
        ⟨sh2 N1 1024, shapeCast (sh2 N1 1024) (VecWindow.window X off1 ![1, N1, 1024] inb1) hc1⟩] h.cat)
      (concatenate (sh2 N 128) 0 [⟨sh2 N0 128, shapeCast (sh2 N0 128) (VecWindow.window G offG0 ![1, N0, 128] inbG0) hcG0⟩,
        ⟨sh2 N1 128, shapeCast (sh2 N1 128) (VecWindow.window G offG1 ![1, N1, 128] inbG1) hcG1⟩] h.catG)
      (concatenate (sh2 N 1024) 0
        [⟨sh2 N0 1024, shapeCast (sh2 N0 1024) (VecWindow.window (v.read (Elt F) f) off0 ![1, N0, 1024] inb0) hc0⟩,
        ⟨sh2 N1 1024, shapeCast (sh2 N1 1024) (VecWindow.window (v.read (Elt F) f) off1 ![1, N1, 1024] inb1) hc1⟩] h.cat))
    (hw0 : w0 = shapeCast (sh3 1 N0 1024) (extractStridedSlice (sh2 N0 1024) ![0, 0] p h.top) hc0')
    (hw1 : w1 = shapeCast (sh3 1 N1 1024) (extractStridedSlice (sh2 N1 1024) ![N0, 0] p h.bot) hc1') :
    v.read (Elt F) (v.writes (Elt F) f [⟨Rect.unit off1 ![1, N1, 1024] inb1, w1⟩, ⟨Rect.unit off0 ![1, N0, 1024] inb0, w0⟩])
      = pairRows h e X G W5 W6 W7 a0 a1 Y := by
  subst hf
  rw [View.read_writes_cons_put v f inb1 w1 _ rfl, View.read_writes_cons_put v f inb0 w0 [] rfl, hw0, hw1]
  refine (put_rows _ 1 a1 off1 ho1 _ hc1').trans ?_
  have e0 := put_rows (v.read (Elt F) f) 0 a0 off0 ho0 (extractStridedSlice (sh2 N0 1024) ![0, 0] p h.top) hc0'
  rw [window_rows X 0 a0 off0 ho0 inb0 hc0, window_rows X 1 a1 off1 ho1 inb1 hc1, window_rows G 0 a0 offG0 hoG0 inbG0 hcG0,
    window_rows G 1 a1 offG1 hoG1 inbG1 hcG1, window_rows _ 0 a0 off0 ho0 inb0 hc0, window_rows _ 1 a1 off1 ho1 inb1 hc1] at hp
  subst hp
  exact congrArg (putRows 1 a1 _) e0

/-- A program after its first half. -/
theorem wp_first {α β : Type} {𝒱 : Variants} {c : Dev nD} {bd : Option 𝒱.V} {E : Set ℕ}
    (p : Prog (TpuEff nD τ sig (Elt F) Λ₀ .tc) α) (k : α → Prog (TpuEff nD τ sig (Elt F) Λ₀ .tc) β) {P R : sProp 𝕄} {Q : β → sProp 𝕄}
    (hp : P ⊢ wp frame (wpE (defs₀ (F := F)) 𝒱 (c : Thread nD τ) bd) E p (fun _ => R))
    (hk : ∀ x, R ⊢ wp frame (wpE (defs₀ (F := F)) 𝒱 (c : Thread nD τ) bd) E (k x) Q) :
    P ⊢ wp frame (wpE (defs₀ (F := F)) 𝒱 (c : Thread nD τ) bd) E (p >>= k) Q := by
  rw [wp_bind]
  exact hp.trans (wp_mono _ _ _ hk)

/-- A program that is over. -/
theorem wp_done {α : Type} {𝒱 : Variants} {c : Dev nD} {bd : Option 𝒱.V} {E : Set ℕ} (x : α) {P : sProp 𝕄} {Q : α → sProp 𝕄} (h : P ⊢ Q x) :
    P ⊢ wp frame (wpE (defs₀ (F := F)) 𝒱 (c : Thread nD τ) bd) E (Pure.pure x) Q := by
  refine h.trans ?_
  show Q x ⊢ wp frame (wpE (defs₀ (F := F)) 𝒱 (c : Thread nD τ) bd) E (Prog.ret x) Q
  rw [wp_ret]
  iintro H
  imodintro
  iexact H

section
variable (𝒱 : Variants) (c : Dev nD) (bd : Option 𝒱.V) (E : Set ℕ) (i : grid0.Coords)
  (arg2 : Memref sig .tc .smem S256 .i32) (harg2 : arg2.IsWhole) (arg3 : Memref sig .tc .vmem S2x1536x1024 .bf16) (harg3 : arg3.IsWhole)
  (arg4 : Memref sig .tc .vmem S2x1536x128 .f32) (harg4 : arg4.IsWhole) (arg5 : Memref sig .tc .vmem S4x1024x256 .bf16) (harg5 : arg5.IsWhole)
  (arg6 : Memref sig .tc .vmem S4x1024x256 .bf16) (harg6 : arg6.IsWhole) (arg7 : Memref sig .tc .vmem S4x256x1024 .bf16) (harg7 : arg7.IsWhole)
  (arg8 : Memref sig .tc .vmem S2x1536x1024 .f32) (harg8 : arg8.IsWhole)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty) (Y : Vec F S2x1536x1024 .f32)
  (arg1 v27 v30 v37 v40 : BitVec 32) (hw : k0_chk1 v27 v30 v37 v40) (h6 : k0_cond6 v30 v40 = 1#1)

/-- One trip of a loop over the runs of two chunks. -/
theorem t1_trip (k : Fin (k0_t1_loop v30).trips) :
    Bufs (F := F) c arg3 arg4 arg5 arg6 arg7 arg8 X3 X4 X5 X6 X7 Y
    ⊢ wp frame (wpE (defs₀ (F := F)) 𝒱 (c : Thread nD τ) bd) E
        (k0_t1_body (F := F) i arg2 harg2 arg3 harg3 arg4 harg4 arg5 harg5 arg6 harg6 arg7 harg7 arg8 harg8 arg1 v27 v30 v37 v40 hw h6 k PUnit.unit)
        (fun _ => Bufs (F := F) c arg3 arg4 arg5 arg6 arg7 arg8 X3 X4 X5 X6 X7
          (runRows rows256 arg1 (arg3.view.read (Elt F) X3) (arg4.view.read (Elt F) X4) (arg5.view.read (Elt F) X5)
            (arg6.view.read (Elt F) X6) (arg7.view.read (Elt F) X7) 0 (k0_off19 v27 v30 k 1) Y)) := by
  unfold k0_t1_body
  iintro ⟨H3, H4, H5, H6, H7, %f, %hf, H8⟩
  sl_exec
  sl_step
  isplitl [H3]; · iexact H3
  isplitl [H4]; · iexact H4
  isplitl [H5]; · iexact H5
  isplitl [H6]; · iexact H6
  isplitl [H7]; · iexact H7
  iexists _
  isplitr [H8]
  swap
  · iexact H8
  · ipureintro
    exact store_run rows256 arg1 (arg3.view.read (Elt F) X3) (arg4.view.read (Elt F) X4) (arg5.view.read (Elt F) X5)
            (arg6.view.read (Elt F) X6) (arg7.view.read (Elt F) X7) 0 (k0_off19 v27 v30 k 1) _ (k0_off20 v27 v30 k) rfl rfl _
      (k0_off20_inb v27 v30 v37 v40 hw k h6) shapeCasts_S1x256x1024_S256x1024 shapeCasts_S1x256x128_S256x128 shapeCasts_S256x1024_S1x256x1024 _ f Y hf _ rfl

/-- One trip of a loop over the runs of two chunks. -/
theorem t3_trip (w : BitVec 32) (k : Fin (k0_t3_loop v40).trips) :
    Bufs (F := F) c arg3 arg4 arg5 arg6 arg7 arg8 X3 X4 X5 X6 X7 Y
    ⊢ wp frame (wpE (defs₀ (F := F)) 𝒱 (c : Thread nD τ) bd) E
        (k0_t3_body (F := F) i arg2 harg2 arg3 harg3 arg4 harg4 arg5 harg5 arg6 harg6 arg7 harg7 arg8 harg8 arg1 v27 v30 v37 v40 hw h6 w k PUnit.unit)
        (fun _ => Bufs (F := F) c arg3 arg4 arg5 arg6 arg7 arg8 X3 X4 X5 X6 X7
          (runRows rows256 arg1 (arg3.view.read (Elt F) X3) (arg4.view.read (Elt F) X4) (arg5.view.read (Elt F) X5)
            (arg6.view.read (Elt F) X6) (arg7.view.read (Elt F) X7) 1 (k0_off27 v37 v40 k 1) Y)) := by
  unfold k0_t3_body
  iintro ⟨H3, H4, H5, H6, H7, %f, %hf, H8⟩
  sl_exec
  sl_step
  isplitl [H3]; · iexact H3
  isplitl [H4]; · iexact H4
  isplitl [H5]; · iexact H5
  isplitl [H6]; · iexact H6
  isplitl [H7]; · iexact H7
  iexists _
  isplitr [H8]
  swap
  · iexact H8
  · ipureintro
    exact store_run rows256 arg1 (arg3.view.read (Elt F) X3) (arg4.view.read (Elt F) X4) (arg5.view.read (Elt F) X5)
            (arg6.view.read (Elt F) X6) (arg7.view.read (Elt F) X7) 1 (k0_off27 v37 v40 k 1) _ (k0_off28 v37 v40 k) rfl rfl _
      (k0_off28_inb v27 v30 v37 v40 hw k h6) shapeCasts_S1x256x1024_S256x1024 shapeCasts_S1x256x128_S256x128 shapeCasts_S256x1024_S1x256x1024 _ f Y hf _ rfl

/-- What the unusual case does to the first row block after its loops. -/
def tail0 (e v27 v30 : BitVec 32) (X : Vec F S2x1536x1024 .bf16) (G : Vec F S2x1536x128 .f32) (W5 W6 : Vec F S4x1024x256 .bf16)
    (W7 : Vec F S4x256x1024 .bf16) (Y : Vec F S2x1536x1024 .f32) : Vec F S2x1536x1024 .f32 :=
  if k0_cond8 v30 = 1#1 then runRows rows128 e X G W5 W6 W7 0 (k0_off25 v27 1)
      (if k0_cond7 v30 = 1#1 then runRows rows384 e X G W5 W6 W7 0 (k0_off23 v27 v30 1) Y else Y)
    else (if k0_cond7 v30 = 1#1 then runRows rows384 e X G W5 W6 W7 0 (k0_off23 v27 v30 1) Y else Y)

/-- The second half of the first row block's unusual case. -/
theorem part38_run (v99 : BitVec 32) (v107 : BitVec 1) :
    Bufs (F := F) c arg3 arg4 arg5 arg6 arg7 arg8 X3 X4 X5 X6 X7 Y
    ⊢ wp frame (wpE (defs₀ (F := F)) 𝒱 (c : Thread nD τ) bd) E
        (k0_part38 (F := F) i arg2 harg2 arg3 harg3 arg4 harg4 arg5 harg5 arg6 harg6 arg7 harg7 arg8 harg8 arg1 v27 v30 v37 v40 hw h6 v99 v107)
        (fun _ => Bufs (F := F) c arg3 arg4 arg5 arg6 arg7 arg8 X3 X4 X5 X6 X7 (tail0 arg1 v27 v30 (arg3.view.read (Elt F) X3) (arg4.view.read (Elt F) X4) (arg5.view.read (Elt F) X5)
      (arg6.view.read (Elt F) X6) (arg7.view.read (Elt F) X7) Y)) := by
  rw [k0_part38_eq_skeleton]
  unfold k0_part38_skel tail0
  extract_lets -underBinder +onlyGivenNames jp
  have hK : Bufs (F := F) c arg3 arg4 arg5 arg6 arg7 arg8 X3 X4 X5 X6 X7 (if k0_cond7 v30 = 1#1 then runRows rows384 arg1 (arg3.view.read (Elt F) X3) (arg4.view.read (Elt F) X4) (arg5.view.read (Elt F) X5)
        (arg6.view.read (Elt F) X6) (arg7.view.read (Elt F) X7) 0 (k0_off23 v27 v30 1) Y else Y)
      ⊢ wp frame (wpE (defs₀ (F := F)) 𝒱 (c : Thread nD τ) bd) E (jp PUnit.unit)
        (fun _ => Bufs (F := F) c arg3 arg4 arg5 arg6 arg7 arg8 X3 X4 X5 X6 X7 (if k0_cond8 v30 = 1#1 then runRows rows128 arg1 (arg3.view.read (Elt F) X3) (arg4.view.read (Elt F) X4) (arg5.view.read (Elt F) X5)
        (arg6.view.read (Elt F) X6) (arg7.view.read (Elt F) X7) 0 (k0_off25 v27 1) (if k0_cond7 v30 = 1#1 then runRows rows384 arg1 (arg3.view.read (Elt F) X3) (arg4.view.read (Elt F) X4) (arg5.view.read (Elt F) X5)
        (arg6.view.read (Elt F) X6) (arg7.view.read (Elt F) X7) 0 (k0_off23 v27 v30 1) Y else Y) else (if k0_cond7 v30 = 1#1 then runRows rows384 arg1 (arg3.view.read (Elt F) X3) (arg4.view.read (Elt F) X4) (arg5.view.read (Elt F) X5)
        (arg6.view.read (Elt F) X6) (arg7.view.read (Elt F) X7) 0 (k0_off23 v27 v30 1) Y else Y))) := by
    dsimp -zeta only [jp]
    extract_lets -underBinder +onlyGivenNames jp
    have hK : Bufs (F := F) c arg3 arg4 arg5 arg6 arg7 arg8 X3 X4 X5 X6 X7 (if k0_cond8 v30 = 1#1 then runRows rows128 arg1 (arg3.view.read (Elt F) X3) (arg4.view.read (Elt F) X4) (arg5.view.read (Elt F) X5)
          (arg6.view.read (Elt F) X6) (arg7.view.read (Elt F) X7) 0 (k0_off25 v27 1) (if k0_cond7 v30 = 1#1 then runRows rows384 arg1 (arg3.view.read (Elt F) X3) (arg4.view.read (Elt F) X4) (arg5.view.read (Elt F) X5)
          (arg6.view.read (Elt F) X6) (arg7.view.read (Elt F) X7) 0 (k0_off23 v27 v30 1) Y else Y) else (if k0_cond7 v30 = 1#1 then runRows rows384 arg1 (arg3.view.read (Elt F) X3) (arg4.view.read (Elt F) X4) (arg5.view.read (Elt F) X5)
          (arg6.view.read (Elt F) X6) (arg7.view.read (Elt F) X7) 0 (k0_off23 v27 v30 1) Y else Y))
        ⊢ wp frame (wpE (defs₀ (F := F)) 𝒱 (c : Thread nD τ) bd) E (jp PUnit.unit)
          (fun _ => Bufs (F := F) c arg3 arg4 arg5 arg6 arg7 arg8 X3 X4 X5 X6 X7 (tail0 arg1 v27 v30 (arg3.view.read (Elt F) X3) (arg4.view.read (Elt F) X4) (arg5.view.read (Elt F) X5)
          (arg6.view.read (Elt F) X6) (arg7.view.read (Elt F) X7) Y)) := by
      exact wp_done _ .rfl
    clear_value jp
    by_cases h8 : k0_cond8 v30 = 1#1
    · rw [dif_pos h8]
      iintro ⟨H3, H4, H5, H6, H7, %f, %hf, H8⟩
      sl_exec
      iapply hK
      isplitl [H3]; · iexact H3
      isplitl [H4]; · iexact H4
      isplitl [H5]; · iexact H5
      isplitl [H6]; · iexact H6
      isplitl [H7]; · iexact H7
      iexists _
      isplitr [H8]
      swap
      · iexact H8
      · ipureintro
        exact (store_run rows128 arg1 (arg3.view.read (Elt F) X3) (arg4.view.read (Elt F) X4) (arg5.view.read (Elt F) X5)
              (arg6.view.read (Elt F) X6) (arg7.view.read (Elt F) X7) 0 (k0_off25 v27 1) _ (k0_off26 v27) rfl rfl _
            (k0_off26_inb v27 v30 v37 v40 hw h6 h8) shapeCasts_S1x128x1024_S128x1024 shapeCasts_S1x128x128_S128x128 shapeCasts_S128x1024_S1x128x1024 _ f _ hf _ rfl).trans (if_pos h8).symm
    · rw [dif_neg h8]
      refine BIBase.Entails.trans (BIBase.Entails.of_eq (congrArg _ ?_)) hK
      exact (if_neg h8).symm
  clear_value jp
  by_cases h7 : k0_cond7 v30 = 1#1
  · rw [dif_pos h7]
    iintro ⟨H3, H4, H5, H6, H7, %f, %hf, H8⟩
    sl_exec
    iapply hK
    isplitl [H3]; · iexact H3
    isplitl [H4]; · iexact H4
    isplitl [H5]; · iexact H5
    isplitl [H6]; · iexact H6
    isplitl [H7]; · iexact H7
    iexists _
    isplitr [H8]
    swap
    · iexact H8
    · ipureintro
      exact (store_run rows384 arg1 (arg3.view.read (Elt F) X3) (arg4.view.read (Elt F) X4) (arg5.view.read (Elt F) X5)
            (arg6.view.read (Elt F) X6) (arg7.view.read (Elt F) X7) 0 (k0_off23 v27 v30 1) _ (k0_off24 v27 v30) rfl rfl _
          (k0_off24_inb v27 v30 v37 v40 hw h6 h7) shapeCasts_S1x384x1024_S384x1024 shapeCasts_S1x384x128_S384x128 shapeCasts_S384x1024_S1x384x1024 _ f _ hf _ rfl).trans (if_pos h7).symm
  · rw [dif_neg h7]
    refine BIBase.Entails.trans (BIBase.Entails.of_eq (congrArg _ ?_)) hK
    exact (if_neg h7).symm
end
end Cert.Proof
end
-- ==== Proof.Body2.lean ====
module

public import proofs.«01_k».proof.Proof.Body
public import proofs.«01_k».proof.Proof.Gen.KernelIdeal.Loops
public import Idealize.ShloMosaic.Lib.Tactic

@[expose] public section

set_option maxRecDepth 8192
set_option maxHeartbeats 4000000

noncomputable section

namespace Cert.Proof

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The runs of two chunks of a row block, one after another: `n` of them, run `k` from row `a k`. -/
def loopRows (e : BitVec 32) (X : Vec F S2x1536x1024 .bf16) (G : Vec F S2x1536x128 .f32) (W5 W6 : Vec F S4x1024x256 .bf16)
    (W7 : Vec F S4x256x1024 .bf16) (s : Fin 2) (a : ℕ → ℕ) (Y : Vec F S2x1536x1024 .f32) : ℕ → Vec F S2x1536x1024 .f32
  | 0 => Y
  | n + 1 => runRows rows256 e X G W5 W6 W7 s (a n) (loopRows e X G W5 W6 W7 s a Y n)

/-- The row where run `k` of two chunks begins, for runs from row `v`. -/
def runStart (v : BitVec 32) (k : ℕ) : ℕ :=
  (Scalar.indexCast (Scalar.addi v (Scalar.muli (Scf.iv 0#32 1#32 k) 256#32))).toNat

theorem zero_trips (x : BitVec 32) :
    Scf.trips (Scalar.addi 0#32 (Scalar.muli (Scalar.divsi (Scalar.subi x 0#32) 1#32) 1#32)) (Scalar.addi 0#32 (Scalar.subi x 0#32)) 1#32 = 0 := by
  have h : Scalar.muli (Scalar.divsi (Scalar.subi x 0#32) 1#32) 1#32 = Scalar.subi x 0#32 := by
    simp [Scalar.muli, Scalar.divsi, Scalar.subi, IntOp.muli, IntOp.divsi, IntOp.subi, IntOp.SDivCorner, BitVec.sdiv_one]
  rw [h]
  simp [Scf.trips]

theorem t2_zero (v : BitVec 32) : (k0_t2_loop v).trips = 0 := zero_trips _
theorem t4_zero (v : BitVec 32) : (k0_t4_loop v).trips = 0 := zero_trips _

/-- The joined runs of one pair of lengths, where the lengths are those. -/
def step2 (e v27 v30 v37 v40 : BitVec 32) (X : Vec F S2x1536x1024 .bf16) (G : Vec F S2x1536x128 .f32) (W5 W6 : Vec F S4x1024x256 .bf16)
    (W7 : Vec F S4x256x1024 .bf16) (Y : Vec F S2x1536x1024 .f32) : Vec F S2x1536x1024 .f32 :=
  if k0_cond2 v30 v40 = 1#1 then pairRows pair512 e X G W5 W6 W7 (k0_off3 v27 1) (k0_off4 v37 1) Y else Y

/-- The joined runs of one pair of lengths, where the lengths are those. -/
def step3 (e v27 v30 v37 v40 : BitVec 32) (X : Vec F S2x1536x1024 .bf16) (G : Vec F S2x1536x128 .f32) (W5 W6 : Vec F S4x1024x256 .bf16)
    (W7 : Vec F S4x256x1024 .bf16) (Y : Vec F S2x1536x1024 .f32) : Vec F S2x1536x1024 .f32 :=
  if k0_cond3 v30 v40 = 1#1 then pairRows pair640 e X G W5 W6 W7 (k0_off7 v27 1) (k0_off8 v37 1) Y else Y

/-- The joined runs of one pair of lengths, where the lengths are those. -/
def step4 (e v27 v30 v37 v40 : BitVec 32) (X : Vec F S2x1536x1024 .bf16) (G : Vec F S2x1536x128 .f32) (W5 W6 : Vec F S4x1024x256 .bf16)
    (W7 : Vec F S4x256x1024 .bf16) (Y : Vec F S2x1536x1024 .f32) : Vec F S2x1536x1024 .f32 :=
  if k0_cond4 v30 v40 = 1#1 then pairRows pair640' e X G W5 W6 W7 (k0_off11 v27 1) (k0_off12 v37 1) Y else Y

/-- The joined runs of one pair of lengths, where the lengths are those. -/
def step5 (e v27 v30 v37 v40 : BitVec 32) (X : Vec F S2x1536x1024 .bf16) (G : Vec F S2x1536x128 .f32) (W5 W6 : Vec F S4x1024x256 .bf16)
    (W7 : Vec F S4x256x1024 .bf16) (Y : Vec F S2x1536x1024 .f32) : Vec F S2x1536x1024 .f32 :=
  if k0_cond5 v30 v40 = 1#1 then pairRows pair768 e X G W5 W6 W7 (k0_off15 v27 1) (k0_off16 v37 1) Y else Y

/-- The second row block's run of 384 rows, where it has one. -/
def step9 (e v37 v40 : BitVec 32) (X : Vec F S2x1536x1024 .bf16) (G : Vec F S2x1536x128 .f32) (W5 W6 : Vec F S4x1024x256 .bf16)
    (W7 : Vec F S4x256x1024 .bf16) (Y : Vec F S2x1536x1024 .f32) : Vec F S2x1536x1024 .f32 :=
  if k0_cond9 v40 = 1#1 then runRows rows384 e X G W5 W6 W7 1 (k0_off31 v37 v40 1) Y else Y

/-- The second row block's run of 128 rows, where it has one. -/
def step10 (e v37 v40 : BitVec 32) (X : Vec F S2x1536x1024 .bf16) (G : Vec F S2x1536x128 .f32) (W5 W6 : Vec F S4x1024x256 .bf16)
    (W7 : Vec F S4x256x1024 .bf16) (Y : Vec F S2x1536x1024 .f32) : Vec F S2x1536x1024 .f32 :=
  if k0_cond10 v40 = 1#1 then runRows rows128 e X G W5 W6 W7 1 (k0_off33 v37 1) Y else Y

/-- The first row block's part of the unusual case. -/
def unusual0 (e v27 v30 : BitVec 32) (X : Vec F S2x1536x1024 .bf16) (G : Vec F S2x1536x128 .f32) (W5 W6 : Vec F S4x1024x256 .bf16)
    (W7 : Vec F S4x256x1024 .bf16) (Y : Vec F S2x1536x1024 .f32) : Vec F S2x1536x1024 .f32 :=
  tail0 e v27 v30 X G W5 W6 W7 (loopRows e X G W5 W6 W7 0 (runStart v27) Y (k0_t1_loop v30).trips)

/-- The second row block's part of the unusual case. -/
def unusual1 (e v37 v40 : BitVec 32) (X : Vec F S2x1536x1024 .bf16) (G : Vec F S2x1536x128 .f32) (W5 W6 : Vec F S4x1024x256 .bf16)
    (W7 : Vec F S4x256x1024 .bf16) (Y : Vec F S2x1536x1024 .f32) : Vec F S2x1536x1024 .f32 :=
  step10 e v37 v40 X G W5 W6 W7 (step9 e v37 v40 X G W5 W6 W7 (loopRows e X G W5 W6 W7 1 (runStart v37) Y (k0_t3_loop v40).trips))

/-- The unusual case, where the lengths are no usual pair. -/
def step6 (e v27 v30 v37 v40 : BitVec 32) (X : Vec F S2x1536x1024 .bf16) (G : Vec F S2x1536x128 .f32) (W5 W6 : Vec F S4x1024x256 .bf16)
    (W7 : Vec F S4x256x1024 .bf16) (Y : Vec F S2x1536x1024 .f32) : Vec F S2x1536x1024 .f32 :=
  if k0_cond6 v30 v40 = 1#1 then unusual1 e v37 v40 X G W5 W6 W7 (unusual0 e v27 v30 X G W5 W6 W7 Y) else Y

/-- The block at a grid point's begin: nothing, in the first column of the grid. -/
def step1 (i : grid0.Coords) (Y : Vec F S2x1536x1024 .f32) : Vec F S2x1536x1024 .f32 :=
  if k0_cond1 i = 1#1 then k0_pay147 (F := F) else Y

/-- What a grid point makes of the output block, of the two runs' starts and lengths. -/
def stepWords (e v27 v30 v37 v40 : BitVec 32) (X : Vec F S2x1536x1024 .bf16) (G : Vec F S2x1536x128 .f32) (W5 W6 : Vec F S4x1024x256 .bf16)
    (W7 : Vec F S4x256x1024 .bf16) (Y : Vec F S2x1536x1024 .f32) : Vec F S2x1536x1024 .f32 :=
  step6 e v27 v30 v37 v40 X G W5 W6 W7 (step5 e v27 v30 v37 v40 X G W5 W6 W7 (step4 e v27 v30 v37 v40 X G W5 W6 W7
    (step3 e v27 v30 v37 v40 X G W5 W6 W7 (step2 e v27 v30 v37 v40 X G W5 W6 W7 Y))))

section
variable (𝒱 : Variants) (c : Dev nD) (bd : Option 𝒱.V) (E : Set ℕ) (i : grid0.Coords)
  (arg2 : Memref sig .tc .smem S256 .i32) (harg2 : arg2.IsWhole) (arg3 : Memref sig .tc .vmem S2x1536x1024 .bf16) (harg3 : arg3.IsWhole)
  (arg4 : Memref sig .tc .vmem S2x1536x128 .f32) (harg4 : arg4.IsWhole) (arg5 : Memref sig .tc .vmem S4x1024x256 .bf16) (harg5 : arg5.IsWhole)
  (arg6 : Memref sig .tc .vmem S4x1024x256 .bf16) (harg6 : arg6.IsWhole) (arg7 : Memref sig .tc .vmem S4x256x1024 .bf16) (harg7 : arg7.IsWhole)
  (arg8 : Memref sig .tc .vmem S2x1536x1024 .f32) (harg8 : arg8.IsWhole)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty) (Y : Vec F S2x1536x1024 .f32)
  (arg1 v27 v30 v37 v40 : BitVec 32) (hw : k0_chk1 v27 v30 v37 v40) (h6 : k0_cond6 v30 v40 = 1#1)

/-- The loop over a row block's runs of two chunks. -/
theorem t1_run :
    Bufs (F := F) c arg3 arg4 arg5 arg6 arg7 arg8 X3 X4 X5 X6 X7 Y
    ⊢ wp frame (wpE (defs₀ (F := F)) 𝒱 (c : Thread nD τ) bd) E
        (Scf.Loop.for (k0_t1_loop v30) (k0_t1_ok v27 v30 v37 v40 hw h6) PUnit.unit
          (k0_t1_body (F := F) i arg2 harg2 arg3 harg3 arg4 harg4 arg5 harg5 arg6 harg6 arg7 harg7 arg8 harg8 arg1 v27 v30 v37 v40 hw h6))
        (fun _ => Bufs (F := F) c arg3 arg4 arg5 arg6 arg7 arg8 X3 X4 X5 X6 X7 (loopRows arg1 (arg3.view.read (Elt F) X3) (arg4.view.read (Elt F) X4) (arg5.view.read (Elt F) X5)
      (arg6.view.read (Elt F) X6) (arg7.view.read (Elt F) X7) 0 (runStart v27) Y (k0_t1_loop v30).trips)) := by
  refine BIBase.Entails.trans ?_ (Scf.wp_for _ _ _ _ _ _ _ _ _
    (fun n _ => Bufs (F := F) c arg3 arg4 arg5 arg6 arg7 arg8 X3 X4 X5 X6 X7 (loopRows arg1 (arg3.view.read (Elt F) X3) (arg4.view.read (Elt F) X4) (arg5.view.read (Elt F) X5)
      (arg6.view.read (Elt F) X6) (arg7.view.read (Elt F) X7) 0 (runStart v27) Y n)) (fun k _ => ?_))
  · iintro H
    isplitl [H]
    · iexact H
    · iintro %acc HI
      iexact HI
  · exact t1_trip 𝒱 c bd E i arg2 harg2 arg3 harg3 arg4 harg4 arg5 harg5 arg6 harg6 arg7 harg7 arg8 harg8 X3 X4 X5 X6 X7 _ arg1 v27 v30 v37 v40 hw h6 k

/-- The loop over what the runs of two chunks leave: nothing. -/
theorem t2_run (w : BitVec 32) :
    Bufs (F := F) c arg3 arg4 arg5 arg6 arg7 arg8 X3 X4 X5 X6 X7 Y
    ⊢ wp frame (wpE (defs₀ (F := F)) 𝒱 (c : Thread nD τ) bd) E
        (Scf.Loop.for (k0_t2_loop v30) (k0_t2_ok v27 v30 v37 v40 hw h6) PUnit.unit
          (k0_t2_body (F := F) i arg2 harg2 arg3 harg3 arg4 harg4 arg5 harg5 arg6 harg6 arg7 harg7 arg8 harg8 arg1 v27 v30 v37 v40 hw h6 w))
        (fun _ => Bufs (F := F) c arg3 arg4 arg5 arg6 arg7 arg8 X3 X4 X5 X6 X7 Y) := by
  refine BIBase.Entails.trans ?_ (Scf.wp_for _ _ _ _ _ _ _ _ _
    (fun n _ => Bufs (F := F) c arg3 arg4 arg5 arg6 arg7 arg8 X3 X4 X5 X6 X7 Y) (fun k _ => ?_))
  · iintro H
    isplitl [H]
    · iexact H
    · iintro %acc HI
      iexact HI
  · exact absurd (lt_of_lt_of_eq k.isLt (t2_zero v30)) (Nat.not_lt_zero _)

/-- The loop over a row block's runs of two chunks. -/
theorem t3_run (w : BitVec 32) :
    Bufs (F := F) c arg3 arg4 arg5 arg6 arg7 arg8 X3 X4 X5 X6 X7 Y
    ⊢ wp frame (wpE (defs₀ (F := F)) 𝒱 (c : Thread nD τ) bd) E
        (Scf.Loop.for (k0_t3_loop v40) (k0_t3_ok v27 v30 v37 v40 hw h6) PUnit.unit
          (k0_t3_body (F := F) i arg2 harg2 arg3 harg3 arg4 harg4 arg5 harg5 arg6 harg6 arg7 harg7 arg8 harg8 arg1 v27 v30 v37 v40 hw h6 w))
        (fun _ => Bufs (F := F) c arg3 arg4 arg5 arg6 arg7 arg8 X3 X4 X5 X6 X7 (loopRows arg1 (arg3.view.read (Elt F) X3) (arg4.view.read (Elt F) X4) (arg5.view.read (Elt F) X5)
      (arg6.view.read (Elt F) X6) (arg7.view.read (Elt F) X7) 1 (runStart v37) Y (k0_t3_loop v40).trips)) := by
  refine BIBase.Entails.trans ?_ (Scf.wp_for _ _ _ _ _ _ _ _ _
    (fun n _ => Bufs (F := F) c arg3 arg4 arg5 arg6 arg7 arg8 X3 X4 X5 X6 X7 (loopRows arg1 (arg3.view.read (Elt F) X3) (arg4.view.read (Elt F) X4) (arg5.view.read (Elt F) X5)
      (arg6.view.read (Elt F) X6) (arg7.view.read (Elt F) X7) 1 (runStart v37) Y n)) (fun k _ => ?_))
  · iintro H
    isplitl [H]
    · iexact H
    · iintro %acc HI
      iexact HI
  · exact t3_trip 𝒱 c bd E i arg2 harg2 arg3 harg3 arg4 harg4 arg5 harg5 arg6 harg6 arg7 harg7 arg8 harg8 X3 X4 X5 X6 X7 _ arg1 v27 v30 v37 v40 hw h6 w k

/-- The loop over what the runs of two chunks leave: nothing. -/
theorem t4_run (w : BitVec 32) :
    Bufs (F := F) c arg3 arg4 arg5 arg6 arg7 arg8 X3 X4 X5 X6 X7 Y
    ⊢ wp frame (wpE (defs₀ (F := F)) 𝒱 (c : Thread nD τ) bd) E
        (Scf.Loop.for (k0_t4_loop v40) (k0_t4_ok v27 v30 v37 v40 hw h6) PUnit.unit
          (k0_t4_body (F := F) i arg2 harg2 arg3 harg3 arg4 harg4 arg5 harg5 arg6 harg6 arg7 harg7 arg8 harg8 arg1 v27 v30 v37 v40 hw h6 w))
        (fun _ => Bufs (F := F) c arg3 arg4 arg5 arg6 arg7 arg8 X3 X4 X5 X6 X7 Y) := by
  refine BIBase.Entails.trans ?_ (Scf.wp_for _ _ _ _ _ _ _ _ _
    (fun n _ => Bufs (F := F) c arg3 arg4 arg5 arg6 arg7 arg8 X3 X4 X5 X6 X7 Y) (fun k _ => ?_))
  · iintro H
    isplitl [H]
    · iexact H
    · iintro %acc HI
      iexact HI
  · exact absurd (lt_of_lt_of_eq k.isLt (t4_zero v40)) (Nat.not_lt_zero _)

/-- The loops of the first row block's unusual case. -/
theorem part37_run :
    Bufs (F := F) c arg3 arg4 arg5 arg6 arg7 arg8 X3 X4 X5 X6 X7 Y
    ⊢ wp frame (wpE (defs₀ (F := F)) 𝒱 (c : Thread nD τ) bd) E
        (k0_part37 (F := F) i arg2 harg2 arg3 harg3 arg4 harg4 arg5 harg5 arg6 harg6 arg7 harg7 arg8 harg8 arg1 v27 v30 v37 v40 hw h6)
        (fun _ => Bufs (F := F) c arg3 arg4 arg5 arg6 arg7 arg8 X3 X4 X5 X6 X7 (loopRows arg1 (arg3.view.read (Elt F) X3) (arg4.view.read (Elt F) X4) (arg5.view.read (Elt F) X5)
      (arg6.view.read (Elt F) X6) (arg7.view.read (Elt F) X7) 0 (runStart v27) Y (k0_t1_loop v30).trips)) := by
  rw [k0_part37_eq_skeleton]
  unfold k0_part37_skel
  refine wp_first _ _ (t1_run 𝒱 c bd E i arg2 harg2 arg3 harg3 arg4 harg4 arg5 harg5 arg6 harg6 arg7 harg7 arg8 harg8 X3 X4 X5 X6 X7 Y arg1 v27 v30 v37 v40 hw h6) (fun _ => ?_)
  refine wp_first _ _ (t2_run 𝒱 c bd E i arg2 harg2 arg3 harg3 arg4 harg4 arg5 harg5 arg6 harg6 arg7 harg7 arg8 harg8 X3 X4 X5 X6 X7 _ arg1 v27 v30 v37 v40 hw h6 _) (fun _ => ?_)
  exact wp_done _ .rfl
end
end Cert.Proof
end
-- ==== Proof.Body3.lean ====
module

public import proofs.«01_k».proof.Proof.Body2
public import proofs.«01_k».proof.Proof.Gen.KernelIdeal.Loops
public import Idealize.ShloMosaic.Lib.Tactic

@[expose] public section

set_option maxRecDepth 8192
set_option maxHeartbeats 4000000

noncomputable section

namespace Cert.Proof

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The word of the table at an offset. -/
def tableWord (U : Vec F S256 .i32) (off : Fin 1 → ℕ) : BitVec 32 := U (ix1 (Fin.ofNat 256 (off 0)))

theorem tableWord_eq (v : View sig .tc .smem S256 .i32) (T : BufTy.Contents (Elt F) v.ty) (off : Fin 1 → ℕ)
    (inb : ∀ a, off a + (![1] : Fin 1 → ℕ) a ≤ S256.size a) (x : (Rect.unit (s := S256) off ![1] inb).shape.Idx) :
    v.readAt (Elt F) (Rect.unit (s := S256) off ![1] inb).toLoadRect T x = tableWord (v.read (Elt F) T) off := by
  show v.read (Elt F) T ((Rect.unit (s := S256) off ![1] inb).emb x) = _
  refine congrArg (v.read (Elt F) T) (funext fun a => Fin.ext ?_)
  match a with
  | ⟨0, _⟩ =>
    have h0 : off 0 + 1 ≤ 256 := inb 0
    have hx : (x 0).val < 1 := (x 0).isLt
    show off 0 + 1 * (x 0).val = off 0 % 256
    omega

theorem pure_first {φ : Prop} {P Q : sProp 𝕄} (h : φ → P ⊢ Q) : iprop(⌜φ⌝ ∗ P) ⊢ Q := by
  iintro ⟨%hφ, HP⟩
  iapply (h hφ)
  iexact HP

/-- What a program does not touch stays. -/
theorem keep_left {α : Type} {𝒱 : Variants} {c : Dev nD} {bd : Option 𝒱.V} {E : Set ℕ} {p : Prog (TpuEff nD τ sig (Elt F) Λ₀ .tc) α}
    {T B B' : sProp 𝕄} (h : B ⊢ wp frame (wpE (defs₀ (F := F)) 𝒱 (c : Thread nD τ) bd) E p (fun _ => B')) :
    iprop(T ∗ B) ⊢ wp frame (wpE (defs₀ (F := F)) 𝒱 (c : Thread nD τ) bd) E p (fun _ => iprop(T ∗ B')) :=
  (sep_mono_r h).trans (wp_frame_l _ _ _)

/-- A program after its first half, whose result is read on. -/
theorem wp_firstD {α β : Type} {𝒱 : Variants} {c : Dev nD} {bd : Option 𝒱.V} {E : Set ℕ}
    (p : Prog (TpuEff nD τ sig (Elt F) Λ₀ .tc) α) (k : α → Prog (TpuEff nD τ sig (Elt F) Λ₀ .tc) β) {P : sProp 𝕄} (R : α → sProp 𝕄)
    {Q : β → sProp 𝕄} (hp : P ⊢ wp frame (wpE (defs₀ (F := F)) 𝒱 (c : Thread nD τ) bd) E p R)
    (hk : ∀ x, R x ⊢ wp frame (wpE (defs₀ (F := F)) 𝒱 (c : Thread nD τ) bd) E (k x) Q) :
    P ⊢ wp frame (wpE (defs₀ (F := F)) 𝒱 (c : Thread nD τ) bd) E (p >>= k) Q := by
  rw [wp_bind]
  exact hp.trans (wp_mono _ _ _ hk)

/-- What a grid point makes of the output block, of the table. -/
def stepBody (i : grid0.Coords) (U : Vec F S256 .i32) (X : Vec F S2x1536x1024 .bf16) (G : Vec F S2x1536x128 .f32) (W5 W6 : Vec F S4x1024x256 .bf16)
    (W7 : Vec F S4x256x1024 .bf16) (Y : Vec F S2x1536x1024 .f32) : Vec F S2x1536x1024 .f32 :=
  stepWords (BitVec.ofNat 32 (i 1).val) (tableWord U (k0_off1 i 0#32)) (tableWord U (k0_off2 i 0#32)) (tableWord U (k0_off1 i 1#32))
    (tableWord U (k0_off2 i 1#32)) X G W5 W6 W7 (step1 i Y)

section
variable (𝒱 : Variants) (c : Dev nD) (bd : Option 𝒱.V) (E : Set ℕ) (i : grid0.Coords)
  (arg2 : Memref sig .tc .smem S256 .i32) (harg2 : arg2.IsWhole) (arg3 : Memref sig .tc .vmem S2x1536x1024 .bf16) (harg3 : arg3.IsWhole)
  (arg4 : Memref sig .tc .vmem S2x1536x128 .f32) (harg4 : arg4.IsWhole) (arg5 : Memref sig .tc .vmem S4x1024x256 .bf16) (harg5 : arg5.IsWhole)
  (arg6 : Memref sig .tc .vmem S4x1024x256 .bf16) (harg6 : arg6.IsWhole) (arg7 : Memref sig .tc .vmem S4x256x1024 .bf16) (harg7 : arg7.IsWhole)
  (arg8 : Memref sig .tc .vmem S2x1536x1024 .f32) (harg8 : arg8.IsWhole)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty) (Y : Vec F S2x1536x1024 .f32)

  (q : PosShare TreeShare) (T : BufTy.Contents (Elt F) arg2.view.ty)

/-- A grid point's begin: the block reset in the first column, and three words of the table. -/
theorem part39_run :
    iprop((arg2.view.loc (c : Thread nD τ) ↦[arg2.view.set]{q} T) ∗ Bufs (F := F) c arg3 arg4 arg5 arg6 arg7 arg8 X3 X4 X5 X6 X7 Y)
    ⊢ wp frame (wpE (defs₀ (F := F)) 𝒱 (c : Thread nD τ) bd) E
        (k0_part39 (F := F) i arg2 harg2 arg3 harg3 arg4 harg4 arg5 harg5 arg6 harg6 arg7 harg7 arg8 harg8)
        (fun x => iprop(⌜x.1 = BitVec.ofNat 32 (i 1).val ∧ x.2.1 = (tableWord (arg2.view.read (Elt F) T) (k0_off1 i 0#32)) ∧
            x.2.2.1 = (tableWord (arg2.view.read (Elt F) T) (k0_off2 i 0#32)) ∧ x.2.2.2.2 = (tableWord (arg2.view.read (Elt F) T) (k0_off1 i 1#32))⌝ ∗
          (arg2.view.loc (c : Thread nD τ) ↦[arg2.view.set]{q} T) ∗ Bufs (F := F) c arg3 arg4 arg5 arg6 arg7 arg8 X3 X4 X5 X6 X7 (step1 i Y))) := by
  rw [k0_part39_eq_skeleton]
  unfold k0_part39_skel
  by_cases h1 : k0_cond1 i = 1#1
  · simp -zeta only [dif_pos h1]
    iintro ⟨HT, H3, H4, H5, H6, H7, %f, %hf, H8⟩
    sl_exec
    sl_step
    isplitr [HT H3 H4 H5 H6 H7 H8]
    · ipureintro
      exact ⟨rfl, tableWord_eq _ _ _ _ _, tableWord_eq _ _ _ _ _, tableWord_eq _ _ _ _ _⟩
    isplitl [HT]; · iexact HT
    isplitl [H3]; · iexact H3
    isplitl [H4]; · iexact H4
    isplitl [H5]; · iexact H5
    isplitl [H6]; · iexact H6
    isplitl [H7]; · iexact H7
    iexists _
    isplitr [H8]
    swap
    · iexact H8
    · ipureintro
      exact (View.read_writes_full _ _ _ _ _).trans (if_pos h1).symm
  · simp -zeta only [dif_neg h1]
    iintro ⟨HT, H3, H4, H5, H6, H7, %f, %hf, H8⟩
    sl_exec
    sl_step
    isplitr [HT H3 H4 H5 H6 H7 H8]
    · ipureintro
      exact ⟨rfl, tableWord_eq _ _ _ _ _, tableWord_eq _ _ _ _ _, tableWord_eq _ _ _ _ _⟩
    isplitl [HT]; · iexact HT
    isplitl [H3]; · iexact H3
    isplitl [H4]; · iexact H4
    isplitl [H5]; · iexact H5
    isplitl [H6]; · iexact H6
    isplitl [H7]; · iexact H7
    iexists _
    isplitr [H8]
    swap
    · iexact H8
    · ipureintro
      exact hf.trans (if_neg h1).symm
end

section
variable (𝒱 : Variants) (c : Dev nD) (bd : Option 𝒱.V) (E : Set ℕ) (i : grid0.Coords)
  (arg2 : Memref sig .tc .smem S256 .i32) (harg2 : arg2.IsWhole) (arg3 : Memref sig .tc .vmem S2x1536x1024 .bf16) (harg3 : arg3.IsWhole)
  (arg4 : Memref sig .tc .vmem S2x1536x128 .f32) (harg4 : arg4.IsWhole) (arg5 : Memref sig .tc .vmem S4x1024x256 .bf16) (harg5 : arg5.IsWhole)
  (arg6 : Memref sig .tc .vmem S4x1024x256 .bf16) (harg6 : arg6.IsWhole) (arg7 : Memref sig .tc .vmem S4x256x1024 .bf16) (harg7 : arg7.IsWhole)
  (arg8 : Memref sig .tc .vmem S2x1536x1024 .f32) (harg8 : arg8.IsWhole)
  (X3 : BufTy.Contents (Elt F) arg3.view.ty) (X4 : BufTy.Contents (Elt F) arg4.view.ty) (X5 : BufTy.Contents (Elt F) arg5.view.ty)
  (X6 : BufTy.Contents (Elt F) arg6.view.ty) (X7 : BufTy.Contents (Elt F) arg7.view.ty) (Y : Vec F S2x1536x1024 .f32)
  (q : PosShare TreeShare) (T : BufTy.Contents (Elt F) arg2.view.ty)

/-- The whole body at a grid point: the output block, of the table and the inputs' blocks. -/
theorem body_run (hw : k0_chk1 (tableWord (arg2.view.read (Elt F) T) (k0_off1 i 0#32)) (tableWord (arg2.view.read (Elt F) T) (k0_off2 i 0#32)) (tableWord (arg2.view.read (Elt F) T) (k0_off1 i 1#32)) (tableWord (arg2.view.read (Elt F) T) (k0_off2 i 1#32))) :
    iprop((arg2.view.loc (c : Thread nD τ) ↦[arg2.view.set]{q} T) ∗ Bufs (F := F) c arg3 arg4 arg5 arg6 arg7 arg8 X3 X4 X5 X6 X7 Y)
    ⊢ wp frame (wpE (defs₀ (F := F)) 𝒱 (c : Thread nD τ) bd) E
        (cc0_moe_experts (F := F) i arg2 harg2 arg3 harg3 arg4 harg4 arg5 harg5 arg6 harg6 arg7 harg7 arg8 harg8)
        (fun _ => iprop((arg2.view.loc (c : Thread nD τ) ↦[arg2.view.set]{q} T) ∗ Bufs (F := F) c arg3 arg4 arg5 arg6 arg7 arg8 X3 X4 X5 X6 X7
          (stepBody i (arg2.view.read (Elt F) T) (arg3.view.read (Elt F) X3) (arg4.view.read (Elt F) X4) (arg5.view.read (Elt F) X5)
      (arg6.view.read (Elt F) X6) (arg7.view.read (Elt F) X7) Y))) := by
  rw [cc0_moe_experts_eq_skeleton]
  unfold cc0_moe_experts_skel
  refine wp_firstD _ _ _ (part39_run 𝒱 c bd E i arg2 harg2 arg3 harg3 arg4 harg4 arg5 harg5 arg6 harg6 arg7 harg7 arg8 harg8 X3 X4 X5 X6 X7 Y q T) (fun x => ?_)
  rcases x with ⟨arg1, v27, v30, v35, v37⟩
  refine wp_firstD _ _ (fun v40 => iprop(⌜arg1 = BitVec.ofNat 32 (i 1).val ∧ v27 = (tableWord (arg2.view.read (Elt F) T) (k0_off1 i 0#32)) ∧ v30 = (tableWord (arg2.view.read (Elt F) T) (k0_off2 i 0#32)) ∧
    v37 = (tableWord (arg2.view.read (Elt F) T) (k0_off1 i 1#32)) ∧ v40 = (tableWord (arg2.view.read (Elt F) T) (k0_off2 i 1#32))⌝ ∗ (arg2.view.loc (c : Thread nD τ) ↦[arg2.view.set]{q} T) ∗ Bufs (F := F) c arg3 arg4 arg5 arg6 arg7 arg8 X3 X4 X5 X6 X7 (step1 i Y))) ?_ (fun v40 => ?_)
  · iintro ⟨%hx, HT, HB⟩
    sl_exec
    sl_step
    isplitr [HT HB]
    · ipureintro
      exact ⟨hx.1, hx.2.1, hx.2.2.1, hx.2.2.2, tableWord_eq _ _ _ _ _⟩
    isplitl [HT]; · iexact HT
    iexact HB
  refine wp_firstD _ _ (fun _ => iprop(⌜arg1 = BitVec.ofNat 32 (i 1).val ∧ v27 = (tableWord (arg2.view.read (Elt F) T) (k0_off1 i 0#32)) ∧ v30 = (tableWord (arg2.view.read (Elt F) T) (k0_off2 i 0#32)) ∧
    v37 = (tableWord (arg2.view.read (Elt F) T) (k0_off1 i 1#32)) ∧ v40 = (tableWord (arg2.view.read (Elt F) T) (k0_off2 i 1#32))⌝ ∗ (arg2.view.loc (c : Thread nD τ) ↦[arg2.view.set]{q} T) ∗ Bufs (F := F) c arg3 arg4 arg5 arg6 arg7 arg8 X3 X4 X5 X6 X7 (step1 i Y))) ?_ (fun p => ?_)
  · iintro ⟨%hx, HT, HB⟩
    have hw' : k0_chk1 v27 v30 v37 v40 := by
      rw [hx.2.1, hx.2.2.1, hx.2.2.2.1, hx.2.2.2.2]; exact hw
    sl_exec
    sl_step
    isplitr [HT HB]
    · ipureintro
      exact hx
    isplitl [HT]; · iexact HT
    iexact HB
  obtain ⟨hw⟩ := p
  refine pure_first fun hx => ?_
  have hout : stepBody i (arg2.view.read (Elt F) T) (arg3.view.read (Elt F) X3) (arg4.view.read (Elt F) X4) (arg5.view.read (Elt F) X5)
      (arg6.view.read (Elt F) X6) (arg7.view.read (Elt F) X7) Y = stepWords arg1 v27 v30 v37 v40 (arg3.view.read (Elt F) X3) (arg4.view.read (Elt F) X4) (arg5.view.read (Elt F) X5)
      (arg6.view.read (Elt F) X6) (arg7.view.read (Elt F) X7) (step1 i Y) := by
    rw [hx.1, hx.2.1, hx.2.2.1, hx.2.2.2.1, hx.2.2.2.2]; rfl
  rw [hout]
  refine keep_left ?_
  clear hout hx
  obtain ⟨Y, hY⟩ : ∃ Z, Z = step1 i Y := ⟨_, rfl⟩
  rw [← hY]
  clear hY
  extract_lets -underBinder +onlyGivenNames hw
  clear_value hw
  extract_lets -underBinder +onlyGivenNames jp2
  have hK2 : Bufs (F := F) c arg3 arg4 arg5 arg6 arg7 arg8 X3 X4 X5 X6 X7 (step2 arg1 v27 v30 v37 v40 (arg3.view.read (Elt F) X3) (arg4.view.read (Elt F) X4) (arg5.view.read (Elt F) X5)
        (arg6.view.read (Elt F) X6) (arg7.view.read (Elt F) X7) (Y))
      ⊢ wp frame (wpE (defs₀ (F := F)) 𝒱 (c : Thread nD τ) bd) E (jp2 PUnit.unit)
        (fun _ => Bufs (F := F) c arg3 arg4 arg5 arg6 arg7 arg8 X3 X4 X5 X6 X7 (step6 arg1 v27 v30 v37 v40 (arg3.view.read (Elt F) X3) (arg4.view.read (Elt F) X4) (arg5.view.read (Elt F) X5)
        (arg6.view.read (Elt F) X6) (arg7.view.read (Elt F) X7) (step5 arg1 v27 v30 v37 v40 (arg3.view.read (Elt F) X3) (arg4.view.read (Elt F) X4) (arg5.view.read (Elt F) X5)
        (arg6.view.read (Elt F) X6) (arg7.view.read (Elt F) X7) (step4 arg1 v27 v30 v37 v40 (arg3.view.read (Elt F) X3) (arg4.view.read (Elt F) X4) (arg5.view.read (Elt F) X5)
        (arg6.view.read (Elt F) X6) (arg7.view.read (Elt F) X7) (step3 arg1 v27 v30 v37 v40 (arg3.view.read (Elt F) X3) (arg4.view.read (Elt F) X4) (arg5.view.read (Elt F) X5)
        (arg6.view.read (Elt F) X6) (arg7.view.read (Elt F) X7) (step2 arg1 v27 v30 v37 v40 (arg3.view.read (Elt F) X3) (arg4.view.read (Elt F) X4) (arg5.view.read (Elt F) X5)
        (arg6.view.read (Elt F) X6) (arg7.view.read (Elt F) X7) (Y))))))) := by
    dsimp -zeta only [jp2]
    extract_lets -underBinder +onlyGivenNames jp3
    have hK3 : Bufs (F := F) c arg3 arg4 arg5 arg6 arg7 arg8 X3 X4 X5 X6 X7 (step3 arg1 v27 v30 v37 v40 (arg3.view.read (Elt F) X3) (arg4.view.read (Elt F) X4) (arg5.view.read (Elt F) X5)
          (arg6.view.read (Elt F) X6) (arg7.view.read (Elt F) X7) (step2 arg1 v27 v30 v37 v40 (arg3.view.read (Elt F) X3) (arg4.view.read (Elt F) X4) (arg5.view.read (Elt F) X5)
          (arg6.view.read (Elt F) X6) (arg7.view.read (Elt F) X7) (Y)))
        ⊢ wp frame (wpE (defs₀ (F := F)) 𝒱 (c : Thread nD τ) bd) E (jp3 PUnit.unit)
          (fun _ => Bufs (F := F) c arg3 arg4 arg5 arg6 arg7 arg8 X3 X4 X5 X6 X7 (step6 arg1 v27 v30 v37 v40 (arg3.view.read (Elt F) X3) (arg4.view.read (Elt F) X4) (arg5.view.read (Elt F) X5)
          (arg6.view.read (Elt F) X6) (arg7.view.read (Elt F) X7) (step5 arg1 v27 v30 v37 v40 (arg3.view.read (Elt F) X3) (arg4.view.read (Elt F) X4) (arg5.view.read (Elt F) X5)
          (arg6.view.read (Elt F) X6) (arg7.view.read (Elt F) X7) (step4 arg1 v27 v30 v37 v40 (arg3.view.read (Elt F) X3) (arg4.view.read (Elt F) X4) (arg5.view.read (Elt F) X5)
          (arg6.view.read (Elt F) X6) (arg7.view.read (Elt F) X7) (step3 arg1 v27 v30 v37 v40 (arg3.view.read (Elt F) X3) (arg4.view.read (Elt F) X4) (arg5.view.read (Elt F) X5)
          (arg6.view.read (Elt F) X6) (arg7.view.read (Elt F) X7) (step2 arg1 v27 v30 v37 v40 (arg3.view.read (Elt F) X3) (arg4.view.read (Elt F) X4) (arg5.view.read (Elt F) X5)
          (arg6.view.read (Elt F) X6) (arg7.view.read (Elt F) X7) (Y))))))) := by
      dsimp -zeta only [jp3]
      extract_lets -underBinder +onlyGivenNames jp4
      have hK4 : Bufs (F := F) c arg3 arg4 arg5 arg6 arg7 arg8 X3 X4 X5 X6 X7 (step4 arg1 v27 v30 v37 v40 (arg3.view.read (Elt F) X3) (arg4.view.read (Elt F) X4) (arg5.view.read (Elt F) X5)
            (arg6.view.read (Elt F) X6) (arg7.view.read (Elt F) X7) (step3 arg1 v27 v30 v37 v40 (arg3.view.read (Elt F) X3) (arg4.view.read (Elt F) X4) (arg5.view.read (Elt F) X5)
            (arg6.view.read (Elt F) X6) (arg7.view.read (Elt F) X7) (step2 arg1 v27 v30 v37 v40 (arg3.view.read (Elt F) X3) (arg4.view.read (Elt F) X4) (arg5.view.read (Elt F) X5)
            (arg6.view.read (Elt F) X6) (arg7.view.read (Elt F) X7) (Y))))
          ⊢ wp frame (wpE (defs₀ (F := F)) 𝒱 (c : Thread nD τ) bd) E (jp4 PUnit.unit)
            (fun _ => Bufs (F := F) c arg3 arg4 arg5 arg6 arg7 arg8 X3 X4 X5 X6 X7 (step6 arg1 v27 v30 v37 v40 (arg3.view.read (Elt F) X3) (arg4.view.read (Elt F) X4) (arg5.view.read (Elt F) X5)
            (arg6.view.read (Elt F) X6) (arg7.view.read (Elt F) X7) (step5 arg1 v27 v30 v37 v40 (arg3.view.read (Elt F) X3) (arg4.view.read (Elt F) X4) (arg5.view.read (Elt F) X5)
            (arg6.view.read (Elt F) X6) (arg7.view.read (Elt F) X7) (step4 arg1 v27 v30 v37 v40 (arg3.view.read (Elt F) X3) (arg4.view.read (Elt F) X4) (arg5.view.read (Elt F) X5)
            (arg6.view.read (Elt F) X6) (arg7.view.read (Elt F) X7) (step3 arg1 v27 v30 v37 v40 (arg3.view.read (Elt F) X3) (arg4.view.read (Elt F) X4) (arg5.view.read (Elt F) X5)
            (arg6.view.read (Elt F) X6) (arg7.view.read (Elt F) X7) (step2 arg1 v27 v30 v37 v40 (arg3.view.read (Elt F) X3) (arg4.view.read (Elt F) X4) (arg5.view.read (Elt F) X5)
            (arg6.view.read (Elt F) X6) (arg7.view.read (Elt F) X7) (Y))))))) := by
        dsimp -zeta only [jp4]
        extract_lets -underBinder +onlyGivenNames jp5
        have hK5 : Bufs (F := F) c arg3 arg4 arg5 arg6 arg7 arg8 X3 X4 X5 X6 X7 (step5 arg1 v27 v30 v37 v40 (arg3.view.read (Elt F) X3) (arg4.view.read (Elt F) X4) (arg5.view.read (Elt F) X5)
              (arg6.view.read (Elt F) X6) (arg7.view.read (Elt F) X7) (step4 arg1 v27 v30 v37 v40 (arg3.view.read (Elt F) X3) (arg4.view.read (Elt F) X4) (arg5.view.read (Elt F) X5)
              (arg6.view.read (Elt F) X6) (arg7.view.read (Elt F) X7) (step3 arg1 v27 v30 v37 v40 (arg3.view.read (Elt F) X3) (arg4.view.read (Elt F) X4) (arg5.view.read (Elt F) X5)
              (arg6.view.read (Elt F) X6) (arg7.view.read (Elt F) X7) (step2 arg1 v27 v30 v37 v40 (arg3.view.read (Elt F) X3) (arg4.view.read (Elt F) X4) (arg5.view.read (Elt F) X5)
              (arg6.view.read (Elt F) X6) (arg7.view.read (Elt F) X7) (Y)))))
            ⊢ wp frame (wpE (defs₀ (F := F)) 𝒱 (c : Thread nD τ) bd) E (jp5 PUnit.unit)
              (fun _ => Bufs (F := F) c arg3 arg4 arg5 arg6 arg7 arg8 X3 X4 X5 X6 X7 (step6 arg1 v27 v30 v37 v40 (arg3.view.read (Elt F) X3) (arg4.view.read (Elt F) X4) (arg5.view.read (Elt F) X5)
              (arg6.view.read (Elt F) X6) (arg7.view.read (Elt F) X7) (step5 arg1 v27 v30 v37 v40 (arg3.view.read (Elt F) X3) (arg4.view.read (Elt F) X4) (arg5.view.read (Elt F) X5)
              (arg6.view.read (Elt F) X6) (arg7.view.read (Elt F) X7) (step4 arg1 v27 v30 v37 v40 (arg3.view.read (Elt F) X3) (arg4.view.read (Elt F) X4) (arg5.view.read (Elt F) X5)
              (arg6.view.read (Elt F) X6) (arg7.view.read (Elt F) X7) (step3 arg1 v27 v30 v37 v40 (arg3.view.read (Elt F) X3) (arg4.view.read (Elt F) X4) (arg5.view.read (Elt F) X5)
              (arg6.view.read (Elt F) X6) (arg7.view.read (Elt F) X7) (step2 arg1 v27 v30 v37 v40 (arg3.view.read (Elt F) X3) (arg4.view.read (Elt F) X4) (arg5.view.read (Elt F) X5)
              (arg6.view.read (Elt F) X6) (arg7.view.read (Elt F) X7) (Y))))))) := by
          dsimp -zeta only [jp5]
          extract_lets -underBinder +onlyGivenNames jp6
          have hK6 : Bufs (F := F) c arg3 arg4 arg5 arg6 arg7 arg8 X3 X4 X5 X6 X7 (step6 arg1 v27 v30 v37 v40 (arg3.view.read (Elt F) X3) (arg4.view.read (Elt F) X4) (arg5.view.read (Elt F) X5)
                (arg6.view.read (Elt F) X6) (arg7.view.read (Elt F) X7) (step5 arg1 v27 v30 v37 v40 (arg3.view.read (Elt F) X3) (arg4.view.read (Elt F) X4) (arg5.view.read (Elt F) X5)
                (arg6.view.read (Elt F) X6) (arg7.view.read (Elt F) X7) (step4 arg1 v27 v30 v37 v40 (arg3.view.read (Elt F) X3) (arg4.view.read (Elt F) X4) (arg5.view.read (Elt F) X5)
                (arg6.view.read (Elt F) X6) (arg7.view.read (Elt F) X7) (step3 arg1 v27 v30 v37 v40 (arg3.view.read (Elt F) X3) (arg4.view.read (Elt F) X4) (arg5.view.read (Elt F) X5)
                (arg6.view.read (Elt F) X6) (arg7.view.read (Elt F) X7) (step2 arg1 v27 v30 v37 v40 (arg3.view.read (Elt F) X3) (arg4.view.read (Elt F) X4) (arg5.view.read (Elt F) X5)
                (arg6.view.read (Elt F) X6) (arg7.view.read (Elt F) X7) (Y))))))
              ⊢ wp frame (wpE (defs₀ (F := F)) 𝒱 (c : Thread nD τ) bd) E (jp6 PUnit.unit)
                (fun _ => Bufs (F := F) c arg3 arg4 arg5 arg6 arg7 arg8 X3 X4 X5 X6 X7 (step6 arg1 v27 v30 v37 v40 (arg3.view.read (Elt F) X3) (arg4.view.read (Elt F) X4) (arg5.view.read (Elt F) X5)
                (arg6.view.read (Elt F) X6) (arg7.view.read (Elt F) X7) (step5 arg1 v27 v30 v37 v40 (arg3.view.read (Elt F) X3) (arg4.view.read (Elt F) X4) (arg5.view.read (Elt F) X5)
                (arg6.view.read (Elt F) X6) (arg7.view.read (Elt F) X7) (step4 arg1 v27 v30 v37 v40 (arg3.view.read (Elt F) X3) (arg4.view.read (Elt F) X4) (arg5.view.read (Elt F) X5)
                (arg6.view.read (Elt F) X6) (arg7.view.read (Elt F) X7) (step3 arg1 v27 v30 v37 v40 (arg3.view.read (Elt F) X3) (arg4.view.read (Elt F) X4) (arg5.view.read (Elt F) X5)
                (arg6.view.read (Elt F) X6) (arg7.view.read (Elt F) X7) (step2 arg1 v27 v30 v37 v40 (arg3.view.read (Elt F) X3) (arg4.view.read (Elt F) X4) (arg5.view.read (Elt F) X5)
                (arg6.view.read (Elt F) X6) (arg7.view.read (Elt F) X7) (Y))))))) := by
            dsimp -zeta only [jp6]
            exact wp_done _ .rfl
          clear_value jp6
          by_cases h6 : k0_cond6 v30 v40 = 1#1
          · rw [dif_pos h6]
            refine wp_first _ _ (part37_run 𝒱 c bd E i arg2 harg2 arg3 harg3 arg4 harg4 arg5 harg5 arg6 harg6 arg7 harg7 arg8 harg8 X3 X4 X5 X6 X7 _ arg1 v27 v30 v37 v40 hw h6) (fun _ => ?_)
            refine wp_first _ _ (part38_run 𝒱 c bd E i arg2 harg2 arg3 harg3 arg4 harg4 arg5 harg5 arg6 harg6 arg7 harg7 arg8 harg8 X3 X4 X5 X6 X7 _ arg1 v27 v30 v37 v40 hw h6 _ _) (fun _ => ?_)
            refine wp_first _ _ (t3_run 𝒱 c bd E i arg2 harg2 arg3 harg3 arg4 harg4 arg5 harg5 arg6 harg6 arg7 harg7 arg8 harg8 X3 X4 X5 X6 X7 _ arg1 v27 v30 v37 v40 hw h6 _) (fun _ => ?_)
            refine wp_first _ _ (t4_run 𝒱 c bd E i arg2 harg2 arg3 harg3 arg4 harg4 arg5 harg5 arg6 harg6 arg7 harg7 arg8 harg8 X3 X4 X5 X6 X7 _ arg1 v27 v30 v37 v40 hw h6 _) (fun _ => ?_)
            extract_lets -underBinder +onlyGivenNames jp9
            have hK9 : Bufs (F := F) c arg3 arg4 arg5 arg6 arg7 arg8 X3 X4 X5 X6 X7 (step9 arg1 v37 v40 (arg3.view.read (Elt F) X3) (arg4.view.read (Elt F) X4) (arg5.view.read (Elt F) X5)
                  (arg6.view.read (Elt F) X6) (arg7.view.read (Elt F) X7) (loopRows arg1 (arg3.view.read (Elt F) X3) (arg4.view.read (Elt F) X4) (arg5.view.read (Elt F) X5)
                  (arg6.view.read (Elt F) X6) (arg7.view.read (Elt F) X7) 1 (runStart v37) (unusual0 arg1 v27 v30 (arg3.view.read (Elt F) X3) (arg4.view.read (Elt F) X4) (arg5.view.read (Elt F) X5)
                  (arg6.view.read (Elt F) X6) (arg7.view.read (Elt F) X7) (step5 arg1 v27 v30 v37 v40 (arg3.view.read (Elt F) X3) (arg4.view.read (Elt F) X4) (arg5.view.read (Elt F) X5)
                  (arg6.view.read (Elt F) X6) (arg7.view.read (Elt F) X7) (step4 arg1 v27 v30 v37 v40 (arg3.view.read (Elt F) X3) (arg4.view.read (Elt F) X4) (arg5.view.read (Elt F) X5)
                  (arg6.view.read (Elt F) X6) (arg7.view.read (Elt F) X7) (step3 arg1 v27 v30 v37 v40 (arg3.view.read (Elt F) X3) (arg4.view.read (Elt F) X4) (arg5.view.read (Elt F) X5)
                  (arg6.view.read (Elt F) X6) (arg7.view.read (Elt F) X7) (step2 arg1 v27 v30 v37 v40 (arg3.view.read (Elt F) X3) (arg4.view.read (Elt F) X4) (arg5.view.read (Elt F) X5)
                  (arg6.view.read (Elt F) X6) (arg7.view.read (Elt F) X7) (Y)))))) (k0_t3_loop v40).trips))
                ⊢ wp frame (wpE (defs₀ (F := F)) 𝒱 (c : Thread nD τ) bd) E (jp9 PUnit.unit)
                  (fun _ => Bufs (F := F) c arg3 arg4 arg5 arg6 arg7 arg8 X3 X4 X5 X6 X7 (step6 arg1 v27 v30 v37 v40 (arg3.view.read (Elt F) X3) (arg4.view.read (Elt F) X4) (arg5.view.read (Elt F) X5)
                  (arg6.view.read (Elt F) X6) (arg7.view.read (Elt F) X7) (step5 arg1 v27 v30 v37 v40 (arg3.view.read (Elt F) X3) (arg4.view.read (Elt F) X4) (arg5.view.read (Elt F) X5)
                  (arg6.view.read (Elt F) X6) (arg7.view.read (Elt F) X7) (step4 arg1 v27 v30 v37 v40 (arg3.view.read (Elt F) X3) (arg4.view.read (Elt F) X4) (arg5.view.read (Elt F) X5)
                  (arg6.view.read (Elt F) X6) (arg7.view.read (Elt F) X7) (step3 arg1 v27 v30 v37 v40 (arg3.view.read (Elt F) X3) (arg4.view.read (Elt F) X4) (arg5.view.read (Elt F) X5)
                  (arg6.view.read (Elt F) X6) (arg7.view.read (Elt F) X7) (step2 arg1 v27 v30 v37 v40 (arg3.view.read (Elt F) X3) (arg4.view.read (Elt F) X4) (arg5.view.read (Elt F) X5)
                  (arg6.view.read (Elt F) X6) (arg7.view.read (Elt F) X7) (Y))))))) := by
              dsimp -zeta only [jp9]
              extract_lets -underBinder +onlyGivenNames jp10
              have hK10 : Bufs (F := F) c arg3 arg4 arg5 arg6 arg7 arg8 X3 X4 X5 X6 X7 (step10 arg1 v37 v40 (arg3.view.read (Elt F) X3) (arg4.view.read (Elt F) X4) (arg5.view.read (Elt F) X5)
                    (arg6.view.read (Elt F) X6) (arg7.view.read (Elt F) X7) (step9 arg1 v37 v40 (arg3.view.read (Elt F) X3) (arg4.view.read (Elt F) X4) (arg5.view.read (Elt F) X5)
                    (arg6.view.read (Elt F) X6) (arg7.view.read (Elt F) X7) (loopRows arg1 (arg3.view.read (Elt F) X3) (arg4.view.read (Elt F) X4) (arg5.view.read (Elt F) X5)
                    (arg6.view.read (Elt F) X6) (arg7.view.read (Elt F) X7) 1 (runStart v37) (unusual0 arg1 v27 v30 (arg3.view.read (Elt F) X3) (arg4.view.read (Elt F) X4) (arg5.view.read (Elt F) X5)
                    (arg6.view.read (Elt F) X6) (arg7.view.read (Elt F) X7) (step5 arg1 v27 v30 v37 v40 (arg3.view.read (Elt F) X3) (arg4.view.read (Elt F) X4) (arg5.view.read (Elt F) X5)
                    (arg6.view.read (Elt F) X6) (arg7.view.read (Elt F) X7) (step4 arg1 v27 v30 v37 v40 (arg3.view.read (Elt F) X3) (arg4.view.read (Elt F) X4) (arg5.view.read (Elt F) X5)
                    (arg6.view.read (Elt F) X6) (arg7.view.read (Elt F) X7) (step3 arg1 v27 v30 v37 v40 (arg3.view.read (Elt F) X3) (arg4.view.read (Elt F) X4) (arg5.view.read (Elt F) X5)
                    (arg6.view.read (Elt F) X6) (arg7.view.read (Elt F) X7) (step2 arg1 v27 v30 v37 v40 (arg3.view.read (Elt F) X3) (arg4.view.read (Elt F) X4) (arg5.view.read (Elt F) X5)
                    (arg6.view.read (Elt F) X6) (arg7.view.read (Elt F) X7) (Y)))))) (k0_t3_loop v40).trips)))
                  ⊢ wp frame (wpE (defs₀ (F := F)) 𝒱 (c : Thread nD τ) bd) E (jp10 PUnit.unit)
                    (fun _ => Bufs (F := F) c arg3 arg4 arg5 arg6 arg7 arg8 X3 X4 X5 X6 X7 (step6 arg1 v27 v30 v37 v40 (arg3.view.read (Elt F) X3) (arg4.view.read (Elt F) X4) (arg5.view.read (Elt F) X5)
                    (arg6.view.read (Elt F) X6) (arg7.view.read (Elt F) X7) (step5 arg1 v27 v30 v37 v40 (arg3.view.read (Elt F) X3) (arg4.view.read (Elt F) X4) (arg5.view.read (Elt F) X5)
                    (arg6.view.read (Elt F) X6) (arg7.view.read (Elt F) X7) (step4 arg1 v27 v30 v37 v40 (arg3.view.read (Elt F) X3) (arg4.view.read (Elt F) X4) (arg5.view.read (Elt F) X5)
                    (arg6.view.read (Elt F) X6) (arg7.view.read (Elt F) X7) (step3 arg1 v27 v30 v37 v40 (arg3.view.read (Elt F) X3) (arg4.view.read (Elt F) X4) (arg5.view.read (Elt F) X5)
                    (arg6.view.read (Elt F) X6) (arg7.view.read (Elt F) X7) (step2 arg1 v27 v30 v37 v40 (arg3.view.read (Elt F) X3) (arg4.view.read (Elt F) X4) (arg5.view.read (Elt F) X5)
                    (arg6.view.read (Elt F) X6) (arg7.view.read (Elt F) X7) (Y))))))) := by
                dsimp -zeta only [jp10]
                refine BIBase.Entails.trans (BIBase.Entails.of_eq (congrArg _ ?_)) hK6
                exact (if_pos h6).symm
              clear_value jp10
              by_cases h10 : k0_cond10 v40 = 1#1
              · rw [dif_pos h10]
                iintro ⟨H3, H4, H5, H6, H7, %f, %hf, H8⟩
                sl_exec
                iapply hK10
                isplitl [H3]; · iexact H3
                isplitl [H4]; · iexact H4
                isplitl [H5]; · iexact H5
                isplitl [H6]; · iexact H6
                isplitl [H7]; · iexact H7
                iexists _
                isplitr [H8]
                swap
                · iexact H8
                · ipureintro
                  exact (store_run rows128 arg1 (arg3.view.read (Elt F) X3) (arg4.view.read (Elt F) X4) (arg5.view.read (Elt F) X5)
                        (arg6.view.read (Elt F) X6) (arg7.view.read (Elt F) X7) 1 (k0_off33 v37 1) _ (k0_off34 v37) rfl rfl _
                      (k0_off34_inb v27 v30 v37 v40 hw h6 h10) shapeCasts_S1x128x1024_S128x1024 shapeCasts_S1x128x128_S128x128 shapeCasts_S128x1024_S1x128x1024 _ f _ hf _ rfl).trans (if_pos h10).symm
              · rw [dif_neg h10]
                refine BIBase.Entails.trans (BIBase.Entails.of_eq (congrArg _ ?_)) hK10
                exact (if_neg h10).symm
            clear_value jp9
            by_cases h9 : k0_cond9 v40 = 1#1
            · rw [dif_pos h9]
              iintro ⟨H3, H4, H5, H6, H7, %f, %hf, H8⟩
              sl_exec
              iapply hK9
              isplitl [H3]; · iexact H3
              isplitl [H4]; · iexact H4
              isplitl [H5]; · iexact H5
              isplitl [H6]; · iexact H6
              isplitl [H7]; · iexact H7
              iexists _
              isplitr [H8]
              swap
              · iexact H8
              · ipureintro
                exact (store_run rows384 arg1 (arg3.view.read (Elt F) X3) (arg4.view.read (Elt F) X4) (arg5.view.read (Elt F) X5)
                      (arg6.view.read (Elt F) X6) (arg7.view.read (Elt F) X7) 1 (k0_off31 v37 v40 1) _ (k0_off32 v37 v40) rfl rfl _
                    (k0_off32_inb v27 v30 v37 v40 hw h6 h9) shapeCasts_S1x384x1024_S384x1024 shapeCasts_S1x384x128_S384x128 shapeCasts_S384x1024_S1x384x1024 _ f _ hf _ rfl).trans (if_pos h9).symm
            · rw [dif_neg h9]
              refine BIBase.Entails.trans (BIBase.Entails.of_eq (congrArg _ ?_)) hK9
              exact (if_neg h9).symm
          · rw [dif_neg h6]
            refine BIBase.Entails.trans (BIBase.Entails.of_eq (congrArg _ ?_)) hK6
            exact (if_neg h6).symm
        clear_value jp5
        by_cases h5 : k0_cond5 v30 v40 = 1#1
        · rw [dif_pos h5]
          iintro ⟨H3, H4, H5, H6, H7, %f, %hf, H8⟩
          sl_exec
          iapply hK5
          isplitl [H3]; · iexact H3
          isplitl [H4]; · iexact H4
          isplitl [H5]; · iexact H5
          isplitl [H6]; · iexact H6
          isplitl [H7]; · iexact H7
          iexists _
          isplitr [H8]
          swap
          · iexact H8
          · ipureintro
            exact (store_pair pair768 arg1 (arg3.view.read (Elt F) X3) (arg4.view.read (Elt F) X4) (arg5.view.read (Elt F) X5)
                  (arg6.view.read (Elt F) X6) (arg7.view.read (Elt F) X7) (k0_off15 v27 1) (k0_off16 v37 1) _ _ (k0_off17 v27) (k0_off18 v37) rfl rfl rfl rfl _ _
                (k0_off17_inb v27 v30 v37 v40 hw h5) (k0_off18_inb v27 v30 v37 v40 hw h5)
                shapeCasts_S1x384x1024_S384x1024 shapeCasts_S1x384x1024_S384x1024 shapeCasts_S1x384x128_S384x128 shapeCasts_S1x384x128_S384x128
                shapeCasts_S384x1024_S1x384x1024 shapeCasts_S384x1024_S1x384x1024 _ f _ hf _ _ _ rfl rfl rfl).trans (if_pos h5).symm
        · rw [dif_neg h5]
          refine BIBase.Entails.trans (BIBase.Entails.of_eq (congrArg _ ?_)) hK5
          exact (if_neg h5).symm
      clear_value jp4
      by_cases h4 : k0_cond4 v30 v40 = 1#1
      · rw [dif_pos h4]
        iintro ⟨H3, H4, H5, H6, H7, %f, %hf, H8⟩
        sl_exec
        iapply hK4
        isplitl [H3]; · iexact H3
        isplitl [H4]; · iexact H4
        isplitl [H5]; · iexact H5
        isplitl [H6]; · iexact H6
        isplitl [H7]; · iexact H7
        iexists _
        isplitr [H8]
        swap
        · iexact H8
        · ipureintro
          exact (store_pair pair640' arg1 (arg3.view.read (Elt F) X3) (arg4.view.read (Elt F) X4) (arg5.view.read (Elt F) X5)
                (arg6.view.read (Elt F) X6) (arg7.view.read (Elt F) X7) (k0_off11 v27 1) (k0_off12 v37 1) _ _ (k0_off13 v27) (k0_off14 v37) rfl rfl rfl rfl _ _
              (k0_off13_inb v27 v30 v37 v40 hw h4) (k0_off14_inb v27 v30 v37 v40 hw h4)
              shapeCasts_S1x384x1024_S384x1024 shapeCasts_S1x256x1024_S256x1024 shapeCasts_S1x384x128_S384x128 shapeCasts_S1x256x128_S256x128
              shapeCasts_S384x1024_S1x384x1024 shapeCasts_S256x1024_S1x256x1024 _ f _ hf _ _ _ rfl rfl rfl).trans (if_pos h4).symm
      · rw [dif_neg h4]
        refine BIBase.Entails.trans (BIBase.Entails.of_eq (congrArg _ ?_)) hK4
        exact (if_neg h4).symm
    clear_value jp3
    by_cases h3 : k0_cond3 v30 v40 = 1#1
    · rw [dif_pos h3]
      iintro ⟨H3, H4, H5, H6, H7, %f, %hf, H8⟩
      sl_exec
      iapply hK3
      isplitl [H3]; · iexact H3
      isplitl [H4]; · iexact H4
      isplitl [H5]; · iexact H5
      isplitl [H6]; · iexact H6
      isplitl [H7]; · iexact H7
      iexists _
      isplitr [H8]
      swap
      · iexact H8
      · ipureintro
        exact (store_pair pair640 arg1 (arg3.view.read (Elt F) X3) (arg4.view.read (Elt F) X4) (arg5.view.read (Elt F) X5)
              (arg6.view.read (Elt F) X6) (arg7.view.read (Elt F) X7) (k0_off7 v27 1) (k0_off8 v37 1) _ _ (k0_off9 v27) (k0_off10 v37) rfl rfl rfl rfl _ _
            (k0_off9_inb v27 v30 v37 v40 hw h3) (k0_off10_inb v27 v30 v37 v40 hw h3)
            shapeCasts_S1x256x1024_S256x1024 shapeCasts_S1x384x1024_S384x1024 shapeCasts_S1x256x128_S256x128 shapeCasts_S1x384x128_S384x128
            shapeCasts_S256x1024_S1x256x1024 shapeCasts_S384x1024_S1x384x1024 _ f _ hf _ _ _ rfl rfl rfl).trans (if_pos h3).symm
    · rw [dif_neg h3]
      refine BIBase.Entails.trans (BIBase.Entails.of_eq (congrArg _ ?_)) hK3
      exact (if_neg h3).symm
  clear_value jp2
  by_cases h2 : k0_cond2 v30 v40 = 1#1
  · rw [dif_pos h2]
    iintro ⟨H3, H4, H5, H6, H7, %f, %hf, H8⟩
    sl_exec
    iapply hK2
    isplitl [H3]; · iexact H3
    isplitl [H4]; · iexact H4
    isplitl [H5]; · iexact H5
    isplitl [H6]; · iexact H6
    isplitl [H7]; · iexact H7
    iexists _
    isplitr [H8]
    swap
    · iexact H8
    · ipureintro
      exact (store_pair pair512 arg1 (arg3.view.read (Elt F) X3) (arg4.view.read (Elt F) X4) (arg5.view.read (Elt F) X5)
            (arg6.view.read (Elt F) X6) (arg7.view.read (Elt F) X7) (k0_off3 v27 1) (k0_off4 v37 1) _ _ (k0_off5 v27) (k0_off6 v37) rfl rfl rfl rfl _ _
          (k0_off5_inb v27 v30 v37 v40 hw h2) (k0_off6_inb v27 v30 v37 v40 hw h2)
          shapeCasts_S1x256x1024_S256x1024 shapeCasts_S1x256x1024_S256x1024 shapeCasts_S1x256x128_S256x128 shapeCasts_S1x256x128_S256x128
          shapeCasts_S256x1024_S1x256x1024 shapeCasts_S256x1024_S1x256x1024 _ f _ hf _ _ _ rfl rfl rfl).trans (if_pos h2).symm
  · rw [dif_neg h2]
    refine BIBase.Entails.trans (BIBase.Entails.of_eq (congrArg _ ?_)) hK2
    exact (if_neg h2).symm
end
end Cert.Proof
end
-- ==== Proof.Check.lean ====
/-
  The side condition of a grid point, of its runs' starts and lengths: runs that begin at a chunk and end inside their
  row block keep every load and store in range.
-/
module

public import proofs.«01_k».proof.Proof.Gen.KernelIdeal.Skeleton

@[expose] public section

set_option maxRecDepth 8192

namespace Cert.Proof

open Cert.KernelIdeal Cert.KernelIdeal.Gen
open Idealize.ShloMosaic

/-- A run of a table: `k` chunks of 128 rows from chunk `s`, inside 12 chunks. -/
def RunOK (v n : BitVec 32) : Prop := ∃ (s : Fin 13) (k : Fin 13), s.val + k.val ≤ 12 ∧ v = BitVec.ofNat 32 (128 * s.val) ∧ n = BitVec.ofNat 32 k.val

theorem pair_side0 : ∀ (s : Fin 13) (k j : Fin 13), s.val + k.val ≤ 12 →
      (k0_cond2 (BitVec.ofNat 32 k.val) (BitVec.ofNat 32 j.val) = 1#1 → 128 ∣ (k0_mult1 (BitVec.ofNat 32 (128 * s.val))).toNat ∧ (∀ a, (k0_off3 (BitVec.ofNat 32 (128 * s.val))) a + S1x256x1024.size a ≤ S2x1536x1024.size a) ∧ (∀ a, (k0_off5 (BitVec.ofNat 32 (128 * s.val))) a + S1x256x128.size a ≤ S2x1536x128.size a)) ∧
      (k0_cond3 (BitVec.ofNat 32 k.val) (BitVec.ofNat 32 j.val) = 1#1 → 128 ∣ (k0_mult3 (BitVec.ofNat 32 (128 * s.val))).toNat ∧ (∀ a, (k0_off7 (BitVec.ofNat 32 (128 * s.val))) a + S1x256x1024.size a ≤ S2x1536x1024.size a) ∧ (∀ a, (k0_off9 (BitVec.ofNat 32 (128 * s.val))) a + S1x256x128.size a ≤ S2x1536x128.size a)) ∧
      (k0_cond4 (BitVec.ofNat 32 k.val) (BitVec.ofNat 32 j.val) = 1#1 → 128 ∣ (k0_mult5 (BitVec.ofNat 32 (128 * s.val))).toNat ∧ (∀ a, (k0_off11 (BitVec.ofNat 32 (128 * s.val))) a + S1x384x1024.size a ≤ S2x1536x1024.size a) ∧ (∀ a, (k0_off13 (BitVec.ofNat 32 (128 * s.val))) a + S1x384x128.size a ≤ S2x1536x128.size a)) ∧
      (k0_cond5 (BitVec.ofNat 32 k.val) (BitVec.ofNat 32 j.val) = 1#1 → 128 ∣ (k0_mult7 (BitVec.ofNat 32 (128 * s.val))).toNat ∧ (∀ a, (k0_off15 (BitVec.ofNat 32 (128 * s.val))) a + S1x384x1024.size a ≤ S2x1536x1024.size a) ∧ (∀ a, (k0_off17 (BitVec.ofNat 32 (128 * s.val))) a + S1x384x128.size a ≤ S2x1536x128.size a)) := by
  decide +kernel

theorem pair_side1 : ∀ (s : Fin 13) (k j : Fin 13), s.val + k.val ≤ 12 →
      (k0_cond2 (BitVec.ofNat 32 j.val) (BitVec.ofNat 32 k.val) = 1#1 → 128 ∣ (k0_mult2 (BitVec.ofNat 32 (128 * s.val))).toNat ∧ (∀ a, (k0_off4 (BitVec.ofNat 32 (128 * s.val))) a + S1x256x1024.size a ≤ S2x1536x1024.size a) ∧ (∀ a, (k0_off6 (BitVec.ofNat 32 (128 * s.val))) a + S1x256x128.size a ≤ S2x1536x128.size a)) ∧
      (k0_cond3 (BitVec.ofNat 32 j.val) (BitVec.ofNat 32 k.val) = 1#1 → 128 ∣ (k0_mult4 (BitVec.ofNat 32 (128 * s.val))).toNat ∧ (∀ a, (k0_off8 (BitVec.ofNat 32 (128 * s.val))) a + S1x384x1024.size a ≤ S2x1536x1024.size a) ∧ (∀ a, (k0_off10 (BitVec.ofNat 32 (128 * s.val))) a + S1x384x128.size a ≤ S2x1536x128.size a)) ∧
      (k0_cond4 (BitVec.ofNat 32 j.val) (BitVec.ofNat 32 k.val) = 1#1 → 128 ∣ (k0_mult6 (BitVec.ofNat 32 (128 * s.val))).toNat ∧ (∀ a, (k0_off12 (BitVec.ofNat 32 (128 * s.val))) a + S1x256x1024.size a ≤ S2x1536x1024.size a) ∧ (∀ a, (k0_off14 (BitVec.ofNat 32 (128 * s.val))) a + S1x256x128.size a ≤ S2x1536x128.size a)) ∧
      (k0_cond5 (BitVec.ofNat 32 j.val) (BitVec.ofNat 32 k.val) = 1#1 → 128 ∣ (k0_mult8 (BitVec.ofNat 32 (128 * s.val))).toNat ∧ (∀ a, (k0_off16 (BitVec.ofNat 32 (128 * s.val))) a + S1x384x1024.size a ≤ S2x1536x1024.size a) ∧ (∀ a, (k0_off18 (BitVec.ofNat 32 (128 * s.val))) a + S1x384x128.size a ≤ S2x1536x128.size a)) := by
  decide +kernel

theorem single_side0 : ∀ (s : Fin 13) (k : Fin 13), s.val + k.val ≤ 12 →
      (k0_t1_loop (BitVec.ofNat 32 k.val)).OK ∧ (∀ t : Fin (k0_t1_loop (BitVec.ofNat 32 k.val)).trips, 128 ∣ (k0_mult9 (BitVec.ofNat 32 (128 * s.val)) (BitVec.ofNat 32 k.val) t).toNat ∧
        (∀ a, (k0_off19 (BitVec.ofNat 32 (128 * s.val)) (BitVec.ofNat 32 k.val) t) a + S1x256x1024.size a ≤ S2x1536x1024.size a) ∧ (∀ a, (k0_off20 (BitVec.ofNat 32 (128 * s.val)) (BitVec.ofNat 32 k.val) t) a + S1x256x128.size a ≤ S2x1536x128.size a)) ∧
      (k0_t2_loop (BitVec.ofNat 32 k.val)).OK ∧ (∀ t : Fin (k0_t2_loop (BitVec.ofNat 32 k.val)).trips, 128 ∣ (k0_mult10 (BitVec.ofNat 32 (128 * s.val)) (BitVec.ofNat 32 k.val) t).toNat ∧
        (∀ a, (k0_off21 (BitVec.ofNat 32 (128 * s.val)) (BitVec.ofNat 32 k.val) t) a + S1x256x1024.size a ≤ S2x1536x1024.size a) ∧ (∀ a, (k0_off22 (BitVec.ofNat 32 (128 * s.val)) (BitVec.ofNat 32 k.val) t) a + S1x256x128.size a ≤ S2x1536x128.size a)) ∧
      (k0_cond7 (BitVec.ofNat 32 k.val) = 1#1 → 128 ∣ (k0_mult11 (BitVec.ofNat 32 (128 * s.val)) (BitVec.ofNat 32 k.val)).toNat ∧ (∀ a, (k0_off23 (BitVec.ofNat 32 (128 * s.val)) (BitVec.ofNat 32 k.val)) a + S1x384x1024.size a ≤ S2x1536x1024.size a) ∧ (∀ a, (k0_off24 (BitVec.ofNat 32 (128 * s.val)) (BitVec.ofNat 32 k.val)) a + S1x384x128.size a ≤ S2x1536x128.size a)) ∧
      (k0_cond8 (BitVec.ofNat 32 k.val) = 1#1 → 128 ∣ (k0_mult12 (BitVec.ofNat 32 (128 * s.val))).toNat ∧ (∀ a, (k0_off25 (BitVec.ofNat 32 (128 * s.val))) a + S1x128x1024.size a ≤ S2x1536x1024.size a) ∧ (∀ a, (k0_off26 (BitVec.ofNat 32 (128 * s.val))) a + S1x128x128.size a ≤ S2x1536x128.size a)) := by
  decide +kernel

theorem single_side1 : ∀ (s : Fin 13) (k : Fin 13), s.val + k.val ≤ 12 →
      (k0_t3_loop (BitVec.ofNat 32 k.val)).OK ∧ (∀ t : Fin (k0_t3_loop (BitVec.ofNat 32 k.val)).trips, 128 ∣ (k0_mult13 (BitVec.ofNat 32 (128 * s.val)) (BitVec.ofNat 32 k.val) t).toNat ∧
        (∀ a, (k0_off27 (BitVec.ofNat 32 (128 * s.val)) (BitVec.ofNat 32 k.val) t) a + S1x256x1024.size a ≤ S2x1536x1024.size a) ∧ (∀ a, (k0_off28 (BitVec.ofNat 32 (128 * s.val)) (BitVec.ofNat 32 k.val) t) a + S1x256x128.size a ≤ S2x1536x128.size a)) ∧
      (k0_t4_loop (BitVec.ofNat 32 k.val)).OK ∧ (∀ t : Fin (k0_t4_loop (BitVec.ofNat 32 k.val)).trips, 128 ∣ (k0_mult14 (BitVec.ofNat 32 (128 * s.val)) (BitVec.ofNat 32 k.val) t).toNat ∧
        (∀ a, (k0_off29 (BitVec.ofNat 32 (128 * s.val)) (BitVec.ofNat 32 k.val) t) a + S1x256x1024.size a ≤ S2x1536x1024.size a) ∧ (∀ a, (k0_off30 (BitVec.ofNat 32 (128 * s.val)) (BitVec.ofNat 32 k.val) t) a + S1x256x128.size a ≤ S2x1536x128.size a)) ∧
      (k0_cond9 (BitVec.ofNat 32 k.val) = 1#1 → 128 ∣ (k0_mult15 (BitVec.ofNat 32 (128 * s.val)) (BitVec.ofNat 32 k.val)).toNat ∧ (∀ a, (k0_off31 (BitVec.ofNat 32 (128 * s.val)) (BitVec.ofNat 32 k.val)) a + S1x384x1024.size a ≤ S2x1536x1024.size a) ∧ (∀ a, (k0_off32 (BitVec.ofNat 32 (128 * s.val)) (BitVec.ofNat 32 k.val)) a + S1x384x128.size a ≤ S2x1536x128.size a)) ∧
      (k0_cond10 (BitVec.ofNat 32 k.val) = 1#1 → 128 ∣ (k0_mult16 (BitVec.ofNat 32 (128 * s.val))).toNat ∧ (∀ a, (k0_off33 (BitVec.ofNat 32 (128 * s.val))) a + S1x128x1024.size a ≤ S2x1536x1024.size a) ∧ (∀ a, (k0_off34 (BitVec.ofNat 32 (128 * s.val))) a + S1x128x128.size a ≤ S2x1536x128.size a)) := by
  decide +kernel

theorem chk_of_runs {v27 v30 v37 v40 : BitVec 32} (h0 : RunOK v27 v30) (h1 : RunOK v37 v40) : k0_chk1 v27 v30 v37 v40 := by
  obtain ⟨s, k, hs, rfl, rfl⟩ := h0
  obtain ⟨s', k', hs', rfl, rfl⟩ := h1
  obtain ⟨a2, a3, a4, a5⟩ := pair_side0 s k k' hs
  obtain ⟨b2, b3, b4, b5⟩ := pair_side1 s' k' k hs'
  obtain ⟨c1, c2, c3, c4, c5, c6⟩ := single_side0 s k hs
  obtain ⟨d1, d2, d3, d4, d5, d6⟩ := single_side1 s' k' hs'
  refine ⟨⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩,
    ⟨?_, ?_, ?_, ?_, ?_, ?_, ?_, ?_, ?_, ?_, ?_, ?_, ?_, ?_, ?_, ?_, ?_, ?_, ?_, ?_⟩⟩
  · exact fun h => (a2 h).1
  · exact fun h => (b2 h).1
  · exact fun h => (a2 h).2.1
  · exact fun h => (b2 h).2.1
  · exact fun h => (a2 h).2.2
  · exact fun h => (b2 h).2.2
  · exact fun h => (a3 h).1
  · exact fun h => (b3 h).1
  · exact fun h => (a3 h).2.1
  · exact fun h => (b3 h).2.1
  · exact fun h => (a3 h).2.2
  · exact fun h => (b3 h).2.2
  · exact fun h => (a4 h).1
  · exact fun h => (b4 h).1
  · exact fun h => (a4 h).2.1
  · exact fun h => (b4 h).2.1
  · exact fun h => (a4 h).2.2
  · exact fun h => (b4 h).2.2
  · exact fun h => (a5 h).1
  · exact fun h => (b5 h).1
  · exact fun h => (a5 h).2.1
  · exact fun h => (b5 h).2.1
  · exact fun h => (a5 h).2.2
  · exact fun h => (b5 h).2.2
  · exact fun _ => c1
  · exact fun t _ => (c2 t).1
  · exact fun t _ => (c2 t).2.1
  · exact fun t _ => (c2 t).2.2
  · exact fun _ => c3
  · exact fun t _ => (c4 t).1
  · exact fun t _ => (c4 t).2.1
  · exact fun t _ => (c4 t).2.2
  · exact fun _ h => (c5 h).1
  · exact fun _ h => (c5 h).2.1
  · exact fun _ h => (c5 h).2.2
  · exact fun _ h => (c6 h).1
  · exact fun _ h => (c6 h).2.1
  · exact fun _ h => (c6 h).2.2
  · exact fun _ => d1
  · exact fun t _ => (d2 t).1
  · exact fun t _ => (d2 t).2.1
  · exact fun t _ => (d2 t).2.2
  · exact fun _ => d3
  · exact fun t _ => (d4 t).1
  · exact fun t _ => (d4 t).2.1
  · exact fun t _ => (d4 t).2.2
  · exact fun _ h => (d5 h).1
  · exact fun _ h => (d5 h).2.1
  · exact fun _ h => (d5 h).2.2
  · exact fun _ h => (d6 h).1
  · exact fun _ h => (d6 h).2.1
  · exact fun _ h => (d6 h).2.2

end Cert.Proof
end
-- ==== Proof.Run.lean ====
module

public import proofs.«01_k».proof.Proof.Body3
public import proofs.«01_k».proof.Proof.Check
public import proofs.«01_k».proof.Proof.Gen.KernelIdeal.Launch
public import Idealize.ShloMosaic.Lib.Pipeline.Frame
public import Idealize.ShloMosaic.Lib.Pipeline.FrameBody

@[expose] public section

set_option maxRecDepth 8192
set_option maxHeartbeats 1000000

noncomputable section

namespace Cert.Proof

open Cert.KernelIdeal Cert.KernelIdeal.Gen
open Idealize.ShloMosaic Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block that the body leaves, its five read-only windows unchanged. -/
theorem step_run (𝒱 : Variants) (c : Dev nD) (bd : Option 𝒱.V) (E : Set ℕ) (i : grid0.Coords)
    (arg2 : Memref sig .tc .smem S256 .i32) (harg2 : arg2.IsWhole) (arg3 : Memref sig .tc .vmem S2x1536x1024 .bf16) (harg3 : arg3.IsWhole)
    (arg4 : Memref sig .tc .vmem S2x1536x128 .f32) (harg4 : arg4.IsWhole)
    (arg5 : Memref sig .tc .vmem S4x1024x256 .bf16) (harg5 : arg5.IsWhole) (arg6 : Memref sig .tc .vmem S4x1024x256 .bf16) (harg6 : arg6.IsWhole)
    (arg7 : Memref sig .tc .vmem S4x256x1024 .bf16) (harg7 : arg7.IsWhole) (arg8 : Memref sig .tc .vmem S2x1536x1024 .f32) (harg8 : arg8.IsWhole)
    (X : Vec F S2x1536x1024 .bf16) (G : Vec F S2x1536x128 .f32) (W5 W6 : Vec F S4x1024x256 .bf16) (W7 : Vec F S4x256x1024 .bf16)
    (Y : Vec F S2x1536x1024 .f32) (q : PosShare TreeShare) (T : BufTy.Contents (Elt F) arg2.view.ty) (R : sProp 𝕄)
    (hw : k0_chk1 (tableWord (arg2.view.read (Elt F) T) (k0_off1 i 0#32)) (tableWord (arg2.view.read (Elt F) T) (k0_off2 i 0#32))
      (tableWord (arg2.view.read (Elt F) T) (k0_off1 i 1#32)) (tableWord (arg2.view.read (Elt F) T) (k0_off2 i 1#32))) :
    iprop(R ∗ (arg2.view.loc (c : Thread nD τ) ↦[arg2.view.set]{q} T) ∗ owns (c : Thread nD τ) arg3 fullShare X ∗ owns (c : Thread nD τ) arg4 fullShare G
      ∗ owns (c : Thread nD τ) arg5 fullShare W5 ∗ owns (c : Thread nD τ) arg6 fullShare W6 ∗ owns (c : Thread nD τ) arg7 fullShare W7
      ∗ owns (c : Thread nD τ) arg8 fullShare Y)
    ⊢ wp frame (wpE (defs₀ (F := F)) 𝒱 (c : Thread nD τ) bd) E
        (cc0_moe_experts (F := F) i arg2 harg2 arg3 harg3 arg4 harg4 arg5 harg5 arg6 harg6 arg7 harg7 arg8 harg8)
        (fun _ => iprop(R ∗ (arg2.view.loc (c : Thread nD τ) ↦[arg2.view.set]{q} T) ∗ owns (c : Thread nD τ) arg3 fullShare X
          ∗ owns (c : Thread nD τ) arg4 fullShare G ∗ owns (c : Thread nD τ) arg5 fullShare W5 ∗ owns (c : Thread nD τ) arg6 fullShare W6
          ∗ owns (c : Thread nD τ) arg7 fullShare W7
          ∗ owns (c : Thread nD τ) arg8 fullShare (stepBody i (arg2.view.read (Elt F) T) X G W5 W6 W7 Y))) := by
  unfold owns
  iintro ⟨HR, HT, ⟨%X3, %h3, H3⟩, ⟨%X4, %h4, H4⟩, ⟨%X5, %h5, H5⟩, ⟨%X6, %h6, H6⟩, ⟨%X7, %h7, H7⟩, H8⟩
  have hpost : iprop(R ∗ (arg2.view.loc (c : Thread nD τ) ↦[arg2.view.set]{q} T) ∗ Bufs (F := F) c arg3 arg4 arg5 arg6 arg7 arg8 X3 X4 X5 X6 X7
        (stepBody i (arg2.view.read (Elt F) T) (arg3.view.read (Elt F) X3) (arg4.view.read (Elt F) X4) (arg5.view.read (Elt F) X5)
          (arg6.view.read (Elt F) X6) (arg7.view.read (Elt F) X7) Y))
      ⊢ iprop(R ∗ (arg2.view.loc (c : Thread nD τ) ↦[arg2.view.set]{q} T)
        ∗ (∃ f, ⌜arg3.view.read (Elt F) f = X⌝ ∗ (arg3.view.loc (c : Thread nD τ) ↦[arg3.view.set]{fullShare} f))
        ∗ (∃ f, ⌜arg4.view.read (Elt F) f = G⌝ ∗ (arg4.view.loc (c : Thread nD τ) ↦[arg4.view.set]{fullShare} f))
        ∗ (∃ f, ⌜arg5.view.read (Elt F) f = W5⌝ ∗ (arg5.view.loc (c : Thread nD τ) ↦[arg5.view.set]{fullShare} f))
        ∗ (∃ f, ⌜arg6.view.read (Elt F) f = W6⌝ ∗ (arg6.view.loc (c : Thread nD τ) ↦[arg6.view.set]{fullShare} f))
        ∗ (∃ f, ⌜arg7.view.read (Elt F) f = W7⌝ ∗ (arg7.view.loc (c : Thread nD τ) ↦[arg7.view.set]{fullShare} f))
        ∗ (∃ f, ⌜arg8.view.read (Elt F) f = stepBody i (arg2.view.read (Elt F) T) X G W5 W6 W7 Y⌝
          ∗ (arg8.view.loc (c : Thread nD τ) ↦[arg8.view.set]{fullShare} f))) := by
    rw [h3, h4, h5, h6, h7]
    iintro ⟨HR, HT, H3, H4, H5, H6, H7, H8⟩
    isplitl [HR]; · iexact HR
    isplitl [HT]; · iexact HT
    isplitl [H3]
    · iexists X3; isplitr [H3]; swap; · iexact H3
      ipureintro; exact h3
    isplitl [H4]
    · iexists X4; isplitr [H4]; swap; · iexact H4
      ipureintro; exact h4
    isplitl [H5]
    · iexists X5; isplitr [H5]; swap; · iexact H5
      ipureintro; exact h5
    isplitl [H6]
    · iexists X6; isplitr [H6]; swap; · iexact H6
      ipureintro; exact h6
    isplitl [H7]
    · iexists X7; isplitr [H7]; swap; · iexact H7
      ipureintro; exact h7
    iexact H8
  iapply ((keep_left (T := R) (body_run 𝒱 c bd E i arg2 harg2 arg3 harg3 arg4 harg4 arg5 harg5 arg6 harg6 arg7 harg7 arg8 harg8 X3 X4 X5 X6 X7 Y q T hw)).trans
    (wp_mono _ _ _ fun _ => hpost))
  isplitl [HR]; · iexact HR
  isplitl [HT]; · iexact HT
  isplitl [H3]; · iexact H3
  isplitl [H4]; · iexact H4
  isplitl [H5]; · iexact H5
  isplitl [H6]; · iexact H6
  isplitl [H7]; · iexact H7
  iexact H8

/-! ## The launch -/

/-- What every buffer of a core holds when the region is entered: the launch memory after the three casts of the weights. -/
abbrev entry (m : (ℓ : Loc nD τ sig) → Buf (Elt F) ℓ) (c : Dev nD) (b : Ref sig .tc) : Buf (Elt F) ((c.tc : Thread nD τ).loc b) :=
  StableHlo.after (hostOps0 (F := F)) (fun b => m (c, b)) b

/-- The run table as the region finds it. -/
def tables (m : (ℓ : Loc nD τ sig) → Buf (Elt F) ℓ) : (pcfg0 (F := F)).Adm := ⟨fun k => entry m 0 (pre0.ref k), trivial⟩

/-- The runs of the table, by grid point. -/
abbrev runTable (m : (ℓ : Loc nD τ sig) → Buf (Elt F) ℓ) : Vec F S256 .i32 := (tables m).1 0

/-- The block of an input window at a grid point. -/
def blockAt (m : (ℓ : Loc nD τ sig) → Buf (Elt F) ℓ) (c : Dev nD) (w : Fin 6) (t : Fin grid0.N) :
    (win0 (tables m) w).block.Idx → Elt F (win0 (tables m) w).elt :=
  (win0 (tables m) w).fill (grid0.coords t) (fun _ => Classical.arbitrary _)
    (((win0 (tables m) w).blk t).view.read (Elt F) (entry m c (Pipeline.arrRef spec0 w)))

/-- What the body makes of the output block at a grid point. -/
def stepAt (m : (ℓ : Loc nD τ sig) → Buf (Elt F) ℓ) (c : Dev nD) (t : Fin grid0.N) (Y : Vec F S2x1536x1024 .f32) : Vec F S2x1536x1024 .f32 :=
  stepBody (grid0.coords t) (runTable m) (blockAt m c 0 t) (blockAt m c 1 t) (blockAt m c 2 t) (blockAt m c 3 t) (blockAt m c 4 t) Y

/-- The proof data of the region: inputs left as found, the output taken one step further. -/
def rdat (m : (ℓ : Loc nD τ sig) → Buf (Elt F) ℓ) (c : Dev nD) :
    Pipeline.RDat τ (Elt F) Unit ℕ (UR sig nD τ) ℕ (cfg0 (tables m)) c where
  A w := entry m c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun t Y X => X = stepAt m c t Y
    | ⟨_ + 6, h⟩ => absurd h (Nat.not_lt.2 (Nat.le_add_left _ _))
  Φ _ := iprop(Pipeline.ΦA spec0 c ∗ Pipeline.ΦT pre0 (tables m).1 c)
  q _ := fullShare
  owed _ := 0

theorem no_clip (a : (pcfg0 (F := F)).Adm) (w : Fin 6) (i : grid0.Coords) (x) : (win0 a w).clip i x = none := by
  fin_cases w <;> rfl

theorem found_input (m : (ℓ : Loc nD τ sig) → Buf (Elt F) ℓ) (c : Dev nD) (w : Fin 6) (hw : (win0 (tables m) w).isOut = false)
    (hk : ∀ t Y X, (rdat m c).after w t Y X → X = Y) (t : Fin grid0.N) (Y) (hY : (rdat m c).Finds w t Y) : Y = blockAt m c w t := by
  obtain ⟨d, hd⟩ := (rdat m c).finds_in_eq_fetched w hw
    (fun _ _ _ => funext fun x => (no_clip _ w _ x).trans (no_clip _ w _ x).symm) hk t Y hY
  exact hd.trans (Pipeline.fill_of_clip_none (cfg := cfg0 (tables m)) w _ (no_clip _ w _) _ _ _)

/-- The run words of every grid point are those of a run. -/
def TableOK (U : Vec F S256 .i32) : Prop :=
  ∀ (i : grid0.Coords) (s : BitVec 32), s = 0#32 ∨ s = 1#32 → RunOK (tableWord U (k0_off1 i s)) (tableWord U (k0_off2 i s))

/-- The body's half of the table, as a points-to of the whole buffer. -/
theorem table_held (a : (pcfg0 (F := F)).Adm) (c : Dev nD) :
    (Pipeline.ΦT pre0 a.1 c : sProp 𝕄)
      = ((Memref.whole main_arg0).view.loc (c : Thread nD τ) ↦[(Memref.whole main_arg0).view.set]{fullShare.right} a.1 0) := by
  unfold Pipeline.ΦT Pipeline.prefHeld
  rw [show (Finset.univ : Finset (Fin 1)) = {0} from rfl, bigSep_singleton]
  rw [show (Memref.whole main_arg0).view.set = Finset.univ from View.set_whole main_arg0]
  rfl

theorem body_obligation (m : (ℓ : Loc nD τ sig) → Buf (Elt F) ℓ) (hT : TableOK (F := F) (runTable m)) (c : Dev nD) :
    (rdat m c).BodyObligation (defs₀ (F := F)) Variants.none () Set.univ := by
  intro t Y hY
  have h0 := found_input m c 0 rfl (fun _ _ _ h => h) t (Y 0) (hY 0)
  have h1 := found_input m c 1 rfl (fun _ _ _ h => h) t (Y 1) (hY 1)
  have h2 := found_input m c 2 rfl (fun _ _ _ h => h) t (Y 2) (hY 2)
  have h3 := found_input m c 3 rfl (fun _ _ _ h => h) t (Y 3) (hY 3)
  have h4 := found_input m c 4 rfl (fun _ _ _ h => h) t (Y 4) (hY 4)
  have hrun := step_run (F := F) Variants.none c none Set.univ (grid0.coords t) (Memref.whole main_arg0) (Memref.isWhole_whole _)
    (spec0_0.stage ((cfg0 (tables m)).slots t 0)) (hstage0_0 (((cfg0 (tables m)).slots t 0).cast nbuf0_0))
    (spec0_1.stage ((cfg0 (tables m)).slots t 1)) (hstage0_1 (((cfg0 (tables m)).slots t 1).cast nbuf0_1))
    (spec0_2.stage ((cfg0 (tables m)).slots t 2)) (hstage0_2 (((cfg0 (tables m)).slots t 2).cast nbuf0_2))
    (spec0_3.stage ((cfg0 (tables m)).slots t 3)) (hstage0_3 (((cfg0 (tables m)).slots t 3).cast nbuf0_3))
    (spec0_4.stage ((cfg0 (tables m)).slots t 4)) (hstage0_4 (((cfg0 (tables m)).slots t 4).cast nbuf0_4))
    (spec0_5.stage ((cfg0 (tables m)).slots t 5)) (hstage0_5 (((cfg0 (tables m)).slots t 5).cast nbuf0_5))
    (Y 0) (Y 1) (Y 2) (Y 3) (Y 4) (Y 5) fullShare.right (runTable m)
    iprop(Pipeline.ΦA spec0 c ∗ (rdat m c).owesAt () t.castSucc)
    (chk_of_runs (hT _ _ (.inl rfl)) (hT _ _ (.inr rfl)))
  rw [bigSep_W0]
  have hpre : (rdat m c).Φ t.castSucc = iprop(Pipeline.ΦA spec0 c ∗ (Pipeline.ΦT pre0 (tables m).1 c : sProp 𝕄)) := rfl
  have hpost : (rdat m c).Φ t.succ = iprop(Pipeline.ΦA spec0 c ∗ (Pipeline.ΦT pre0 (tables m).1 c : sProp 𝕄)) := rfl
  rw [hpre, hpost, table_held]
  refine BIBase.Entails.trans ?_ (hrun.trans (wp_mono _ _ _ fun _ => ?_))
  · iintro ⟨⟨HA, HT⟩, Hw, H0, H1, H2, H3, H4, H5⟩
    isplitl [HA Hw]
    · isplitl [HA]; · iexact HA
      iexact Hw
    isplitl [HT]; · iexact HT
    isplitl [H0]; · iexact H0
    isplitl [H1]; · iexact H1
    isplitl [H2]; · iexact H2
    isplitl [H3]; · iexact H3
    isplitl [H4]; · iexact H4
    iexact H5
  · rw [bigSep_W0]
    iintro ⟨⟨HA, Hw⟩, HT, H0, H1, H2, H3, H4, H5⟩
    isplitl [HA HT]
    · isplitl [HA]; · iexact HA
      iexact HT
    isplitl [Hw]; · iexact Hw
    isplitl [H0]
    · iexists (Y 0); isplitr [H0]; swap; · iexact H0
      ipureintro; rfl
    isplitl [H1]
    · iexists (Y 1); isplitr [H1]; swap; · iexact H1
      ipureintro; rfl
    isplitl [H2]
    · iexists (Y 2); isplitr [H2]; swap; · iexact H2
      ipureintro; rfl
    isplitl [H3]
    · iexists (Y 3); isplitr [H3]; swap; · iexact H3
      ipureintro; rfl
    isplitl [H4]
    · iexists (Y 4); isplitr [H4]; swap; · iexact H4
      ipureintro; rfl
    iexists (stepBody (grid0.coords t) (runTable m) (Y 0) (Y 1) (Y 2) (Y 3) (Y 4) (Y 5)); isplitr [H5]; swap; · iexact H5
    ipureintro
    show _ = stepAt m c t (Y 5)
    rw [h0, h1, h2, h3, h4]
    rfl

/-- The whole program, run from any memory whose table holds runs. -/
theorem run_main (m : (ℓ : Loc nD τ sig) → Buf (Elt F) ℓ) (ρ : Dev nD → PrngReg) (hT : TableOK (F := F) (runTable m)) :
    θ_run (defs (F := F)) (onTc (τ := τ) (main (F := F))) ⟨m, fun _ => 0, ρ⟩
      (fun r => Pipeline.RDat.FramePost (cfg0 (tables m)) (rdat m) (entry m) r ∧ r.2.sem = fun _ => 0) :=
  Pipeline.RDat.θ_run_frameP (pcfgs (F := F)) (fun _ => tables m) 0 launch0 (defs₀ (F := F)) Variants.none (rdat m) m ρ (main (F := F))
    (body_obligation m hT) (fun c w => (rdat m c).share_full (fun _ => rfl) w) (fun _ _ => rfl) (entry m)
    (Pipeline.hmainP_prefix (pcfgs (F := F)) 0 (defs₀ (F := F)) Variants.none m (main (F := F)) hostOps0 hostOps0_sub ⟨rfl, rfl, rfl⟩ main_chain)
    (fun _ _ => rfl) (fun c k => by obtain rfl : c = 0 := Subsingleton.elim _ _; rfl) (fun _ _ => rfl) _ (fun _ h => h)

end Cert.Proof

end
-- ==== Proof.Pre.lean ====
/-
  What the precondition says of the arguments: each table entry is a run of chunks inside its sequence, and an expert's gate is
  zero at the rows outside its group's run.
-/
module

public import proofs.«01_k».proof.Proof.Run
public import proofs.«01_k».proof.Pre_routed
public import Idealize.ShloMosaic.Lib.Affine
public import Idealize.ShloMosaic.Lib.ReduceAll

@[expose] public section

set_option maxRecDepth 8192

noncomputable section

namespace Cert.Proof

open Cert.KernelIdeal Cert.KernelIdeal.Gen
open Idealize.ShloMosaic Idealize.ShloMosaic.ValueIdx

/-- The first row of sequence `q`'s run of group `g`, by the table. -/
def startOf (U : IVec S256 32) (q : Fin 32) (g : Fin 4) : BitVec 32 := U (ix1 ⟨8 * q.val + 2 * g.val, by omega⟩)

/-- The number of chunks of sequence `q`'s run of group `g`, by the table. -/
def chunksOf (U : IVec S256 32) (q : Fin 32) (g : Fin 4) : BitVec 32 := U (ix1 ⟨8 * q.val + 2 * g.val + 1, by omega⟩)

theorem run_of_words {v n : BitVec 32} (h1 : 0 ≤ v.toInt) (h2 : 0 ≤ n.toInt) (h3 : n.toInt ≤ 12) (h4 : v.toInt ≤ 1536)
    (h5 : v &&& 127#32 = 0#32) (h6 : (v + 128#32 * n).toInt ≤ 1536) : RunOK v n := by
  have hv := v.isLt
  have hn := n.isLt
  rw [BitVec.toInt_eq_toNat_cond] at h1 h2 h3 h4 h6
  have h5' : v.toNat % 128 = 0 := by
    have := congrArg BitVec.toNat h5
    rw [BitVec.toNat_and] at this
    have e := Nat.and_two_pow_sub_one_eq_mod v.toNat 7
    norm_num at e this
    omega
  have hn12 : n.toNat ≤ 12 := by split at h3 <;> omega
  have hv15 : v.toNat ≤ 1536 := by split at h4 <;> omega
  have e6 : (v + 128#32 * n).toNat = v.toNat + 128 * n.toNat := by
    rw [BitVec.toNat_add, BitVec.toNat_mul]
    norm_num
    omega
  rw [e6] at h6
  have h6' : v.toNat + 128 * n.toNat ≤ 1536 := by split at h6 <;> omega
  refine ⟨⟨v.toNat / 128, by omega⟩, ⟨n.toNat, by omega⟩, by show v.toNat / 128 + n.toNat ≤ 12; omega, ?_, ?_⟩
  · apply BitVec.eq_of_toNat_eq
    rw [BitVec.toNat_ofNat]
    show _ = (128 * (v.toNat / 128)) % 2 ^ 32
    omega
  · apply BitVec.eq_of_toNat_eq
    rw [BitVec.toNat_ofNat]
    show _ = n.toNat % 2 ^ 32
    omega

section
variable {F : FTy → Type} [FloatOps F] [Cert.Pre_routed.Facts]
open Cert.Pre_routed.Facts

theorem start_read (U : IVec S256 32) (q : Fin 32) (g : Fin 4) :
    shapeCast Cert.Pre_routed.S32x4 (extractStridedSlice Cert.Pre_routed.S32x4x1 ![0, 0, 0] (shapeCast Cert.Pre_routed.S32x4x2 U
      shapeCasts_S256_S32x4x2) slices_S32x4x2_S32x4x1_0_0_0) shapeCasts_S32x4x1_S32x4 (ix2 q g) = startOf U q g := by
  rw [shapeCast_apply _ _ (ix2 q g) (ix3 q g 0) (by
      rw [Shape.rowMajor_val_three, Shape.rowMajor_val_two]
      show (q.val * 4 + g.val) * 1 + 0 = q.val * 4 + g.val
      omega),
    extractStridedSlice_apply _ _ _ _ (ix3 q g 0) (by intro a; fin_cases a <;> first | exact (Nat.zero_add _).symm | rfl),
    shapeCast_apply _ _ _ (ix1 ⟨8 * q.val + 2 * g.val, by omega⟩) (by
      rw [Shape.rowMajor_val_three, Shape.rowMajor_val_one]
      show 8 * q.val + 2 * g.val = (q.val * 4 + g.val) * 2 + 0
      omega)]
  rfl

theorem chunks_read (U : IVec S256 32) (q : Fin 32) (g : Fin 4) :
    shapeCast Cert.Pre_routed.S32x4 (extractStridedSlice Cert.Pre_routed.S32x4x1 ![0, 0, 1] (shapeCast Cert.Pre_routed.S32x4x2 U
      shapeCasts_S256_S32x4x2) slices_S32x4x2_S32x4x1_0_0_1) shapeCasts_S32x4x1_S32x4 (ix2 q g) = chunksOf U q g := by
  rw [shapeCast_apply _ _ (ix2 q g) (ix3 q g 0) (by
      rw [Shape.rowMajor_val_three, Shape.rowMajor_val_two]
      show (q.val * 4 + g.val) * 1 + 0 = q.val * 4 + g.val
      omega),
    extractStridedSlice_apply _ _ _ _ (ix3 q g 1) (by intro a; fin_cases a <;> first | exact (Nat.zero_add _).symm | rfl),
    shapeCast_apply _ _ _ (ix1 ⟨8 * q.val + 2 * g.val + 1, by omega⟩) (by
      rw [Shape.rowMajor_val_three, Shape.rowMajor_val_one]
      show 8 * q.val + 2 * g.val + 1 = (q.val * 4 + g.val) * 2 + 1
      omega)]
  rfl

instance : Subsingleton Cert.Pre_routed.S_.Idx := ⟨fun a b => funext fun i => i.elim0⟩

/-- The precondition's runs. -/
theorem runs_ok (U : IVec S256 32) (X : FVec F S32x1536x1024 .bf16) (G : FVec F S32x1536x128 .f32) (W V : FVec F S32x1024x256 .f32)
    (D : FVec F S32x256x1024 .f32) (h : Cert.Pre_routed.fn (F := F) U X G W V D = fun _ => 1#1) (q : Fin 32) (g : Fin 4) :
    RunOK (startOf U q g) (chunksOf U q g) := by
  have h0 := congrFun h (ix3 0 0 0)
  dsimp only [Cert.Pre_routed.fn, Cert.Pre_routed.fn_part1, Cert.Pre_routed.fn_part2] at h0
  have h1 := (IntOp.andi_eq_one.1 h0).1
  have h2 := Host.reduce_andi_all _ _ _ _ _ h1 (ix2 q g)
  obtain ⟨h2, a6⟩ := IntOp.andi_eq_one.1 h2
  obtain ⟨h2, a5⟩ := IntOp.andi_eq_one.1 h2
  obtain ⟨h2, a4⟩ := IntOp.andi_eq_one.1 h2
  obtain ⟨h2, a3⟩ := IntOp.andi_eq_one.1 h2
  obtain ⟨a1, a2⟩ := IntOp.andi_eq_one.1 h2
  have es := start_read U q g
  have en := chunks_read U q g
  have b1 := IntOp.cmpi_sge.1 a1
  have b2 := IntOp.cmpi_sge.1 a2
  have b3 := IntOp.cmpi_sle.1 a3
  have b4 := IntOp.cmpi_sle.1 a4
  have b5 := IntOp.cmpi_eq.1 a5
  have b6 := IntOp.cmpi_sle.1 a6
  rw [es] at b1 b4
  rw [en] at b2 b3
  refine run_of_words b1 b2 b3 b4 ?_ ?_
  · rw [← es]; exact b5
  · rw [← es, ← en]; exact b6

end

theorem off1_word0 : ∀ i : grid0.Coords, k0_off1 i 0#32 0 = 8 * (2 * (i 0).val) + 2 * ((i 1).val / 2) := by decide +kernel
theorem off1_word1 : ∀ i : grid0.Coords, k0_off1 i 1#32 0 = 8 * (2 * (i 0).val + 1) + 2 * ((i 1).val / 2) := by decide +kernel
theorem off2_word0 : ∀ i : grid0.Coords, k0_off2 i 0#32 0 = 8 * (2 * (i 0).val) + 2 * ((i 1).val / 2) + 1 := by decide +kernel
theorem off2_word1 : ∀ i : grid0.Coords, k0_off2 i 1#32 0 = 8 * (2 * (i 0).val + 1) + 2 * ((i 1).val / 2) + 1 := by decide +kernel

/-- A grid point's sequence, of its row block `s`. -/
def seqAt (i : grid0.Coords) (s : Fin 2) : Fin 32 := ⟨2 * (i 0).val + s.val, by have := (i 0).isLt; have : (i 0).val < 16 := this; omega⟩

/-- A grid point's group of experts. -/
def groupAt (i : grid0.Coords) : Fin 4 := ⟨(i 1).val / 2, by have := (i 1).isLt; have : (i 1).val < 8 := this; omega⟩

section
variable {F : FTy → Type} [FloatOps F]

theorem word_start0 (U : Vec F S256 .i32) (i : grid0.Coords) : tableWord (F := F) U (k0_off1 i 0#32) = startOf U (seqAt i 0) (groupAt i) := by
  have h0 : (i 0).val < 16 := (i 0).isLt
  have h1 : (i 1).val < 8 := (i 1).isLt
  refine congrArg (fun k => U (ix1 k)) (Fin.ext ?_)
  show k0_off1 i 0#32 0 % 256 = 8 * (2 * (i 0).val + 0) + 2 * ((i 1).val / 2)
  rw [off1_word0 i]; omega

theorem word_start1 (U : Vec F S256 .i32) (i : grid0.Coords) : tableWord (F := F) U (k0_off1 i 1#32) = startOf U (seqAt i 1) (groupAt i) := by
  have h0 : (i 0).val < 16 := (i 0).isLt
  have h1 : (i 1).val < 8 := (i 1).isLt
  refine congrArg (fun k => U (ix1 k)) (Fin.ext ?_)
  show k0_off1 i 1#32 0 % 256 = 8 * (2 * (i 0).val + 1) + 2 * ((i 1).val / 2)
  rw [off1_word1 i]; omega

theorem word_chunks0 (U : Vec F S256 .i32) (i : grid0.Coords) : tableWord (F := F) U (k0_off2 i 0#32) = chunksOf U (seqAt i 0) (groupAt i) := by
  have h0 : (i 0).val < 16 := (i 0).isLt
  have h1 : (i 1).val < 8 := (i 1).isLt
  refine congrArg (fun k => U (ix1 k)) (Fin.ext ?_)
  show k0_off2 i 0#32 0 % 256 = 8 * (2 * (i 0).val + 0) + 2 * ((i 1).val / 2) + 1
  rw [off2_word0 i]; omega

theorem word_chunks1 (U : Vec F S256 .i32) (i : grid0.Coords) : tableWord (F := F) U (k0_off2 i 1#32) = chunksOf U (seqAt i 1) (groupAt i) := by
  have h0 : (i 0).val < 16 := (i 0).isLt
  have h1 : (i 1).val < 8 := (i 1).isLt
  refine congrArg (fun k => U (ix1 k)) (Fin.ext ?_)
  show k0_off2 i 1#32 0 % 256 = 8 * (2 * (i 0).val + 1) + 2 * ((i 1).val / 2) + 1
  rw [off2_word1 i]; omega

/-- Runs inside their sequences give every grid point its side condition. -/
theorem tableOK_of_runs (U : Vec F S256 .i32) (h : ∀ q g, RunOK (startOf U q g) (chunksOf U q g)) : TableOK (F := F) U := by
  rintro i s (rfl | rfl)
  · rw [word_start0, word_chunks0]; exact h _ _
  · rw [word_start1, word_chunks1]; exact h _ _

theorem runTable_eq (m : (ℓ : Loc nD τ sig) → Buf (Elt F) ℓ) : runTable m = m ((0 : Dev nD).tc.loc main_arg0) := rfl

end

end Cert.Proof

end
-- ==== Proof.Same.lean ====
/-
  The two printings of the kernel are one program, at any float instance.
-/
module

public import proofs.«01_k».proof.Defs
public import Idealize.ShloMosaic.Adequacy
public import proofs.«01_k».proof.Proof.Gen.Kernel
public import proofs.«01_k».proof.Proof.Gen.KernelIdeal

@[expose] public section
set_option maxRecDepth 8192
set_option maxHeartbeats 4000000
noncomputable section
namespace Cert.Proof
open Idealize.ShloMosaic Idealize.SL.Sem
variable {F : FTy → Type} [FloatOps F]
attribute [local instance] Cert.Kernel.Gen.facts Cert.KernelIdeal.Gen.facts

theorem calls_same : Cert.Kernel.pcfgs (F := F) = Cert.KernelIdeal.pcfgs := rfl
theorem main_same : Cert.Kernel.main (F := F) = Cert.KernelIdeal.main := rfl

theorem body_same : Cert.Kernel.cc0_moe_experts (F := F) = Cert.KernelIdeal.cc0_moe_experts (F := F) := rfl

theorem bodies_same : Cert.Kernel.defs₀ (F := F) = Cert.KernelIdeal.defs₀ (F := F) := by
  unfold Cert.Kernel.defs₀ Cert.KernelIdeal.defs₀
  refine congrArg Defs.onTc ?_
  funext l a
  match l, a with
  | ⟨0, _⟩, (t, s) =>
    show Cert.Kernel.cc0_moe_experts (F := F) _ _ _ _ _ _ _ _ _ _ _ _ _ _ _ = _
    rw [body_same]
    rfl

theorem defs_same : Cert.Kernel.defs (F := F) = Cert.KernelIdeal.defs (F := F) := congrArg (Pipeline.defs Cert.KernelIdeal.pcfgs) bodies_same

/-- A run of the one is a run of the other. -/
theorem run_same (S : MemSt Cert.KernelIdeal.nD Cert.KernelIdeal.τ Cert.KernelIdeal.sig (Elt F)) :
    θ_run (Cert.Kernel.defs (F := F)) (onTc (τ := Cert.Kernel.τ) (Cert.Kernel.main (F := F))) S
      = θ_run (Cert.KernelIdeal.defs (F := F)) (onTc (τ := Cert.KernelIdeal.τ) (Cert.KernelIdeal.main (F := F))) S :=
  congrArg₂ (fun d p => θ_run d (onTc (τ := Cert.KernelIdeal.τ) p) S) defs_same main_same

end Cert.Proof
end
-- ==== Proof.Frame.lean ====
module

public import proofs.«01_k».proof.Defs
public import proofs.«01_k».proof.Proof.Run
public import proofs.«01_k».proof.Proof.Pre
public import proofs.«01_k».proof.Proof.Same
public import proofs.«01_k».proof.Proof.Gen.Kernel
public import proofs.«01_k».proof.Proof.Gen.Pre_routed

@[expose] public section

set_option maxRecDepth 8192
set_option maxHeartbeats 2000000

noncomputable section

namespace Cert.Proof

open Cert.KernelIdeal Cert.KernelIdeal.Gen
open Idealize.ShloMosaic Idealize.ShloMosaic.ValueIdx Idealize.ShloMosaic.TcCoe
open Idealize.SL Idealize.SL.Sem

variable {F : FTy → Type} [FloatOps F]

/-- What a run leaves of the six arguments. -/
theorem args_kept (m : (ℓ : Loc nD τ sig) → Buf (Elt F) ℓ) (r : PUnit × MemSt nD τ sig (Elt F))
    (h : Pipeline.RDat.FramePost (cfg0 (tables m)) (rdat m) (entry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(h c).2 main_arg0 (show main_arg0 ∈ Pipeline.restRefs sig spec0 by decide), h.arr_in c 0 rfl, h.arr_in c 1 rfl, (h c).2 main_arg3 (show main_arg3 ∈ Pipeline.restRefs sig spec0 by decide), (h c).2 main_arg4 (show main_arg4 ∈ Pipeline.restRefs sig spec0 by decide),
    (h c).2 main_arg5 (show main_arg5 ∈ Pipeline.restRefs sig spec0 by decide)⟩

attribute [local instance] Cert.Kernel.Gen.facts Cert.KernelIdeal.Gen.facts Cert.Pre_routed.Gen.facts

/-- The kernel runs at the bit patterns, and leaves its arguments. -/
theorem frame_kernel : Cert.quiescent_Kernel := fun m ρ hp => by
  have h := (θ_run Cert.KernelIdeal.defs _ _).mono (fun r h => And.intro (args_kept m r h.1) h.2)
    (run_main (F := Bits) m ρ (tableOK_of_runs _ (runs_ok _ _ _ _ _ _ (hp 0))))
  rw [← run_same] at h
  exact h

/-- The kernel runs at the extended reals, and leaves its arguments. -/
theorem frame_ideal : Cert.quiescent_KernelIdeal := fun m ρ hp =>
  (θ_run Cert.KernelIdeal.defs _ _).mono (fun r h => And.intro (args_kept m r h.1) h.2)
    (run_main (F := Ideal) m ρ (tableOK_of_runs _ (runs_ok _ _ _ _ _ _ (hp 0))))

end Cert.Proof

end
-- ==== Proof.Term.lean ====
/-
  What the kernel adds to an output element over the extended reals: four experts' terms, each a sum over the hidden positions.
-/
module

public import proofs.«01_k».proof.Proof.Mlp
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.PureOps.Ideal.Laws
public import Idealize.ShloMosaic.Lib.Affine

@[expose] public section

set_option maxRecDepth 8192

noncomputable section

namespace Cert.Proof

open Cert.KernelIdeal Cert.KernelIdeal.Gen
open Idealize.ShloMosaic Idealize.ShloMosaic.ValueIdx

/-- `x · σ(x)` over the extended reals, as the kernel spells it. -/
def siluE (x : EReal) : EReal := Ideal.div x (Ideal.ofBits .f32 0x3F800000#32 + Ideal.exp (Ideal.ofBits .f32 0x00000000#32 - x))

/-- One expert's term of one row at one output position: `x` the row, `g` its gate, `wg`, `wu`, `wd` the expert's matrices. -/
def termE (x : Fin 1024 → EReal) (g : EReal) (wg wu : Fin 1024 → Fin 256 → EReal) (wd : Fin 256 → EReal) : EReal :=
  ∑ f : Fin 256, siluE (∑ c : Fin 1024, x c * wg c f) * (∑ c : Fin 1024, x c * wu c f) * g * wd f

theorem zero_word : (Ideal.ofBits .f32 0x00000000#32 : EReal) = 0 := Ideal.ofBits_zero_f32

theorem lane_lift {N : ℕ} (h : (sh2 N 128).Reduces [1] ⟨1, ![N]⟩) (r : Fin N) (k : Fin 128) : h.lift (ix1 r) k = ix2 r k := by
  funext a
  match a with
  | ⟨0, _⟩ => rfl
  | ⟨1, _⟩ => rfl

theorem gateCol_apply {N : ℕ} (h : RowsOK N) (l : Fin 128) (g : FVec Ideal (sh2 N 128) .f32) (r : Fin N) :
    gateCol h (BitVec.ofNat 32 l.val) g (ix2 r 0) = g (ix2 r l) := by
  unfold gateCol
  rw [shapeCast_a_a1_apply]
  refine (Ideal.multiReduction_add_single _ _ h.red _ _ (ix1 r)).trans ?_
  have hs : ∀ k : Fin 128, select (cmpi .eq (iota .tc (sh2 N 128) 32 [1] h.io) (broadcast (sh2 N 128) (BitVec.ofNat 32 l.val))) g
      (broadcast (sh2 N 128) (Scalar.ofBits .f32 0x00000000#32 : Ideal .f32)) (h.red.lift (ix1 r) k) = if k = l then g (ix2 r l) else 0 := by
    intro k
    rw [lane_lift]
    have hk : iota .tc (sh2 N 128) 32 [1] h.io (ix2 r k) = BitVec.ofNat 32 k.val := by
      show BitVec.ofNat 32 (0 * 128 + k.val) = _
      rw [Nat.zero_mul, Nat.zero_add]
    show Scalar.select (IntOp.cmpi .eq (iota .tc (sh2 N 128) 32 [1] h.io (ix2 r k)) (BitVec.ofNat 32 l.val)) (g (ix2 r k)) (Ideal.ofBits .f32 0x00000000#32) = _
    rw [hk, zero_word]
    by_cases e : k = l
    · subst e
      rw [if_pos rfl, IntOp.cmpi_eq.2 rfl, select_one]
    · have hn : IntOp.cmpi .eq (BitVec.ofNat 32 k.val) (BitVec.ofNat 32 l.val) ≠ 1#1 := fun hc => e (Fin.ext (by
        have := congrArg BitVec.toNat (IntOp.cmpi_eq.1 hc)
        rw [BitVec.toNat_ofNat, BitVec.toNat_ofNat] at this
        omega))
      rw [if_neg e, eq_zero_of_ne_one hn, select_zero]
  refine (Finset.sum_congr rfl fun k _ => hs k).trans ?_
  exact (Finset.sum_ite_eq' Finset.univ l _).trans (if_pos (Finset.mem_univ _))

theorem intoHidden_apply {N : ℕ} (x : FVec Ideal (sh2 N 1024) .bf16) (w : Vec Ideal S1x1024x256 .bf16) (r : Fin N) (f : Fin 256) :
    intoHidden x w (ix2 r f) = ∑ c : Fin 1024, x (ix2 r c) * w (ix3 0 c f) := by
  unfold intoHidden
  refine (Ideal.matmul_plain_apply none x _ _ r f).trans ?_
  rw [constant_apply, zero_word, zero_add]
  refine Finset.sum_congr rfl fun c _ => ?_
  rw [shapeCast_1ab_ab_apply]

theorem siluV_apply {t : Shape} (x : FVec Ideal t .f32) (i : t.Idx) : siluV x i = siluE (x i) := rfl

theorem gateWide_apply {N : ℕ} (h : RowsOK N) (g : FVec Ideal (sh2 N 1) .f32) (r : Fin N) (f : Fin 256) :
    broadcastTo (sh2 N 256) g h.wide (ix2 r f) = g (ix2 r 0) := by
  refine broadcastTo_apply g h.wide (ix2 r f) (ix2 r 0) (fun a => ?_)
  match a with
  | ⟨0, _⟩ =>
    show r.val = if N = 1 then 0 else r.val
    split <;> omega
  | ⟨1, _⟩ => rfl

theorem hidden_apply {N : ℕ} (h : RowsOK N) (a b : FVec Ideal (sh2 N 256) .f32) (g : FVec Ideal (sh2 N 1) .f32) (r : Fin N) (f : Fin 256) :
    (truncf .bf16 (mulf (mulf (siluV a) b) (broadcastTo (sh2 N 256) g h.wide)) bitsLt_bf16_f32 : FVec Ideal (sh2 N 256) .bf16) (ix2 r f)
      = siluE (a (ix2 r f)) * b (ix2 r f) * g (ix2 r 0) := by
  rw [truncf_apply, mulf_apply, mulf_apply, siluV_apply, gateWide_apply h]

theorem down_apply {N : ℕ} (h : FVec Ideal (sh2 N 256) .bf16) (w : Vec Ideal S1x256x1024 .bf16) (r : Fin N) (d : Fin 1024) :
    matmul (DotDims.plain N 256 1024) none h (shapeCast S256x1024 w shapeCasts_S1x256x1024_S256x1024 : FVec Ideal S256x1024 .bf16)
      (constant (sh2 N 1024) .f32 0x00000000#32) (ix2 r d) = ∑ f : Fin 256, h (ix2 r f) * w (ix3 0 f d) := by
  refine (Ideal.matmul_plain_apply none h _ _ r d).trans ?_
  rw [constant_apply, zero_word, zero_add]
  refine Finset.sum_congr rfl fun c _ => ?_
  rw [shapeCast_1ab_ab_apply]

theorem expertTerm_apply {N : ℕ} (h : RowsOK N) (l : Fin 128) (x : FVec Ideal (sh2 N 1024) .bf16) (g : FVec Ideal (sh2 N 128) .f32)
    (wg wu : Vec Ideal S1x1024x256 .bf16) (wd : Vec Ideal S1x256x1024 .bf16) (r : Fin N) (d : Fin 1024) :
    expertTerm h (BitVec.ofNat 32 l.val) x g wg wu wd (ix2 r d)
      = termE (fun c => x (ix2 r c)) (g (ix2 r l)) (fun c f => wg (ix3 0 c f)) (fun c f => wu (ix3 0 c f)) (fun f => wd (ix3 0 f d)) := by
  unfold expertTerm termE
  rw [down_apply]
  refine Finset.sum_congr rfl fun f _ => ?_
  rw [hidden_apply h, intoHidden_apply, intoHidden_apply, gateCol_apply]

end Cert.Proof

end
-- ==== Proof.Rows.lean ====
/-
  What the two ways of laying runs out leave in the output block over the extended reals, element by element: an element
  of a run has four experts' terms added, another element stays.
-/
module

public import proofs.«01_k».proof.Proof.Term
public import Idealize.ShloMosaic.Lib.Pipeline.Value

@[expose] public section

set_option maxRecDepth 8192

noncomputable section

namespace Cert.Proof

open Cert.KernelIdeal Cert.KernelIdeal.Gen
open Idealize.ShloMosaic Idealize.ShloMosaic.ValueIdx
open scoped Classical

/-- The number of expert `k` of grid column `e`. -/
def expertOf (e : Fin 8) (k : Fin 4) : Fin 32 := ⟨4 * e.val + k.val, by omega⟩

/-- The lane of an expert's gate. -/
def laneOf (n : Fin 32) : Fin 128 := ⟨n.val, by omega⟩

/-- The term of expert `k` of a block of four. -/
def blockTerm (e : Fin 8) (W5 W6 : Vec Ideal S4x1024x256 .bf16) (W7 : Vec Ideal S4x256x1024 .bf16) (x : Fin 1024 → EReal)
    (g : Fin 128 → EReal) (d : Fin 1024) (k : Fin 4) : EReal :=
  termE x (g (laneOf (expertOf e k))) (fun c f => W5 (ix3 k c f)) (fun c f => W6 (ix3 k c f)) (fun f => W7 (ix3 k f d))

/-- The terms of a block of four experts added to `y`, in the kernel's order. -/
def addFour (e : Fin 8) (W5 W6 : Vec Ideal S4x1024x256 .bf16) (W7 : Vec Ideal S4x256x1024 .bf16) (x : Fin 1024 → EReal)
    (g : Fin 128 → EReal) (d : Fin 1024) (y : EReal) : EReal :=
  y + blockTerm e W5 W6 W7 x g d 0 + blockTerm e W5 W6 W7 x g d 1 + blockTerm e W5 W6 W7 x g d 2 + blockTerm e W5 W6 W7 x g d 3

theorem expert_word0 (e : Fin 8) : Scalar.addi (Scalar.muli (BitVec.ofNat 32 e.val) 4#32) 0#32 = BitVec.ofNat 32 (laneOf (expertOf e 0)).val := by
  revert e; decide
theorem expert_word1 (e : Fin 8) : Scalar.addi (Scalar.muli (BitVec.ofNat 32 e.val) 4#32) 1#32 = BitVec.ofNat 32 (laneOf (expertOf e 1)).val := by
  revert e; decide
theorem expert_word2 (e : Fin 8) : Scalar.addi (Scalar.muli (BitVec.ofNat 32 e.val) 4#32) 2#32 = BitVec.ofNat 32 (laneOf (expertOf e 2)).val := by
  revert e; decide
theorem expert_word3 (e : Fin 8) : Scalar.addi (Scalar.muli (BitVec.ofNat 32 e.val) 4#32) 3#32 = BitVec.ofNat 32 (laneOf (expertOf e 3)).val := by
  revert e; decide

theorem mat4_apply (W : Vec Ideal S4x1024x256 .bf16) (k : Fin 4) (hk) (c : Fin 1024) (f : Fin 256) :
    mat4 W k.val hk (ix3 0 c f) = W (ix3 k c f) := by
  refine congrArg W (funext fun a => Fin.ext ?_)
  match a with
  | ⟨0, _⟩ => show k.val + 1 * 0 = k.val; omega
  | ⟨1, _⟩ => show 0 + 1 * c.val = c.val; omega
  | ⟨2, _⟩ => show 0 + 1 * f.val = f.val; omega

theorem mat4d_apply (W : Vec Ideal S4x256x1024 .bf16) (k : Fin 4) (hk) (f : Fin 256) (d : Fin 1024) :
    mat4d W k.val hk (ix3 0 f d) = W (ix3 k f d) := by
  refine congrArg W (funext fun a => Fin.ext ?_)
  match a with
  | ⟨0, _⟩ => show k.val + 1 * 0 = k.val; omega
  | ⟨1, _⟩ => show 0 + 1 * f.val = f.val; omega
  | ⟨2, _⟩ => show 0 + 1 * d.val = d.val; omega

theorem blockExpert_apply {N : ℕ} (h : RowsOK N) (e : Fin 8) (k : Fin 4) (w : BitVec 32) (hw : w = BitVec.ofNat 32 (laneOf (expertOf e k)).val)
    (W5 W6 : Vec Ideal S4x1024x256 .bf16) (W7 : Vec Ideal S4x256x1024 .bf16) (h5 h6 h7)
    (x : FVec Ideal (sh2 N 1024) .bf16) (g : FVec Ideal (sh2 N 128) .f32) (r : Fin N) (d : Fin 1024) :
    expertTerm h w x g (mat4 W5 k.val h5) (mat4 W6 k.val h6) (mat4d W7 k.val h7) (ix2 r d)
      = blockTerm e W5 W6 W7 (fun c => x (ix2 r c)) (fun l => g (ix2 r l)) d k := by
  subst hw
  rw [expertTerm_apply]
  unfold blockTerm
  congr 1
  · funext c f; exact mat4_apply W5 k h5 c f
  · funext c f; exact mat4_apply W6 k h6 c f
  · funext f; exact mat4d_apply W7 k h7 f d

theorem mlpRows_apply {N : ℕ} (h : RowsOK N) (e : Fin 8) (W5 W6 : Vec Ideal S4x1024x256 .bf16) (W7 : Vec Ideal S4x256x1024 .bf16)
    (x : FVec Ideal (sh2 N 1024) .bf16) (g : FVec Ideal (sh2 N 128) .f32) (y : FVec Ideal (sh2 N 1024) .f32) (r : Fin N) (d : Fin 1024) :
    mlpRows h (BitVec.ofNat 32 e.val) W5 W6 W7 x g y (ix2 r d)
      = addFour e W5 W6 W7 (fun c => x (ix2 r c)) (fun l => g (ix2 r l)) d (y (ix2 r d)) := by
  unfold mlpRows addFour
  rw [addf_apply, addf_apply, addf_apply, addf_apply]
  refine congrArg₂ _ (congrArg₂ _ (congrArg₂ _ (congrArg₂ _ rfl ?_) ?_) ?_) ?_
  · exact blockExpert_apply h e 0 _ (expert_word0 e) W5 W6 W7 _ _ _ x g r d
  · exact blockExpert_apply h e 1 _ (expert_word1 e) W5 W6 W7 _ _ _ x g r d
  · exact blockExpert_apply h e 2 _ (expert_word2 e) W5 W6 W7 _ _ _ x g r d
  · exact blockExpert_apply h e 3 _ (expert_word3 e) W5 W6 W7 _ _ _ x g r d

/-- The output block `Y` with the four experts' terms added on the rows that `P` takes. -/
def stepRows (e : Fin 8) (X : Vec Ideal S2x1536x1024 .bf16) (G : Vec Ideal S2x1536x128 .f32) (W5 W6 : Vec Ideal S4x1024x256 .bf16)
    (W7 : Vec Ideal S4x256x1024 .bf16) (P : ℕ → ℕ → Prop) (Y : Vec Ideal S2x1536x1024 .f32) : Vec Ideal S2x1536x1024 .f32 :=
  fun j => if P (j 0).val (j 1).val then addFour e W5 W6 W7 (fun c => X (ix3 (j 0) (j 1) c)) (fun l => G (ix3 (j 0) (j 1) l)) (j 2) (Y j) else Y j

/-- The rows `[a, a + n)` of row block `s`. -/
def span (s a n : ℕ) : ℕ → ℕ → Prop := fun s' r => s' = s ∧ a ≤ r ∧ r < a + n

theorem rowsAt_apply {α : Type} {C : ℕ} (N : ℕ) (X : (sh3 2 1536 C).Idx → α) (s : Fin 2) (a : ℕ) (r : Fin 1536) (h : a ≤ r.val) (h' : r.val - a < N) (c : Fin C) :
    rowsAt N X s a (ix2 ⟨r.val - a, h'⟩ c) = X (ix3 s r c) := by
  refine congrArg X (funext fun k => Fin.ext ?_)
  match k with
  | ⟨0, _⟩ => rfl
  | ⟨1, _⟩ => show (a + (r.val - a)) % 1536 = r.val; omega
  | ⟨2, _⟩ => rfl

theorem runRows_eq {N : ℕ} (h : RowsOK N) (e : Fin 8) (X : Vec Ideal S2x1536x1024 .bf16) (G : Vec Ideal S2x1536x128 .f32)
    (W5 W6 : Vec Ideal S4x1024x256 .bf16) (W7 : Vec Ideal S4x256x1024 .bf16) (s : Fin 2) (a : ℕ) (Y : Vec Ideal S2x1536x1024 .f32) :
    runRows h (BitVec.ofNat 32 e.val) X G W5 W6 W7 s a Y = stepRows e X G W5 W6 W7 (span s.val a N) Y := by
  funext j
  obtain ⟨s', r, d, rfl⟩ : ∃ (s' : Fin 2) (r : Fin 1536) (d : Fin 1024), j = ix3 s' r d := ⟨j 0, j 1, j 2, eq_ix3 j⟩
  unfold runRows putRows stepRows
  by_cases hc : span s.val a N s'.val r.val
  · have hs : s' = s := Fin.ext hc.1
    subst hs
    refine (dif_pos hc).trans (Eq.trans ?_ (if_pos hc).symm)
    have h' : r.val - a < N := by have := hc.2; omega
    refine (mlpRows_apply h e W5 W6 W7 _ _ _ ⟨r.val - a, h'⟩ d).trans ?_
    congr 1
    · funext c; exact rowsAt_apply N X s' a r hc.2.1 h' c
    · funext c; exact rowsAt_apply N G s' a r hc.2.1 h' c
    · exact rowsAt_apply N Y s' a r hc.2.1 h' d
  · exact (dif_neg hc).trans (if_neg hc).symm

theorem catRows_left {e : EltTy} {N0 N1 N C : ℕ} (h : Shape.Concatenates [sh2 N0 C, sh2 N1 C] (sh2 N C) 0) (X : Vec Ideal (sh3 2 1536 C) e)
    (a0 a1 : ℕ) (r : Fin 1536) (hr : a0 ≤ r.val) (h' : r.val - a0 < N0) (hN : r.val - a0 < N) (c : Fin C) :
    catRows h X a0 a1 (ix2 ⟨r.val - a0, hN⟩ c) = X (ix3 0 r c) := by
  refine (concatenate_pair_apply_left (t := sh2 N C) (s₁ := sh2 N0 C) (s₂ := sh2 N1 C) 0 _ _ h _ rfl (ix2 ⟨r.val - a0, h'⟩ c) (fun b => ?_)).trans (rowsAt_apply N0 X 0 a0 r hr h' c)
  match b with
  | ⟨0, _⟩ => rfl
  | ⟨1, _⟩ => rfl

theorem catRows_right {e : EltTy} {N0 N1 N C : ℕ} (h : Shape.Concatenates [sh2 N0 C, sh2 N1 C] (sh2 N C) 0) (X : Vec Ideal (sh3 2 1536 C) e)
    (a0 a1 : ℕ) (r : Fin 1536) (hr : a1 ≤ r.val) (h' : r.val - a1 < N1) (hN : N0 + (r.val - a1) < N) (c : Fin C) :
    catRows h X a0 a1 (ix2 ⟨N0 + (r.val - a1), hN⟩ c) = X (ix3 1 r c) := by
  refine (concatenate_pair_apply_right (t := sh2 N C) (s₁ := sh2 N0 C) (s₂ := sh2 N1 C) 0 _ _ h _ rfl rfl (ix2 ⟨r.val - a1, h'⟩ c) (fun b hb => ?_) ?_).trans (rowsAt_apply N1 X 1 a1 r hr h' c)
  · match b with
    | ⟨0, _⟩ => exact absurd rfl hb
    | ⟨1, _⟩ => rfl
  · show r.val - a1 + N0 = N0 + (r.val - a1)
    omega

theorem pairRows_eq {N0 N1 N : ℕ} (h : PairOK N0 N1 N) (hN : N0 + N1 = N) (e : Fin 8) (X : Vec Ideal S2x1536x1024 .bf16) (G : Vec Ideal S2x1536x128 .f32)
    (W5 W6 : Vec Ideal S4x1024x256 .bf16) (W7 : Vec Ideal S4x256x1024 .bf16) (a0 a1 : ℕ) (Y : Vec Ideal S2x1536x1024 .f32) :
    pairRows h (BitVec.ofNat 32 e.val) X G W5 W6 W7 a0 a1 Y
      = stepRows e X G W5 W6 W7 (fun s r => span 0 a0 N0 s r ∨ span 1 a1 N1 s r) Y := by
  funext j
  obtain ⟨s', r, d, rfl⟩ : ∃ (s' : Fin 2) (r : Fin 1536) (d : Fin 1024), j = ix3 s' r d := ⟨j 0, j 1, j 2, eq_ix3 j⟩
  unfold pairRows putRows stepRows
  by_cases h1 : span 1 a1 N1 s'.val r.val
  · have hs : s' = 1 := Fin.ext h1.1
    subst hs
    refine (dif_pos h1).trans (Eq.trans ?_ (if_pos (Or.inr h1)).symm)
    have h' : r.val - a1 < N1 := by have := h1.2; omega
    have hN' : N0 + (r.val - a1) < N := by omega
    refine (extractStridedSlice_apply _ _ h.bot _ (ix2 ⟨N0 + (r.val - a1), hN'⟩ d) (fun a => ?_)).trans ?_
    · match a with
      | ⟨0, _⟩ => rfl
      | ⟨1, _⟩ => show d.val = 0 + d.val; omega
    refine (mlpRows_apply h.rows e W5 W6 W7 _ _ _ ⟨N0 + (r.val - a1), hN'⟩ d).trans ?_
    congr 1
    · funext c; exact catRows_right h.cat X a0 a1 r h1.2.1 h' hN' c
    · funext c; exact catRows_right h.catG G a0 a1 r h1.2.1 h' hN' c
    · exact catRows_right h.cat Y a0 a1 r h1.2.1 h' hN' d
  · refine (dif_neg h1).trans ?_
    by_cases h0 : span 0 a0 N0 s'.val r.val
    · have hs : s' = 0 := Fin.ext h0.1
      subst hs
      refine (dif_pos h0).trans (Eq.trans ?_ (if_pos (Or.inl h0)).symm)
      have h' : r.val - a0 < N0 := by have := h0.2; omega
      have hN' : r.val - a0 < N := by omega
      refine (extractStridedSlice_apply _ _ h.top _ (ix2 ⟨r.val - a0, hN'⟩ d) (fun a => ?_)).trans ?_
      · match a with
        | ⟨0, _⟩ => show r.val - a0 = 0 + (r.val - a0); omega
        | ⟨1, _⟩ => show d.val = 0 + d.val; omega
      refine (mlpRows_apply h.rows e W5 W6 W7 _ _ _ ⟨r.val - a0, hN'⟩ d).trans ?_
      congr 1
      · funext c; exact catRows_left h.cat X a0 a1 r h0.2.1 h' hN' c
      · funext c; exact catRows_left h.catG G a0 a1 r h0.2.1 h' hN' c
      · exact catRows_left h.cat Y a0 a1 r h0.2.1 h' hN' d
    · exact (dif_neg h0).trans (if_neg (fun hc => hc.elim h0 h1)).symm

theorem stepRows_congr (e : Fin 8) (X : Vec Ideal S2x1536x1024 .bf16) (G : Vec Ideal S2x1536x128 .f32) (W5 W6 : Vec Ideal S4x1024x256 .bf16)
    (W7 : Vec Ideal S4x256x1024 .bf16) {P Q : ℕ → ℕ → Prop} (h : ∀ s r, P s r ↔ Q s r) (Y : Vec Ideal S2x1536x1024 .f32) :
    stepRows e X G W5 W6 W7 P Y = stepRows e X G W5 W6 W7 Q Y := by
  rw [show P = Q from funext fun s => funext fun r => propext (h s r)]

theorem stepRows_none (e : Fin 8) (X : Vec Ideal S2x1536x1024 .bf16) (G : Vec Ideal S2x1536x128 .f32) (W5 W6 : Vec Ideal S4x1024x256 .bf16)
    (W7 : Vec Ideal S4x256x1024 .bf16) {P : ℕ → ℕ → Prop} (h : ∀ s r, ¬ P s r) (Y : Vec Ideal S2x1536x1024 .f32) :
    stepRows e X G W5 W6 W7 P Y = Y :=
  funext fun _ => if_neg (h _ _)

theorem stepRows_step (e : Fin 8) (X : Vec Ideal S2x1536x1024 .bf16) (G : Vec Ideal S2x1536x128 .f32) (W5 W6 : Vec Ideal S4x1024x256 .bf16)
    (W7 : Vec Ideal S4x256x1024 .bf16) {P Q R : ℕ → ℕ → Prop} (hd : ∀ s r, P s r → ¬ Q s r) (hR : ∀ s r, P s r ∨ Q s r ↔ R s r)
    (Y : Vec Ideal S2x1536x1024 .f32) :
    stepRows e X G W5 W6 W7 Q (stepRows e X G W5 W6 W7 P Y) = stepRows e X G W5 W6 W7 R Y := by
  funext j
  unfold stepRows
  by_cases hq : Q (j 0).val (j 1).val
  · have hp : ¬ P (j 0).val (j 1).val := fun hp => hd _ _ hp hq
    rw [if_pos hq, if_neg hp, if_pos ((hR _ _).1 (.inr hq))]
  · by_cases hp : P (j 0).val (j 1).val
    · rw [if_neg hq, if_pos hp, if_pos ((hR _ _).1 (.inl hp))]
    · rw [if_neg hq, if_neg hp, if_neg (fun hr => ((hR _ _).2 hr).elim hp hq)]

end Cert.Proof

end
-- ==== Proof.Point.lean ====
/-
  What one grid point makes of the output block over the extended reals, of runs that the table may hold: every row of
  its two runs has the four experts' terms added, every other row stays.
-/
module

public import proofs.«01_k».proof.Proof.Rows
public import proofs.«01_k».proof.Proof.Body3
public import proofs.«01_k».proof.Proof.Check

@[expose] public section

set_option maxRecDepth 8192

noncomputable section

namespace Cert.Proof

open Cert.KernelIdeal Cert.KernelIdeal.Gen
open Idealize.ShloMosaic Idealize.ShloMosaic.ValueIdx

theorem runStart_eq : ∀ (s : Fin 13) (t : Fin 7), runStart (BitVec.ofNat 32 (128 * s.val)) t.val = 128 * s.val + 256 * t.val := by
  decide +kernel

theorem single_at0 : ∀ (s : Fin 13) (k : Fin 13), s.val + k.val ≤ 12 →
    (k0_t1_loop (BitVec.ofNat 32 k.val)).trips ≤ 6 ∧
    (k0_cond7 (BitVec.ofNat 32 k.val) = 1#1 → 256 * (k0_t1_loop (BitVec.ofNat 32 k.val)).trips + 384 = 128 * k.val ∧
      k0_off23 (BitVec.ofNat 32 (128 * s.val)) (BitVec.ofNat 32 k.val) 1 = 128 * s.val + 256 * (k0_t1_loop (BitVec.ofNat 32 k.val)).trips ∧
      k0_cond8 (BitVec.ofNat 32 k.val) ≠ 1#1) ∧
    (k0_cond8 (BitVec.ofNat 32 k.val) = 1#1 → (k0_t1_loop (BitVec.ofNat 32 k.val)).trips = 0 ∧ k.val = 1 ∧
      k0_off25 (BitVec.ofNat 32 (128 * s.val)) 1 = 128 * s.val) ∧
    (k0_cond7 (BitVec.ofNat 32 k.val) ≠ 1#1 → k0_cond8 (BitVec.ofNat 32 k.val) ≠ 1#1 →
      256 * (k0_t1_loop (BitVec.ofNat 32 k.val)).trips = 128 * k.val) := by
  decide +kernel

theorem single_at1 : ∀ (s : Fin 13) (k : Fin 13), s.val + k.val ≤ 12 →
    (k0_t3_loop (BitVec.ofNat 32 k.val)).trips ≤ 6 ∧
    (k0_cond9 (BitVec.ofNat 32 k.val) = 1#1 → 256 * (k0_t3_loop (BitVec.ofNat 32 k.val)).trips + 384 = 128 * k.val ∧
      k0_off31 (BitVec.ofNat 32 (128 * s.val)) (BitVec.ofNat 32 k.val) 1 = 128 * s.val + 256 * (k0_t3_loop (BitVec.ofNat 32 k.val)).trips ∧
      k0_cond10 (BitVec.ofNat 32 k.val) ≠ 1#1) ∧
    (k0_cond10 (BitVec.ofNat 32 k.val) = 1#1 → (k0_t3_loop (BitVec.ofNat 32 k.val)).trips = 0 ∧ k.val = 1 ∧
      k0_off33 (BitVec.ofNat 32 (128 * s.val)) 1 = 128 * s.val) ∧
    (k0_cond9 (BitVec.ofNat 32 k.val) ≠ 1#1 → k0_cond10 (BitVec.ofNat 32 k.val) ≠ 1#1 →
      256 * (k0_t3_loop (BitVec.ofNat 32 k.val)).trips = 128 * k.val) := by
  decide +kernel

theorem pair_at0 : ∀ (s : Fin 13),
    k0_off3 (BitVec.ofNat 32 (128 * s.val)) 1 = 128 * s.val ∧ k0_off4 (BitVec.ofNat 32 (128 * s.val)) 1 = 128 * s.val ∧
    k0_off7 (BitVec.ofNat 32 (128 * s.val)) 1 = 128 * s.val ∧ k0_off8 (BitVec.ofNat 32 (128 * s.val)) 1 = 128 * s.val ∧
    k0_off11 (BitVec.ofNat 32 (128 * s.val)) 1 = 128 * s.val ∧ k0_off12 (BitVec.ofNat 32 (128 * s.val)) 1 = 128 * s.val ∧
    k0_off15 (BitVec.ofNat 32 (128 * s.val)) 1 = 128 * s.val ∧ k0_off16 (BitVec.ofNat 32 (128 * s.val)) 1 = 128 * s.val := by
  decide +kernel

/-- Of the five cases of the two lengths, exactly one is met. -/
theorem one_case : ∀ (k j : Fin 13),
    (k0_cond2 (BitVec.ofNat 32 k.val) (BitVec.ofNat 32 j.val) = 1#1 ∧ k0_cond3 (BitVec.ofNat 32 k.val) (BitVec.ofNat 32 j.val) ≠ 1#1 ∧
      k0_cond4 (BitVec.ofNat 32 k.val) (BitVec.ofNat 32 j.val) ≠ 1#1 ∧ k0_cond5 (BitVec.ofNat 32 k.val) (BitVec.ofNat 32 j.val) ≠ 1#1 ∧
      k0_cond6 (BitVec.ofNat 32 k.val) (BitVec.ofNat 32 j.val) ≠ 1#1 ∧ k.val = 2 ∧ j.val = 2) ∨
    (k0_cond2 (BitVec.ofNat 32 k.val) (BitVec.ofNat 32 j.val) ≠ 1#1 ∧ k0_cond3 (BitVec.ofNat 32 k.val) (BitVec.ofNat 32 j.val) = 1#1 ∧
      k0_cond4 (BitVec.ofNat 32 k.val) (BitVec.ofNat 32 j.val) ≠ 1#1 ∧ k0_cond5 (BitVec.ofNat 32 k.val) (BitVec.ofNat 32 j.val) ≠ 1#1 ∧
      k0_cond6 (BitVec.ofNat 32 k.val) (BitVec.ofNat 32 j.val) ≠ 1#1 ∧ k.val = 2 ∧ j.val = 3) ∨
    (k0_cond2 (BitVec.ofNat 32 k.val) (BitVec.ofNat 32 j.val) ≠ 1#1 ∧ k0_cond3 (BitVec.ofNat 32 k.val) (BitVec.ofNat 32 j.val) ≠ 1#1 ∧
      k0_cond4 (BitVec.ofNat 32 k.val) (BitVec.ofNat 32 j.val) = 1#1 ∧ k0_cond5 (BitVec.ofNat 32 k.val) (BitVec.ofNat 32 j.val) ≠ 1#1 ∧
      k0_cond6 (BitVec.ofNat 32 k.val) (BitVec.ofNat 32 j.val) ≠ 1#1 ∧ k.val = 3 ∧ j.val = 2) ∨
    (k0_cond2 (BitVec.ofNat 32 k.val) (BitVec.ofNat 32 j.val) ≠ 1#1 ∧ k0_cond3 (BitVec.ofNat 32 k.val) (BitVec.ofNat 32 j.val) ≠ 1#1 ∧
      k0_cond4 (BitVec.ofNat 32 k.val) (BitVec.ofNat 32 j.val) ≠ 1#1 ∧ k0_cond5 (BitVec.ofNat 32 k.val) (BitVec.ofNat 32 j.val) = 1#1 ∧
      k0_cond6 (BitVec.ofNat 32 k.val) (BitVec.ofNat 32 j.val) ≠ 1#1 ∧ k.val = 3 ∧ j.val = 3) ∨
    (k0_cond2 (BitVec.ofNat 32 k.val) (BitVec.ofNat 32 j.val) ≠ 1#1 ∧ k0_cond3 (BitVec.ofNat 32 k.val) (BitVec.ofNat 32 j.val) ≠ 1#1 ∧
      k0_cond4 (BitVec.ofNat 32 k.val) (BitVec.ofNat 32 j.val) ≠ 1#1 ∧ k0_cond5 (BitVec.ofNat 32 k.val) (BitVec.ofNat 32 j.val) ≠ 1#1 ∧
      k0_cond6 (BitVec.ofNat 32 k.val) (BitVec.ofNat 32 j.val) = 1#1) := by
  decide +kernel

section
variable (e : Fin 8) (X : Vec Ideal S2x1536x1024 .bf16) (G : Vec Ideal S2x1536x128 .f32) (W5 W6 : Vec Ideal S4x1024x256 .bf16)
    (W7 : Vec Ideal S4x256x1024 .bf16)

theorem loopRows_eq (s : Fin 2) (b : Fin 13) (n : ℕ) (hn : n ≤ 6) (Y : Vec Ideal S2x1536x1024 .f32) :
    loopRows (BitVec.ofNat 32 e.val) X G W5 W6 W7 s (runStart (BitVec.ofNat 32 (128 * b.val))) Y n
      = stepRows e X G W5 W6 W7 (span s.val (128 * b.val) (256 * n)) Y := by
  induction n with
  | zero => exact (stepRows_none e X G W5 W6 W7 (fun s r h => by unfold span at h; omega) Y).symm
  | succ n ih =>
    show runRows rows256 (BitVec.ofNat 32 e.val) X G W5 W6 W7 s (runStart (BitVec.ofNat 32 (128 * b.val)) n) (loopRows (BitVec.ofNat 32 e.val) X G W5 W6 W7 s (runStart (BitVec.ofNat 32 (128 * b.val))) Y n) = _
    rw [ih (by omega), runRows_eq, runStart_eq b ⟨n, by omega⟩]
    refine stepRows_step e X G W5 W6 W7 (fun s r h h' => ?_) (fun s r => ?_) Y
    · unfold span at h h'; dsimp only at h h'; omega
    · unfold span; dsimp only; omega

theorem unusual0_eq (s : Fin 13) (k : Fin 13) (hk : s.val + k.val ≤ 12) (Y : Vec Ideal S2x1536x1024 .f32) :
    unusual0 (BitVec.ofNat 32 e.val) (BitVec.ofNat 32 (128 * s.val)) (BitVec.ofNat 32 k.val) X G W5 W6 W7 Y
      = stepRows e X G W5 W6 W7 (span 0 (128 * s.val) (128 * k.val)) Y := by
  obtain ⟨h5, h7, h8, hn⟩ := single_at0 s k hk
  unfold unusual0 tail0
  generalize (k0_t1_loop (BitVec.ofNat 32 k.val)).trips = n at *
  rw [loopRows_eq e X G W5 W6 W7 0 s _ h5]
  by_cases c8 : k0_cond8 (BitVec.ofNat 32 k.val) = 1#1
  · have c7 : k0_cond7 (BitVec.ofNat 32 k.val) ≠ 1#1 := fun h => (h7 h).2.2 c8
    obtain ⟨e0, e1, e2⟩ := h8 c8
    rw [if_pos c8, if_neg c7, runRows_eq, e2]
    refine stepRows_step e X G W5 W6 W7 (fun s r h h' => ?_) (fun s r => ?_) Y
    · unfold span at h h'; omega
    · unfold span; simp only [Fin.val_zero]; omega
  · rw [if_neg c8]
    by_cases c7 : k0_cond7 (BitVec.ofNat 32 k.val) = 1#1
    · obtain ⟨e0, e1, -⟩ := h7 c7
      rw [if_pos c7, runRows_eq, e1]
      refine stepRows_step e X G W5 W6 W7 (fun s r h h' => ?_) (fun s r => ?_) Y
      · unfold span at h h'; omega
      · unfold span; simp only [Fin.val_zero]; omega
    · rw [if_neg c7, hn c7 c8]
      rfl

theorem unusual1_eq (s : Fin 13) (k : Fin 13) (hk : s.val + k.val ≤ 12) (Y : Vec Ideal S2x1536x1024 .f32) :
    unusual1 (BitVec.ofNat 32 e.val) (BitVec.ofNat 32 (128 * s.val)) (BitVec.ofNat 32 k.val) X G W5 W6 W7 Y
      = stepRows e X G W5 W6 W7 (span 1 (128 * s.val) (128 * k.val)) Y := by
  obtain ⟨h5, h7, h8, hn⟩ := single_at1 s k hk
  unfold unusual1 step10 step9
  generalize (k0_t3_loop (BitVec.ofNat 32 k.val)).trips = n at *
  rw [loopRows_eq e X G W5 W6 W7 1 s _ h5]
  by_cases c8 : k0_cond10 (BitVec.ofNat 32 k.val) = 1#1
  · have c7 : k0_cond9 (BitVec.ofNat 32 k.val) ≠ 1#1 := fun h => (h7 h).2.2 c8
    obtain ⟨e0, e1, e2⟩ := h8 c8
    rw [if_pos c8, if_neg c7, runRows_eq, e2]
    refine stepRows_step e X G W5 W6 W7 (fun s r h h' => ?_) (fun s r => ?_) Y
    · unfold span at h h'; omega
    · unfold span; simp only [Fin.val_one]; omega
  · rw [if_neg c8]
    by_cases c7 : k0_cond9 (BitVec.ofNat 32 k.val) = 1#1
    · obtain ⟨e0, e1, -⟩ := h7 c7
      rw [if_pos c7, runRows_eq, e1]
      refine stepRows_step e X G W5 W6 W7 (fun s r h h' => ?_) (fun s r => ?_) Y
      · unfold span at h h'; omega
      · unfold span; simp only [Fin.val_one]; omega
    · rw [if_neg c7, hn c7 c8]
      rfl

/-- The rows of the two runs. -/
def twoRuns (s0 k0 s1 k1 : ℕ) : ℕ → ℕ → Prop := fun s r => span 0 (128 * s0) (128 * k0) s r ∨ span 1 (128 * s1) (128 * k1) s r

theorem stepWords_eq (s0 : Fin 13) (k0 : Fin 13) (h0 : s0.val + k0.val ≤ 12) (s1 : Fin 13) (k1 : Fin 13) (h1 : s1.val + k1.val ≤ 12)
    (Y : Vec Ideal S2x1536x1024 .f32) :
    stepWords (BitVec.ofNat 32 e.val) (BitVec.ofNat 32 (128 * s0.val)) (BitVec.ofNat 32 k0.val) (BitVec.ofNat 32 (128 * s1.val)) (BitVec.ofNat 32 k1.val) X G W5 W6 W7 Y
      = stepRows e X G W5 W6 W7 (twoRuns s0.val k0.val s1.val k1.val) Y := by
  obtain ⟨a3, -, a7, -, a11, -, a15, -⟩ := pair_at0 s0
  obtain ⟨-, a4, -, a8, -, a12, -, a16⟩ := pair_at0 s1
  unfold stepWords step6 step5 step4 step3 step2
  rcases one_case k0 k1 with ⟨c2, c3, c4, c5, c6, e0, e1⟩ | ⟨c2, c3, c4, c5, c6, e0, e1⟩ | ⟨c2, c3, c4, c5, c6, e0, e1⟩ | ⟨c2, c3, c4, c5, c6, e0, e1⟩ | ⟨c2, c3, c4, c5, c6⟩
  · rw [if_neg c6, if_neg c5, if_neg c4, if_neg c3, if_pos c2, pairRows_eq _ (by decide), a3, a4]
    refine stepRows_congr e X G W5 W6 W7 (fun s r => ?_) Y
    unfold twoRuns; rw [e0, e1]
  · rw [if_neg c6, if_neg c5, if_neg c4, if_pos c3, if_neg c2, pairRows_eq _ (by decide), a7, a8]
    refine stepRows_congr e X G W5 W6 W7 (fun s r => ?_) Y
    unfold twoRuns; rw [e0, e1]
  · rw [if_neg c6, if_neg c5, if_pos c4, if_neg c3, if_neg c2, pairRows_eq _ (by decide), a11, a12]
    refine stepRows_congr e X G W5 W6 W7 (fun s r => ?_) Y
    unfold twoRuns; rw [e0, e1]
  · rw [if_neg c6, if_pos c5, if_neg c4, if_neg c3, if_neg c2, pairRows_eq _ (by decide), a15, a16]
    refine stepRows_congr e X G W5 W6 W7 (fun s r => ?_) Y
    unfold twoRuns; rw [e0, e1]
  · rw [if_pos c6, if_neg c5, if_neg c4, if_neg c3, if_neg c2, unusual0_eq e X G W5 W6 W7 s0 k0 h0, unusual1_eq e X G W5 W6 W7 s1 k1 h1]
    refine stepRows_step e X G W5 W6 W7 (fun s r h h' => ?_) (fun s r => Iff.rfl) Y
    unfold span at h h'; omega
end

end Cert.Proof

end
-- ==== Proof.Blocks.lean ====
/-
  The blocks that a grid point works on, element by element in the arrays.
-/
module

public import proofs.«01_k».proof.Proof.Run
public import proofs.«01_k».proof.Proof.Pre
public import Idealize.ShloMosaic.Lib.Pipeline.ValueKit.Geometry

@[expose] public section

set_option maxRecDepth 8192

noncomputable section

namespace Cert.Proof

open Cert.KernelIdeal Cert.KernelIdeal.Gen
open Idealize.ShloMosaic Idealize.ShloMosaic.ValueIdx Idealize.ShloMosaic.TcCoe

variable {F : FTy → Type} [FloatOps F]

/-- A block's first array coordinate, at a grid point. -/
def eAt (i : grid0.Coords) (k : Fin 4) : Fin 32 := ⟨4 * (i 1).val + k.val, by have := (i 1).isLt; have : (i 1).val < 8 := this; omega⟩

theorem idx0_0 : ∀ t : Fin grid0.N, cc0_transform_0 (grid0.coords t) = ![(grid0.coords t 0).val, 0, 0] := by decide +kernel
theorem idx0_1 : ∀ t : Fin grid0.N, cc0_transform_1 (grid0.coords t) = ![(grid0.coords t 0).val, 0, 0] := by decide +kernel
theorem idx0_2 : ∀ t : Fin grid0.N, cc0_transform_2 (grid0.coords t) = ![(grid0.coords t 1).val, 0, 0] := by decide +kernel
theorem idx0_3 : ∀ t : Fin grid0.N, cc0_transform_3 (grid0.coords t) = ![(grid0.coords t 1).val, 0, 0] := by decide +kernel
theorem idx0_4 : ∀ t : Fin grid0.N, cc0_transform_4 (grid0.coords t) = ![(grid0.coords t 1).val, 0, 0] := by decide +kernel
theorem idx0_5 : ∀ t : Fin grid0.N, cc0_transform_5 (grid0.coords t) = ![(grid0.coords t 0).val, 0, 0] := by decide +kernel

theorem block_x (m : (ℓ : Loc nD τ sig) → Buf (Elt F) ℓ) (c : Dev nD) (t : Fin grid0.N) (s : Fin 2) (r : Fin 1536) (d : Fin 1024) :
    blockAt m c 0 t (ix3 s r d) = entry m c main_arg1 (ix3 (seqAt (grid0.coords t) s) r d) := by
  unfold blockAt
  refine (Pipeline.Window.fill_xinj (win0 (tables m) 0) (grid0.coords t) _ _ (ix3 s r d)).trans ?_
  refine congrArg (entry m c main_arg1) (funext fun a => Fin.ext ?_)
  refine (Pipeline.Window.rect_emb_val _ _ _ _).trans ?_
  show cc0_transform_0 (grid0.coords t) a * (![2, 1536, 1024] : Fin 3 → ℕ) a + _ = _
  rw [idx0_0 t]
  match a with
  | ⟨0, _⟩ => show (grid0.coords t 0).val * 2 + s.val = 2 * (grid0.coords t 0).val + s.val; omega
  | ⟨1, _⟩ => show 0 * 1536 + r.val = r.val; omega
  | ⟨2, _⟩ => show 0 * 1024 + d.val = d.val; omega

theorem block_g (m : (ℓ : Loc nD τ sig) → Buf (Elt F) ℓ) (c : Dev nD) (t : Fin grid0.N) (s : Fin 2) (r : Fin 1536) (d : Fin 128) :
    blockAt m c 1 t (ix3 s r d) = entry m c main_arg2 (ix3 (seqAt (grid0.coords t) s) r d) := by
  unfold blockAt
  refine (Pipeline.Window.fill_xinj (win0 (tables m) 1) (grid0.coords t) _ _ (ix3 s r d)).trans ?_
  refine congrArg (entry m c main_arg2) (funext fun a => Fin.ext ?_)
  refine (Pipeline.Window.rect_emb_val _ _ _ _).trans ?_
  show cc0_transform_1 (grid0.coords t) a * (![2, 1536, 128] : Fin 3 → ℕ) a + _ = _
  rw [idx0_1 t]
  match a with
  | ⟨0, _⟩ => show (grid0.coords t 0).val * 2 + s.val = 2 * (grid0.coords t 0).val + s.val; omega
  | ⟨1, _⟩ => show 0 * 1536 + r.val = r.val; omega
  | ⟨2, _⟩ => show 0 * 128 + d.val = d.val; omega

theorem block_w5 (m : (ℓ : Loc nD τ sig) → Buf (Elt F) ℓ) (c : Dev nD) (t : Fin grid0.N) (s : Fin 4) (r : Fin 1024) (d : Fin 256) :
    blockAt m c 2 t (ix3 s r d) = entry m c main_v0 (ix3 (eAt (grid0.coords t) s) r d) := by
  unfold blockAt
  refine (Pipeline.Window.fill_xinj (win0 (tables m) 2) (grid0.coords t) _ _ (ix3 s r d)).trans ?_
  refine congrArg (entry m c main_v0) (funext fun a => Fin.ext ?_)
  refine (Pipeline.Window.rect_emb_val _ _ _ _).trans ?_
  show cc0_transform_2 (grid0.coords t) a * (![4, 1024, 256] : Fin 3 → ℕ) a + _ = _
  rw [idx0_2 t]
  match a with
  | ⟨0, _⟩ => show (grid0.coords t 1).val * 4 + s.val = 4 * (grid0.coords t 1).val + s.val; omega
  | ⟨1, _⟩ => show 0 * 1024 + r.val = r.val; omega
  | ⟨2, _⟩ => show 0 * 256 + d.val = d.val; omega

theorem block_w6 (m : (ℓ : Loc nD τ sig) → Buf (Elt F) ℓ) (c : Dev nD) (t : Fin grid0.N) (s : Fin 4) (r : Fin 1024) (d : Fin 256) :
    blockAt m c 3 t (ix3 s r d) = entry m c main_v1 (ix3 (eAt (grid0.coords t) s) r d) := by
  unfold blockAt
  refine (Pipeline.Window.fill_xinj (win0 (tables m) 3) (grid0.coords t) _ _ (ix3 s r d)).trans ?_
  refine congrArg (entry m c main_v1) (funext fun a => Fin.ext ?_)
  refine (Pipeline.Window.rect_emb_val _ _ _ _).trans ?_
  show cc0_transform_3 (grid0.coords t) a * (![4, 1024, 256] : Fin 3 → ℕ) a + _ = _
  rw [idx0_3 t]
  match a with
  | ⟨0, _⟩ => show (grid0.coords t 1).val * 4 + s.val = 4 * (grid0.coords t 1).val + s.val; omega
  | ⟨1, _⟩ => show 0 * 1024 + r.val = r.val; omega
  | ⟨2, _⟩ => show 0 * 256 + d.val = d.val; omega

theorem block_w7 (m : (ℓ : Loc nD τ sig) → Buf (Elt F) ℓ) (c : Dev nD) (t : Fin grid0.N) (s : Fin 4) (r : Fin 256) (d : Fin 1024) :
    blockAt m c 4 t (ix3 s r d) = entry m c main_v2 (ix3 (eAt (grid0.coords t) s) r d) := by
  unfold blockAt
  refine (Pipeline.Window.fill_xinj (win0 (tables m) 4) (grid0.coords t) _ _ (ix3 s r d)).trans ?_
  refine congrArg (entry m c main_v2) (funext fun a => Fin.ext ?_)
  refine (Pipeline.Window.rect_emb_val _ _ _ _).trans ?_
  show cc0_transform_4 (grid0.coords t) a * (![4, 256, 1024] : Fin 3 → ℕ) a + _ = _
  rw [idx0_4 t]
  match a with
  | ⟨0, _⟩ => show (grid0.coords t 1).val * 4 + s.val = 4 * (grid0.coords t 1).val + s.val; omega
  | ⟨1, _⟩ => show 0 * 256 + r.val = r.val; omega
  | ⟨2, _⟩ => show 0 * 1024 + d.val = d.val; omega

theorem entry_x (m : (ℓ : Loc nD τ sig) → Buf (Elt F) ℓ) (c : Dev nD) : entry m c main_arg1 = m ((c.tc : Thread nD τ).loc main_arg1) := rfl
theorem entry_g (m : (ℓ : Loc nD τ sig) → Buf (Elt F) ℓ) (c : Dev nD) : entry m c main_arg2 = m ((c.tc : Thread nD τ).loc main_arg2) := rfl
theorem entry_w5 (m : (ℓ : Loc nD τ sig) → Buf (Elt Ideal) ℓ) (c : Dev nD) (j) : entry m c main_v0 j = m ((c.tc : Thread nD τ).loc main_arg3) j := rfl
theorem entry_w6 (m : (ℓ : Loc nD τ sig) → Buf (Elt Ideal) ℓ) (c : Dev nD) (j) : entry m c main_v1 j = m ((c.tc : Thread nD τ).loc main_arg4) j := rfl
theorem entry_w7 (m : (ℓ : Loc nD τ sig) → Buf (Elt Ideal) ℓ) (c : Dev nD) (j) : entry m c main_v2 j = m ((c.tc : Thread nD τ).loc main_arg5) j := rfl

end Cert.Proof

end
-- ==== Proof.Total.lean ====
/-
  The kernel's result over the extended reals: of a table that holds runs and gates that vanish outside them, every output
  element is the sum of all experts' terms of its row.
-/
module

public import proofs.«01_k».proof.Proof.Point
public import proofs.«01_k».proof.Proof.Blocks
public import Idealize.ShloMosaic.Lib.Pipeline.ArrRel

@[expose] public section

set_option maxRecDepth 8192

noncomputable section

namespace Cert.Proof

open Cert.KernelIdeal Cert.KernelIdeal.Gen
open Idealize.ShloMosaic Idealize.ShloMosaic.ValueIdx Idealize.ShloMosaic.TcCoe

/-- Row `r` of block `q` lies in the run of group `g`. -/
def InRun (U : IVec S256 32) (q : Fin 32) (g : Fin 4) (r : ℕ) : Prop :=
  (startOf U q g).toNat ≤ r ∧ r < (startOf U q g).toNat + 128 * (chunksOf U q g).toNat

/-- The group of an expert. -/
def groupOf (n : Fin 32) : Fin 4 := ⟨n.val / 8, by omega⟩

/-- A row's gates vanish for the experts of a group outside whose run it lies. -/
def GatesOK (U : IVec S256 32) (G : FVec Ideal S32x1536x128 .f32) : Prop :=
  ∀ (q : Fin 32) (r : Fin 1536) (n : Fin 32), ¬ InRun U q (groupOf n) r.val → (G (ix3 q r (laneOf n)) : EReal) = 0

/-- The term of expert `n` in an element of the result. -/
def fullTerm (X : FVec Ideal S32x1536x1024 .bf16) (G : FVec Ideal S32x1536x128 .f32) (W5 W6 : FVec Ideal S32x1024x256 .f32)
    (W7 : FVec Ideal S32x256x1024 .f32) (q : Fin 32) (r : Fin 1536) (d : Fin 1024) (n : Fin 32) : EReal :=
  termE (fun c => X (ix3 q r c)) (G (ix3 q r (laneOf n))) (fun c f => W5 (ix3 n c f)) (fun c f => W6 (ix3 n c f)) (fun f => W7 (ix3 n f d))

theorem termE_zero (x : Fin 1024 → EReal) (wg wu : Fin 1024 → Fin 256 → EReal) (wd : Fin 256 → EReal) : termE x 0 wg wu wd = 0 := by
  unfold termE
  exact Finset.sum_eq_zero fun f _ => by rw [mul_zero, zero_mul]

/-- The sum of the first `4 e` experts' terms, four at a time. -/
def partSum (f : ℕ → EReal) : ℕ → EReal
  | 0 => 0
  | e + 1 => partSum f e + f (4 * e) + f (4 * e + 1) + f (4 * e + 2) + f (4 * e + 3)

theorem partSum_eq (f : ℕ → EReal) (e : ℕ) : partSum f e = ∑ i ∈ Finset.range (4 * e), f i := by
  induction e with
  | zero => rfl
  | succ e ih =>
    show partSum f e + f (4 * e) + f (4 * e + 1) + f (4 * e + 2) + f (4 * e + 3) = _
    rw [ih, show 4 * (e + 1) = 4 * e + 1 + 1 + 1 + 1 by ring, Finset.sum_range_succ, Finset.sum_range_succ, Finset.sum_range_succ, Finset.sum_range_succ]

section
variable (m : (ℓ : Loc nD τ sig) → Buf (Elt Ideal) ℓ)

/-- The term of expert `n` in an element of the result, of the launch memory. -/
def memTerm (q : Fin 32) (r : Fin 1536) (d : Fin 1024) (n : ℕ) : EReal :=
  fullTerm (m (((0 : Dev nD).tc : Thread nD τ).loc main_arg1)) (m (((0 : Dev nD).tc : Thread nD τ).loc main_arg2))
    (m (((0 : Dev nD).tc : Thread nD τ).loc main_arg3)) (m (((0 : Dev nD).tc : Thread nD τ).loc main_arg4))
    (m (((0 : Dev nD).tc : Thread nD τ).loc main_arg5)) q r d (Fin.ofNat 32 n)

/-- The grid's second coordinate, as a number below 8. -/
def colAt (i : grid0.Coords) : Fin 8 := ⟨(i 1).val, (i 1).isLt⟩

theorem block_term (t : Fin grid0.N) (s : Fin 2) (r : Fin 1536) (d : Fin 1024) (k : Fin 4) :
    blockTerm (colAt (grid0.coords t)) (blockAt m 0 2 t) (blockAt m 0 3 t) (blockAt m 0 4 t)
        (fun c => blockAt m 0 0 t (ix3 s r c)) (fun l => blockAt m 0 1 t (ix3 s r l)) d k
      = memTerm m (seqAt (grid0.coords t) s) r d (4 * (colAt (grid0.coords t)).val + k.val) := by
  have he : (Fin.ofNat 32 (4 * (colAt (grid0.coords t)).val + k.val)) = eAt (grid0.coords t) k := by
    apply Fin.ext
    show (4 * (grid0.coords t 1).val + k.val) % 32 = 4 * (grid0.coords t 1).val + k.val
    have : (grid0.coords t 1).val < 8 := (grid0.coords t 1).isLt
    omega
  unfold blockTerm memTerm fullTerm
  rw [he]
  congr 1
  · funext c; exact block_x m 0 t s r c
  · exact block_g m 0 t s r _
  · funext c f; exact (block_w5 m 0 t k c f).trans (entry_w5 m 0 _)
  · funext c f; exact (block_w6 m 0 t k c f).trans (entry_w6 m 0 _)
  · funext f; exact (block_w7 m 0 t k f d).trans (entry_w7 m 0 _)

theorem inRun_words (U : IVec S256 32) (q : Fin 32) (g : Fin 4) (r : ℕ) (s : Fin 13) (k : Fin 13)
    (hs : startOf U q g = BitVec.ofNat 32 (128 * s.val)) (hk : chunksOf U q g = BitVec.ofNat 32 k.val) :
    InRun U q g r ↔ 128 * s.val ≤ r ∧ r < 128 * s.val + 128 * k.val := by
  unfold InRun
  rw [hs, hk, BitVec.toNat_ofNat, BitVec.toNat_ofNat, Nat.mod_eq_of_lt (by omega), Nat.mod_eq_of_lt (by omega)]

theorem mem_term_zero (hG : GatesOK (runTable m) (m (((0 : Dev nD).tc : Thread nD τ).loc main_arg2))) (i : grid0.Coords) (s : Fin 2)
    (r : Fin 1536) (d : Fin 1024) (k : ℕ) (hk : k < 4) (h : ¬ InRun (runTable m) (seqAt i s) (groupAt i) r.val) :
    memTerm m (seqAt i s) r d (4 * (colAt i).val + k) = 0 := by
  have hg : groupOf (Fin.ofNat 32 (4 * (colAt i).val + k)) = groupAt i := by
    apply Fin.ext
    show (4 * (i 1).val + k) % 32 / 8 = (i 1).val / 2
    have : (i 1).val < 8 := (i 1).isLt
    omega
  unfold memTerm fullTerm
  rw [hG _ _ _ (by rw [hg]; exact h)]
  exact termE_zero _ _ _ _

theorem stepAt_apply (hU : ∀ q g, RunOK (startOf (runTable m) q g) (chunksOf (runTable m) q g))
    (hG : GatesOK (runTable m) (m (((0 : Dev nD).tc : Thread nD τ).loc main_arg2))) (t : Fin grid0.N) (Y : Vec Ideal S2x1536x1024 .f32)
    (s : Fin 2) (r : Fin 1536) (d : Fin 1024) :
    stepAt m 0 t Y (ix3 s r d)
      = step1 (grid0.coords t) Y (ix3 s r d) + memTerm m (seqAt (grid0.coords t) s) r d (4 * (colAt (grid0.coords t)).val)
        + memTerm m (seqAt (grid0.coords t) s) r d (4 * (colAt (grid0.coords t)).val + 1)
        + memTerm m (seqAt (grid0.coords t) s) r d (4 * (colAt (grid0.coords t)).val + 2)
        + memTerm m (seqAt (grid0.coords t) s) r d (4 * (colAt (grid0.coords t)).val + 3) := by
  unfold stepAt stepBody
  rw [word_start0, word_start1, word_chunks0, word_chunks1]
  obtain ⟨s0, k0, h0, es0, ek0⟩ := hU (seqAt (grid0.coords t) 0) (groupAt (grid0.coords t))
  obtain ⟨s1, k1, h1, es1, ek1⟩ := hU (seqAt (grid0.coords t) 1) (groupAt (grid0.coords t))
  have key := stepWords_eq (colAt (grid0.coords t)) (blockAt m 0 0 t) (blockAt m 0 1 t) (blockAt m 0 2 t) (blockAt m 0 3 t) (blockAt m 0 4 t)
    s0 k0 h0 s1 k1 h1 (step1 (grid0.coords t) Y)
  rw [es0, ek0, es1, ek1]
  refine (congrFun key (ix3 s r d)).trans ?_
  by_cases hc : twoRuns s0.val k0.val s1.val k1.val s.val r.val
  · refine (if_pos hc).trans ?_
    unfold addFour
    exact congrArg₂ _ (congrArg₂ _ (congrArg₂ _ (congrArg₂ _ rfl (block_term m t s r d 0)) (block_term m t s r d 1)) (block_term m t s r d 2)) (block_term m t s r d 3)
  · refine (if_neg hc).trans ?_
    have hn : ¬ InRun (runTable m) (seqAt (grid0.coords t) s) (groupAt (grid0.coords t)) r.val := by
      intro hr
      apply hc
      have hs2 : s = 0 ∨ s = 1 := by
        rcases s with ⟨v, hv⟩
        rcases (by omega : v = 0 ∨ v = 1) with rfl | rfl
        · exact .inl rfl
        · exact .inr rfl
      rcases hs2 with rfl | rfl
      · exact .inl ⟨rfl, (inRun_words _ _ _ _ s0 k0 es0 ek0).1 hr⟩
      · exact .inr ⟨rfl, (inRun_words _ _ _ _ s1 k1 es1 ek1).1 hr⟩
    have e0 := mem_term_zero m hG (grid0.coords t) s r d 0 (by omega) hn
    rw [Nat.add_zero] at e0
    rw [e0, mem_term_zero m hG (grid0.coords t) s r d 1 (by omega) hn, mem_term_zero m hG (grid0.coords t) s r d 2 (by omega) hn,
      mem_term_zero m hG (grid0.coords t) s r d 3 (by omega) hn]
    simp only [add_zero]

theorem first_col : ∀ t : Fin grid0.N, k0_cond1 (grid0.coords t) = 1#1 ↔ (grid0.coords t 1).val = 0 := by decide +kernel

theorem step1_first (t : Fin grid0.N) (h : (grid0.coords t 1).val = 0) (Y : Vec Ideal S2x1536x1024 .f32) (j : S2x1536x1024.Idx) :
    step1 (grid0.coords t) Y j = 0 := by
  unfold step1
  rw [if_pos ((first_col t).2 h)]
  exact zero_word

theorem step1_later (t : Fin grid0.N) (h : (grid0.coords t 1).val ≠ 0) (Y : Vec Ideal S2x1536x1024 .f32) : step1 (grid0.coords t) Y = Y := by
  unfold step1
  rw [if_neg (fun hc => h ((first_col t).1 hc))]

theorem prev_point : ∀ t : Fin grid0.N, (grid0.coords t 1).val ≠ 0 → t.val ≠ 0 ∧
    (grid0.coords ⟨t.val - 1, Nat.lt_of_le_of_lt (Nat.sub_le _ _) t.isLt⟩ 0).val = (grid0.coords t 0).val ∧
    (grid0.coords ⟨t.val - 1, Nat.lt_of_le_of_lt (Nat.sub_le _ _) t.isLt⟩ 1).val + 1 = (grid0.coords t 1).val := by decide +kernel

theorem next_same : ∀ t : Fin grid0.N, (grid0.coords t 1).val ≠ 0 → (h : t.val - 1 + 1 < grid0.N) →
    cc0_transform_5 (grid0.coords ⟨t.val - 1 + 1, h⟩) = cc0_transform_5 (grid0.coords ⟨t.val - 1, Nat.lt_of_le_of_lt (Nat.sub_le _ _) t.isLt⟩) := by
  decide +kernel

theorem no_flush (t : Fin grid0.N) (h : (grid0.coords t 1).val ≠ 0) :
    (win0 (tables m) 5).flush ⟨t.val - 1, Nat.lt_of_le_of_lt (Nat.sub_le _ _) t.isLt⟩ = false := by
  have hp := (prev_point t h).1
  unfold Pipeline.Window.flush
  have h1 : ¬ (t.val - 1 + 1 = grid0.N) := by have := t.isLt; omega
  rw [show (decide ((⟨t.val - 1, Nat.lt_of_le_of_lt (Nat.sub_le _ _) t.isLt⟩ : Fin grid0.N).val + 1 = grid0.N)) = false from decide_eq_false h1,
    decide_eq_false (fun ⟨hlt, hne⟩ => hne (next_same t h hlt))]
  exact Bool.and_false _

/-- What the output block holds after a grid point: the terms of the experts so far. -/
theorem leaves_eq (hU : ∀ q g, RunOK (startOf (runTable m) q g) (chunksOf (runTable m) q g))
    (hG : GatesOK (runTable m) (m (((0 : Dev nD).tc : Thread nD τ).loc main_arg2))) (n : ℕ) : ∀ (t : Fin grid0.N), (grid0.coords t 1).val = n →
    ∀ Z, (rdat m 0).Leaves 5 t Z → ∀ (s : Fin 2) (r : Fin 1536) (d : Fin 1024),
      Z (ix3 s r d) = partSum (memTerm m (seqAt (grid0.coords t) s) r d) (n + 1) := by
  induction n with
  | zero =>
    intro t ht Z hZ s r d
    obtain ⟨Y, -, hZY⟩ := hZ
    have hZY' : Z = stepAt m 0 t Y := hZY
    refine (congrFun hZY' (ix3 s r d)).trans ((stepAt_apply m hU hG t Y s r d).trans ?_)
    have h1 : step1 (F := Ideal) (grid0.coords t) Y (ix3 s r d) = 0 := step1_first t ht Y (ix3 s r d)
    rw [h1, show (colAt (grid0.coords t)).val = 0 from ht]
    rfl
  | succ n ih =>
    intro t ht Z hZ s r d
    obtain ⟨Y, hY, hZY⟩ := hZ
    have hZY' : Z = stepAt m 0 t Y := hZY
    have hne : (grid0.coords t 1).val ≠ 0 := by omega
    obtain ⟨hp, hq, he⟩ := prev_point t hne
    have hL := ((rdat m 0).finds_of_pos (w := 5) (t := t) rfl hp Y).1 hY
    have hL' := hL.resolve_left (fun hf => Bool.false_ne_true ((no_flush m t hne).symm.trans hf))
    have hY' := ih _ (by omega) Y hL' s r d
    have hseq : seqAt (grid0.coords ⟨t.val - 1, Nat.lt_of_le_of_lt (Nat.sub_le _ _) t.isLt⟩) s = seqAt (grid0.coords t) s := by
      apply Fin.ext
      show 2 * _ + s.val = 2 * _ + s.val
      rw [hq]
    rw [hseq] at hY'
    refine (congrFun hZY' (ix3 s r d)).trans ((stepAt_apply m hU hG t Y s r d).trans ?_)
    have h1 : step1 (F := Ideal) (grid0.coords t) Y = Y := step1_later t hne Y
    rw [h1, hY', show (colAt (grid0.coords t)).val = n + 1 from ht]
    rfl

/-- The result array: in every element, the terms of all experts. -/
def fullSum : FVec Ideal S32x1536x1024 .f32 := fun j => ∑ n : Fin 32,
  fullTerm (m (((0 : Dev nD).tc : Thread nD τ).loc main_arg1)) (m (((0 : Dev nD).tc : Thread nD τ).loc main_arg2))
    (m (((0 : Dev nD).tc : Thread nD τ).loc main_arg3)) (m (((0 : Dev nD).tc : Thread nD τ).loc main_arg4))
    (m (((0 : Dev nD).tc : Thread nD τ).loc main_arg5)) (j 0) (j 1) (j 2) n

theorem partSum_full (q : Fin 32) (r : Fin 1536) (d : Fin 1024) : partSum (memTerm m q r d) 8 = fullSum m (ix3 q r d) := by
  rw [partSum_eq]
  refine (Fin.sum_univ_eq_sum_range (memTerm m q r d) 32).symm.trans ?_
  refine Finset.sum_congr rfl fun n _ => ?_
  unfold memTerm
  rw [show Fin.ofNat 32 n.val = n from Fin.ext (Nat.mod_eq_of_lt n.isLt)]

theorem last_col_or : ∀ t : Fin grid0.N, (grid0.coords t 1).val = 7 ∨ ∃ h : t.val + 1 < grid0.N,
    cc0_transform_5 (grid0.coords ⟨t.val + 1, h⟩) = cc0_transform_5 (grid0.coords t) := by decide +kernel

theorem last_col : ∀ t : Fin grid0.N, (grid0.coords t 1).val = 7 → ∀ h : t.val + 1 < grid0.N,
    cc0_transform_5 (grid0.coords ⟨t.val + 1, h⟩) ≠ cc0_transform_5 (grid0.coords t) := by decide +kernel

theorem flush_last (t : Fin grid0.N) (h : (win0 (tables m) 5).flush t = true) : (grid0.coords t 1).val = 7 := by
  rcases last_col_or t with h7 | ⟨hlt, he⟩
  · exact h7
  · exfalso
    unfold Pipeline.Window.flush at h
    rw [decide_eq_false (show ¬ (t.val + 1 = grid0.N) by omega), decide_eq_false (fun ⟨_, hne⟩ => hne he)] at h
    exact Bool.false_ne_true ((Bool.and_false _).symm.trans h)

theorem last_flush (t : Fin grid0.N) (h : (grid0.coords t 1).val = 7) : (win0 (tables m) 5).flush t = true := by
  unfold Pipeline.Window.flush
  refine (Bool.true_and _).trans ?_
  by_cases hN : t.val + 1 = grid0.N
  · rw [decide_eq_true hN]; rfl
  · have hlt : t.val + 1 < grid0.N := by have := t.isLt; omega
    rw [Bool.or_eq_true]
    exact .inr (decide_eq_true ⟨hlt, last_col t h hlt⟩)

theorem emb_out (t : Fin grid0.N) (s : Fin 2) (r : Fin 1536) (d : Fin 1024) :
    ((win0 (tables m) 5).blk t).view.emb (ix3 s r d) = ix3 (seqAt (grid0.coords t) s) r d := by
  funext a
  apply Fin.ext
  refine (Pipeline.Window.rect_emb_val _ _ _ _).trans ?_
  show cc0_transform_5 (grid0.coords t) a * (![2, 1536, 1024] : Fin 3 → ℕ) a + _ = _
  rw [idx0_5 t]
  match a with
  | ⟨0, _⟩ => show (grid0.coords t 0).val * 2 + s.val = 2 * (grid0.coords t 0).val + s.val; omega
  | ⟨1, _⟩ => show 0 * 1536 + r.val = r.val; omega
  | ⟨2, _⟩ => show 0 * 1024 + d.val = d.val; omega

theorem point_of : ∀ q : Fin 32, ∃ t : Fin grid0.N, (grid0.coords t 0).val = q.val / 2 ∧ (grid0.coords t 1).val = 7 := by decide +kernel

theorem result_eq (hU : ∀ q g, RunOK (startOf (runTable m) q g) (chunksOf (runTable m) q g))
    (hG : GatesOK (runTable m) (m (((0 : Dev nD).tc : Thread nD τ).loc main_arg2)))
    (r : PUnit × MemSt nD τ sig (Elt Ideal)) (h : Pipeline.RDat.FramePost (cfg0 (tables m)) (rdat m) (entry m) r) :
    r.2.mem (((0 : Dev nD).tc : Thread nD τ).loc main_v3) = fullSum m := by
  obtain ⟨after, hL, hA⟩ := h.exists_exact 0
  refine (hA 5).trans ?_
  refine Pipeline.Dat.arrAt_eq_of_emb ((rdat m 0).withAfter after) (5 : Fin 6) (fullSum m) (fun t hf y => ?_) (fun i => ?_)
  · obtain ⟨s, r', d, rfl⟩ : ∃ (s : Fin 2) (r' : Fin 1536) (d : Fin 1024), y = ix3 s r' d := ⟨y 0, y 1, y 2, eq_ix3 (n0 := 2) (n1 := 1536) (n2 := 1024) y⟩
    have h7 := flush_last m t hf
    have hz := leaves_eq m hU hG 7 t h7 _ (hL 5 t hf) s r' d
    refine Eq.trans ?_ ((hz.trans (partSum_full m _ r' d)).trans (congrArg (fullSum m) (emb_out m t s r' d).symm))
    rfl
  · obtain ⟨t, hq, h7⟩ := point_of (i 0)
    refine ⟨t, last_flush m t h7, ?_⟩
    have he : i = ((win0 (tables m) 5).blk t).view.emb (ix3 (⟨(i 0).val % 2, by omega⟩ : Fin 2) (i 1 : Fin 1536) (i 2 : Fin 1024)) := by
      refine Eq.trans ?_ (emb_out m t _ _ _).symm
      refine (eq_ix3 (n0 := 32) (n1 := 1536) (n2 := 1024) i).trans ?_
      congr 1
      apply Fin.ext
      show (i 0).val = 2 * (grid0.coords t 0).val + (i 0).val % 2
      omega
    rw [he]
    exact View.emb_mem_set _ _
end

end Cert.Proof

end
-- ==== Proof.Gates.lean ====
/-
  The precondition's second half over the extended reals: an expert's gate is zero at the rows outside its group's run.
-/
module

public import proofs.«01_k».proof.Proof.Total

@[expose] public section

set_option maxRecDepth 8192

noncomputable section

namespace Cert.Proof

open Idealize.ShloMosaic Idealize.ShloMosaic.ValueIdx

section words

theorem toInt_small (a : ℕ) (h : a < 2 ^ 31) : (BitVec.ofNat 32 a).toInt = a := by
  rw [BitVec.toInt_eq_toNat_cond, BitVec.toNat_ofNat]
  have : a % 2 ^ 32 = a := by omega
  rw [this, if_pos (by omega)]

/-- A row outside a run is before its first row or not before its end. -/
theorem outside_word (s k : Fin 13) (r : Fin 1536) (h : ¬ (128 * s.val ≤ r.val ∧ r.val < 128 * s.val + 128 * k.val)) :
    IntOp.ori (IntOp.cmpi .slt (BitVec.ofNat 32 r.val) (BitVec.ofNat 32 (128 * s.val)))
      (IntOp.cmpi .sge (BitVec.ofNat 32 r.val) (IntOp.addi (BitVec.ofNat 32 (128 * s.val)) (IntOp.muli 128#32 (BitVec.ofNat 32 k.val)))) = 1#1 := by
  have e : IntOp.addi (BitVec.ofNat 32 (128 * s.val)) (IntOp.muli 128#32 (BitVec.ofNat 32 k.val)) = BitVec.ofNat 32 (128 * s.val + 128 * k.val) := by
    show BitVec.ofNat 32 (128 * s.val) + BitVec.ofNat 32 128 * BitVec.ofNat 32 k.val = _
    rw [← BitVec.ofNat_mul, ← BitVec.ofNat_add]
  rw [e]
  by_cases h1 : r.val < 128 * s.val
  · have a : IntOp.cmpi .slt (BitVec.ofNat 32 r.val) (BitVec.ofNat 32 (128 * s.val)) = 1#1 :=
      IntOp.cmpi_slt.2 (by rw [toInt_small _ (by omega), toInt_small _ (by omega)]; omega)
    rw [a]
    exact (by decide : ∀ b : BitVec 1, IntOp.ori 1#1 b = 1#1) _
  · have a : IntOp.cmpi .sge (BitVec.ofNat 32 r.val) (BitVec.ofNat 32 (128 * s.val + 128 * k.val)) = 1#1 :=
      IntOp.cmpi_sge.2 (by rw [toInt_small _ (by omega), toInt_small _ (by omega)]; omega)
    rw [a]
    exact (by decide : ∀ b : BitVec 1, IntOp.ori b 1#1 = 1#1) _

/-- A masked value that compares equal to zero is zero where the mask holds. -/
theorem gate_core {s : Shape} (a f l : IVec s 32) (x z z' : FVec Ideal s .f32) (j : s.Idx)
    (h : cmpf .oeq (select (ori (cmpi .slt a f) (cmpi .sge a l)) x z) z' j = 1#1)
    (hm : IntOp.ori (IntOp.cmpi .slt (a j) (f j)) (IntOp.cmpi .sge (a j) (l j)) = 1#1) (hz : (z' j : EReal) = 0) : (x j : EReal) = 0 := by
  have h2 : Ideal.cmp .oeq (Scalar.select (IntOp.ori (IntOp.cmpi .slt (a j) (f j)) (IntOp.cmpi .sge (a j) (l j))) (x j) (z j)) (z' j) = 1#1 := h
  rw [hm, select_one, hz] at h2
  by_contra hne
  change BitVec.ofBool (decide ((x j : EReal) = 0)) = 1#1 at h2
  rw [decide_eq_false hne] at h2
  exact absurd h2 (by decide)

end words

section
variable [Cert.Pre_routed.Facts]
open Cert.Pre_routed Cert.Pre_routed.Facts

/-- A per-group word, repeated over the group's eight experts and over the rows. -/
theorem repeat_read (A : IVec S32x4 32) (q : Fin 32) (z : Fin 1) (n : Fin 32) :
    broadcastInDim S32x1x32 ![0, 2] bcast_S32x32_S32x1x32_0_2 (shapeCast S32x32 (broadcastInDim S32x4x8 ![0, 1] bcast_S32x4_S32x4x8_0_1 A)
      shapeCasts_S32x4x8_S32x32) (ix3 q z n) = A (ix2 q (groupOf n)) := by
  rw [broadcastInDim_apply _ _ _ _ (ix2 q n) (by intro a; fin_cases a <;> rfl),
    shapeCast_apply _ _ (ix2 q n) (ix3 q (groupOf n) ⟨n.val % 8, by omega⟩) (by
      rw [Shape.rowMajor_val_three, Shape.rowMajor_val_two]
      show (q.val * 4 + n.val / 8) * 8 + n.val % 8 = q.val * 32 + n.val
      omega),
    broadcastInDim_apply _ _ _ _ (ix2 q (groupOf n)) (by intro a; fin_cases a <;> rfl)]

theorem rows_read (B : IVec S32x1x32 32) (q : Fin 32) (r : Fin 1536) (n : Fin 32) :
    broadcastInDim S32x1536x32 ![0, 1, 2] bcast_S32x1x32_S32x1536x32_0_1_2 B (ix3 q r n) = B (ix3 q 0 n) :=
  broadcastInDim_apply _ _ _ _ (ix3 q 0 n) (by intro a; fin_cases a <;> rfl)

theorem end_read (A C : IVec S32x1x32 32) (q : Fin 32) (r : Fin 1536) (n : Fin 32) (a c : BitVec 32) (ha : A (ix3 q 0 n) = a) (hc : C (ix3 q 0 n) = c) :
    broadcastInDim S32x1536x32 ![0, 1, 2] bcast_S32x1x32_S32x1536x32_0_1_2
      (addi A (muli (broadcastInDim S32x1x32 ![] bcast_S_S32x1x32 (constantI S_ 32 128#32)) C)) (ix3 q r n) = IntOp.addi a (IntOp.muli 128#32 c) := by
  rw [rows_read, ← ha, ← hc]
  rfl

theorem row_read (q : Fin 32) (r : Fin 1536) (n : Fin 32) :
    broadcastInDim S32x1536x32 ![0, 1, 2] bcast_S1x1536x1_S32x1536x32_0_1_2 (broadcastInDim S1x1536x1 ![1] bcast_S1536_S1x1536x1_1
      (iotaInDim S1536 32 0)) (ix3 q r n) = BitVec.ofNat 32 r.val := by
  rw [broadcastInDim_apply _ _ _ _ (ix3 0 r 0) (by intro a; fin_cases a <;> rfl),
    broadcastInDim_apply _ _ _ _ (ix1 r) (by intro a; fin_cases a; rfl)]
  rfl

theorem lane_read (G : FVec Ideal S32x1536x128 .f32) (q : Fin 32) (r : Fin 1536) (n : Fin 32) :
    extractStridedSlice S32x1536x32 ![0, 0, 0] G slices_S32x1536x128_S32x1536x32_0_0_0 (ix3 q r n) = G (ix3 q r (laneOf n)) :=
  extractStridedSlice_apply _ _ _ _ (ix3 q r (laneOf n)) (by intro a; fin_cases a <;> exact (Nat.zero_add _).symm)

/-- **The precondition's gates.** -/
theorem gates_ok (U : IVec S256 32) (X : FVec Ideal S32x1536x1024 .bf16) (G : FVec Ideal S32x1536x128 .f32) (W V : FVec Ideal S32x1024x256 .f32)
    (D : FVec Ideal S32x256x1024 .f32) (h : Cert.Pre_routed.fn (F := Ideal) U X G W V D = fun _ => 1#1) : GatesOK U G := by
  intro q r n hn
  obtain ⟨s, k, _, hs, hk⟩ := runs_ok U X G W V D h q (groupOf n)
  rw [inRun_words U q (groupOf n) r.val s k hs hk] at hn
  have h0 := congrFun h (ix3 q r n)
  dsimp only [Cert.Pre_routed.fn, Cert.Pre_routed.fn_part1, Cert.Pre_routed.fn_part2, Cert.Pre_routed.fn_where] at h0
  have h1 := (IntOp.andi_eq_one.1 h0).2
  have h3 := gate_core _ _ _ _ _ _ _ h1
  clear h1 h0 h
  refine (lane_read G q r n).symm.trans (h3 ?_ zero_word)
  clear h3
  have hf := (repeat_read _ q 0 n).trans ((start_read U q (groupOf n)).trans hs)
  have hc := (repeat_read _ q 0 n).trans ((chunks_read U q (groupOf n)).trans hk)
  have he := end_read _ _ q r n _ _ hf hc
  exact (congrArg₂ IntOp.ori (congrArg₂ (IntOp.cmpi .slt) (row_read q r n) ((rows_read _ q r n).trans hf))
    (congrArg₂ (IntOp.cmpi .sge) (row_read q r n) he)).trans (outside_word s k r hn)

end

end Cert.Proof

end
-- ==== Proof.Ref.lean ====
/-
  The reference's result over the extended reals: at a row and an output position, the sum of all 32 experts' terms.
-/
module

public import proofs.«01_k».proof.Proof.Total
public import proofs.«01_k».proof.Proof.Gen.ReferenceIdeal.Read
public import Idealize.ShloMosaic.Lib.TwoAxisContraction

@[expose] public section

set_option maxRecDepth 8192

noncomputable section

namespace Cert.Proof

open Cert.ReferenceIdeal Cert.ReferenceIdeal.Gen Cert.ReferenceIdeal.Read
open Idealize.ShloMosaic Idealize.ShloMosaic.ValueIdx

theorem one_word : (Ideal.ofBits .f32 0x3F800000#32 : EReal) = 1 := by
  simp [Ideal.ofBits, Ideal.ieee, -EReal.coe_mul]; norm_num

theorem exp_nonneg (x : EReal) : 0 ≤ Ideal.exp x := by
  induction x with
  | bot => exact le_refl _
  | top => exact le_top
  | coe r => exact EReal.coe_nonneg.2 (Real.exp_pos r).le

/-- The reference's spelling of `x · σ(x)` is the kernel's. -/
theorem silu_same (x : EReal) :
    x * Ideal.div (Ideal.ofBits .f32 0x3F800000#32) (Ideal.ofBits .f32 0x3F800000#32 + Ideal.exp (-x)) = siluE x := by
  unfold siluE
  rw [one_word, zero_word, zero_sub]
  have h : (1 : EReal) + Ideal.exp (-x) ≠ 0 := by
    have : (1 : EReal) ≤ 1 + Ideal.exp (-x) := le_add_of_nonneg_right (exp_nonneg _)
    exact (lt_of_lt_of_le zero_lt_one this).ne'
  rw [Ideal.div, Ideal.div, if_neg h, if_neg h, one_mul]

/-- The last product's dimension numbers. -/
abbrev outDims : DotDims S32x1536x32x256 S32x256x1024 S32x1536x1024 := dot_S32x1536x32x256_S32x256x1024_S32x1536x1024_23_01_01_2_n_n

/-- The last product, over experts and hidden positions. -/
theorem down_read (L : FVec Ideal S32x1536x32x256 .f32) (R : FVec Ideal S32x256x1024 .f32) (q : Fin 32) (r : Fin 1536) (d : Fin 1024) :
    Host.dotGeneral outDims none L R (ix3 q r d) = ∑ n : Fin 32, ∑ f : Fin 256, L (ix4 q r n f) * R (ix3 n f d) := by
  simp only [Host.dotGeneral]
  have hr : (DotDims.contr outDims).rank = 2 := rfl
  have c0 : (DotDims.contr outDims).size ⟨0, by rw [hr]; omega⟩ = 32 := rfl
  have c1 : (DotDims.contr outDims).size ⟨1, by rw [hr]; omega⟩ = 256 := rfl
  rw [Ideal.dotGeneral_apply, ← Equiv.sum_comp (contrEquiv2 outDims 32 256 hr c0 c1).symm, Fintype.sum_prod_type]
  refine Finset.sum_congr rfl fun n _ => Finset.sum_congr rfl fun f _ => ?_
  have h0 := contrEquiv2_symm_val0 outDims 32 256 hr c0 c1 (n, f)
  have h1 := contrEquiv2_symm_val1 outDims 32 256 hr c0 c1 (n, f)
  have el : DotDims.lhsIdx outDims (ix3 q r d) ((contrEquiv2 outDims 32 256 hr c0 c1).symm (n, f)) = ix4 q r n f := by
    funext a; apply Fin.ext
    match a with
    | ⟨0, _⟩ => rfl
    | ⟨1, _⟩ => rfl
    | ⟨2, _⟩ => exact h0
    | ⟨3, _⟩ => exact h1
  have er : DotDims.rhsIdx outDims (ix3 q r d) ((contrEquiv2 outDims 32 256 hr c0 c1).symm (n, f)) = ix3 n f d := by
    funext a; apply Fin.ext
    match a with
    | ⟨0, _⟩ => exact h0
    | ⟨1, _⟩ => exact h1
    | ⟨2, _⟩ => rfl
  rw [el, er]

variable (X : FVec Ideal S32x1536x1024 .bf16) (G : FVec Ideal S32x1536x128 .f32) (W5 W6 : FVec Ideal S32x1024x256 .f32)
  (W7 : FVec Ideal S32x256x1024 .f32)

theorem lidx1_eq (q : Fin 32) (r : Fin 1536) (n : Fin 32) (f : Fin 256) (k : Fin 1024) : lidx_main_v1 (ix4 q r n f) k = ix3 q r k := by
  funext a
  match a with
  | ⟨0, _⟩ => rfl
  | ⟨1, _⟩ => rfl
  | ⟨2, _⟩ => rfl

theorem ridx1_eq (q : Fin 32) (r : Fin 1536) (n : Fin 32) (f : Fin 256) (k : Fin 1024) : ridx_main_v1 (ix4 q r n f) k = ix3 n k f := by
  funext a
  match a with
  | ⟨0, _⟩ => rfl
  | ⟨1, _⟩ => rfl
  | ⟨2, _⟩ => rfl

theorem lidx3_eq (q : Fin 32) (r : Fin 1536) (n : Fin 32) (f : Fin 256) (k : Fin 1024) : lidx_main_v3 (ix4 q r n f) k = ix3 q r k := by
  funext a
  match a with
  | ⟨0, _⟩ => rfl
  | ⟨1, _⟩ => rfl
  | ⟨2, _⟩ => rfl

theorem ridx3_eq (q : Fin 32) (r : Fin 1536) (n : Fin 32) (f : Fin 256) (k : Fin 1024) : ridx_main_v3 (ix4 q r n f) k = ix3 n k f := by
  funext a
  match a with
  | ⟨0, _⟩ => rfl
  | ⟨1, _⟩ => rfl
  | ⟨2, _⟩ => rfl

theorem gate_read (q : Fin 32) (r : Fin 1536) (n : Fin 32) (f : Fin 256) : val_main_v7 (F := Ideal) G (ix4 q r n f) = G (ix3 q r (laneOf n)) := by
  rw [val_main_v7_apply, val_main_v6_apply, val_main_v5_apply]
  refine congrArg G (funext fun a => ?_)
  match a with
  | ⟨0, _⟩ => rfl
  | ⟨1, _⟩ => rfl
  | ⟨2, _⟩ => rfl

theorem proj1_read (q : Fin 32) (r : Fin 1536) (n : Fin 32) (f : Fin 256) :
    val_main_v1 (F := Ideal) X W5 (ix4 q r n f) = ∑ c : Fin 1024, (X (ix3 q r c) : EReal) * W5 (ix3 n c f) := by
  rw [val_main_v1_apply]
  refine Finset.sum_congr rfl fun k _ => ?_
  rw [lidx1_eq, ridx1_eq]
  rfl

theorem proj3_read (q : Fin 32) (r : Fin 1536) (n : Fin 32) (f : Fin 256) :
    val_main_v3 (F := Ideal) X W6 (ix4 q r n f) = ∑ c : Fin 1024, (X (ix3 q r c) : EReal) * W6 (ix3 n c f) := by
  rw [val_main_v3_apply]
  refine Finset.sum_congr rfl fun k _ => ?_
  rw [lidx3_eq, ridx3_eq]
  rfl

theorem silu_read (i : S32x1536x32x256.Idx) :
    val_main_v2 (F := Ideal) X W5 i = siluE (val_main_v1 (F := Ideal) X W5 i) := by
  rw [val_main_v2_apply, val_main_call0_v5_apply, val_main_call0_v4_apply, val_main_call0_cst_0_apply, val_main_call0_v3_apply,
    val_main_call0_v2_apply, val_main_call0_cst_apply, val_main_call0_v1_apply, val_main_call0_v0_apply]
  exact silu_same _

/-- **The reference's result is the sum of the experts' terms.** -/
theorem reference_read (q : Fin 32) (r : Fin 1536) (d : Fin 1024) :
    val_main_v9 (F := Ideal) X G W5 W6 W7 (ix3 q r d) = ∑ n : Fin 32, fullTerm X G W5 W6 W7 q r d n := by
  unfold val_main_v9
  rw [down_read]
  refine Finset.sum_congr rfl fun n _ => ?_
  unfold fullTerm termE
  refine Finset.sum_congr rfl fun f _ => ?_
  rw [val_main_v8_apply, val_main_v4_apply, silu_read, proj1_read, proj3_read, gate_read]
  rfl

end Cert.Proof

end
-- ==== Proof.ProjBody.lean ====
/-
  What one grid point of the input projection leaves in its two output blocks: each row normalised, times the weights.
-/
module

public import proofs.«01_k».proof.Proof.Gen.Kernel2Ideal.Value
public import Idealize.ShloMosaic.Lib.Pipeline.ValueKit.Geometry
public import Idealize.ShloMosaic.Lib.Pipeline.ValueKit.Tiles
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.PureOps.Ideal.Laws

@[expose] public section

set_option maxRecDepth 16384

noncomputable section

namespace Cert.Proof.Proj

open Cert.Kernel2Ideal Cert.Kernel2Ideal.Gen
open Idealize.ShloMosaic Idealize.ShloMosaic.ValueIdx Idealize.ShloMosaic.TcCoe

/-- Entry `c` of the row `x` over the root of its mean square, times the scale `w`. -/
def normE (x w : Fin 1024 → EReal) (c : Fin 1024) : EReal :=
  x c * Ideal.rsqrt (Ideal.div (∑ k : Fin 1024, x k * x k) (Ideal.ofBits .f32 0x44800000#32) + Ideal.ofBits .f32 0x358637BD#32) * w c

theorem row_lift (r : Fin 512) (k : Fin 1024) : reduces_S512x1024_S512.lift (ix1 r) k = ix2 r k := by
  funext a
  match a with
  | ⟨0, _⟩ => rfl
  | ⟨1, _⟩ => rfl

theorem wide_apply (v : FVec Ideal S512x1 .f32) (r : Fin 512) (c : Fin 1024) :
    broadcastTo S512x1024 v broadcasts_S512x1_S512x1024 (ix2 r c) = v (ix2 r 0) :=
  broadcastTo_apply v broadcasts_S512x1_S512x1024 (ix2 r c) (ix2 r 0) (fun a => match a with
    | ⟨0, _⟩ => by show r.val = if (512 : ℕ) = 1 then 0 else r.val; rw [if_neg (by decide)]
    | ⟨1, _⟩ => by show 0 = if (1 : ℕ) = 1 then 0 else c.val; rw [if_pos rfl])

theorem tall_apply (v : FVec Ideal S1x1024 .f32) (r : Fin 512) (c : Fin 1024) :
    broadcastTo S512x1024 v broadcasts_S1x1024_S512x1024 (ix2 r c) = v (ix2 0 c) :=
  broadcastTo_apply v broadcasts_S1x1024_S512x1024 (ix2 r c) (ix2 0 c) (fun a => match a with
    | ⟨0, _⟩ => by show 0 = if (1 : ℕ) = 1 then 0 else r.val; rw [if_pos rfl]
    | ⟨1, _⟩ => by show c.val = if (1024 : ℕ) = 1 then 0 else c.val; rw [if_neg (by decide)])

theorem sumsq_apply (v : FVec Ideal S512x1024 .f32) (r : Fin 512) :
    shapeCast S512x1 (multiReduction .add [1] S512 (mulf v v) 0x00000000#32 reduces_S512x1024_S512 (.inl rfl) rfl : FVec Ideal S512 .f32)
      shapeCasts_S512_S512x1 (ix2 r 0) = ∑ k : Fin 1024, (v (ix2 r k) : EReal) * v (ix2 r k) := by
  rw [shapeCast_a_a1_apply]
  refine (Ideal.multiReduction_add_single _ _ reduces_S512x1024_S512 _ _ (ix1 r)).trans ?_
  refine Finset.sum_congr rfl fun k _ => ?_
  exact congrArg (fun i => (v i : EReal) * v i) (row_lift r k)

/-- The normalised block, element by element. -/
theorem norm_apply (x : Vec Ideal S512x1024 .f32) (w : Vec Ideal S1x1024 .f32) (r : Fin 512) (c : Fin 1024) :
    k0_pay4 (F := Ideal) x w (ix2 r c) = normE (fun k => x (ix2 r k)) (fun k => w (ix2 0 k)) c := by
  unfold k0_pay4
  rw [shapeCast_self, shapeCast_self]
  show (x (ix2 r c) : EReal) * (broadcastTo S512x1024 _ broadcasts_S512x1_S512x1024 (ix2 r c)) * (broadcastTo S512x1024 w broadcasts_S1x1024_S512x1024 (ix2 r c)) = _
  rw [wide_apply, tall_apply]
  unfold normE
  refine congrArg (fun s : EReal => (x (ix2 r c) : EReal) * s * w (ix2 0 c)) ?_
  show Ideal.rsqrt (Ideal.div (shapeCast S512x1 _ shapeCasts_S512_S512x1 (ix2 r 0)) _ + _) = _
  rw [sumsq_apply]
  rfl

/-- A block of rows times a block of columns. -/
theorem prod_apply (h : FVec Ideal S512x1024 .bf16) (w : FVec Ideal S1024x512 .bf16) (r : Fin 512) (j : Fin 512) :
    k0_pay1 (F := Ideal) h w (ix2 r j) = ∑ c : Fin 1024, (h (ix2 r c) : EReal) * w (ix2 c j) := by
  unfold k0_pay1
  rw [shapeCast_self]
  refine (Ideal.matmul_plain_apply (M := 512) (K := 1024) (N := 512) none h w _ r j).trans ?_
  rw [constant_apply, Ideal.ofBits_zero_f32, zero_add]

theorem small_apply (x : Vec Ideal S512x1024 .f32) (w : Vec Ideal S1x1024 .f32) (ws : FVec Ideal S1024x128 .bf16) (r : Fin 512) (j : Fin 128) :
    k0_pay5 (F := Ideal) x w ws (ix2 r j) = ∑ c : Fin 1024, (k0_pay4 (F := Ideal) x w (ix2 r c) : EReal) * ws (ix2 c j) := by
  unfold k0_pay5
  rw [shapeCast_self]
  refine (Ideal.matmul_plain_apply (M := 512) (K := 1024) (N := 128) none _ ws _ r j).trans ?_
  rw [constant_apply, Ideal.ofBits_zero_f32, zero_add]

/-- The wide output block: row `r` of the normalised block times column `j` of the weights. -/
def wideOut (x : Vec Ideal S512x1024 .f32) (w : Vec Ideal S1x1024 .f32) (W : Vec Ideal S1024x5632 .bf16) : Vec Ideal S512x5632 .bf16 :=
  fun i => ∑ c : Fin 1024, (k0_pay4 (F := Ideal) x w (ix2 (i 0) c) : EReal) * W (ix2 c (i 1))

/-- A tile of 512 columns of the wide output block. -/
theorem tile_apply (x : Vec Ideal S512x1024 .f32) (w : Vec Ideal S1x1024 .f32) (W : Vec Ideal S1024x5632 .bf16) (o : ℕ)
    (hi : ∀ a, (![0, o] : Fin 2 → ℕ) a + S1024x512.size a ≤ S1024x5632.size a) (ho : ∀ a, (![0, o] : Fin 2 → ℕ) a + S512x512.size a ≤ S512x5632.size a)
    (y : (Rect.unit (s := S512x5632) ![0, o] S512x512.size ho).shape.Idx) :
    k0_pay1 (F := Ideal) (k0_pay4 x w) (View.ld W (Rect.unit (s := S1024x5632) ![0, o] S1024x512.size hi)) y
      = wideOut x w W ((Rect.unit (s := S512x5632) ![0, o] S512x512.size ho).emb y) := by
  obtain ⟨r, j, rfl⟩ : ∃ (r : Fin 512) (j : Fin 512), y = ix2 r j := ⟨y 0, y 1, eq_ix2 (n0 := 512) (n1 := 512) y⟩
  refine (prod_apply _ _ r j).trans ?_
  unfold wideOut
  refine Finset.sum_congr rfl fun c _ => ?_
  have e0 : ((Rect.unit (s := S512x5632) ![0, o] S512x512.size ho).emb (ix2 r j)) 0 = r :=
    Fin.ext ((ValueKit.rect_emb_unit_val (s := S512x5632) ![0, o] S512x512.size ho (ix2 r j) 0).trans (Nat.zero_add r.val))
  have e1 : (((Rect.unit (s := S512x5632) ![0, o] S512x512.size ho).emb (ix2 r j)) 1).val = o + j.val :=
    ValueKit.rect_emb_unit_val (s := S512x5632) ![0, o] S512x512.size ho (ix2 r j) 1
  rw [e0]
  refine congrArg ((k0_pay4 (F := Ideal) x w (ix2 r c) : EReal) * ·) ?_
  refine View.ld_unit_apply_of W _ _ hi (ix2 c j) _ (fun a => ?_)
  match a with
  | ⟨0, _⟩ => exact (Nat.zero_add _).symm
  | ⟨1, _⟩ => exact e1

theorem ld_x (x : Vec Ideal S512x1024 .f32) : View.ld x r0_0 = x := View.ld_unit_zero (by funext a; match a with | ⟨0, _⟩ => rfl | ⟨1, _⟩ => rfl) _ x
theorem ld_w (x : Vec Ideal S1x1024 .f32) : View.ld x r0_1 = x := View.ld_unit_zero (by funext a; match a with | ⟨0, _⟩ => rfl | ⟨1, _⟩ => rfl) _ x
theorem ld_s (x : Vec Ideal S1024x128 .bf16) : View.ld x r0_2 = x := View.ld_unit_zero (by funext a; match a with | ⟨0, _⟩ => rfl | ⟨1, _⟩ => rfl) _ x

/-- **The wide output block after the body.** -/
theorem out_wide (x : Vec Ideal S512x1024 .f32) (w : Vec Ideal S1x1024 .f32) (W : Vec Ideal S1024x5632 .bf16) (ws : Vec Ideal S1024x128 .bf16) :
    out0_4 (F := Ideal) x w W ws = wideOut x w W := by
  funext y
  unfold out0_4 k0_pay14
  rw [ld_x, ld_w]
  refine View.canon_apply_of_pieces (wideOut x w W) _ (fun p hp z => ?_) y (cover0_4 _ _ _ _ _ _ _ _ _ _ _ y)
  simp only [List.mem_cons, List.not_mem_nil, or_false] at hp
  rcases hp with rfl | rfl | rfl | rfl | rfl | rfl | rfl | rfl | rfl | rfl | rfl
  · exact tile_apply x w W 5120 inb_S1024x5632_S1024x512_0_5120 inb_S512x5632_S512x512_0_5120 z
  · exact tile_apply x w W 4608 inb_S1024x5632_S1024x512_0_4608 inb_S512x5632_S512x512_0_4608 z
  · exact tile_apply x w W 4096 inb_S1024x5632_S1024x512_0_4096 inb_S512x5632_S512x512_0_4096 z
  · exact tile_apply x w W 3584 inb_S1024x5632_S1024x512_0_3584 inb_S512x5632_S512x512_0_3584 z
  · exact tile_apply x w W 3072 inb_S1024x5632_S1024x512_0_3072 inb_S512x5632_S512x512_0_3072 z
  · exact tile_apply x w W 2560 inb_S1024x5632_S1024x512_0_2560 inb_S512x5632_S512x512_0_2560 z
  · exact tile_apply x w W 2048 inb_S1024x5632_S1024x512_0_2048 inb_S512x5632_S512x512_0_2048 z
  · exact tile_apply x w W 1536 inb_S1024x5632_S1024x512_0_1536 inb_S512x5632_S512x512_0_1536 z
  · exact tile_apply x w W 1024 inb_S1024x5632_S1024x512_0_1024 inb_S512x5632_S512x512_0_1024 z
  · exact tile_apply x w W 512 inb_S1024x5632_S1024x512_0_512 inb_S512x5632_S512x512_0_512 z
  · exact tile_apply x w W 0 inb_S1024x5632_S1024x512_0_0 inb_S512x5632_S512x512_0_0 z

/-- **The narrow output block after the body.** -/
theorem out_small (x : Vec Ideal S512x1024 .f32) (w : Vec Ideal S1x1024 .f32) (W : Vec Ideal S1024x5632 .bf16) (ws : Vec Ideal S1024x128 .bf16)
    (r : Fin 512) (j : Fin 128) :
    out0_5 (F := Ideal) x w W ws (ix2 r j) = ∑ c : Fin 1024, (k0_pay4 (F := Ideal) x w (ix2 r c) : EReal) * ws (ix2 c j) := by
  unfold out0_5
  rw [View.canon_unit_zero (by funext a; match a with | ⟨0, _⟩ => rfl | ⟨1, _⟩ => rfl), ld_x, ld_w, ld_s]
  exact small_apply x w ws r j

end Cert.Proof.Proj

end
-- ==== Proof.ProjHost.lean ====
/-
  What the input projection's call is handed, element by element in the arguments.
-/
module

public import proofs.«01_k».proof.Proof.ProjBody
public import Idealize.ShloMosaic.Lib.Routing.OpsSet
public import Idealize.ShloMosaic.Lib.Routing.OpsPair

@[expose] public section

set_option maxRecDepth 16384

noncomputable section

namespace Cert.Proof.Proj

open Cert.Kernel2Ideal Cert.Kernel2Ideal.Gen
open Idealize.ShloMosaic Idealize.ShloMosaic.ValueIdx Idealize.ShloMosaic.TcCoe

/-- Where column `j` of the wide result stands among the layer's columns. -/
def colOf (j : Fin 5632) : Fin 5664 :=
  if h : j.val < 1024 then ⟨j.val, by omega⟩ else if h' : j.val < 4096 then ⟨j.val + 1552, by omega⟩ else ⟨j.val - 3072, by omega⟩

theorem colOf_val (j : Fin 5632) :
    (colOf j).val = if j.val < 1024 then j.val else if j.val < 4096 then j.val + 1552 else j.val - 3072 := by
  unfold colOf
  split
  · rfl
  · split <;> rfl

section Arrays

variable (m : (ℓ : Loc nD τ sig) → Buf (Elt Ideal) ℓ) (c : Dev nD)

/-- The three arguments. -/
abbrev argX : Vec Ideal S8x4096x1024 .f32 := m ((c : Thread nD τ).loc main_arg0)
abbrev argN : Vec Ideal S1024 .f32 := m ((c : Thread nD τ).loc main_arg1)
abbrev argW : Vec Ideal S1024x5664 .f32 := m ((c : Thread nD τ).loc main_arg2)

/-- The five groups of columns beside one another. -/
def catW (X : Vec Ideal S1024x5664 .f32) : Vec Ideal S1024x5632 .f32 :=
  concatenate S1024x5632 1
    [⟨S1024x1024, (extractStridedSlice S1024x1024 ![0, 0] X slices_S1024x5664_S1024x1024_0_0 : Vec Ideal S1024x1024 .f32)⟩,
      ⟨S1024x1024, (extractStridedSlice S1024x1024 ![0, 2576] X slices_S1024x5664_S1024x1024_0_2576 : Vec Ideal S1024x1024 .f32)⟩,
      ⟨S1024x1024, (extractStridedSlice S1024x1024 ![0, 3600] X slices_S1024x5664_S1024x1024_0_3600 : Vec Ideal S1024x1024 .f32)⟩,
      ⟨S1024x1024, (extractStridedSlice S1024x1024 ![0, 4624] X slices_S1024x5664_S1024x1024_0_4624 : Vec Ideal S1024x1024 .f32)⟩,
      ⟨S1024x1536, (extractStridedSlice S1024x1536 ![0, 1024] X slices_S1024x5664_S1024x1536_0_1024 : Vec Ideal S1024x1536 .f32)⟩]
    concatenates_S1024x1024_S1024x1024_S1024x1024_S1024x1024_S1024x1536_S1024x5632_d1

/-- The two narrow groups of columns set into a zero array. -/
def setW (X : Vec Ideal S1024x5664 .f32) : Vec Ideal S1024x128 .f32 :=
  Host.scatter scatter_S1024x128_S1_S1024x16_01_n_1_0 (fun _ b => b)
    (Host.scatter scatter_S1024x128_S1_S1024x16_01_n_1_0 (fun _ b => b)
      (broadcastInDim S1024x128 ![] bcast_S_S1024x128 (constant (F := Ideal) S_ .f32 0x00000000#32))
      (broadcastInDim S1 ![] bcast_S_S1 (constantI S_ 32 0#32))
      (extractStridedSlice S1024x16 ![0, 2560] X slices_S1024x5664_S1024x16_0_2560))
    (broadcastInDim S1 ![] bcast_S_S1 (constantI S_ 32 16#32))
    (extractStridedSlice S1024x16 ![0, 5648] X slices_S1024x5664_S1024x16_0_5648)

/-- Narrowing the narrow weights changes no entry. -/
theorem cut_id (v : Vec Ideal S1024x128 .f32) : (truncf .bf16 v bitsLt_bf16_f32 : FVec Ideal S1024x128 .bf16) = v := rfl

theorem V_x : V m c main_v0 = shapeCast S32768x1024 (argX m c) shapeCasts_S8x4096x1024_S32768x1024 := by
  unfold_abbrev_sides
  after_results_simp <;> (try dsimp only [Matrix.cons_val]) <;> (try after_results_simp) <;> rfl

theorem V_n : V m c main_v16 = broadcastInDim S1x1024 ![1] bcast_S1024_S1x1024_1 (argN m c) := by
  unfold_abbrev_sides
  after_results_simp <;> (try dsimp only [Matrix.cons_val]) <;> (try after_results_simp) <;> rfl

theorem V_w : V m c main_v7 = catW (argW m c) := by
  unfold_abbrev_sides
  after_results_simp <;> (try dsimp only [Matrix.cons_val]) <;> (try after_results_simp) <;> rfl

theorem V_s : V m c main_v15 = setW (argW m c) := by
  unfold_abbrev_sides
  after_results_simp <;> (try dsimp only [Matrix.cons_val]) <;> (try after_results_simp)
  exact cut_id _

end Arrays

theorem cat_read (X : Vec Ideal S1024x5664 .f32) (k : Fin 1024) (j : Fin 5632) : catW X (ix2 k j) = X (ix2 k (colOf j)) := by
  have hv := colOf_val j
  have hj := j.isLt
  unfold catW
  by_cases h0 : j.val < 1024
  · refine (concatenate_apply_piece (t := S1024x5632) 1 _ _ (ix2 k j) 0 (by show 0 < 5; decide) S1024x1024 _ (by rfl) rfl 0 (by rfl) (ix2 k ⟨j.val - 0, by omega⟩)
      (fun b hb => ?_) ?_).trans (extractStridedSlice_apply _ X _ _ (ix2 k (colOf j)) (fun a => ?_))
    · match b, hb with
      | ⟨0, _⟩, _ => rfl
      | ⟨1, _⟩, hb => exact absurd rfl hb
    · show 0 + (j.val - 0) = j.val; omega
    · match a with
      | ⟨0, _⟩ => exact (Nat.zero_add _).symm
      | ⟨1, _⟩ => show (colOf j).val = 0 + (j.val - 0); split_ifs at hv <;> omega
  by_cases h1 : j.val < 2048
  · refine (concatenate_apply_piece (t := S1024x5632) 1 _ _ (ix2 k j) 1 (by show 1 < 5; decide) S1024x1024 _ (by rfl) rfl 1024 (by rfl) (ix2 k ⟨j.val - 1024, by omega⟩)
      (fun b hb => ?_) ?_).trans (extractStridedSlice_apply _ X _ _ (ix2 k (colOf j)) (fun a => ?_))
    · match b, hb with
      | ⟨0, _⟩, _ => rfl
      | ⟨1, _⟩, hb => exact absurd rfl hb
    · show 1024 + (j.val - 1024) = j.val; omega
    · match a with
      | ⟨0, _⟩ => exact (Nat.zero_add _).symm
      | ⟨1, _⟩ => show (colOf j).val = 2576 + (j.val - 1024); split_ifs at hv <;> omega
  by_cases h2 : j.val < 3072
  · refine (concatenate_apply_piece (t := S1024x5632) 1 _ _ (ix2 k j) 2 (by show 2 < 5; decide) S1024x1024 _ (by rfl) rfl 2048 (by rfl) (ix2 k ⟨j.val - 2048, by omega⟩)
      (fun b hb => ?_) ?_).trans (extractStridedSlice_apply _ X _ _ (ix2 k (colOf j)) (fun a => ?_))
    · match b, hb with
      | ⟨0, _⟩, _ => rfl
      | ⟨1, _⟩, hb => exact absurd rfl hb
    · show 2048 + (j.val - 2048) = j.val; omega
    · match a with
      | ⟨0, _⟩ => exact (Nat.zero_add _).symm
      | ⟨1, _⟩ => show (colOf j).val = 3600 + (j.val - 2048); split_ifs at hv <;> omega
  by_cases h3 : j.val < 4096
  · refine (concatenate_apply_piece (t := S1024x5632) 1 _ _ (ix2 k j) 3 (by show 3 < 5; decide) S1024x1024 _ (by rfl) rfl 3072 (by rfl) (ix2 k ⟨j.val - 3072, by omega⟩)
      (fun b hb => ?_) ?_).trans (extractStridedSlice_apply _ X _ _ (ix2 k (colOf j)) (fun a => ?_))
    · match b, hb with
      | ⟨0, _⟩, _ => rfl
      | ⟨1, _⟩, hb => exact absurd rfl hb
    · show 3072 + (j.val - 3072) = j.val; omega
    · match a with
      | ⟨0, _⟩ => exact (Nat.zero_add _).symm
      | ⟨1, _⟩ => show (colOf j).val = 4624 + (j.val - 3072); split_ifs at hv <;> omega
  refine (concatenate_apply_piece (t := S1024x5632) 1 _ _ (ix2 k j) 4 (by show 4 < 5; decide) S1024x1536 _ (by rfl) rfl 4096 (by rfl) (ix2 k ⟨j.val - 4096, by omega⟩)
    (fun b hb => ?_) ?_).trans (extractStridedSlice_apply _ X _ _ (ix2 k (colOf j)) (fun a => ?_))
  · match b, hb with
    | ⟨0, _⟩, _ => rfl
    | ⟨1, _⟩, hb => exact absurd rfl hb
  · show 4096 + (j.val - 4096) = j.val; omega
  · match a with
    | ⟨0, _⟩ => exact (Nat.zero_add _).symm
    | ⟨1, _⟩ => show (colOf j).val = 1024 + (j.val - 4096); split_ifs at hv <;> omega

/-- The dimension numbers of the two sets. -/
abbrev sd : ScatterDims S1024x128 S1 S1024x16 := scatter_S1024x128_S1_S1024x16_01_n_1_0

theorem sd_start0 (idx : IVec S1 32) (k : S1024x16.Idx) : sd.start k idx 0 = 0 := by
  unfold ScatterDims.start
  rw [dif_neg (by show (0 : Fin 2) ∉ [1]; decide)]

theorem sd_start1 (idx : IVec S1 32) (n : BitVec 32) (hn : ∀ i, idx i = n) (k : S1024x16.Idx) : sd.start k idx 1 = n.toInt := by
  unfold ScatterDims.start
  rw [dif_pos (by show (1 : Fin 2) ∈ [1]; decide), hn]

theorem sd_window0 (k : S1024x16.Idx) : sd.window k 0 = (k 0).val := by
  unfold ScatterDims.window
  rw [dif_pos (by decide +kernel)]
  rfl

theorem sd_window1 (k : S1024x16.Idx) : sd.window k 1 = (k 1).val := by
  unfold ScatterDims.window
  rw [dif_pos (by decide +kernel)]
  rfl

/-- Where an update lands: in its own row, as many columns on as the one word says. -/
theorem sd_lands (idx : IVec S1 32) (n : BitVec 32) (p : Nat) (hn : ∀ i, idx i = n) (hp : n.toInt = (p : Int)) (k : S1024x16.Idx)
    (r : Fin 1024) (j : Fin 128) : sd.resultIdx? k idx = some (ix2 r j) ↔ (k 0).val = r.val ∧ p + (k 1).val = j.val := by
  rw [Routing.resultIdx?_eq_some]
  constructor
  · intro h
    have h0 := h 0
    have h1 := h 1
    rw [sd_start0, sd_window0] at h0
    rw [sd_start1 idx n hn, sd_window1, hp] at h1
    change (0 : Int) + ((k 0).val : Int) = (r.val : Int) at h0
    change (p : Int) + ((k 1).val : Int) = (j.val : Int) at h1
    omega
  · rintro ⟨h0, h1⟩ a
    match a with
    | ⟨0, _⟩ =>
      show sd.start k idx 0 + (sd.window k 0 : Int) = (r.val : Int)
      rw [sd_start0, sd_window0]; omega
    | ⟨1, _⟩ =>
      show sd.start k idx 1 + (sd.window k 1 : Int) = (j.val : Int)
      rw [sd_start1 idx n hn, sd_window1, hp]; omega

theorem eq_ix2_of (k : S1024x16.Idx) (r : Fin 1024) (q : Fin 16) (h0 : (k 0).val = r.val) (h1 : (k 1).val = q.val) : k = ix2 r q := by
  funext a
  match a with
  | ⟨0, _⟩ => exact Fin.ext h0
  | ⟨1, _⟩ => exact Fin.ext h1

/-- One set read inside the columns it writes, and outside them. -/
theorem set_in (x : Vec Ideal S1024x128 .f32) (idx : IVec S1 32) (n : BitVec 32) (p : Nat) (hn : ∀ i, idx i = n) (hp : n.toInt = (p : Int))
    (u : Vec Ideal S1024x16 .f32) (r : Fin 1024) (j : Fin 128) (q : Fin 16) (hq : p + q.val = j.val) :
    Host.scatter sd (fun _ b => b) x idx u (ix2 r j) = u (ix2 r q) := by
  refine Routing.scatter_set_hit sd x idx u (ix2 r j) _ (fun k hk => ?_) (ix2 r q) ((sd_lands idx n p hn hp _ r j).2 ⟨rfl, hq⟩)
  obtain ⟨h0, h1⟩ := (sd_lands idx n p hn hp k r j).1 hk
  exact congrArg u (eq_ix2_of k r q h0 (by omega))

theorem set_out (x : Vec Ideal S1024x128 .f32) (idx : IVec S1 32) (n : BitVec 32) (p : Nat) (hn : ∀ i, idx i = n) (hp : n.toInt = (p : Int))
    (u : Vec Ideal S1024x16 .f32) (r : Fin 1024) (j : Fin 128) (hq : j.val < p ∨ p + 16 ≤ j.val) :
    Host.scatter sd (fun _ b => b) x idx u (ix2 r j) = x (ix2 r j) := by
  refine Routing.scatter_set_miss sd x idx u (ix2 r j) (fun k hk => ?_)
  obtain ⟨h0, h1⟩ := (sd_lands idx n p hn hp k r j).1 hk
  have : (k 1).val < 16 := (k 1).isLt
  omega

/-- The narrow weights: the two groups of sixteen columns, then zero. -/
theorem setW_dt (X : Vec Ideal S1024x5664 .f32) (k : Fin 1024) (j : Fin 128) (h : j.val < 16) :
    setW X (ix2 k j) = X (ix2 k ⟨j.val + 2560, by omega⟩) := by
  show Host.scatter sd _ (Host.scatter sd _ _ _ _) _ _ _ = _
  rw [set_out _ _ 16#32 16 (by intro _; rfl) (by decide) _ k j (by omega),
    set_in _ _ 0#32 0 (by intro _; rfl) (by decide) _ k j ⟨j.val, h⟩ (Nat.zero_add _)]
  refine extractStridedSlice_apply _ X _ _ _ (fun a => ?_)
  match a with
  | ⟨0, _⟩ => exact (Nat.zero_add _).symm
  | ⟨1, _⟩ => exact Nat.add_comm _ _

theorem setW_f (X : Vec Ideal S1024x5664 .f32) (k : Fin 1024) (j : Fin 128) (h : 16 ≤ j.val) (h' : j.val < 32) :
    setW X (ix2 k j) = X (ix2 k ⟨j.val + 5632, by omega⟩) := by
  show Host.scatter sd _ (Host.scatter sd _ _ _ _) _ _ _ = _
  rw [set_in _ _ 16#32 16 (by intro _; rfl) (by decide) _ k j ⟨j.val - 16, by omega⟩ (by show 16 + (j.val - 16) = _; omega)]
  refine extractStridedSlice_apply _ X _ _ _ (fun a => ?_)
  match a with
  | ⟨0, _⟩ => exact (Nat.zero_add _).symm
  | ⟨1, _⟩ => show j.val + 5632 = 5648 + (j.val - 16); omega

theorem setW_zero (X : Vec Ideal S1024x5664 .f32) (k : Fin 1024) (j : Fin 128) (h : 32 ≤ j.val) : setW X (ix2 k j) = 0 := by
  show Host.scatter sd _ (Host.scatter sd _ _ _ _) _ _ _ = _
  rw [set_out _ _ 16#32 16 (by intro _; rfl) (by decide) _ k j (by omega),
    set_out _ _ 0#32 0 (by intro _; rfl) (by decide) _ k j (by omega)]
  exact Ideal.ofBits_zero_f32

end Cert.Proof.Proj

end
-- ==== Proof.ProjTotal.lean ====
/-
  The input projection's two result arrays over the extended reals, element by element in the arguments.
-/
module

public import proofs.«01_k».proof.Proof.ProjHost
public import Idealize.ShloMosaic.Lib.Pipeline.ValueKit.Geometry
public import Idealize.ShloMosaic.Lib.Pipeline.ArrRel
public import proofs.«01_k».proof.Proof.Gen.Kernel2Ideal.Value

@[expose] public section

set_option maxRecDepth 16384

noncomputable section

namespace Cert.Proof.Proj

open Cert.Kernel2Ideal Cert.Kernel2Ideal.Gen
open Idealize.ShloMosaic Idealize.ShloMosaic.ValueIdx Idealize.ShloMosaic.TcCoe

variable (m : (ℓ : Loc nD τ sig) → Buf (Elt Ideal) ℓ) (c : Dev nD)

/-- The batch entry and the position of a row of the flattened array. -/
def batchOf (R : Fin 32768) : Fin 8 := ⟨R.val / 4096, by omega⟩
def posOf (R : Fin 32768) : Fin 4096 := ⟨R.val % 4096, by omega⟩

/-- A point's row among all rows. -/
def rowAt (t : Fin grid0.N) (r : Fin 512) : Fin 32768 :=
  ⟨(grid0.coords t 0).val * 512 + r.val, by have : (grid0.coords t 0).val < 64 := (grid0.coords t 0).isLt; omega⟩

theorem idx0 : ∀ t : Fin grid0.N, cc0_transform_0 (grid0.coords t) = ![(grid0.coords t 0).val, 0] := by decide +kernel
theorem idx1 : ∀ t : Fin grid0.N, cc0_transform_1 (grid0.coords t) = ![0, 0] := by decide +kernel
theorem idx2 : ∀ t : Fin grid0.N, cc0_transform_2 (grid0.coords t) = ![0, 0] := by decide +kernel
theorem idx3 : ∀ t : Fin grid0.N, cc0_transform_3 (grid0.coords t) = ![0, 0] := by decide +kernel
theorem idx4 : ∀ t : Fin grid0.N, cc0_transform_4 (grid0.coords t) = ![(grid0.coords t 0).val, 0] := by decide +kernel
theorem idx5 : ∀ t : Fin grid0.N, cc0_transform_5 (grid0.coords t) = ![(grid0.coords t 0).val, 0] := by decide +kernel

theorem blk_x (t : Fin grid0.N) (r : Fin 512) (k : Fin 1024) : iblk m c 0 t (ix2 r k) = V m c main_v0 (ix2 (rowAt t r) k) := by
  unfold iblk
  refine congrArg (V m c main_v0) (funext fun a => Fin.ext ?_)
  refine (Pipeline.Window.rect_emb_val _ _ _ _).trans ?_
  show cc0_transform_0 (grid0.coords t) a * (![512, 1024] : Fin 2 → ℕ) a + _ = _
  rw [idx0 t]
  match a with
  | ⟨0, _⟩ => rfl
  | ⟨1, _⟩ => show 0 * 1024 + k.val = k.val; omega

theorem blk_n (t : Fin grid0.N) (k : Fin 1024) : iblk m c 1 t (ix2 (0 : Fin 1) k) = V m c main_v16 (ix2 (0 : Fin 1) k) := by
  unfold iblk
  refine congrArg (V m c main_v16) (funext fun a => Fin.ext ?_)
  refine (Pipeline.Window.rect_emb_val _ _ _ _).trans ?_
  show cc0_transform_1 (grid0.coords t) a * (![1, 1024] : Fin 2 → ℕ) a + _ = _
  rw [idx1 t]
  match a with
  | ⟨0, _⟩ => rfl
  | ⟨1, _⟩ => show 0 * 1024 + k.val = k.val; omega

theorem blk_w (t : Fin grid0.N) (k : Fin 1024) (j : Fin 5632) : iblk m c 2 t (ix2 k j) = V m c main_v7 (ix2 k j) := by
  unfold iblk
  refine congrArg (V m c main_v7) (funext fun a => Fin.ext ?_)
  refine (Pipeline.Window.rect_emb_val _ _ _ _).trans ?_
  show cc0_transform_2 (grid0.coords t) a * (![1024, 5632] : Fin 2 → ℕ) a + _ = _
  rw [idx2 t]
  match a with
  | ⟨0, _⟩ => show 0 * 1024 + k.val = k.val; omega
  | ⟨1, _⟩ => show 0 * 5632 + j.val = j.val; omega

theorem blk_s (t : Fin grid0.N) (k : Fin 1024) (j : Fin 128) : iblk m c 3 t (ix2 k j) = V m c main_v15 (ix2 k j) := by
  unfold iblk
  refine congrArg (V m c main_v15) (funext fun a => Fin.ext ?_)
  refine (Pipeline.Window.rect_emb_val _ _ _ _).trans ?_
  show cc0_transform_3 (grid0.coords t) a * (![1024, 128] : Fin 2 → ℕ) a + _ = _
  rw [idx3 t]
  match a with
  | ⟨0, _⟩ => show 0 * 1024 + k.val = k.val; omega
  | ⟨1, _⟩ => show 0 * 128 + j.val = j.val; omega

theorem flat_read (X : Vec Ideal S8x4096x1024 .f32) (R : Fin 32768) (k : Fin 1024) :
    shapeCast S32768x1024 X shapeCasts_S8x4096x1024_S32768x1024 (ix2 R k) = X (ix3 (batchOf R) (posOf R) k) := by
  refine shapeCast_apply _ _ _ _ ?_
  rw [Shape.rowMajor_val_two, Shape.rowMajor_val_three]
  show (R.val / 4096 * 4096 + R.val % 4096) * 1024 + k.val = R.val * 1024 + k.val
  omega

theorem lane_read (N : Vec Ideal S1024 .f32) (k : Fin 1024) :
    broadcastInDim S1x1024 ![1] bcast_S1024_S1x1024_1 N (ix2 (0 : Fin 1) k) = N (ix1 k) := by
  refine broadcastInDim_apply _ _ N _ _ (fun a => ?_)
  match a with
  | ⟨0, _⟩ => rfl

/-- One entry of the normalised input. -/
def hE (X : Vec Ideal S8x4096x1024 .f32) (N : Vec Ideal S1024 .f32) (R : Fin 32768) (k : Fin 1024) : EReal :=
  normE (fun k => X (ix3 (batchOf R) (posOf R) k)) (fun k => N (ix1 k)) k

theorem norm_row (t : Fin grid0.N) (r : Fin 512) (k : Fin 1024) :
    (k0_pay4 (F := Ideal) (iblk m c 0 t) (iblk m c 1 t) (ix2 r k) : EReal) = hE (argX m c) (argN m c) (rowAt t r) k := by
  refine (norm_apply (iblk m c 0 t) (iblk m c 1 t) r k).trans ?_
  unfold hE
  refine congrFun (congrArg₂ normE (funext fun k => ?_) (funext fun k => ?_)) k
  · exact (blk_x m c t r k).trans ((congrFun (V_x m c) _).trans (flat_read _ _ k))
  · exact (blk_n m c t k).trans ((congrFun (V_n m c) _).trans (lane_read _ k))

/-- The two result arrays. -/
def wideArr : Vec Ideal S32768x5632 .bf16 := fun i => ∑ k : Fin 1024, hE (argX m c) (argN m c) (i 0) k * (argW m c (ix2 k (colOf (i 1))) : EReal)
def smallArr : Vec Ideal S32768x128 .f32 := fun i => ∑ k : Fin 1024, hE (argX m c) (argN m c) (i 0) k * (setW (argW m c) (ix2 k (i 1)) : EReal)

theorem emb4 (t : Fin grid0.N) (r : Fin 512) (j : Fin 5632) : ((cfg0.win 4).blk t).view.emb (ix2 r j) = ix2 (rowAt t r) j := by
  funext a
  apply Fin.ext
  refine (Pipeline.Window.rect_emb_val _ _ _ _).trans ?_
  show cc0_transform_4 (grid0.coords t) a * (![512, 5632] : Fin 2 → ℕ) a + _ = _
  rw [idx4 t]
  match a with
  | ⟨0, _⟩ => rfl
  | ⟨1, _⟩ => show 0 * 5632 + j.val = j.val; omega

theorem emb5 (t : Fin grid0.N) (r : Fin 512) (j : Fin 128) : ((cfg0.win 5).blk t).view.emb (ix2 r j) = ix2 (rowAt t r) j := by
  funext a
  apply Fin.ext
  refine (Pipeline.Window.rect_emb_val _ _ _ _).trans ?_
  show cc0_transform_5 (grid0.coords t) a * (![512, 128] : Fin 2 → ℕ) a + _ = _
  rw [idx5 t]
  match a with
  | ⟨0, _⟩ => rfl
  | ⟨1, _⟩ => show 0 * 128 + j.val = j.val; omega

theorem wide_at (t : Fin grid0.N) (r : Fin 512) (j : Fin 5632) :
    out0_4 (F := Ideal) (iblk m c 0 t) (iblk m c 1 t) (iblk m c 2 t) (iblk m c 3 t) (ix2 r j) = wideArr m c (ix2 (rowAt t r) j) := by
  refine (congrFun (out_wide (iblk m c 0 t) (iblk m c 1 t) (iblk m c 2 t) (iblk m c 3 t)) (ix2 r j)).trans ?_
  unfold wideOut wideArr
  refine Finset.sum_congr rfl fun k _ => ?_
  exact congrArg₂ (· * ·) (norm_row m c t r k) ((blk_w m c t k j).trans ((congrFun (V_w m c) _).trans (cat_read _ k j)))

theorem small_at (t : Fin grid0.N) (r : Fin 512) (j : Fin 128) :
    out0_5 (F := Ideal) (iblk m c 0 t) (iblk m c 1 t) (iblk m c 2 t) (iblk m c 3 t) (ix2 r j) = smallArr m c (ix2 (rowAt t r) j) := by
  refine (out_small (iblk m c 0 t) (iblk m c 1 t) (iblk m c 2 t) (iblk m c 3 t) r j).trans ?_
  unfold smallArr
  refine Finset.sum_congr rfl fun k _ => ?_
  exact congrArg₂ (· * ·) (norm_row m c t r k) ((blk_s m c t k j).trans (congrFun (V_s m c) _))

theorem wide_any (t : Fin grid0.N) (y : S512x5632.Idx) :
    out0_4 (F := Ideal) (iblk m c 0 t) (iblk m c 1 t) (iblk m c 2 t) (iblk m c 3 t) y = wideArr m c (((cfg0.win 4).blk t).view.emb y) := by
  rw [eq_ix2 (n0 := 512) (n1 := 5632) y]
  exact (wide_at m c t (y 0) (y 1)).trans (congrArg (wideArr m c) (emb4 t (y 0) (y 1)).symm)

theorem cov4 : (cfg0.win 4).Covers := by decide +kernel

theorem final_wide : (dats m 0 c).arrAt 4 cfg0.N = wideArr m c := by
  refine (dats m 0 c).arrAt_eq_of_covers 4 (wideArr m c) cov4 fun t hf y => ?_
  blk_simp
  rw [after0_4]
  exact wide_any m c t y

theorem small_any (t : Fin grid0.N) (y : S512x128.Idx) :
    out0_5 (F := Ideal) (iblk m c 0 t) (iblk m c 1 t) (iblk m c 2 t) (iblk m c 3 t) y = smallArr m c (((cfg0.win 5).blk t).view.emb y) := by
  rw [eq_ix2 (n0 := 512) (n1 := 128) y]
  exact (small_at m c t (y 0) (y 1)).trans (congrArg (smallArr m c) (emb5 t (y 0) (y 1)).symm)

theorem cov5 : (cfg0.win 5).Covers := by decide +kernel

theorem final_small : (dats m 0 c).arrAt 5 cfg0.N = smallArr m c := by
  refine (dats m 0 c).arrAt_eq_of_covers 5 (smallArr m c) cov5 fun t hf y => ?_
  blk_simp
  rw [after0_5]
  exact small_any m c t y

end Cert.Proof.Proj

end
-- ==== Proof.ProjRef.lean ====
/-
  The reference projection's two results over the extended reals are the kernel's.
-/
module

public import proofs.«01_k».proof.Proof.ProjTotal
public import proofs.«01_k».proof.Proof.Gen.Reference2Ideal.Read

@[expose] public section

set_option maxRecDepth 16384

noncomputable section

namespace Cert.Proof.Proj

open Cert.Reference2Ideal Cert.Reference2Ideal.Gen Cert.Reference2Ideal.Read
open Idealize.ShloMosaic Idealize.ShloMosaic.ValueIdx

variable (X : Vec Ideal S8x4096x1024 .f32) (N : Vec Ideal S1024 .f32) (W : Vec Ideal S1024x5664 .f32)

/-- The reference's normalised input. -/
theorem ref_norm (b : Fin 8) (s : Fin 4096) (k : Fin 1024) :
    (val_main_v12 (F := Ideal) X N (ix3 b s k) : EReal) = normE (fun k => X (ix3 b s k)) (fun k => N (ix1 k)) k := by
  rw [val_main_v12_apply, val_main_v9_apply, val_main_v8_apply, val_main_v7_apply, val_main_v6_apply, val_main_v4_apply, val_main_v3_apply,
    val_main_v5_apply, val_main_v2_apply, val_main_v1_apply, val_main_v11_apply, val_main_v10_apply, val_main_cst_apply, val_main_cst_0_apply,
    val_main_cst_1_apply]
  have z : (FloatOps.ofBits (F := Ideal) .f32 0x00000000#32 : EReal) = 0 := Ideal.ofBits_zero_f32
  rw [z, zero_add]
  unfold normE
  have e : ∀ q : Fin 1024, (idx_main_v1 (idx_main_v2 (idx_main_v8 (ix3 b s k))) q) = ix3 b s q := fun q => by
    funext a
    match a with
    | ⟨0, _⟩ => rfl
    | ⟨1, _⟩ => rfl
    | ⟨2, _⟩ => rfl
  have e' : idx_main_v10 (idx_main_v11 (ix3 b s k)) = ix1 k := by
    funext a
    match a with
    | ⟨0, _⟩ => rfl
  rw [e']
  have hs : (∑ q : Fin 1024, val_main_v0 (F := Ideal) X (idx_main_v1 (idx_main_v2 (idx_main_v8 (ix3 b s k))) q) : EReal)
      = ∑ q : Fin 1024, X (ix3 b s q) * X (ix3 b s q) := Finset.sum_congr rfl fun q _ => congrArg (fun i => (X i * X i : EReal)) (e q)
  rw [hs]
  rfl

/-- The reference's product. -/
theorem ref_prod (b : Fin 8) (s : Fin 4096) (n : Fin 5664) :
    (val_main_v13 (F := Ideal) X N W (ix3 b s n) : EReal)
      = ∑ k : Fin 1024, normE (fun k => X (ix3 b s k)) (fun k => N (ix1 k)) k * (W (ix2 k n) : EReal) := by
  rw [val_main_v13_apply]
  refine Finset.sum_congr rfl fun k _ => ?_
  have el : lidx_main_v13 (ix3 b s n) k = ix3 b s k := by
    funext a
    match a with
    | ⟨0, _⟩ => rfl
    | ⟨1, _⟩ => rfl
    | ⟨2, _⟩ => rfl
  have er : ridx_main_v13 (ix3 b s n) k = ix2 k n := by
    funext a
    match a with
    | ⟨0, _⟩ => rfl
    | ⟨1, _⟩ => rfl
  rw [el, er, ref_norm]

theorem ix3_of {n0 n1 n2 : ℕ} (i : (Shape.mk 3 ![n0, n1, n2]).Idx) (a : Fin n0) (b : Fin n1) (c : Fin n2) (h0 : (i 0).val = a.val) (h1 : (i 1).val = b.val)
    (h2 : (i 2).val = c.val) : i = ix3 a b c := by
  funext x
  match x with
  | ⟨0, _⟩ => exact Fin.ext h0
  | ⟨1, _⟩ => exact Fin.ext h1
  | ⟨2, _⟩ => exact Fin.ext h2

/-- The wide columns in the result's order. -/
theorem ref_wide (b : Fin 8) (s : Fin 4096) (j : Fin 5632) :
    val_main_v21 (F := Ideal) X N W (ix3 b s j) = val_main_v13 (F := Ideal) X N W (ix3 b s (colOf j)) := by
  have hv := colOf_val j
  have hj := j.isLt
  unfold val_main_v21
  by_cases h0 : j.val < 1024
  · refine (concatenate_apply_piece (t := S8x4096x5632) 2 _ _ (ix3 b s j) 0 (by show 0 < 5; decide) S8x4096x1024 _ (by rfl) rfl 0 (by rfl) (ix3 b s ⟨j.val - 0, by omega⟩)
      (fun b hb => ?_) ?_).trans ((val_main_v14_apply X N W _).trans (congrArg (val_main_v13 (F := Ideal) X N W) (ix3_of _ b s (colOf j) rfl rfl ?_)))
    · match b, hb with
      | ⟨0, _⟩, _ => rfl
      | ⟨1, _⟩, _ => rfl
      | ⟨2, _⟩, hb => exact absurd rfl hb
    · show 0 + (j.val - 0) = j.val; omega
    · show j.val - 0 = (colOf j).val; split_ifs at hv <;> omega
  by_cases h1 : j.val < 2048
  · refine (concatenate_apply_piece (t := S8x4096x5632) 2 _ _ (ix3 b s j) 1 (by show 1 < 5; decide) S8x4096x1024 _ (by rfl) rfl 1024 (by rfl) (ix3 b s ⟨j.val - 1024, by omega⟩)
      (fun b hb => ?_) ?_).trans ((val_main_v16_apply X N W _).trans (congrArg (val_main_v13 (F := Ideal) X N W) (ix3_of _ b s (colOf j) rfl rfl ?_)))
    · match b, hb with
      | ⟨0, _⟩, _ => rfl
      | ⟨1, _⟩, _ => rfl
      | ⟨2, _⟩, hb => exact absurd rfl hb
    · show 1024 + (j.val - 1024) = j.val; omega
    · show 2576 + (j.val - 1024) = (colOf j).val; split_ifs at hv <;> omega
  by_cases h2 : j.val < 3072
  · refine (concatenate_apply_piece (t := S8x4096x5632) 2 _ _ (ix3 b s j) 2 (by show 2 < 5; decide) S8x4096x1024 _ (by rfl) rfl 2048 (by rfl) (ix3 b s ⟨j.val - 2048, by omega⟩)
      (fun b hb => ?_) ?_).trans ((val_main_v17_apply X N W _).trans (congrArg (val_main_v13 (F := Ideal) X N W) (ix3_of _ b s (colOf j) rfl rfl ?_)))
    · match b, hb with
      | ⟨0, _⟩, _ => rfl
      | ⟨1, _⟩, _ => rfl
      | ⟨2, _⟩, hb => exact absurd rfl hb
    · show 2048 + (j.val - 2048) = j.val; omega
    · show 3600 + (j.val - 2048) = (colOf j).val; split_ifs at hv <;> omega
  by_cases h3 : j.val < 4096
  · refine (concatenate_apply_piece (t := S8x4096x5632) 2 _ _ (ix3 b s j) 3 (by show 3 < 5; decide) S8x4096x1024 _ (by rfl) rfl 3072 (by rfl) (ix3 b s ⟨j.val - 3072, by omega⟩)
      (fun b hb => ?_) ?_).trans ((val_main_v18_apply X N W _).trans (congrArg (val_main_v13 (F := Ideal) X N W) (ix3_of _ b s (colOf j) rfl rfl ?_)))
    · match b, hb with
      | ⟨0, _⟩, _ => rfl
      | ⟨1, _⟩, _ => rfl
      | ⟨2, _⟩, hb => exact absurd rfl hb
    · show 3072 + (j.val - 3072) = j.val; omega
    · show 4624 + (j.val - 3072) = (colOf j).val; split_ifs at hv <;> omega
  refine (concatenate_apply_piece (t := S8x4096x5632) 2 _ _ (ix3 b s j) 4 (by show 4 < 5; decide) S8x4096x1536 _ (by rfl) rfl 4096 (by rfl) (ix3 b s ⟨j.val - 4096, by omega⟩)
    (fun b hb => ?_) ?_).trans ((val_main_v15_apply X N W _).trans (congrArg (val_main_v13 (F := Ideal) X N W) (ix3_of _ b s (colOf j) rfl rfl ?_)))
  · match b, hb with
    | ⟨0, _⟩, _ => rfl
    | ⟨1, _⟩, _ => rfl
    | ⟨2, _⟩, hb => exact absurd rfl hb
  · show 4096 + (j.val - 4096) = j.val; omega
  · show 1024 + (j.val - 4096) = (colOf j).val; split_ifs at hv <;> omega

/-- The narrow columns: two groups of sixteen, then zero. -/
theorem ref_dt (b : Fin 8) (s : Fin 4096) (j : Fin 128) (h : j.val < 16) :
    val_main_v23 (F := Ideal) X N W (ix3 b s j) = val_main_v13 (F := Ideal) X N W (ix3 b s ⟨j.val + 2560, by omega⟩) := by
  unfold val_main_v23
  refine (concatenate_apply_piece (t := S8x4096x128) 2 _ _ (ix3 b s j) 0 (by show 0 < 3; decide) S8x4096x16 _ (by rfl) rfl 0 (by rfl) (ix3 b s ⟨j.val - 0, by omega⟩)
    (fun b hb => ?_) ?_).trans ((val_main_v19_apply X N W _).trans (congrArg (val_main_v13 (F := Ideal) X N W) (ix3_of _ b s _ rfl rfl ?_)))
  · match b, hb with
    | ⟨0, _⟩, _ => rfl
    | ⟨1, _⟩, _ => rfl
    | ⟨2, _⟩, hb => exact absurd rfl hb
  · show 0 + (j.val - 0) = j.val; omega
  · show 2560 + (j.val - 0) = j.val + 2560; omega

theorem ref_f (b : Fin 8) (s : Fin 4096) (j : Fin 128) (h : 16 ≤ j.val) (h' : j.val < 32) :
    val_main_v23 (F := Ideal) X N W (ix3 b s j) = val_main_v13 (F := Ideal) X N W (ix3 b s ⟨j.val + 5632, by omega⟩) := by
  unfold val_main_v23
  refine (concatenate_apply_piece (t := S8x4096x128) 2 _ _ (ix3 b s j) 1 (by show 1 < 3; decide) S8x4096x16 _ (by rfl) rfl 16 (by rfl) (ix3 b s ⟨j.val - 16, by omega⟩)
    (fun b hb => ?_) ?_).trans ((val_main_v20_apply X N W _).trans (congrArg (val_main_v13 (F := Ideal) X N W) (ix3_of _ b s _ rfl rfl ?_)))
  · match b, hb with
    | ⟨0, _⟩, _ => rfl
    | ⟨1, _⟩, _ => rfl
    | ⟨2, _⟩, hb => exact absurd rfl hb
  · show 16 + (j.val - 16) = j.val; omega
  · show 5648 + (j.val - 16) = j.val + 5632; omega

theorem ref_zero (b : Fin 8) (s : Fin 4096) (j : Fin 128) (h : 32 ≤ j.val) :
    (val_main_v23 (F := Ideal) X N W (ix3 b s j) : EReal) = 0 := by
  unfold val_main_v23
  refine (concatenate_apply_piece (t := S8x4096x128) 2 _ _ (ix3 b s j) 2 (by show 2 < 3; decide) S8x4096x96 _ (by rfl) rfl 32 (by rfl) (ix3 b s ⟨j.val - 32, by omega⟩)
    (fun b hb => ?_) ?_).trans ((val_main_v22_apply (F := Ideal) _).trans Ideal.ofBits_zero_f32)
  · match b, hb with
    | ⟨0, _⟩, _ => rfl
    | ⟨1, _⟩, _ => rfl
    | ⟨2, _⟩, hb => exact absurd rfl hb
  · show 32 + (j.val - 32) = j.val; omega

theorem wide_idx (R : Fin 32768) (j : Fin 5632) : idx_main_v24 (ix2 R j) = ix3 (batchOf R) (posOf R) j := by
  have hR := R.isLt
  have hj := j.isLt
  refine ix3_of _ _ _ _ ?_ ?_ ?_
  · show (R.val * 5632 + j.val) / 23068672 = R.val / 4096; omega
  · show (R.val * 5632 + j.val) / 5632 % 4096 = R.val % 4096; omega
  · show (R.val * 5632 + j.val) % 5632 = j.val; omega

theorem small_idx (R : Fin 32768) (j : Fin 128) : idx_main_v26 (ix2 R j) = ix3 (batchOf R) (posOf R) j := by
  have hR := R.isLt
  have hj := j.isLt
  refine ix3_of _ _ _ _ ?_ ?_ ?_
  · show (R.val * 128 + j.val) / 524288 = R.val / 4096; omega
  · show (R.val * 128 + j.val) / 128 % 4096 = R.val % 4096; omega
  · show (R.val * 128 + j.val) % 128 = j.val; omega

/-- The reference's wide result at an element. -/
theorem wide_ref (R : Fin 32768) (j : Fin 5632) :
    (val_main_v25 (F := Ideal) X N W (ix2 R j) : EReal) = ∑ k : Fin 1024, hE X N R k * (W (ix2 k (colOf j)) : EReal) := by
  refine (val_main_v24_apply X N W (ix2 R j)).trans ?_
  rw [wide_idx, ref_wide]
  exact ref_prod X N W _ _ _

/-- The reference's narrow result at an element. -/
theorem small_ref (R : Fin 32768) (j : Fin 128) :
    (val_main_v26 (F := Ideal) X N W (ix2 R j) : EReal) = ∑ k : Fin 1024, hE X N R k * (setW W (ix2 k j) : EReal) := by
  refine (val_main_v26_apply X N W (ix2 R j)).trans ?_
  rw [small_idx]
  by_cases h : j.val < 16
  · rw [ref_dt X N W _ _ j h, ref_prod]
    exact Finset.sum_congr rfl fun k _ => congrArg (hE X N R k * ·) (setW_dt W k j h).symm
  by_cases h' : j.val < 32
  · rw [ref_f X N W _ _ j (by omega) h', ref_prod]
    exact Finset.sum_congr rfl fun k _ => congrArg (hE X N R k * ·) (setW_f W k j (by omega) h').symm
  · rw [ref_zero X N W _ _ j (by omega)]
    exact (Finset.sum_eq_zero fun k _ => by rw [setW_zero W k j (by omega), mul_zero]).symm

end Cert.Proof.Proj

end
-- ==== Proof.OutBody.lean ====
/-
  What one grid point of the output projection leaves in its first two output blocks: the residual with both halves of the
  projection added, and that row normalised.
-/
module

public import proofs.«01_k».proof.Proof.Gen.Kernel3Ideal.Frame
public import proofs.«01_k».proof.Proof.ProjBody

@[expose] public section

set_option maxRecDepth 16384

noncomputable section

namespace Cert.Proof.Out

open Cert.Kernel3Ideal Cert.Kernel3Ideal.Gen
open Cert.Proof.Proj (normE)
open Idealize.ShloMosaic Idealize.ShloMosaic.ValueIdx Idealize.ShloMosaic.TcCoe

theorem row_lift (r : Fin 512) (k : Fin 1024) : reduces_S512x1024_S512.lift (ix1 r) k = ix2 r k := by
  funext a
  match a with
  | ⟨0, _⟩ => rfl
  | ⟨1, _⟩ => rfl

theorem wide_apply (v : FVec Ideal S512x1 .f32) (r : Fin 512) (c : Fin 1024) :
    broadcastTo S512x1024 v broadcasts_S512x1_S512x1024 (ix2 r c) = v (ix2 r 0) :=
  broadcastTo_apply v broadcasts_S512x1_S512x1024 (ix2 r c) (ix2 r 0) (fun a => match a with
    | ⟨0, _⟩ => by show r.val = if (512 : ℕ) = 1 then 0 else r.val; rw [if_neg (by decide)]
    | ⟨1, _⟩ => by show 0 = if (1 : ℕ) = 1 then 0 else c.val; rw [if_pos rfl])

theorem tall_apply (v : FVec Ideal S1x1024 .f32) (r : Fin 512) (c : Fin 1024) :
    broadcastTo S512x1024 v broadcasts_S1x1024_S512x1024 (ix2 r c) = v (ix2 0 c) :=
  broadcastTo_apply v broadcasts_S1x1024_S512x1024 (ix2 r c) (ix2 0 c) (fun a => match a with
    | ⟨0, _⟩ => by show 0 = if (1 : ℕ) = 1 then 0 else r.val; rw [if_pos rfl]
    | ⟨1, _⟩ => by show c.val = if (1024 : ℕ) = 1 then 0 else c.val; rw [if_neg (by decide)])

theorem sumsq_apply (v : FVec Ideal S512x1024 .f32) (r : Fin 512) :
    shapeCast S512x1 (multiReduction .add [1] S512 (mulf v v) 0x00000000#32 reduces_S512x1024_S512 (.inl rfl) rfl : FVec Ideal S512 .f32)
      shapeCasts_S512_S512x1 (ix2 r 0) = ∑ k : Fin 1024, (v (ix2 r k) : EReal) * v (ix2 r k) := by
  rw [shapeCast_a_a1_apply]
  refine (Ideal.multiReduction_add_single _ _ reduces_S512x1024_S512 _ _ (ix1 r)).trans ?_
  refine Finset.sum_congr rfl fun k _ => ?_
  exact congrArg (fun i => (v i : EReal) * v i) (row_lift r k)

/-- One over the root of a row's mean square. -/
def scaleOf (v : FVec Ideal S512x1024 .f32) : FVec Ideal S512x1 .f32 :=
  rsqrt (addf (divf (shapeCast S512x1 (multiReduction .add [1] S512 (mulf v v) 0x00000000#32 reduces_S512x1024_S512 (.inl rfl) rfl : FVec Ideal S512 .f32)
    shapeCasts_S512_S512x1) (broadcast S512x1 (Scalar.ofBits .f32 0x44800000#32))) (broadcast S512x1 (Scalar.ofBits .f32 0x358637BD#32)))

theorem normed_apply (v : FVec Ideal S512x1024 .f32) (w : FVec Ideal S1x1024 .f32) (r : Fin 512) (c : Fin 1024) :
    (mulf (mulf v (broadcastTo S512x1024 (scaleOf v) broadcasts_S512x1_S512x1024)) (broadcastTo S512x1024 w broadcasts_S1x1024_S512x1024) (ix2 r c) : EReal)
      = normE (fun k => v (ix2 r k)) (fun k => w (ix2 0 k)) c := by
  show (v (ix2 r c) : EReal) * (broadcastTo S512x1024 _ broadcasts_S512x1_S512x1024 (ix2 r c)) * (broadcastTo S512x1024 w broadcasts_S1x1024_S512x1024 (ix2 r c)) = _
  rw [wide_apply, tall_apply]
  unfold normE
  refine congrArg (fun s : EReal => (v (ix2 r c) : EReal) * s * w (ix2 0 c)) ?_
  unfold scaleOf
  show Ideal.rsqrt (Ideal.div (shapeCast S512x1 _ shapeCasts_S512_S512x1 (ix2 r 0)) _ + _) = _
  rw [sumsq_apply]
  rfl

theorem prod_apply (h : FVec Ideal S512x1024 .bf16) (w : FVec Ideal S1024x1024 .bf16) (r : Fin 512) (j : Fin 1024) :
    matmul dot_S512x1024_S1024x1024_S512x1024_1_0_0_1_n_n none h w (constant S512x1024 .f32 0x00000000#32) (ix2 r j)
      = ∑ c : Fin 1024, (h (ix2 r c) : EReal) * w (ix2 c j) := by
  refine (Ideal.matmul_plain_apply (M := 512) (K := 1024) (N := 1024) none h w _ r j).trans ?_
  rw [constant_apply, Ideal.ofBits_zero_f32, zero_add]

/-- The residual with the two products added. -/
def mixRow (ys ya x : Fin 1024 → EReal) (ws wa : Fin 1024 → Fin 1024 → EReal) (aw : Fin 1024 → EReal) (c : Fin 1024) : EReal :=
  x c + (∑ k : Fin 1024, ys k * ws k c) + ∑ k : Fin 1024, normE ya aw k * wa k c

theorem mix_apply (ya : Vec Ideal S512x1024 .bf16) (aw : Vec Ideal S1x1024 .f32) (x : Vec Ideal S512x1024 .f32) (ys : Vec Ideal S512x1024 .bf16)
    (ws wa : Vec Ideal S1024x1024 .bf16) (r : Fin 512) (c : Fin 1024) :
    (k0_pay2 (F := Ideal) ya aw x ys ws wa (ix2 r c) : EReal)
      = mixRow (fun k => ys (ix2 r k)) (fun k => ya (ix2 r k)) (fun k => x (ix2 r k)) (fun k j => ws (ix2 k j)) (fun k j => wa (ix2 k j))
          (fun k => aw (ix2 0 k)) c := by
  unfold k0_pay2 mixRow
  rw [shapeCast_self, shapeCast_self, shapeCast_self]
  refine congrArg₂ (fun a b : EReal => a + b) (congrArg (fun a : EReal => (x (ix2 r c) : EReal) + a) ?_) ?_
  · exact prod_apply ys ws r c
  · refine (prod_apply _ wa r c).trans ?_
    exact Finset.sum_congr rfl fun k _ => congrArg (fun a : EReal => a * (wa (ix2 k c) : EReal)) (normed_apply (extf .f32 ya bitsLt_bf16_f32) aw r k)

theorem ld_x (x : Vec Ideal S512x1024 .f32) : View.ld x r0_0 = x := View.ld_unit_zero (by funext a; match a with | ⟨0, _⟩ => rfl | ⟨1, _⟩ => rfl) _ x
theorem ld_y (x : Vec Ideal S512x1024 .bf16) : View.ld x r0_0 = x := View.ld_unit_zero (by funext a; match a with | ⟨0, _⟩ => rfl | ⟨1, _⟩ => rfl) _ x
theorem ld_w (x : Vec Ideal S1x1024 .f32) : View.ld x r0_1 = x := View.ld_unit_zero (by funext a; match a with | ⟨0, _⟩ => rfl | ⟨1, _⟩ => rfl) _ x
theorem ld_s (x : Vec Ideal S1024x1024 .bf16) : View.ld x r0_2 = x := View.ld_unit_zero (by funext a; match a with | ⟨0, _⟩ => rfl | ⟨1, _⟩ => rfl) _ x

variable (x0 x1 : Vec Ideal S512x1024 .bf16) (x2 : Vec Ideal S512x1024 .f32) (x3 x4 : Vec Ideal S1024x1024 .bf16) (x5 x6 : Vec Ideal S1x1024 .f32)
  (x7 : Vec Ideal S1024x128 .f32) (x8 : Vec Ideal S1x128 .f32)

/-- **The residual block after the body.** -/
theorem out_mix (r : Fin 512) (c : Fin 1024) :
    (out0_9 (F := Ideal) x0 x1 x2 x3 x4 x5 x6 x7 x8 (ix2 r c) : EReal)
      = mixRow (fun k => x0 (ix2 r k)) (fun k => x1 (ix2 r k)) (fun k => x2 (ix2 r k)) (fun k j => x3 (ix2 k j)) (fun k j => x4 (ix2 k j))
          (fun k => x5 (ix2 0 k)) c := by
  unfold out0_9
  rw [View.canon_unit_zero (by funext a; match a with | ⟨0, _⟩ => rfl | ⟨1, _⟩ => rfl), ld_y, ld_y, ld_x, ld_w, ld_s, ld_s]
  exact mix_apply x1 x5 x2 x0 x3 x4 r c

/-- **The normalised block after the body.** -/
theorem out_next (r : Fin 512) (c : Fin 1024) :
    (out0_10 (F := Ideal) x0 x1 x2 x3 x4 x5 x6 x7 x8 (ix2 r c) : EReal)
      = normE (fun q => mixRow (fun k => x0 (ix2 r k)) (fun k => x1 (ix2 r k)) (fun k => x2 (ix2 r k)) (fun k j => x3 (ix2 k j))
          (fun k j => x4 (ix2 k j)) (fun k => x5 (ix2 0 k)) q) (fun k => x6 (ix2 0 k)) c := by
  unfold out0_10 k0_pay20 k0_pay21
  rw [View.canon_unit_zero (by funext a; match a with | ⟨0, _⟩ => rfl | ⟨1, _⟩ => rfl), ld_y, ld_y, ld_x, ld_w, ld_w, ld_s, ld_s]
  unfold k0_pay5 k0_pay4 k0_pay3
  rw [shapeCast_self]
  refine (normed_apply (k0_pay2 (F := Ideal) x1 x5 x2 x0 x3 x4) x6 r c).trans ?_
  exact congrFun (congrArg₂ normE (funext fun q => mix_apply x1 x5 x2 x0 x3 x4 r q) rfl) c

end Cert.Proof.Out

end
-- ==== Proof.OutTotal.lean ====
/-
  The output projection's first two result arrays over the extended reals, element by element in the arguments.
-/
module

public import proofs.«01_k».proof.Proof.OutBody
public import Idealize.ShloMosaic.Lib.Pipeline.ArrRel

@[expose] public section

set_option maxRecDepth 16384

noncomputable section

namespace Cert.Proof.Out

open Cert.Kernel3Ideal Cert.Kernel3Ideal.Gen
open Cert.Proof.Proj (normE)
open Idealize.ShloMosaic Idealize.ShloMosaic.ValueIdx Idealize.ShloMosaic.TcCoe Idealize.SL.Sem

variable (m : (ℓ : Loc nD τ sig) → Buf (Elt Ideal) ℓ) (c : Dev nD)

/-- The arguments the two results depend on. -/
abbrev argS : Vec Ideal S32768x1024 .bf16 := m ((c : Thread nD τ).loc main_arg0)
abbrev argA : Vec Ideal S32768x1024 .bf16 := m ((c : Thread nD τ).loc main_arg1)
abbrev argX : Vec Ideal S32768x1024 .f32 := m ((c : Thread nD τ).loc main_arg2)
abbrev argW : Vec Ideal S2048x1024 .f32 := m ((c : Thread nD τ).loc main_arg3)
abbrev argN : Vec Ideal S1024 .f32 := m ((c : Thread nD τ).loc main_arg4)
abbrev argF : Vec Ideal S1024 .f32 := m ((c : Thread nD τ).loc main_arg5)

/-- The upper and the lower half of the weights. -/
def topW (W : Vec Ideal S2048x1024 .f32) : Vec Ideal S1024x1024 .bf16 :=
  extractStridedSlice S1024x1024 ![0, 0] (truncf .bf16 W bitsLt_bf16_f32 : FVec Ideal S2048x1024 .bf16) slices_S2048x1024_S1024x1024_0_0
def lowW (W : Vec Ideal S2048x1024 .f32) : Vec Ideal S1024x1024 .bf16 :=
  extractStridedSlice S1024x1024 ![1024, 0] (truncf .bf16 W bitsLt_bf16_f32 : FVec Ideal S2048x1024 .bf16) slices_S2048x1024_S1024x1024_1024_0

theorem V_t : V m c main_v17 = topW (argW m c) := by
  unfold_abbrev_sides
  after_results_simp <;> (try dsimp only [Matrix.cons_val]) <;> (try after_results_simp) <;> rfl

theorem V_l : V m c main_v18 = lowW (argW m c) := by
  unfold_abbrev_sides
  after_results_simp <;> (try dsimp only [Matrix.cons_val]) <;> (try after_results_simp) <;> rfl

theorem V_n : V m c main_v19 = broadcastInDim S1x1024 ![1] bcast_S1024_S1x1024_1 (argN m c) := by
  unfold_abbrev_sides
  after_results_simp <;> (try dsimp only [Matrix.cons_val]) <;> (try after_results_simp) <;> rfl

theorem V_f : V m c main_v20 = broadcastInDim S1x1024 ![1] bcast_S1024_S1x1024_1 (argF m c) := by
  unfold_abbrev_sides
  after_results_simp <;> (try dsimp only [Matrix.cons_val]) <;> (try after_results_simp) <;> rfl

/-- A point's row among all rows. -/
def rowAt (t : Fin grid0.N) (r : Fin 512) : Fin 32768 :=
  ⟨(grid0.coords t 0).val * 512 + r.val, by have : (grid0.coords t 0).val < 64 := (grid0.coords t 0).isLt; omega⟩

theorem idx0 : ∀ t : Fin grid0.N, cc0_transform_0 (grid0.coords t) = ![(grid0.coords t 0).val, 0] := by decide +kernel
theorem idx1 : ∀ t : Fin grid0.N, cc0_transform_1 (grid0.coords t) = ![(grid0.coords t 0).val, 0] := by decide +kernel
theorem idx2 : ∀ t : Fin grid0.N, cc0_transform_2 (grid0.coords t) = ![(grid0.coords t 0).val, 0] := by decide +kernel
theorem idx9 : ∀ t : Fin grid0.N, cc0_transform_9 (grid0.coords t) = ![(grid0.coords t 0).val, 0] := by decide +kernel
theorem idx10 : ∀ t : Fin grid0.N, cc0_transform_10 (grid0.coords t) = ![(grid0.coords t 0).val, 0] := by decide +kernel
theorem idx3 : ∀ t : Fin grid0.N, cc0_transform_3 (grid0.coords t) = ![0, 0] := by decide +kernel
theorem idx4 : ∀ t : Fin grid0.N, cc0_transform_4 (grid0.coords t) = ![0, 0] := by decide +kernel
theorem idx5 : ∀ t : Fin grid0.N, cc0_transform_5 (grid0.coords t) = ![0, 0] := by decide +kernel
theorem idx6 : ∀ t : Fin grid0.N, cc0_transform_6 (grid0.coords t) = ![0, 0] := by decide +kernel

theorem blk_s (t : Fin grid0.N) (r : Fin 512) (j : Fin 1024) : iblk m c 0 t (ix2 r j) = V m c main_arg0 (ix2 (rowAt t r) j) := by
  unfold iblk
  refine congrArg (V m c main_arg0) (funext fun a => Fin.ext ?_)
  refine (Pipeline.Window.rect_emb_val _ _ _ _).trans ?_
  show cc0_transform_0 (grid0.coords t) a * (![512, 1024] : Fin 2 → ℕ) a + _ = _
  rw [idx0 t]
  match a with
  | ⟨0, _⟩ => rfl
  | ⟨1, _⟩ => show 0 * 1024 + j.val = j.val; omega

theorem blk_a (t : Fin grid0.N) (r : Fin 512) (j : Fin 1024) : iblk m c 1 t (ix2 r j) = V m c main_arg1 (ix2 (rowAt t r) j) := by
  unfold iblk
  refine congrArg (V m c main_arg1) (funext fun a => Fin.ext ?_)
  refine (Pipeline.Window.rect_emb_val _ _ _ _).trans ?_
  show cc0_transform_1 (grid0.coords t) a * (![512, 1024] : Fin 2 → ℕ) a + _ = _
  rw [idx1 t]
  match a with
  | ⟨0, _⟩ => rfl
  | ⟨1, _⟩ => show 0 * 1024 + j.val = j.val; omega

theorem blk_x (t : Fin grid0.N) (r : Fin 512) (j : Fin 1024) : iblk m c 2 t (ix2 r j) = V m c main_arg2 (ix2 (rowAt t r) j) := by
  unfold iblk
  refine congrArg (V m c main_arg2) (funext fun a => Fin.ext ?_)
  refine (Pipeline.Window.rect_emb_val _ _ _ _).trans ?_
  show cc0_transform_2 (grid0.coords t) a * (![512, 1024] : Fin 2 → ℕ) a + _ = _
  rw [idx2 t]
  match a with
  | ⟨0, _⟩ => rfl
  | ⟨1, _⟩ => show 0 * 1024 + j.val = j.val; omega

theorem blk_t (t : Fin grid0.N) (k j : Fin 1024) : iblk m c 3 t (ix2 k j) = V m c main_v17 (ix2 k j) := by
  unfold iblk
  refine congrArg (V m c main_v17) (funext fun a => Fin.ext ?_)
  refine (Pipeline.Window.rect_emb_val _ _ _ _).trans ?_
  show cc0_transform_3 (grid0.coords t) a * (![1024, 1024] : Fin 2 → ℕ) a + _ = _
  rw [idx3 t]
  match a with
  | ⟨0, _⟩ => show 0 * 1024 + k.val = k.val; omega
  | ⟨1, _⟩ => show 0 * 1024 + j.val = j.val; omega

theorem blk_l (t : Fin grid0.N) (k j : Fin 1024) : iblk m c 4 t (ix2 k j) = V m c main_v18 (ix2 k j) := by
  unfold iblk
  refine congrArg (V m c main_v18) (funext fun a => Fin.ext ?_)
  refine (Pipeline.Window.rect_emb_val _ _ _ _).trans ?_
  show cc0_transform_4 (grid0.coords t) a * (![1024, 1024] : Fin 2 → ℕ) a + _ = _
  rw [idx4 t]
  match a with
  | ⟨0, _⟩ => show 0 * 1024 + k.val = k.val; omega
  | ⟨1, _⟩ => show 0 * 1024 + j.val = j.val; omega

theorem blk_n (t : Fin grid0.N) (j : Fin 1024) : iblk m c 5 t (ix2 (0 : Fin 1) j) = V m c main_v19 (ix2 (0 : Fin 1) j) := by
  unfold iblk
  refine congrArg (V m c main_v19) (funext fun a => Fin.ext ?_)
  refine (Pipeline.Window.rect_emb_val _ _ _ _).trans ?_
  show cc0_transform_5 (grid0.coords t) a * (![1, 1024] : Fin 2 → ℕ) a + _ = _
  rw [idx5 t]
  match a with
  | ⟨0, _⟩ => rfl
  | ⟨1, _⟩ => show 0 * 1024 + j.val = j.val; omega

theorem blk_f (t : Fin grid0.N) (j : Fin 1024) : iblk m c 6 t (ix2 (0 : Fin 1) j) = V m c main_v20 (ix2 (0 : Fin 1) j) := by
  unfold iblk
  refine congrArg (V m c main_v20) (funext fun a => Fin.ext ?_)
  refine (Pipeline.Window.rect_emb_val _ _ _ _).trans ?_
  show cc0_transform_6 (grid0.coords t) a * (![1, 1024] : Fin 2 → ℕ) a + _ = _
  rw [idx6 t]
  match a with
  | ⟨0, _⟩ => rfl
  | ⟨1, _⟩ => show 0 * 1024 + j.val = j.val; omega

theorem lane_read (N : Vec Ideal S1024 .f32) (k : Fin 1024) :
    broadcastInDim S1x1024 ![1] bcast_S1024_S1x1024_1 N (ix2 (0 : Fin 1) k) = N (ix1 k) := by
  refine broadcastInDim_apply _ _ N _ _ (fun a => ?_)
  match a with
  | ⟨0, _⟩ => rfl

/-- A row of the upper half and of the lower half among all rows of the weights. -/
def upper (k : Fin 1024) : Fin 2048 := ⟨k.val, by omega⟩
def lower (k : Fin 1024) : Fin 2048 := ⟨1024 + k.val, by omega⟩

theorem top_read (W : Vec Ideal S2048x1024 .f32) (k j : Fin 1024) : (topW W (ix2 k j) : EReal) = W (ix2 (upper k) j) := by
  refine (extractStridedSlice_apply _ _ _ _ (ix2 (upper k) j) (fun a => ?_)).trans rfl
  match a with
  | ⟨0, _⟩ => exact (Nat.zero_add _).symm
  | ⟨1, _⟩ => exact (Nat.zero_add _).symm

theorem low_read (W : Vec Ideal S2048x1024 .f32) (k j : Fin 1024) : (lowW W (ix2 k j) : EReal) = W (ix2 (lower k) j) := by
  refine (extractStridedSlice_apply _ _ _ _ (ix2 (lower k) j) (fun a => ?_)).trans rfl
  match a with
  | ⟨0, _⟩ => rfl
  | ⟨1, _⟩ => exact (Nat.zero_add _).symm

/-- One entry of the new residual, of whole arrays. -/
def mixE (S A : Vec Ideal S32768x1024 .bf16) (X : Vec Ideal S32768x1024 .f32) (W : Vec Ideal S2048x1024 .f32) (N : Vec Ideal S1024 .f32)
    (R : Fin 32768) (j : Fin 1024) : EReal :=
  mixRow (fun k => S (ix2 R k)) (fun k => A (ix2 R k)) (fun k => X (ix2 R k)) (fun k j => W (ix2 (upper k) j)) (fun k j => W (ix2 (lower k) j))
    (fun k => N (ix1 k)) j

/-- The two result arrays. -/
def mixArr : Vec Ideal S32768x1024 .f32 := fun i => mixE (argS m c) (argA m c) (argX m c) (argW m c) (argN m c) (i 0) (i 1)
def nextArr : Vec Ideal S32768x1024 .bf16 := fun i =>
  normE (fun q => mixE (argS m c) (argA m c) (argX m c) (argW m c) (argN m c) (i 0) q) (fun k => argF m c (ix1 k)) (i 1)

theorem mix_blk (t : Fin grid0.N) (r : Fin 512) (j : Fin 1024) :
    mixRow (fun k => iblk m c 0 t (ix2 r k)) (fun k => iblk m c 1 t (ix2 r k)) (fun k => iblk m c 2 t (ix2 r k)) (fun k j => iblk m c 3 t (ix2 k j))
      (fun k j => iblk m c 4 t (ix2 k j)) (fun k => iblk m c 5 t (ix2 (0 : Fin 1) k)) j
      = mixE (argS m c) (argA m c) (argX m c) (argW m c) (argN m c) (rowAt t r) j := by
  have e0 : (fun k : Fin 1024 => (iblk m c 0 t (ix2 r k) : EReal)) = fun k => argS m c (ix2 (rowAt t r) k) :=
    funext fun k => (blk_s m c t r k).trans (congrFun (V_main_arg0 m c) _)
  have e1 : (fun k : Fin 1024 => (iblk m c 1 t (ix2 r k) : EReal)) = fun k => argA m c (ix2 (rowAt t r) k) :=
    funext fun k => (blk_a m c t r k).trans (congrFun (V_main_arg1 m c) _)
  have e2 : (fun k : Fin 1024 => (iblk m c 2 t (ix2 r k) : EReal)) = fun k => argX m c (ix2 (rowAt t r) k) :=
    funext fun k => (blk_x m c t r k).trans (congrFun (V_main_arg2 m c) _)
  have e3 : (fun k j : Fin 1024 => (iblk m c 3 t (ix2 k j) : EReal)) = fun k j => argW m c (ix2 (upper k) j) :=
    funext fun k => funext fun j => (blk_t m c t k j).trans ((congrFun (V_t m c) _).trans (top_read _ k j))
  have e4 : (fun k j : Fin 1024 => (iblk m c 4 t (ix2 k j) : EReal)) = fun k j => argW m c (ix2 (lower k) j) :=
    funext fun k => funext fun j => (blk_l m c t k j).trans ((congrFun (V_l m c) _).trans (low_read _ k j))
  have e5 : (fun k : Fin 1024 => (iblk m c 5 t (ix2 (0 : Fin 1) k) : EReal)) = fun k => argN m c (ix1 k) :=
    funext fun k => (blk_n m c t k).trans ((congrFun (V_n m c) _).trans (lane_read _ k))
  unfold mixE
  exact congrFun (congr (congr (congr (congr (congr (congrArg mixRow e0) e1) e2) e3) e4) e5) j

theorem mix_at (t : Fin grid0.N) (r : Fin 512) (j : Fin 1024) :
    out0_9 (F := Ideal) (iblk m c 0 t) (iblk m c 1 t) (iblk m c 2 t) (iblk m c 3 t) (iblk m c 4 t) (iblk m c 5 t) (iblk m c 6 t) (iblk m c 7 t) (iblk m c 8 t) (ix2 r j)
      = mixArr m c (ix2 (rowAt t r) j) :=
  (out_mix (iblk m c 0 t) (iblk m c 1 t) (iblk m c 2 t) (iblk m c 3 t) (iblk m c 4 t) (iblk m c 5 t) (iblk m c 6 t) (iblk m c 7 t) (iblk m c 8 t) r j).trans
    (mix_blk m c t r j)

theorem next_at (t : Fin grid0.N) (r : Fin 512) (j : Fin 1024) :
    out0_10 (F := Ideal) (iblk m c 0 t) (iblk m c 1 t) (iblk m c 2 t) (iblk m c 3 t) (iblk m c 4 t) (iblk m c 5 t) (iblk m c 6 t) (iblk m c 7 t) (iblk m c 8 t) (ix2 r j)
      = nextArr m c (ix2 (rowAt t r) j) := by
  refine (out_next (iblk m c 0 t) (iblk m c 1 t) (iblk m c 2 t) (iblk m c 3 t) (iblk m c 4 t) (iblk m c 5 t) (iblk m c 6 t) (iblk m c 7 t) (iblk m c 8 t) r j).trans ?_
  unfold nextArr
  refine congrFun (congrArg₂ normE (funext fun q => mix_blk m c t r q) (funext fun k => ?_)) j
  exact (blk_f m c t k).trans ((congrFun (V_f m c) _).trans (lane_read _ k))

theorem emb9 (t : Fin grid0.N) (r : Fin 512) (j : Fin 1024) : ((cfg0.win 9).blk t).view.emb (ix2 r j) = ix2 (rowAt t r) j := by
  funext a
  apply Fin.ext
  refine (Pipeline.Window.rect_emb_val _ _ _ _).trans ?_
  show cc0_transform_9 (grid0.coords t) a * (![512, 1024] : Fin 2 → ℕ) a + _ = _
  rw [idx9 t]
  match a with
  | ⟨0, _⟩ => rfl
  | ⟨1, _⟩ => show 0 * 1024 + j.val = j.val; omega

theorem mix_any (t : Fin grid0.N) (y : S512x1024.Idx) :
    out0_9 (F := Ideal) (iblk m c 0 t) (iblk m c 1 t) (iblk m c 2 t) (iblk m c 3 t) (iblk m c 4 t) (iblk m c 5 t) (iblk m c 6 t) (iblk m c 7 t) (iblk m c 8 t) y
      = mixArr m c (((cfg0.win 9).blk t).view.emb y) := by
  rw [eq_ix2 (n0 := 512) (n1 := 1024) y]
  exact (mix_at m c t (y 0) (y 1)).trans (congrArg (mixArr m c) (emb9 t (y 0) (y 1)).symm)

theorem cov9 : (cfg0.win 9).Covers := by decide +kernel

theorem final_mix : (dats m 0 c).arrAt 9 cfg0.N = mixArr m c := by
  refine (dats m 0 c).arrAt_eq_of_covers 9 (mixArr m c) cov9 fun t hf y => ?_
  blk_simp
  rw [after0_9]
  exact mix_any m c t y

theorem emb10 (t : Fin grid0.N) (r : Fin 512) (j : Fin 1024) : ((cfg0.win 10).blk t).view.emb (ix2 r j) = ix2 (rowAt t r) j := by
  funext a
  apply Fin.ext
  refine (Pipeline.Window.rect_emb_val _ _ _ _).trans ?_
  show cc0_transform_10 (grid0.coords t) a * (![512, 1024] : Fin 2 → ℕ) a + _ = _
  rw [idx10 t]
  match a with
  | ⟨0, _⟩ => rfl
  | ⟨1, _⟩ => show 0 * 1024 + j.val = j.val; omega

theorem next_any (t : Fin grid0.N) (y : S512x1024.Idx) :
    out0_10 (F := Ideal) (iblk m c 0 t) (iblk m c 1 t) (iblk m c 2 t) (iblk m c 3 t) (iblk m c 4 t) (iblk m c 5 t) (iblk m c 6 t) (iblk m c 7 t) (iblk m c 8 t) y
      = nextArr m c (((cfg0.win 10).blk t).view.emb y) := by
  rw [eq_ix2 (n0 := 512) (n1 := 1024) y]
  exact (next_at m c t (y 0) (y 1)).trans (congrArg (nextArr m c) (emb10 t (y 0) (y 1)).symm)

theorem cov10 : (cfg0.win 10).Covers := by decide +kernel

theorem final_next : (dats m 0 c).arrAt 10 cfg0.N = nextArr m c := by
  refine (dats m 0 c).arrAt_eq_of_covers 10 (nextArr m c) cov10 fun t hf y => ?_
  blk_simp
  rw [after0_10]
  exact next_any m c t y

/-- **The call ends with these two arrays and keeps its arguments.** -/
theorem run_out (ρ : Dev nD → PrngReg) : θ_run (defs (F := Ideal)) (onTc (τ := τ) (main (F := Ideal))) ⟨m, fun _ => 0, ρ⟩ (fun r => ∀ c : Dev nD,
      r.2.mem ((c.tc : Thread nD τ).loc main_v21_0) = mixArr m c
      ∧ r.2.mem ((c.tc : Thread nD τ).loc main_v21_1) = nextArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).1 9).trans (final_mix m c), ((h c).1 10).trans (final_next m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.Proof.Out

end
-- ==== Proof.OutRef.lean ====
/-
  The reference output projection's two results over the extended reals are the kernel's.
-/
module

public import proofs.«01_k».proof.Proof.OutTotal
public import proofs.«01_k».proof.Proof.Gen.Reference3Ideal.Read

@[expose] public section

set_option maxRecDepth 16384

noncomputable section

namespace Cert.Proof.Out

open Cert.Reference3Ideal Cert.Reference3Ideal.Gen Cert.Reference3Ideal.Read
open Cert.Proof.Proj (normE)
open Idealize.ShloMosaic Idealize.ShloMosaic.ValueIdx

variable (S A : Vec Ideal S32768x1024 .bf16) (X : Vec Ideal S32768x1024 .f32) (W : Vec Ideal S2048x1024 .f32) (N G : Vec Ideal S1024 .f32)

/-- The reference's normalised attention output. -/
theorem ref_attn (R : Fin 32768) (k : Fin 1024) :
    (val_main_v13 (F := Ideal) A N (ix2 R k) : EReal) = normE (fun k => A (ix2 R k)) (fun k => N (ix1 k)) k := by
  rw [val_main_v13_apply, val_main_v10_apply, val_main_v9_apply, val_main_v8_apply, val_main_v7_apply, val_main_v5_apply, val_main_v4_apply,
    val_main_v6_apply, val_main_v3_apply, val_main_v2_apply, val_main_v12_apply, val_main_v11_apply, val_main_cst_apply, val_main_cst_0_apply,
    val_main_cst_1_apply]
  have z : (FloatOps.ofBits (F := Ideal) .f32 0x00000000#32 : EReal) = 0 := Ideal.ofBits_zero_f32
  rw [z, zero_add]
  unfold normE
  have e : ∀ q : Fin 1024, (idx_main_v2 (idx_main_v3 (idx_main_v9 (ix2 R k))) q) = ix2 R q := fun q => by
    funext a
    match a with
    | ⟨0, _⟩ => rfl
    | ⟨1, _⟩ => rfl
  have e' : idx_main_v11 (idx_main_v12 (ix2 R k)) = ix1 k := by
    funext a
    match a with
    | ⟨0, _⟩ => rfl
  rw [e']
  have hs : (∑ q : Fin 1024, val_main_v1 (F := Ideal) A (idx_main_v2 (idx_main_v3 (idx_main_v9 (ix2 R k))) q) : EReal)
      = ∑ q : Fin 1024, A (ix2 R q) * A (ix2 R q) := Finset.sum_congr rfl fun q _ => congrArg (fun i => (A i * A i : EReal)) (e q)
  rw [hs]
  rfl

theorem ref_left (R : Fin 32768) (k : Fin 1024) : (val_main_v15 (F := Ideal) S A N (ix2 R (upper k)) : EReal) = S (ix2 R k) := by
  unfold val_main_v15
  refine (concatenate_apply_piece (t := S32768x2048) 1 _ _ (ix2 R (upper k)) 0 (by show 0 < 2; decide) S32768x1024 _ (by rfl) rfl 0 (by rfl) (ix2 R k)
    (fun b hb => ?_) ?_).trans rfl
  · match b, hb with
    | ⟨0, _⟩, _ => rfl
    | ⟨1, _⟩, hb => exact absurd rfl hb
  · exact Nat.zero_add _

theorem ref_right (R : Fin 32768) (k : Fin 1024) :
    (val_main_v15 (F := Ideal) S A N (ix2 R (lower k)) : EReal) = normE (fun k => A (ix2 R k)) (fun k => N (ix1 k)) k := by
  unfold val_main_v15
  refine (concatenate_apply_piece (t := S32768x2048) 1 _ _ (ix2 R (lower k)) 1 (by show 1 < 2; decide) S32768x1024 _ (by rfl) rfl 1024 (by rfl) (ix2 R k)
    (fun b hb => ?_) ?_).trans (ref_attn A N R k)
  · match b, hb with
    | ⟨0, _⟩, _ => rfl
    | ⟨1, _⟩, hb => exact absurd rfl hb
  · rfl

/-- A sum over the rows of the weights, its upper half and its lower half apart. -/
theorem sum_halves (f : Fin 2048 → EReal) : ∑ k, f k = (∑ k : Fin 1024, f (upper k)) + ∑ k : Fin 1024, f (lower k) :=
  Fin.sum_univ_add (a := 1024) (b := 1024) f

/-- The reference's new residual at an element. -/
theorem mix_ref (R : Fin 32768) (j : Fin 1024) : (val_main_v17 (F := Ideal) S A X W N (ix2 R j) : EReal) = mixE S A X W N R j := by
  have hd : (val_main_v16 (F := Ideal) S A W N (ix2 R j) : EReal)
      = (∑ k : Fin 1024, (S (ix2 R k) : EReal) * W (ix2 (upper k) j))
        + ∑ k : Fin 1024, normE (fun k => A (ix2 R k)) (fun k => N (ix1 k)) k * (W (ix2 (lower k) j) : EReal) := by
    rw [val_main_v16_apply]
    have hk : ∀ k : Fin 2048, (val_main_v15 (F := Ideal) S A N (lidx_main_v16 (ix2 R j) k) : EReal) * W (ridx_main_v16 (ix2 R j) k)
        = (val_main_v15 (F := Ideal) S A N (ix2 R k) : EReal) * W (ix2 k j) := fun k => by
      have el : lidx_main_v16 (ix2 R j) k = ix2 R k := by
        funext a
        match a with
        | ⟨0, _⟩ => rfl
        | ⟨1, _⟩ => rfl
      have er : ridx_main_v16 (ix2 R j) k = ix2 k j := by
        funext a
        match a with
        | ⟨0, _⟩ => rfl
        | ⟨1, _⟩ => rfl
      rw [el, er]
    refine (Finset.sum_congr rfl fun k _ => hk k).trans ((sum_halves _).trans ?_)
    refine congrArg₂ (fun a b : EReal => a + b) (Finset.sum_congr rfl fun k _ => ?_) (Finset.sum_congr rfl fun k _ => ?_)
    · exact congrArg (fun a : EReal => a * (W (ix2 (upper k) j) : EReal)) (ref_left S A N R k)
    · exact congrArg (fun a : EReal => a * (W (ix2 (lower k) j) : EReal)) (ref_right S A N R k)
  rw [val_main_v17_apply]
  refine (congrArg (fun a : EReal => (X (ix2 R j) : EReal) + a) hd).trans ?_
  exact (add_assoc _ _ _).symm

/-- The reference's normalised result at an element. -/
theorem next_ref (R : Fin 32768) (j : Fin 1024) :
    (val_main_v31 (F := Ideal) S A X W N G (ix2 R j) : EReal) = normE (fun q => mixE S A X W N R q) (fun k => G (ix1 k)) j := by
  rw [val_main_v31_apply, val_main_v30_apply, val_main_v27_apply, val_main_v26_apply, val_main_v25_apply, val_main_v24_apply, val_main_v22_apply,
    val_main_v21_apply, val_main_v23_apply, val_main_v20_apply, val_main_v19_apply, val_main_v29_apply, val_main_v28_apply, val_main_cst_2_apply,
    val_main_cst_3_apply, val_main_cst_4_apply]
  have z : (FloatOps.ofBits (F := Ideal) .f32 0x00000000#32 : EReal) = 0 := Ideal.ofBits_zero_f32
  rw [z, zero_add]
  unfold normE
  have e : ∀ q : Fin 1024, (idx_main_v19 (idx_main_v20 (idx_main_v26 (ix2 R j))) q) = ix2 R q := fun q => by
    funext a
    match a with
    | ⟨0, _⟩ => rfl
    | ⟨1, _⟩ => rfl
  have e' : idx_main_v28 (idx_main_v29 (ix2 R j)) = ix1 j := by
    funext a
    match a with
    | ⟨0, _⟩ => rfl
  rw [e']
  have hs : (∑ q : Fin 1024, val_main_v18 (F := Ideal) S A X W N (idx_main_v19 (idx_main_v20 (idx_main_v26 (ix2 R j))) q) : EReal)
      = ∑ q : Fin 1024, mixE S A X W N R q * mixE S A X W N R q := Finset.sum_congr rfl fun q _ => by
    rw [e q, val_main_v18_apply]
    exact congrArg₂ (fun a b : EReal => a * b) (mix_ref S A X W N R q) (mix_ref S A X W N R q)
  rw [hs, mix_ref]
  rfl

end Cert.Proof.Out

end
-- ==== Proof.CombNat.lean ====
/-
  Where a token's row lies among its sequence's rows, in natural numbers: its group's start plus its rank in the group; and the
  extended-real operations both programs reach it by.
-/
module

public import Idealize.ShloMosaic.Lib.IdealHost
public import Idealize.ShloMosaic.PureOps

@[expose] public section

noncomputable section

namespace Cert.Proof.Comb

open Idealize.ShloMosaic

variable (γ : Fin 1024 → Fin 4)

/-- The tokens of a group; those of them before token `r`; the group's rows, padded to whole chunks of 128. -/
def countOf (l : Fin 4) : ℕ := (Finset.univ.filter fun j => γ j = l).card
def rankOf (r : Fin 1024) (l : Fin 4) : ℕ := (Finset.univ.filter fun j => j < r ∧ γ j = l).card
def rowsOf (l : Fin 4) : ℕ := (countOf γ l + 127) / 128 * 128

/-- The rows of the groups before `l`. -/
def startOfGroup (l : Fin 4) : ℕ := ∑ k : Fin 4, if k < l then rowsOf γ k else 0

/-- The row of token `r`. -/
def posOf (r : Fin 1024) : ℕ := startOfGroup γ (γ r) + rankOf γ r (γ r)

theorem count_total : countOf γ 0 + countOf γ 1 + countOf γ 2 + countOf γ 3 = 1024 := by
  have h := Finset.card_eq_sum_card_fiberwise (s := (Finset.univ : Finset (Fin 1024))) (f := γ) (t := Finset.univ) (fun _ _ => Finset.mem_coe.2 (Finset.mem_univ _))
  rw [Fin.sum_univ_four, Finset.card_univ, Fintype.card_fin] at h
  exact h.symm

theorem rank_lt (r : Fin 1024) : rankOf γ r (γ r) < countOf γ (γ r) := by
  refine Finset.card_lt_card ((Finset.ssubset_iff_of_subset ?_).2 ⟨r, ?_, ?_⟩)
  · intro j hj
    exact Finset.mem_filter.2 ⟨Finset.mem_univ _, (Finset.mem_filter.1 hj).2.2⟩
  · exact Finset.mem_filter.2 ⟨Finset.mem_univ _, rfl⟩
  · intro hj
    exact absurd (Finset.mem_filter.1 hj).2.1 (lt_irrefl r)

theorem rows_le (l : Fin 4) : rowsOf γ l ≤ countOf γ l + 127 := Nat.div_mul_le_self _ _

theorem start_le (l : Fin 4) : startOfGroup γ l + countOf γ l ≤ 1405 := by
  have h := count_total γ
  have h0 := rows_le γ 0
  have h1 := rows_le γ 1
  have h2 := rows_le γ 2
  unfold startOfGroup
  rw [Fin.sum_univ_four]
  match l with
  | 0 => simp; omega
  | 1 => simp; omega
  | 2 => simp; omega
  | 3 => simp; omega

theorem pos_lt (r : Fin 1024) : posOf γ r < 1536 := by
  have h := rank_lt γ r
  have h1 := start_le γ (γ r)
  unfold posOf
  omega

/-! ## Extended reals -/

theorem bits_127 : Ideal.ofBits .f32 0x42FE0000#32 = ((127 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_inv : Ideal.ofBits .f32 0x3C000000#32 = (((1 : ℝ) / 128 : ℝ) : EReal) := by
  simp [Ideal.ofBits, Ideal.ieee, -EReal.coe_mul]; norm_num
theorem bits_2 : Ideal.ofBits .f32 0x40000000#32 = ((2 : ℕ) : EReal) := by
  rw [← EReal.coe_natCast]
  simp [Ideal.ofBits, Ideal.ieee, -EReal.coe_mul]; norm_num
theorem bits_3 : Ideal.ofBits .f32 0x40400000#32 = ((3 : ℕ) : EReal) := by
  rw [← EReal.coe_natCast]
  simp [Ideal.ofBits, Ideal.ieee, -EReal.coe_mul]; norm_num

theorem floor_chunks (n : ℕ) : Ideal.liftRound Int.floor (((n : EReal) + ((127 : ℝ) : EReal)) * (((1 : ℝ) / 128 : ℝ) : EReal))
    = (((n + 127) / 128 : ℕ) : EReal) := by
  have hf : ⌊((n : ℝ) + 127) * (1 / 128)⌋ = (((n + 127) / 128 : ℕ) : ℤ) := by
    rw [Int.floor_eq_iff]
    have a : (n + 127) / 128 * 128 ≤ n + 127 := Nat.div_mul_le_self _ _
    have b : n + 127 < ((n + 127) / 128 + 1) * 128 := by omega
    have a' : (((n + 127) / 128 : ℕ) : ℝ) * 128 ≤ (n : ℝ) + 127 := by exact_mod_cast a
    have b' : (n : ℝ) + 127 < ((((n + 127) / 128 : ℕ) : ℝ) + 1) * 128 := by exact_mod_cast b
    rw [Int.cast_natCast]
    clear a b
    generalize (((n + 127) / 128 : ℕ) : ℝ) = z at a' b' ⊢
    constructor
    · linarith
    · linarith
  rw [← EReal.coe_natCast, ← EReal.coe_add, ← EReal.coe_mul]
  show (((⌊((n : ℝ) + 127) * (1 / 128)⌋ : ℤ) : ℝ) : EReal) = _
  rw [hf, ← EReal.coe_natCast, Int.cast_natCast]

theorem ceil_chunks (n : ℕ) : Ideal.liftRound Int.ceil (Ideal.div (n : EReal) ((128 : ℝ) : EReal)) = (((n + 127) / 128 : ℕ) : EReal) := by
  have hf : ⌈(n : ℝ) * (128 : ℝ)⁻¹⌉ = (((n + 127) / 128 : ℕ) : ℤ) := by
    rw [Int.ceil_eq_iff]
    have a : (n + 127) / 128 * 128 < n + 128 := by omega
    have b : n ≤ (n + 127) / 128 * 128 := by omega
    have a' : (((n + 127) / 128 : ℕ) : ℝ) * 128 < (n : ℝ) + 128 := by exact_mod_cast a
    have b' : (n : ℝ) ≤ (((n + 127) / 128 : ℕ) : ℝ) * 128 := by exact_mod_cast b
    rw [Int.cast_natCast]
    clear a b
    generalize (((n + 127) / 128 : ℕ) : ℝ) = z at a' b' ⊢
    constructor
    · linarith
    · linarith
  have h0 : ((128 : ℝ) : EReal) ≠ 0 := by
    rw [← EReal.coe_zero]
    exact fun h => by have := EReal.coe_eq_coe_iff.1 h; norm_num at this
  unfold Ideal.div
  rw [if_neg h0, ← EReal.coe_inv, ← EReal.coe_natCast, ← EReal.coe_mul]
  show (((⌈(n : ℝ) * (128 : ℝ)⁻¹⌉ : ℤ) : ℝ) : EReal) = _
  rw [hf, ← EReal.coe_natCast, Int.cast_natCast]

theorem chunk_rows (q : ℕ) : (q : EReal) * ((128 : ℝ) : EReal) = ((q * 128 : ℕ) : EReal) := by
  rw [← EReal.coe_natCast, ← EReal.coe_natCast, ← EReal.coe_mul]
  push_cast
  rfl

theorem floor_rows (n : ℕ) : Ideal.liftRound Int.floor (((n : EReal) + ((127 : ℝ) : EReal)) * (((1 : ℝ) / 128 : ℝ) : EReal)) * ((128 : ℝ) : EReal)
    = (((n + 127) / 128 * 128 : ℕ) : EReal) := by
  rw [floor_chunks, chunk_rows]

theorem ceil_rows (n : ℕ) : Ideal.liftRound Int.ceil (Ideal.div (n : EReal) ((128 : ℝ) : EReal)) * ((128 : ℝ) : EReal)
    = (((n + 127) / 128 * 128 : ℕ) : EReal) := by
  rw [ceil_chunks, chunk_rows]

theorem fptosi_nat (n : ℕ) (h : n < 1536) : Ideal.fptosi 32 (n : EReal) = BitVec.ofNat 32 n := by
  rw [← EReal.coe_natCast]
  show BitVec.ofInt 32 (max _ (min _ (if 0 ≤ (n : ℝ) then ⌊(n : ℝ)⌋ else ⌈(n : ℝ)⌉))) = _
  rw [if_pos (Nat.cast_nonneg n), Int.floor_natCast, min_eq_right (by norm_num; omega), max_eq_right (by norm_num)]
  rfl

theorem word_toInt (n : ℕ) (h : n < 65536) : (BitVec.ofNat 32 n).toInt = (n : ℤ) := by
  rw [BitVec.toInt_eq_toNat_of_lt (by rw [BitVec.toNat_ofNat]; omega), BitVec.toNat_ofNat]
  omega

theorem word_val (n : ℕ) (h : n < 65536) : (((BitVec.ofNat 32 n).toInt : ℝ) : EReal) = (n : EReal) := by
  rw [word_toInt n h, ← EReal.coe_natCast]
  push_cast
  rfl

theorem select_oeq (a b : ℕ) {α : Type} (x y : α) : Scalar.select (Ideal.cmp .oeq (a : EReal) (b : EReal)) x y = if a = b then x else y := by
  show (if BitVec.ofBool (decide ((a : EReal) = (b : EReal))) = 1 then x else y) = _
  by_cases h : a = b
  · rw [if_pos h, h, decide_eq_true rfl]; rfl
  · rw [if_neg h, decide_eq_false (fun e => h (EReal.natCast_eq_iff.1 e))]; rfl

theorem select_olt (a b : ℕ) {α : Type} (x y : α) : Scalar.select (Ideal.cmp .olt (a : EReal) (b : EReal)) x y = if a < b then x else y := by
  show (if BitVec.ofBool (decide ((a : EReal) < (b : EReal))) = 1 then x else y) = _
  by_cases h : a < b
  · rw [if_pos h, decide_eq_true (EReal.natCast_lt_iff.2 h)]; rfl
  · rw [if_neg h, decide_eq_false (fun e => h (EReal.natCast_lt_iff.1 e))]; rfl

theorem select_sgt (a b : ℕ) (ha : a < 65536) (hb : b < 65536) {α : Type} (x y : α) :
    Scalar.select (IntOp.cmpi .sgt (BitVec.ofNat 32 a) (BitVec.ofNat 32 b)) x y = if b < a then x else y := by
  show (if BitVec.ofBool ((BitVec.ofNat 32 b).slt (BitVec.ofNat 32 a)) = 1 then x else y) = _
  rw [BitVec.slt_eq_decide, word_toInt a ha, word_toInt b hb]
  by_cases h : b < a
  · rw [if_pos h, decide_eq_true (by exact_mod_cast h)]; rfl
  · rw [if_neg h, decide_eq_false (by exact_mod_cast h)]; rfl

/-- The signed order of two small words. -/
theorem slt_word (a b : ℕ) (ha : a < 65536) (hb : b < 65536) : IntOp.cmpi .slt (BitVec.ofNat 32 a) (BitVec.ofNat 32 b) = BitVec.ofBool (decide (a < b)) := by
  show BitVec.ofBool ((BitVec.ofNat 32 a).slt (BitVec.ofNat 32 b)) = _
  rw [BitVec.slt_eq_decide, word_toInt a ha, word_toInt b hb]
  exact congrArg BitVec.ofBool (decide_eq_decide.2 (by exact_mod_cast Iff.rfl))

theorem bit_val (p : Prop) [Decidable p] : ((((BitVec.ofBool (decide p)).toNat : ℝ)) : EReal) = if p then 1 else 0 := by
  by_cases h : p
  · rw [if_pos h, decide_eq_true h]; show (((1 : ℕ) : ℝ) : EReal) = 1; norm_num
  · rw [if_neg h, decide_eq_false h]; show (((0 : ℕ) : ℝ) : EReal) = 0; norm_num

theorem select_and (p q : Prop) [Decidable p] [Decidable q] {α : Type} (x y : α) :
    Scalar.select (IntOp.andi (BitVec.ofBool (decide p)) (BitVec.ofBool (decide q))) x y = if p ∧ q then x else y := by
  by_cases h : p <;> by_cases k : q <;> simp [h, k, Scalar.select, IntOp.andi]

end Cert.Proof.Comb

end
-- ==== Proof.CombBody.lean ====
/-
  What one grid point of the combination leaves in its output block: the residual plus the row the token's rank and group name.
-/
module

public import proofs.«01_k».proof.Proof.Gen.Kernel4Ideal.Frame
public import proofs.«01_k».proof.Proof.CombNat
public import Idealize.ShloMosaic.Lib.Pipeline.ValueKit.Geometry
public import Idealize.ShloMosaic.Lib.Pipeline.ValueKit.Tiles
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.PureOps.Ideal.Laws

@[expose] public section

set_option maxRecDepth 16384

noncomputable section

namespace Cert.Proof.Comb

open Cert.Kernel4Ideal Cert.Kernel4Ideal.Gen
open Idealize.ShloMosaic Idealize.ShloMosaic.ValueIdx Idealize.ShloMosaic.TcCoe

/-- A group's lane among the route array's lanes, and a token's row as an index of the rows. -/
def laneOf (l : Fin 4) : Fin 128 := ⟨l.val, by omega⟩
def posAt (γ : Fin 1024 → Fin 4) (r : Fin 1024) : Fin 1536 := ⟨posOf γ r, pos_lt γ r⟩

theorem lane_num (r : Fin 1024) (k : Fin 128) :
    (sitofp (F := Ideal) .f32 (iota .tc S1024x128 32 [1] iota_S1024x128_d1_w32) (ix2 r k) : EReal) = (k.val : EReal) :=
  (congrArg (fun w : BitVec 32 => (((w.toInt : ℤ) : ℝ) : EReal)) (congrArg (BitVec.ofNat 32) (show 0 * 128 + k.val = k.val by omega))).trans
    (word_val k.val (by omega))

theorem col_num (r : Fin 1024) (k : Fin 1536) :
    (sitofp (F := Ideal) .f32 (iota .tc S1024x1536 32 [1] iota_S1024x1536_d1_w32) (ix2 r k) : EReal) = (k.val : EReal) :=
  (congrArg (fun w : BitVec 32 => (((w.toInt : ℤ) : ℝ) : EReal)) (congrArg (BitVec.ofNat 32) (show 0 * 1536 + k.val = k.val by omega))).trans
    (word_val k.val (by omega))

theorem one_num (k : Fin 128) : iota .tc S1x128 32 [1] iota_S1x128_d1_w32 (ix2 0 k) = BitVec.ofNat 32 k.val :=
  congrArg (BitVec.ofNat 32) (show 0 * 128 + k.val = k.val by omega)

theorem wide_lane (v : FVec Ideal S1024x1 .f32) (r : Fin 1024) (k : Fin 128) :
    broadcastTo S1024x128 v broadcasts_S1024x1_S1024x128 (ix2 r k) = v (ix2 r 0) :=
  broadcastTo_apply v broadcasts_S1024x1_S1024x128 (ix2 r k) (ix2 r 0) (fun a => match a with
    | ⟨0, _⟩ => by show r.val = if (1024 : ℕ) = 1 then 0 else r.val; rw [if_neg (by decide)]
    | ⟨1, _⟩ => by show 0 = if (1 : ℕ) = 1 then 0 else k.val; rw [if_pos rfl])

theorem wide_col (v : FVec Ideal S1024x1 .f32) (r : Fin 1024) (k : Fin 1536) :
    broadcastTo S1024x1536 v broadcasts_S1024x1_S1024x1536 (ix2 r k) = v (ix2 r 0) :=
  broadcastTo_apply v broadcasts_S1024x1_S1024x1536 (ix2 r k) (ix2 r 0) (fun a => match a with
    | ⟨0, _⟩ => by show r.val = if (1024 : ℕ) = 1 then 0 else r.val; rw [if_neg (by decide)]
    | ⟨1, _⟩ => by show 0 = if (1 : ℕ) = 1 then 0 else k.val; rw [if_pos rfl])

theorem tall_lane (v : FVec Ideal S1x128 .f32) (r : Fin 1024) (k : Fin 128) :
    broadcastTo S1024x128 v broadcasts_S1x128_S1024x128 (ix2 r k) = v (ix2 0 k) :=
  broadcastTo_apply v broadcasts_S1x128_S1024x128 (ix2 r k) (ix2 0 k) (fun a => match a with
    | ⟨0, _⟩ => by show 0 = if (1 : ℕ) = 1 then 0 else r.val; rw [if_pos rfl]
    | ⟨1, _⟩ => by show k.val = if (128 : ℕ) = 1 then 0 else k.val; rw [if_neg (by decide)])

theorem one_lane (v : FVec Ideal S1x1 .f32) (k : Fin 128) :
    broadcastTo S1x128 v broadcasts_S1x1_S1x128 (ix2 0 k) = v (ix2 0 0) :=
  broadcastTo_apply v broadcasts_S1x1_S1x128 (ix2 0 k) (ix2 0 0) (fun a => match a with
    | ⟨0, _⟩ => by show 0 = if (1 : ℕ) = 1 then 0 else 0; rw [if_pos rfl]
    | ⟨1, _⟩ => by show 0 = if (1 : ℕ) = 1 then 0 else k.val; rw [if_pos rfl])

theorem group_read (v : FVec Ideal S1024x128 .f32) (r : Fin 1024) :
    extractStridedSlice S1024x1 ![0, 32] v slices_S1024x128_o0_32_S1024x1 (ix2 r 0) = v (ix2 r (32 : Fin 128)) :=
  extractStridedSlice_apply _ _ _ _ (ix2 r (32 : Fin 128)) (fun a => match a with
    | ⟨0, _⟩ => (Nat.zero_add _).symm
    | ⟨1, _⟩ => rfl)

variable (γ : Fin 1024 → Fin 4) (v : Vec Ideal S1024x128 .f32) (hγ : ∀ j : Fin 1024, (v (ix2 j (32 : Fin 128)) : EReal) = ((γ j).val : EReal))
include hγ

/-- One in the lane of the token's group, zero in the others. -/
theorem onehot_apply (r : Fin 1024) (k : Fin 128) : (k0_pay2 (F := Ideal) v (ix2 r k) : EReal) = if k.val = (γ r).val then 1 else 0 := by
  show Scalar.select (Ideal.cmp .oeq (sitofp (F := Ideal) .f32 (iota .tc S1024x128 32 [1] iota_S1024x128_d1_w32) (ix2 r k))
    (broadcastTo S1024x128 (extractStridedSlice S1024x1 ![0, 32] v slices_S1024x128_o0_32_S1024x1) broadcasts_S1024x1_S1024x128 (ix2 r k)))
    (Ideal.ofBits .f32 0x3F800000#32) (Ideal.ofBits .f32 0x00000000#32) = _
  rw [lane_num, wide_lane, group_read, hγ, select_oeq, Ideal.ofBits_one_f32, Ideal.ofBits_zero_f32]

omit hγ in
theorem lane_eq (a l : Fin 4) : (laneOf l).val = a.val ↔ a = l := ⟨fun h => Fin.ext h.symm, fun h => congrArg Fin.val h.symm⟩

theorem rank_apply (b : Vec Ideal S1024x1024 .bf16) (hb : ∀ r j : Fin 1024, (b (ix2 r j) : EReal) = if j < r then 1 else 0) (r : Fin 1024) (l : Fin 4) :
    (k0_pay3 (F := Ideal) v b (ix2 r (laneOf l)) : EReal) = (rankOf γ r l : EReal) := by
  unfold k0_pay3
  rw [shapeCast_self]
  refine (Ideal.matmul_plain_apply (M := 1024) (K := 1024) (N := 128) none b (truncf .bf16 (k0_pay2 (F := Ideal) v) bitsLt_bf16_f32 : FVec Ideal S1024x128 .bf16) _ r (laneOf l)).trans ?_
  rw [constant_apply, Ideal.ofBits_zero_f32, zero_add]
  unfold rankOf
  rw [← Finset.sum_boole]
  refine Finset.sum_congr rfl fun j _ => ?_
  show (b (ix2 r j) : EReal) * (k0_pay2 (F := Ideal) v (ix2 j (laneOf l)) : EReal) = _
  rw [hb, onehot_apply γ v hγ]
  simp only [lane_eq]
  by_cases h : j < r <;> by_cases k : γ j = l <;> simp [h, k]

omit hγ in
theorem col_lift (k : Fin 128) (j : Fin 1024) : reduces_S1024x128_S128.lift (ix1 k) j = ix2 j k := by
  funext a
  match a with
  | ⟨0, _⟩ => rfl
  | ⟨1, _⟩ => rfl

omit hγ in
theorem row_lift (r : Fin 1024) (k : Fin 128) : reduces_S1024x128_S1024.lift (ix1 r) k = ix2 r k := by
  funext a
  match a with
  | ⟨0, _⟩ => rfl
  | ⟨1, _⟩ => rfl

theorem count_apply (l : Fin 4) :
    (shapeCast S1x128 (multiReduction .add [0] S128 (k0_pay2 (F := Ideal) v) 0x00000000#32 reduces_S1024x128_S128 (.inl rfl) rfl : FVec Ideal S128 .f32)
      shapeCasts_S128_S1x128 (ix2 0 (laneOf l)) : EReal) = (countOf γ l : EReal) := by
  rw [shapeCast_apply _ _ _ (ix1 (laneOf l)) (by rw [Shape.rowMajor_val_one, Shape.rowMajor_val_two]; show (laneOf l).val = 0 * 128 + (laneOf l).val; omega)]
  refine (Ideal.multiReduction_add_single _ _ reduces_S1024x128_S128 _ _ (ix1 (laneOf l))).trans ?_
  unfold countOf
  rw [← Finset.sum_boole]
  refine Finset.sum_congr rfl fun j _ => ?_
  exact (congrArg (k0_pay2 (F := Ideal) v) (col_lift (laneOf l) j)).trans ((onehot_apply γ v hγ j (laneOf l)).trans (if_congr (lane_eq (γ j) l) rfl rfl))

theorem rows_apply (l : Fin 4) : (k0_pay4 (F := Ideal) v (ix2 0 (laneOf l)) : EReal) = (rowsOf γ l : EReal) := by
  unfold k0_pay4
  show Ideal.liftRound Int.floor (((shapeCast S1x128 (multiReduction .add [0] S128 (k0_pay2 (F := Ideal) v) 0x00000000#32 reduces_S1024x128_S128 (.inl rfl) rfl : FVec Ideal S128 .f32)
      shapeCasts_S128_S1x128 (ix2 0 (laneOf l)) : EReal) + Ideal.ofBits .f32 0x42FE0000#32) * Ideal.ofBits .f32 0x3C000000#32) * Ideal.ofBits .f32 0x43000000#32 = _
  rw [count_apply γ v hγ, bits_127, bits_inv, bits_128, floor_rows]
  rfl

omit hγ in
/-- The rows of one group where the lane is beyond it. -/
theorem part_apply (p : FVec Ideal S1x128 .f32) (e : Fin 4) (n : BitVec 32) (hn : n = BitVec.ofNat 32 e.val) (l : Fin 4) (off : Fin 2 → ℕ)
    (hs : S1x128.Slices off S1x1) (ho : ∀ a, (ix2 (0 : Fin 1) (laneOf e) a).val = off a + (ix2 (0 : Fin 1) (0 : Fin 1) a).val) :
    (select (cmpi .sgt (iota .tc S1x128 32 [1] iota_S1x128_d1_w32) (broadcast S1x128 n))
      (broadcastTo S1x128 (shapeCast S1x1 (extractStridedSlice S1x1 off p hs) shapeCasts_S1x1_S1x1) broadcasts_S1x1_S1x128)
      (broadcast S1x128 (Scalar.ofBits (F := Ideal) .f32 0x00000000#32)) (ix2 0 (laneOf l)) : Ideal .f32)
      = if e < l then (p (ix2 0 (laneOf e)) : EReal) else 0 := by
  show Scalar.select (IntOp.cmpi .sgt (iota .tc S1x128 32 [1] iota_S1x128_d1_w32 (ix2 0 (laneOf l))) n) (broadcastTo S1x128 _ broadcasts_S1x1_S1x128 (ix2 0 (laneOf l))) (Ideal.ofBits .f32 0x00000000#32) = _
  rw [one_num, one_lane, shapeCast_self, extractStridedSlice_apply _ _ _ _ (ix2 0 (laneOf e)) ho, hn, select_sgt _ _ (by omega) (by omega), Ideal.ofBits_zero_f32]
  rfl

/-- The row of the token at the product's left operand. -/
theorem pos_apply (b : Vec Ideal S1024x1024 .bf16) (hb : ∀ r j : Fin 1024, (b (ix2 r j) : EReal) = if j < r then 1 else 0) (r : Fin 1024) (l : Fin 4) :
    ((0 + (if (0 : Fin 4) < l then (k0_pay4 (F := Ideal) v (ix2 0 (laneOf 0)) : EReal) else 0))
      + (if (1 : Fin 4) < l then (k0_pay4 (F := Ideal) v (ix2 0 (laneOf 1)) : EReal) else 0))
      + (if (2 : Fin 4) < l then (k0_pay4 (F := Ideal) v (ix2 0 (laneOf 2)) : EReal) else 0)
      + (k0_pay3 (F := Ideal) v b (ix2 r (laneOf l)) : EReal) = ((startOfGroup γ l + rankOf γ r l : ℕ) : EReal) := by
  rw [rows_apply γ v hγ, rows_apply γ v hγ, rows_apply γ v hγ, rank_apply γ v hγ b hb]
  have e : ∀ (p : Prop) [Decidable p] (n : ℕ), (if p then (n : EReal) else 0) = ((if p then n else 0 : ℕ) : EReal) := by
    intro p _ n
    split <;> simp
  have h3 : ¬ ((3 : Fin 4) < l) := by omega
  unfold startOfGroup
  rw [Fin.sum_univ_four, if_neg h3, e, e, e, zero_add, add_zero, Nat.cast_add, Nat.cast_add, Nat.cast_add]

/-- The starts of all lanes. -/
def startRow (v : Vec Ideal S1024x128 .f32) : FVec Ideal S1x128 .f32 :=
  addf (k0_pay5 (F := Ideal) v) (select k0_pay6 (broadcastTo S1x128 (shapeCast S1x1 (extractStridedSlice S1x1 ![0, 2] (k0_pay4 (F := Ideal) v) slices_S1x128_o0_2_S1x1)
    shapeCasts_S1x1_S1x1) broadcasts_S1x1_S1x128) (broadcast S1x128 (Scalar.ofBits (F := Ideal) .f32 0x00000000#32)))

omit hγ in
theorem startRow_apply (l : Fin 4) : (startRow v (ix2 0 (laneOf l)) : EReal)
    = ((0 + (if (0 : Fin 4) < l then (k0_pay4 (F := Ideal) v (ix2 0 (laneOf 0)) : EReal) else 0))
      + (if (1 : Fin 4) < l then (k0_pay4 (F := Ideal) v (ix2 0 (laneOf 1)) : EReal) else 0))
      + (if (2 : Fin 4) < l then (k0_pay4 (F := Ideal) v (ix2 0 (laneOf 2)) : EReal) else 0) := by
  unfold startRow k0_pay5 k0_pay6
  refine congrArg₂ (fun a b : EReal => a + b) (congrArg₂ (fun a b : EReal => a + b) (congrArg₂ (fun a b : EReal => a + b) ?_ ?_) ?_) ?_
  · exact Ideal.ofBits_zero_f32
  · exact part_apply (k0_pay4 (F := Ideal) v) 0 0#32 rfl l ![0, 0] slices_S1x128_o0_0_S1x1 (fun a => match a with | ⟨0, _⟩ => rfl | ⟨1, _⟩ => rfl)
  · exact part_apply (k0_pay4 (F := Ideal) v) 1 1#32 rfl l ![0, 1] slices_S1x128_o0_1_S1x1 (fun a => match a with | ⟨0, _⟩ => rfl | ⟨1, _⟩ => rfl)
  · exact part_apply (k0_pay4 (F := Ideal) v) 2 2#32 rfl l ![0, 2] slices_S1x128_o0_2_S1x1 (fun a => match a with | ⟨0, _⟩ => rfl | ⟨1, _⟩ => rfl)

/-- The token's row as the body sums it. -/
theorem row_sum (b : Vec Ideal S1024x1024 .bf16) (hb : ∀ r j : Fin 1024, (b (ix2 r j) : EReal) = if j < r then 1 else 0) (r : Fin 1024) :
    (shapeCast S1024x1 (multiReduction .add [1] S1024 (mulf (k0_pay2 (F := Ideal) v) (addf (broadcastTo S1024x128 (startRow v) broadcasts_S1x128_S1024x128)
      (k0_pay3 (F := Ideal) v b))) 0x00000000#32 reduces_S1024x128_S1024 (.inl rfl) rfl : FVec Ideal S1024 .f32) shapeCasts_S1024_S1024x1 (ix2 r 0) : EReal)
      = (posOf γ r : EReal) := by
  rw [shapeCast_a_a1_apply]
  refine (Ideal.multiReduction_add_single _ _ reduces_S1024x128_S1024 _ _ (ix1 r)).trans ?_
  have h : ∀ k : Fin 128, (mulf (k0_pay2 (F := Ideal) v) (addf (broadcastTo S1024x128 (startRow v) broadcasts_S1x128_S1024x128)
      (k0_pay3 (F := Ideal) v b)) (ix2 r k) : EReal) = (if k.val = (γ r).val then 1 else 0) * ((startRow v (ix2 0 k) : EReal) + (k0_pay3 (F := Ideal) v b (ix2 r k) : EReal)) := by
    intro k
    refine congrArg₂ (fun a b : EReal => a * b) (onehot_apply γ v hγ r k) (congrArg (fun a : EReal => a + (k0_pay3 (F := Ideal) v b (ix2 r k) : EReal)) ?_)
    exact tall_lane (startRow v) r k
  refine (Finset.sum_congr rfl fun k _ => (congrArg (mulf (k0_pay2 (F := Ideal) v) (addf (broadcastTo S1024x128 (startRow v) broadcasts_S1x128_S1024x128)
      (k0_pay3 (F := Ideal) v b))) (row_lift r k)).trans (h k)).trans ?_
  refine (Finset.sum_eq_single (laneOf (γ r)) (fun k _ hk => ?_) (fun hk => absurd (Finset.mem_univ _) hk)).trans ?_
  · rw [if_neg (fun e : k.val = (γ r).val => hk (Fin.ext e)), zero_mul]
  · rw [if_pos (show (laneOf (γ r)).val = (γ r).val from rfl), one_mul, startRow_apply, pos_apply γ v hγ b hb]
    rfl

omit hγ in
/-- The row's column of the zero-one matrix is one, the others zero. -/
theorem place_apply (w : FVec Ideal S1024x1 .f32) (r : Fin 1024) (n : ℕ) (hw : (w (ix2 r 0) : EReal) = (n : EReal)) (k : Fin 1536) :
    (select (cmpf .oeq (sitofp (F := Ideal) .f32 (iota .tc S1024x1536 32 [1] iota_S1024x1536_d1_w32)) (broadcastTo S1024x1536 w broadcasts_S1024x1_S1024x1536))
      (broadcast S1024x1536 (Scalar.ofBits (F := Ideal) .f32 0x3F800000#32)) (broadcast S1024x1536 (Scalar.ofBits (F := Ideal) .f32 0x00000000#32)) (ix2 r k) : Ideal .f32)
      = (if k.val = n then 1 else 0 : EReal) := by
  show Scalar.select (Ideal.cmp .oeq (sitofp (F := Ideal) .f32 (iota .tc S1024x1536 32 [1] iota_S1024x1536_d1_w32) (ix2 r k))
    (broadcastTo S1024x1536 w broadcasts_S1024x1_S1024x1536 (ix2 r k))) (Ideal.ofBits .f32 0x3F800000#32) (Ideal.ofBits .f32 0x00000000#32) = _
  rw [col_num, wide_col, hw, select_oeq, Ideal.ofBits_one_f32, Ideal.ofBits_zero_f32]

omit hγ in
theorem rows_read (y : Vec Ideal S1x1536x1024 .f32) (k : Fin 1536) (d : Fin 1024) :
    (shapeCast S1536x1024 y shapeCasts_S1x1536x1024_S1536x1024 : FVec Ideal S1536x1024 .f32) (ix2 k d) = y (ix3 0 k d) :=
  shapeCast_apply _ _ _ _ (by
    rw [Shape.rowMajor_val_three, Shape.rowMajor_val_two]
    show (0 * 1536 + k.val) * 1024 + d.val = k.val * 1024 + d.val
    omega)

omit hγ in
theorem ld_v (x : Vec Ideal S1024x128 .f32) : View.ld x r0_0 = x := View.ld_unit_zero (by funext a; match a with | ⟨0, _⟩ => rfl | ⟨1, _⟩ => rfl) _ x
omit hγ in
theorem ld_x (x : Vec Ideal S1024x1024 .f32) : View.ld x r0_1 = x := View.ld_unit_zero (by funext a; match a with | ⟨0, _⟩ => rfl | ⟨1, _⟩ => rfl) _ x
omit hγ in
theorem ld_b (x : Vec Ideal S1024x1024 .bf16) : View.ld x r0_1 = x := View.ld_unit_zero (by funext a; match a with | ⟨0, _⟩ => rfl | ⟨1, _⟩ => rfl) _ x
omit hγ in
theorem ld_y (x : Vec Ideal S1x1536x1024 .f32) : View.ld x r0_2 = x :=
  View.ld_unit_zero (by funext a; match a with | ⟨0, _⟩ => rfl | ⟨1, _⟩ => rfl | ⟨2, _⟩ => rfl) _ x

/-- **The output block after the body.** -/
theorem out_comb (y : Vec Ideal S1x1536x1024 .f32) (x : Vec Ideal S1024x1024 .f32) (b : Vec Ideal S1024x1024 .bf16)
    (hb : ∀ r j : Fin 1024, (b (ix2 r j) : EReal) = if j < r then 1 else 0) (r d : Fin 1024) :
    (out0_4 (F := Ideal) y v x b (ix2 r d) : EReal) = (x (ix2 r d) : EReal) + (y (ix3 0 (posAt γ r) d) : EReal) := by
  unfold out0_4
  rw [View.canon_unit_zero (by funext a; match a with | ⟨0, _⟩ => rfl | ⟨1, _⟩ => rfl), ld_v, ld_x, ld_b, ld_y]
  unfold k0_pay1
  refine congrArg (fun a : EReal => (x (ix2 r d) : EReal) + a) ?_
  refine (Ideal.matmul_plain_apply (M := 1024) (K := 1536) (N := 1024) none
    (truncf .bf16 (select (cmpf .oeq (sitofp (F := Ideal) .f32 (iota .tc S1024x1536 32 [1] iota_S1024x1536_d1_w32)) (broadcastTo S1024x1536 _ broadcasts_S1024x1_S1024x1536))
      (broadcast S1024x1536 (Scalar.ofBits (F := Ideal) .f32 0x3F800000#32)) (broadcast S1024x1536 (Scalar.ofBits (F := Ideal) .f32 0x00000000#32))) bitsLt_bf16_f32 : FVec Ideal S1024x1536 .bf16)
    (truncf .bf16 (shapeCast S1536x1024 y shapeCasts_S1x1536x1024_S1536x1024 : FVec Ideal S1536x1024 .f32) bitsLt_bf16_f32 : FVec Ideal S1536x1024 .bf16) _ r d).trans ?_
  rw [constant_apply, Ideal.ofBits_zero_f32, zero_add]
  refine (Finset.sum_congr rfl fun k _ => congrArg₂ (fun p q : EReal => p * q) (place_apply _ r (posOf γ r) (row_sum γ v hγ b hb r) k) (rows_read y k d)).trans ?_
  refine (Finset.sum_eq_single (posAt γ r) (fun k _ hk => ?_) (fun hk => absurd (Finset.mem_univ _) hk)).trans ?_
  · show (if k.val = posOf γ r then (1 : EReal) else 0) * _ = 0
    rw [if_neg (fun e : k.val = posOf γ r => hk (Fin.ext e)), zero_mul]
  · show (if (posAt γ r).val = posOf γ r then (1 : EReal) else 0) * _ = _
    rw [if_pos (show (posAt γ r).val = posOf γ r from rfl), one_mul]

end Cert.Proof.Comb

end
-- ==== Proof.CombTotal.lean ====
/-
  The combination's result array over the extended reals, element by element in the arguments.
-/
module

public import proofs.«01_k».proof.Proof.CombBody
public import proofs.«01_k».proof.Proof.Gen.Kernel4Ideal.Value
public import Idealize.ShloMosaic.Lib.Pipeline.ArrRel

@[expose] public section

set_option maxRecDepth 16384

noncomputable section

namespace Cert.Proof.Comb

open Cert.Kernel4Ideal Cert.Kernel4Ideal.Gen
open Idealize.ShloMosaic Idealize.ShloMosaic.ValueIdx Idealize.ShloMosaic.TcCoe Idealize.SL.Sem

variable (m : (ℓ : Loc nD τ sig) → Buf (Elt Ideal) ℓ) (c : Dev nD)

abbrev argY : Vec Ideal S32x1536x1024 .f32 := m ((c : Thread nD τ).loc main_arg0)
abbrev argG : Vec Ideal S32768x128 .f32 := m ((c : Thread nD τ).loc main_arg1)
abbrev argX : Vec Ideal S32768x1024 .f32 := m ((c : Thread nD τ).loc main_arg2)

/-- One below the diagonal, zero elsewhere. -/
def before : Vec Ideal S1024x1024 .bf16 :=
  uitofp (F := Ideal) .bf16 (cmpi .slt
    (broadcastInDim S1024x1024 ![0, 1] bcast_S1x1024_S1024x1024_0_1 (broadcastInDim S1x1024 ![1] bcast_S1024_S1x1024_1 (iotaInDim S1024 32 0)))
    (broadcastInDim S1024x1024 ![0, 1] bcast_S1024x1_S1024x1024_0_1 (broadcastInDim S1024x1 ![0] bcast_S1024_S1024x1_0 (iotaInDim S1024 32 0))))

theorem V_b : V m c main_v6 = before := by
  unfold_abbrev_sides
  after_results_simp <;> (try dsimp only [Matrix.cons_val]) <;> (try after_results_simp) <;> rfl

theorem before_apply (r j : Fin 1024) : (before (ix2 r j) : EReal) = if j < r then 1 else 0 := by
  have h1 : broadcastInDim S1024x1024 ![0, 1] bcast_S1x1024_S1024x1024_0_1 (broadcastInDim S1x1024 ![1] bcast_S1024_S1x1024_1 (iotaInDim S1024 32 0)) (ix2 r j)
      = BitVec.ofNat 32 j.val := by
    refine (broadcastInDim_apply _ _ _ _ (ix2 (0 : Fin 1) j) (fun a => ?_)).trans ((broadcastInDim_apply _ _ _ _ (ix1 j) (fun a => ?_)).trans rfl)
    · match a with
      | ⟨0, _⟩ => rfl
      | ⟨1, _⟩ => rfl
    · match a with
      | ⟨0, _⟩ => rfl
  have h2 : broadcastInDim S1024x1024 ![0, 1] bcast_S1024x1_S1024x1024_0_1 (broadcastInDim S1024x1 ![0] bcast_S1024_S1024x1_0 (iotaInDim S1024 32 0)) (ix2 r j)
      = BitVec.ofNat 32 r.val := by
    refine (broadcastInDim_apply _ _ _ _ (ix2 r (0 : Fin 1)) (fun a => ?_)).trans ((broadcastInDim_apply _ _ _ _ (ix1 r) (fun a => ?_)).trans rfl)
    · match a with
      | ⟨0, _⟩ => rfl
      | ⟨1, _⟩ => rfl
    · match a with
      | ⟨0, _⟩ => rfl
  refine (congrArg (fun w : BitVec 1 => (((w.toNat : ℝ)) : EReal)) ((congrArg₂ (IntOp.cmpi .slt) h1 h2).trans (slt_word j.val r.val (by omega) (by omega)))).trans ?_
  exact bit_val (j.val < r.val)

/-- A point's row among all rows. -/
def rowAt (t : Fin grid0.N) (r : Fin 1024) : Fin 32768 :=
  ⟨(grid0.coords t 0).val * 1024 + r.val, by have : (grid0.coords t 0).val < 32 := (grid0.coords t 0).isLt; omega⟩
def seqOf (t : Fin grid0.N) : Fin 32 := ⟨(grid0.coords t 0).val, (grid0.coords t 0).isLt⟩

theorem idx0 : ∀ t : Fin grid0.N, cc0_transform_0 (grid0.coords t) = ![(grid0.coords t 0).val, 0, 0] := by decide +kernel
theorem idx1 : ∀ t : Fin grid0.N, cc0_transform_1 (grid0.coords t) = ![(grid0.coords t 0).val, 0] := by decide +kernel
theorem idx2 : ∀ t : Fin grid0.N, cc0_transform_2 (grid0.coords t) = ![(grid0.coords t 0).val, 0] := by decide +kernel
theorem idx3 : ∀ t : Fin grid0.N, cc0_transform_3 (grid0.coords t) = ![0, 0] := by decide +kernel
theorem idx4 : ∀ t : Fin grid0.N, cc0_transform_4 (grid0.coords t) = ![(grid0.coords t 0).val, 0] := by decide +kernel

theorem blk_y (t : Fin grid0.N) (k : Fin 1536) (d : Fin 1024) : iblk m c 0 t (ix3 (0 : Fin 1) k d) = V m c main_arg0 (ix3 (seqOf t) k d) := by
  unfold iblk
  refine congrArg (V m c main_arg0) (funext fun a => Fin.ext ?_)
  refine (Pipeline.Window.rect_emb_val _ _ _ _).trans ?_
  show cc0_transform_0 (grid0.coords t) a * (![1, 1536, 1024] : Fin 3 → ℕ) a + _ = _
  rw [idx0 t]
  match a with
  | ⟨0, _⟩ => show (grid0.coords t 0).val * 1 + 0 = (grid0.coords t 0).val; omega
  | ⟨1, _⟩ => show 0 * 1536 + k.val = k.val; omega
  | ⟨2, _⟩ => show 0 * 1024 + d.val = d.val; omega

theorem blk_g (t : Fin grid0.N) (r : Fin 1024) (k : Fin 128) : iblk m c 1 t (ix2 r k) = V m c main_arg1 (ix2 (rowAt t r) k) := by
  unfold iblk
  refine congrArg (V m c main_arg1) (funext fun a => Fin.ext ?_)
  refine (Pipeline.Window.rect_emb_val _ _ _ _).trans ?_
  show cc0_transform_1 (grid0.coords t) a * (![1024, 128] : Fin 2 → ℕ) a + _ = _
  rw [idx1 t]
  match a with
  | ⟨0, _⟩ => rfl
  | ⟨1, _⟩ => show 0 * 128 + k.val = k.val; omega

theorem blk_x (t : Fin grid0.N) (r d : Fin 1024) : iblk m c 2 t (ix2 r d) = V m c main_arg2 (ix2 (rowAt t r) d) := by
  unfold iblk
  refine congrArg (V m c main_arg2) (funext fun a => Fin.ext ?_)
  refine (Pipeline.Window.rect_emb_val _ _ _ _).trans ?_
  show cc0_transform_2 (grid0.coords t) a * (![1024, 1024] : Fin 2 → ℕ) a + _ = _
  rw [idx2 t]
  match a with
  | ⟨0, _⟩ => rfl
  | ⟨1, _⟩ => show 0 * 1024 + d.val = d.val; omega

theorem blk_b (t : Fin grid0.N) (r j : Fin 1024) : iblk m c 3 t (ix2 r j) = V m c main_v6 (ix2 r j) := by
  unfold iblk
  refine congrArg (V m c main_v6) (funext fun a => Fin.ext ?_)
  refine (Pipeline.Window.rect_emb_val _ _ _ _).trans ?_
  show cc0_transform_3 (grid0.coords t) a * (![1024, 1024] : Fin 2 → ℕ) a + _ = _
  rw [idx3 t]
  match a with
  | ⟨0, _⟩ => show 0 * 1024 + r.val = r.val; omega
  | ⟨1, _⟩ => show 0 * 1024 + j.val = j.val; omega

variable (Γ : Fin 32 → Fin 1024 → Fin 4)

/-- A row's sequence and its token. -/
def seqRow (R : Fin 32768) : Fin 32 := ⟨R.val / 1024, by omega⟩
def tokRow (R : Fin 32768) : Fin 1024 := ⟨R.val % 1024, by omega⟩

/-- The result array. -/
def combArr : Vec Ideal S32768x1024 .f32 := fun i =>
  ((argX m c i : EReal) + (argY m c (ix3 (seqRow (i 0)) (posAt (Γ (seqRow (i 0))) (tokRow (i 0))) (i 1)) : EReal) : EReal)

variable (hΓ : ∀ R : Fin 32768, (argG m c (ix2 R (32 : Fin 128)) : EReal) = ((Γ (seqRow R) (tokRow R)).val : EReal))

theorem seq_row (t : Fin grid0.N) (r : Fin 1024) : seqRow (rowAt t r) = seqOf t := Fin.ext (by
  show ((grid0.coords t 0).val * 1024 + r.val) / 1024 = (grid0.coords t 0).val
  omega)
theorem tok_row (t : Fin grid0.N) (r : Fin 1024) : tokRow (rowAt t r) = r := Fin.ext (by
  show ((grid0.coords t 0).val * 1024 + r.val) % 1024 = r.val
  omega)

include hΓ

theorem comb_at (t : Fin grid0.N) (r d : Fin 1024) :
    out0_4 (F := Ideal) (iblk m c 0 t) (iblk m c 1 t) (iblk m c 2 t) (iblk m c 3 t) (ix2 r d) = combArr m c Γ (ix2 (rowAt t r) d) := by
  refine (out_comb (Γ (seqOf t)) (iblk m c 1 t) (fun j => ?_) (iblk m c 0 t) (iblk m c 2 t) (iblk m c 3 t) (fun r j => ?_) r d).trans ?_
  · refine (blk_g m c t j (32 : Fin 128)).trans ((congrFun (V_main_arg1 m c) _).trans ((hΓ (rowAt t j)).trans ?_))
    rw [seq_row, tok_row]
  · exact (blk_b m c t r j).trans ((congrFun (V_b m c) _).trans (before_apply r j))
  · refine congrArg₂ (fun a b : EReal => a + b) ((blk_x m c t r d).trans (congrFun (V_main_arg2 m c) _)) ?_
    refine (blk_y m c t _ d).trans ((congrFun (V_main_arg0 m c) _).trans ?_)
    show argY m c _ = argY m c (ix3 (seqRow (rowAt t r)) (posAt (Γ (seqRow (rowAt t r))) (tokRow (rowAt t r))) d)
    rw [seq_row, tok_row]

omit hΓ in
theorem emb4 (t : Fin grid0.N) (r d : Fin 1024) : ((cfg0.win 4).blk t).view.emb (ix2 r d) = ix2 (rowAt t r) d := by
  funext a
  apply Fin.ext
  refine (Pipeline.Window.rect_emb_val _ _ _ _).trans ?_
  show cc0_transform_4 (grid0.coords t) a * (![1024, 1024] : Fin 2 → ℕ) a + _ = _
  rw [idx4 t]
  match a with
  | ⟨0, _⟩ => rfl
  | ⟨1, _⟩ => show 0 * 1024 + d.val = d.val; omega

theorem comb_any (t : Fin grid0.N) (y : S1024x1024.Idx) :
    out0_4 (F := Ideal) (iblk m c 0 t) (iblk m c 1 t) (iblk m c 2 t) (iblk m c 3 t) y = combArr m c Γ (((cfg0.win 4).blk t).view.emb y) := by
  rw [eq_ix2 (n0 := 1024) (n1 := 1024) y]
  exact (comb_at m c Γ hΓ t (y 0) (y 1)).trans (congrArg (combArr m c Γ) (emb4 t (y 0) (y 1)).symm)

omit hΓ in
theorem cov4 : (cfg0.win 4).Covers := by decide +kernel

/-- **The call's result array.** -/
theorem final_comb : (dats m 0 c).arrAt 4 cfg0.N = combArr m c Γ := by
  refine (dats m 0 c).arrAt_eq_of_covers 4 (combArr m c Γ) cov4 fun t hf y => ?_
  blk_simp
  rw [after0_4]
  exact comb_any m c Γ hΓ t y

end Cert.Proof.Comb

end
-- ==== Proof.CombRef.lean ====
/-
  The combination's reference over the extended reals: a token's row is its group's start plus its rank in the group.
-/
module

public import proofs.«01_k».proof.Proof.Gen.Reference4Ideal.Read
public import proofs.«01_k».proof.Proof.CombNat
public import Idealize.ShloMosaic.Lib.ValueIdx
public import Idealize.ShloMosaic.Lib.ValueLayout
public import Idealize.ShloMosaic.PureOps.Ideal.Laws

@[expose] public section

set_option maxRecDepth 16384

noncomputable section

namespace Cert.Proof.Comb.Ref

open Cert.Reference4Ideal Cert.Reference4Ideal.Gen Cert.Reference4Ideal.Read
open Cert.Proof.Comb
open Idealize.ShloMosaic Idealize.ShloMosaic.ValueIdx

/-- Token `j` of sequence `b` among all rows. -/
def tok (b : Fin 32) (j : Fin 1024) : Fin 32768 := ⟨b.val * 1024 + j.val, by omega⟩

variable (x0 : Vec Ideal S32x1536x1024 .f32) (x1 : Vec Ideal S32768x128 .f32) (x2 : Vec Ideal S32768x1024 .f32)

theorem g_read (b : Fin 32) (j : Fin 1024) : val_main_v2 (F := Ideal) x1 (ix2 b j) = x1 (ix2 (tok b j) (32 : Fin 128)) := by
  refine (val_main_v2_apply x1 _).trans ((val_main_v1_apply x1 _).trans ((val_main_v0_apply x1 _).trans (congrArg x1 (funext fun a => Fin.ext ?_))))
  match a with
  | ⟨0, _⟩ => exact Nat.div_one _
  | ⟨1, _⟩ => rfl

theorem cmp_oeq (a b : ℕ) : Ideal.cmp .oeq (a : EReal) (b : EReal) = BitVec.ofBool (decide (a = b)) :=
  congrArg BitVec.ofBool (decide_eq_decide.2 EReal.natCast_eq_iff)

/-- Where the first token comes before the second. -/
theorem before_read (b : Fin 32) (i j : Fin 1024) : val_main_v15 (F := Ideal) (ix3 b i j) = BitVec.ofBool (decide (j.val < i.val)) := by
  refine (val_main_v15_apply _).trans ((val_main_v14_apply _).trans ((val_main_v13_apply _).trans ?_))
  refine (congrArg₂ (IntOp.cmpi .slt) ?_ ?_).trans (slt_word j.val i.val (by omega) (by omega))
  · exact (val_main_v11_apply _).trans ((val_main_v9_apply _).trans (val_main_v3_apply _))
  · exact (val_main_v12_apply _).trans ((val_main_v10_apply _).trans (val_main_v3_apply _))

theorem lane_read (b : Fin 32) (i : Fin 1024) (l : Fin 4) : (val_main_v25 (F := Ideal) (ix3 b i l) : EReal) = (l.val : EReal) := by
  refine (val_main_v25_apply _).trans ((val_main_v23_apply _).trans ((val_main_v22_apply _).trans ?_))
  exact word_val l.val (by omega)

theorem lane_read' (b : Fin 32) (i : Fin 1024) (l : Fin 4) : (val_main_v39 (F := Ideal) (ix3 b i l) : EReal) = (l.val : EReal) := by
  refine (val_main_v39_apply _).trans ((val_main_v38_apply _).trans ((val_main_v36_apply _).trans ?_))
  exact word_val l.val (by omega)

variable (Γ : Fin 32 → Fin 1024 → Fin 4) (hΓ : ∀ b j, (x1 (ix2 (tok b j) (32 : Fin 128)) : EReal) = ((Γ b j).val : EReal))
include hΓ

theorem g_val (b : Fin 32) (j : Fin 1024) (i : S32x1024.Idx) (hi : i = ix2 b j) : (val_main_v2 (F := Ideal) x1 i : EReal) = ((Γ b j).val : EReal) := by
  rw [hi]
  exact (g_read x1 b j).trans (hΓ b j)

theorem wide_g (b : Fin 32) (i j : Fin 1024) : (val_main_v6 (F := Ideal) x1 (ix3 b i j) : EReal) = ((Γ b j).val : EReal) := by
  refine (val_main_v6_apply x1 _).trans ((val_main_v4_apply x1 _).trans (g_val x1 Γ hΓ b j _ (funext fun a => ?_)))
  match a with
  | ⟨0, _⟩ => rfl
  | ⟨1, _⟩ => rfl

theorem tall_g (b : Fin 32) (i j : Fin 1024) : (val_main_v7 (F := Ideal) x1 (ix3 b i j) : EReal) = ((Γ b i).val : EReal) := by
  refine (val_main_v7_apply x1 _).trans ((val_main_v5_apply x1 _).trans (g_val x1 Γ hΓ b i _ (funext fun a => ?_)))
  match a with
  | ⟨0, _⟩ => rfl
  | ⟨1, _⟩ => rfl

theorem lane_g (b : Fin 32) (i : Fin 1024) (l : Fin 4) : (val_main_v24 (F := Ideal) x1 (ix3 b i l) : EReal) = ((Γ b i).val : EReal) := by
  refine (val_main_v24_apply x1 _).trans ((val_main_v20_apply x1 _).trans (g_val x1 Γ hΓ b i _ (funext fun a => ?_)))
  match a with
  | ⟨0, _⟩ => rfl
  | ⟨1, _⟩ => rfl

theorem lane_g' (b : Fin 32) (i : Fin 1024) (l : Fin 4) : (val_main_v40 (F := Ideal) x1 (ix3 b i l) : EReal) = ((Γ b i).val : EReal) := by
  refine (val_main_v40_apply x1 _).trans ((val_main_v37_apply x1 _).trans (g_val x1 Γ hΓ b i _ (funext fun a => ?_)))
  match a with
  | ⟨0, _⟩ => rfl
  | ⟨1, _⟩ => rfl

theorem ahead_apply (b : Fin 32) (i j : Fin 1024) :
    (val_main_v18 (F := Ideal) x1 (ix3 b i j) : EReal) = if j < i ∧ Γ b j = Γ b i then 1 else 0 := by
  refine (val_main_v18_apply x1 _).trans ((val_main_v17_apply x1 _).trans ?_)
  rw [val_main_v16_apply, val_main_v8_apply, before_read, val_main_call0_v0_apply, val_main_call0_v1_apply]
  show Scalar.select (IntOp.andi (Ideal.cmp .oeq (val_main_v6 (F := Ideal) x1 (ix3 b i j)) (val_main_v7 (F := Ideal) x1 (ix3 b i j))) _)
    (Ideal.ofBits .f32 0x3F800000#32) (Ideal.ofBits .f32 0x00000000#32) = _
  rw [wide_g x1 Γ hΓ, tall_g x1 Γ hΓ, cmp_oeq, select_and, Ideal.ofBits_one_f32, Ideal.ofBits_zero_f32]
  exact if_congr ⟨fun h => ⟨h.2, Fin.ext h.1⟩, fun h => ⟨congrArg Fin.val h.2, h.1⟩⟩ rfl rfl

theorem rank_read (b : Fin 32) (i : Fin 1024) : (val_main_v19 (F := Ideal) x1 (ix2 b i) : EReal) = (rankOf (Γ b) i (Γ b i) : EReal) := by
  refine (val_main_v19_apply x1 _).trans ?_
  rw [val_main_cst_1_apply]
  refine (congrArg (fun a : EReal => a + _) Ideal.ofBits_zero_f32).trans ((zero_add _).trans ?_)
  unfold rankOf
  rw [← Finset.sum_boole]
  refine Finset.sum_congr rfl fun j _ => ?_
  refine (congrArg (val_main_v18 (F := Ideal) x1) (funext fun a => ?_)).trans (ahead_apply x1 Γ hΓ b i j)
  match a with
  | ⟨0, _⟩ => rfl
  | ⟨1, _⟩ => rfl
  | ⟨2, _⟩ => rfl

theorem onehot_read (b : Fin 32) (i : Fin 1024) (l : Fin 4) : (val_main_v28 (F := Ideal) x1 (ix3 b i l) : EReal) = if Γ b i = l then 1 else 0 := by
  refine (val_main_v28_apply x1 _).trans ((val_main_v27_apply x1 _).trans ?_)
  rw [val_main_v26_apply, val_main_call1_v0_apply, val_main_call1_v1_apply]
  show Scalar.select (Ideal.cmp .oeq (val_main_v24 (F := Ideal) x1 (ix3 b i l)) (val_main_v25 (F := Ideal) (ix3 b i l)))
    (Ideal.ofBits .f32 0x3F800000#32) (Ideal.ofBits .f32 0x00000000#32) = _
  rw [lane_g x1 Γ hΓ, lane_read, select_oeq, Ideal.ofBits_one_f32, Ideal.ofBits_zero_f32]
  exact if_congr ⟨fun h => Fin.ext h, fun h => congrArg Fin.val h⟩ rfl rfl

theorem count_read (b : Fin 32) (l : Fin 4) : (val_main_v29 (F := Ideal) x1 (ix2 b l) : EReal) = (countOf (Γ b) l : EReal) := by
  refine (val_main_v29_apply x1 _).trans ?_
  rw [val_main_cst_4_apply]
  refine (congrArg (fun a : EReal => a + _) Ideal.ofBits_zero_f32).trans ((zero_add _).trans ?_)
  unfold countOf
  rw [← Finset.sum_boole]
  refine Finset.sum_congr rfl fun j _ => ?_
  refine (congrArg (val_main_v28 (F := Ideal) x1) (funext fun a => ?_)).trans (onehot_read x1 Γ hΓ b j l)
  match a with
  | ⟨0, _⟩ => rfl
  | ⟨1, _⟩ => rfl
  | ⟨2, _⟩ => rfl

theorem rows_read (b : Fin 32) (l : Fin 4) : (val_main_v34 (F := Ideal) x1 (ix2 b l) : EReal) = (rowsOf (Γ b) l : EReal) := by
  rw [val_main_v34_apply, val_main_v32_apply, val_main_v31_apply, val_main_v30_apply, val_main_v33_apply]
  show Ideal.liftRound Int.ceil (Ideal.div (val_main_v29 (F := Ideal) x1 (ix2 b l)) (Ideal.ofBits .f32 0x43000000#32)) * Ideal.ofBits .f32 0x43000000#32 = _
  rw [count_read x1 Γ hΓ, bits_128, ceil_rows]
  rfl

theorem earlier_read (b : Fin 32) (i : Fin 1024) (l : Fin 4) :
    (val_main_v43 (F := Ideal) x1 (ix3 b i l) : EReal) = ((if l < Γ b i then rowsOf (Γ b) l else 0 : ℕ) : EReal) := by
  rw [val_main_v43_apply, val_main_v41_apply, val_main_call2_v1_apply, val_main_v42_apply, val_main_call2_v2_apply]
  have h : (val_main_v34 (F := Ideal) x1 (idx_main_v42 (idx_main_call2_v1 (ix3 b i l))) : EReal) = (rowsOf (Γ b) l : EReal) := by
    refine (congrArg (val_main_v34 (F := Ideal) x1) (funext fun a => ?_)).trans (rows_read x1 Γ hΓ b l)
    match a with
    | ⟨0, _⟩ => rfl
    | ⟨1, _⟩ => rfl
  rw [h]
  show Scalar.select (Ideal.cmp .olt (val_main_v39 (F := Ideal) (ix3 b i l)) (val_main_v40 (F := Ideal) x1 (ix3 b i l))) _ (Ideal.ofBits .f32 0x00000000#32) = _
  rw [lane_g' x1 Γ hΓ, lane_read', select_olt, Ideal.ofBits_zero_f32]
  by_cases k : l < Γ b i
  · rw [if_pos k, if_pos (show l.val < (Γ b i).val from k)]
  · rw [if_neg k, if_neg (show ¬ l.val < (Γ b i).val from k), Nat.cast_zero]

theorem start_read (b : Fin 32) (i : Fin 1024) : (val_main_v44 (F := Ideal) x1 (ix2 b i) : EReal) = (startOfGroup (Γ b) (Γ b i) : EReal) := by
  refine (val_main_v44_apply x1 _).trans ?_
  rw [val_main_cst_8_apply]
  refine (congrArg (fun a : EReal => a + _) Ideal.ofBits_zero_f32).trans ((zero_add _).trans ?_)
  unfold startOfGroup
  rw [Nat.cast_sum]
  refine Finset.sum_congr rfl fun l _ => ?_
  refine (congrArg (val_main_v43 (F := Ideal) x1) (funext fun a => ?_)).trans (earlier_read x1 Γ hΓ b i l)
  match a with
  | ⟨0, _⟩ => rfl
  | ⟨1, _⟩ => rfl
  | ⟨2, _⟩ => rfl

theorem word_read (b : Fin 32) (i : Fin 1024) : val_main_v47 (F := Ideal) x1 (ix3 b i 0) = BitVec.ofNat 32 (posOf (Γ b) i) := by
  refine (val_main_v47_apply x1 _).trans ((val_main_v46_apply x1 _).trans ?_)
  have e : idx_main_v47 (ix3 b i 0) = ix2 b i := by
    funext a
    match a with
    | ⟨0, _⟩ => rfl
    | ⟨1, _⟩ => rfl
  rw [e]
  have h : (val_main_v45 (F := Ideal) x1 (ix2 b i) : EReal) = (posOf (Γ b) i : EReal) := by
    rw [val_main_v45_apply]
    show (val_main_v44 (F := Ideal) x1 (ix2 b i) : EReal) + (val_main_v19 (F := Ideal) x1 (ix2 b i) : EReal) = _
    rw [start_read x1 Γ hΓ, rank_read x1 Γ hΓ, ← Nat.cast_add]
    rfl
  exact (congrArg (Ideal.fptosi 32) h).trans (fptosi_nat _ (pos_lt (Γ b) i))

theorem index_read (b : Fin 32) (i : Fin 1024) : val_main_call3_v4 (F := Ideal) x1 (ix3 b i 0) = BitVec.ofNat 32 (posOf (Γ b) i) := by
  have hp := pos_lt (Γ b) i
  rw [val_main_call3_v4_apply, val_main_call3_v1_apply, word_read x1 Γ hΓ, val_main_call3_v0_apply, val_main_call3_c_apply]
  have h : IntOp.cmpi .slt (BitVec.ofNat 32 (posOf (Γ b) i)) 0#32 = BitVec.ofBool (decide (posOf (Γ b) i < 0)) :=
    slt_word (posOf (Γ b) i) 0 (by omega) (by omega)
  rw [h, decide_eq_false (Nat.not_lt_zero _)]
  rfl

omit hΓ in
/-- The gather reads, in the token's sequence, the row its index names. -/
theorem gather_read (u : IVec S32x1024x1 32) (b : Fin 32) (i d : Fin 1024) (n : ℕ) (hn : n < 1536) (hu : u (ix3 b i 0) = BitVec.ofNat 32 n) :
    Host.gather gather_S32x1536x1024_S32x1024x1_S32x1024x1024_2_1_0_0_1_2_111024 x0 u (ix3 b i d) = x0 (ix3 b ⟨n, hn⟩ d) := by
  unfold Host.gather
  refine congrArg x0 (funext fun a => Fin.ext ?_)
  show GatherDims.start gather_S32x1536x1024_S32x1024x1_S32x1024x1024_2_1_0_0_1_2_111024 (ix3 b i d) u a
    + GatherDims.batchCoord gather_S32x1536x1024_S32x1024x1_S32x1024x1024_2_1_0_0_1_2_111024 (ix3 b i d) a
    + GatherDims.offCoord gather_S32x1536x1024_S32x1024x1_S32x1024x1024_2_1_0_0_1_2_111024 (ix3 b i d) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (show (0 : Fin 3) ∈ gather_S32x1536x1024_S32x1024x1_S32x1024x1024_2_1_0_0_1_2_111024.operandBatchingDims from List.mem_singleton.mpr rfl)]
    rfl
  · rw [GatherDims.batchCoord_eq_zero _ _ _ (by decide),
      GatherDims.offCoord_eq_zero _ _ _ (fun h => ((GatherDims.mem_sKept _ _).mp h).1 (List.mem_singleton.mpr rfl)), Nat.add_zero]
    unfold GatherDims.start
    rw [dif_pos (show (1 : Fin 3) ∈ gather_S32x1536x1024_S32x1024x1_S32x1024x1024_2_1_0_0_1_2_111024.startIndexMap from List.mem_singleton.mpr rfl)]
    have e : GatherDims.siIdx gather_S32x1536x1024_S32x1024x1_S32x1024x1024_2_1_0_0_1_2_111024 (ix3 b i d)
        ⟨List.idxOf (1 : Fin 3) gather_S32x1536x1024_S32x1024x1_S32x1024x1024_2_1_0_0_1_2_111024.startIndexMap,
          List.idxOf_lt_length_iff.2 (List.mem_singleton.mpr rfl)⟩ = ix3 b i 0 := by
      funext q
      match q with
      | ⟨0, _⟩ => rfl
      | ⟨1, _⟩ => rfl
      | ⟨2, _⟩ => rfl
    refine (congrArg (fun w : BitVec 32 => min w.toInt.toNat (1536 - 1)) ((congrArg u e).trans hu)).trans ?_
    show min (BitVec.ofNat 32 n).toInt.toNat (1536 - 1) = n
    rw [word_toInt n (by omega), Int.toNat_natCast]
    omega
  · rw [GatherDims.batchCoord_eq_zero _ _ _ (by decide)]
    unfold GatherDims.start
    rw [dif_neg (show (2 : Fin 3) ∉ gather_S32x1536x1024_S32x1024x1_S32x1024x1024_2_1_0_0_1_2_111024.startIndexMap by decide), Nat.zero_add]
    unfold GatherDims.offCoord
    rw [dif_pos (show (2 : Fin 3) ∈ gather_S32x1536x1024_S32x1024x1_S32x1024x1024_2_1_0_0_1_2_111024.sKept by decide)]
    rfl

/-- **One entry of the reference's result.** -/
theorem out_read (R : Fin 32768) (d : Fin 1024) (b : Fin 32) (i : Fin 1024) (hR : R = tok b i) :
    (val_main_v50 (F := Ideal) x0 x1 x2 (ix2 R d) : EReal) = (x2 (ix2 R d) : EReal) + (x0 (ix3 b ⟨posOf (Γ b) i, pos_lt (Γ b) i⟩ d) : EReal) := by
  refine (val_main_v50_apply x0 x1 x2 _).trans (congrArg (fun a : EReal => (x2 (ix2 R d) : EReal) + a) ?_)
  refine (val_main_v49_apply x0 x1 _).trans ?_
  have e : idx_main_v49 (ix2 R d) = ix3 b i d := by
    have hv : R.val = b.val * 1024 + i.val := congrArg Fin.val hR
    funext a
    apply Fin.ext
    match a with
    | ⟨0, _⟩ => show (R.val * 1024 + d.val) / 1048576 = b.val; omega
    | ⟨1, _⟩ => show (R.val * 1024 + d.val) / 1024 % 1024 = i.val; omega
    | ⟨2, _⟩ => show (R.val * 1024 + d.val) % 1024 = d.val; omega
  rw [e]
  unfold val_main_v48
  exact gather_read x0 (val_main_call3_v4 (F := Ideal) x1) b i d _ (pos_lt (Γ b) i) (index_read x1 Γ hΓ b i)

end Cert.Proof.Comb.Ref

end
-- ==== Proof.CombPre.lean ====
/-
  The combination's precondition: every token's group lane holds 0, 1, 2 or 3.
-/
module

public import proofs.«01_k».proof.Pre_grouped
public import proofs.«01_k».proof.Proof.Gen.Pre_grouped
public import proofs.«01_k».proof.Proof.CombNat
public import Idealize.ShloMosaic.Lib.ValueIdx
public import Idealize.ShloMosaic.Lib.ValueLayout
public import Idealize.ShloMosaic.Lib.ReduceAll
public import Idealize.ShloMosaic.Lib.Affine

@[expose] public section

noncomputable section

namespace Cert.Proof.Comb.Pre

open Cert.Pre_grouped Cert.Pre_grouped.Gen
open Idealize.ShloMosaic Idealize.ShloMosaic.ValueIdx

attribute [local instance] Cert.Pre_grouped.Gen.facts

theorem oeq_one {a b : EReal} (h : Ideal.cmp .oeq a b = 1#1) : a = b := by
  by_contra e
  have h' : BitVec.ofBool (decide (a = b)) = 1#1 := h
  rw [decide_eq_false e] at h'
  exact absurd h' (by decide)

theorem ori_one : ∀ a b : BitVec 1, IntOp.ori a b = 1#1 → a = 1#1 ∨ b = 1#1 := by decide

theorem lane_read (G : FVec Ideal S32768x128 .f32) (h1 : S32768x128.Slices ![0, 32] S32768x1) (h2 : S32768x1.ShapeCasts S32768) (R : Fin 32768) :
    shapeCast S32768 (extractStridedSlice S32768x1 ![0, 32] G h1) h2 (ix1 R) = G (ix2 R (32 : Fin 128)) := by
  rw [shapeCast_apply _ _ (ix1 R) (ix2 R 0) (by
      rw [Shape.rowMajor_val_two, Shape.rowMajor_val_one]
      show R.val * 1 + 0 = R.val
      omega)]
  exact extractStridedSlice_apply _ _ _ _ (ix2 R (32 : Fin 128)) (fun a => match a with
    | ⟨0, _⟩ => (Nat.zero_add _).symm
    | ⟨1, _⟩ => rfl)

instance : Subsingleton Cert.Pre_grouped.S_.Idx := ⟨fun a b => funext fun i => i.elim0⟩

theorem lane_group (Y : FVec Ideal S32x1536x1024 .f32) (G : FVec Ideal S32768x128 .f32) (X : FVec Ideal S32768x1024 .f32)
    (h : Cert.Pre_grouped.fn (F := Ideal) Y G X = fun _ => 1#1) (R : Fin 32768) :
    ∃ l : Fin 4, (G (ix2 R (32 : Fin 128)) : EReal) = (l.val : EReal) := by
  have h0 := congrFun h (fun a => a.elim0)
  dsimp only [Cert.Pre_grouped.fn] at h0
  have h1 := Host.reduce_andi_all _ _ _ _ _ h0 (ix1 R)
  have e := lane_read G Facts.slices_S32768x128_S32768x1_0_32 Facts.shapeCasts_S32768x1_S32768 R
  rcases ori_one _ _ h1 with h2 | a3
  · rcases ori_one _ _ h2 with h3 | a2
    · rcases ori_one _ _ h3 with a0 | a1
      · refine ⟨0, e.symm.trans ((oeq_one a0).trans ?_)⟩
        exact Ideal.ofBits_zero_f32.trans Nat.cast_zero.symm
      · refine ⟨1, e.symm.trans ((oeq_one a1).trans ?_)⟩
        exact Ideal.ofBits_one_f32.trans Nat.cast_one.symm
    · exact ⟨2, e.symm.trans ((oeq_one a2).trans bits_2)⟩
  · exact ⟨3, e.symm.trans ((oeq_one a3).trans bits_3)⟩

/-- The groups of all sequences' tokens. -/
theorem groups (Y : FVec Ideal S32x1536x1024 .f32) (G : FVec Ideal S32768x128 .f32) (X : FVec Ideal S32768x1024 .f32)
    (h : Cert.Pre_grouped.fn (F := Ideal) Y G X = fun _ => 1#1) :
    ∃ Γ : Fin 32 → Fin 1024 → Fin 4, ∀ (b : Fin 32) (j : Fin 1024) (R : Fin 32768), R.val = b.val * 1024 + j.val →
      (G (ix2 R (32 : Fin 128)) : EReal) = ((Γ b j).val : EReal) := by
  refine ⟨fun b j => Classical.choose (lane_group Y G X h ⟨b.val * 1024 + j.val, by omega⟩), fun b j R hR => ?_⟩
  have e : R = ⟨b.val * 1024 + j.val, by omega⟩ := Fin.ext hR
  rw [e]
  exact Classical.choose_spec (lane_group Y G X h ⟨b.val * 1024 + j.val, by omega⟩)

end Cert.Proof.Comb.Pre

end
-- ==== Proof.DispNat.lean ====
/-
  Two tokens never share a row, and what lies at a row of a block: the value of the token whose row it is, or zero.
-/
module

public import proofs.«01_k».proof.Proof.CombNat

@[expose] public section

noncomputable section

namespace Cert.Proof.Disp

open Idealize.ShloMosaic Cert.Proof.Comb

variable (γ : Fin 1024 → Fin 4)

theorem rank_mono (r s : Fin 1024) (h : r < s) (e : γ r = γ s) : rankOf γ r (γ r) < rankOf γ s (γ s) := by
  refine Finset.card_lt_card ((Finset.ssubset_iff_of_subset ?_).2 ⟨r, ?_, ?_⟩)
  · intro j hj
    have hj' := (Finset.mem_filter.1 hj).2
    exact Finset.mem_filter.2 ⟨Finset.mem_univ _, lt_trans hj'.1 h, hj'.2.trans e⟩
  · exact Finset.mem_filter.2 ⟨Finset.mem_univ _, h, e⟩
  · intro hj
    exact absurd (Finset.mem_filter.1 hj).2.1 (lt_irrefl r)

theorem start_mono (k l : Fin 4) (h : k < l) : startOfGroup γ k + countOf γ k ≤ startOfGroup γ l := by
  have h0 : countOf γ 0 ≤ rowsOf γ 0 := by unfold rowsOf; omega
  have h1 : countOf γ 1 ≤ rowsOf γ 1 := by unfold rowsOf; omega
  have h2 : countOf γ 2 ≤ rowsOf γ 2 := by unfold rowsOf; omega
  unfold startOfGroup
  rw [Fin.sum_univ_four, Fin.sum_univ_four]
  match k, l with
  | 0, 0 => exact absurd h (by decide)
  | 0, 1 => simp; omega
  | 0, 2 => simp; omega
  | 0, 3 => simp; omega
  | 1, 0 => exact absurd h (by decide)
  | 1, 1 => exact absurd h (by decide)
  | 1, 2 => simp; omega
  | 1, 3 => simp; omega
  | 2, 0 => exact absurd h (by decide)
  | 2, 1 => exact absurd h (by decide)
  | 2, 2 => exact absurd h (by decide)
  | 2, 3 => simp; omega
  | 3, 0 => exact absurd h (by decide)
  | 3, 1 => exact absurd h (by decide)
  | 3, 2 => exact absurd h (by decide)
  | 3, 3 => exact absurd h (by decide)

theorem pos_ne_of_lt (r s : Fin 1024) (h : r < s) : posOf γ r ≠ posOf γ s := by
  have hr := rank_lt γ r
  have hs := rank_lt γ s
  unfold posOf
  rcases lt_trichotomy (γ r) (γ s) with g | g | g
  · have := start_mono γ _ _ g
    omega
  · have := rank_mono γ r s h g
    rw [g] at this ⊢
    omega
  · have := start_mono γ _ _ g
    omega

theorem pos_inj (r s : Fin 1024) (h : posOf γ r = posOf γ s) : r = s := by
  rcases lt_trichotomy r s with g | g | g
  · exact absurd h (pos_ne_of_lt γ r s g)
  · exact g
  · exact absurd h.symm (pos_ne_of_lt γ s r g)

/-- What lies at row `p`. -/
def putRow (f : Fin 1024 → EReal) (p : ℕ) : EReal := ∑ j, (if p = posOf γ j then 1 else 0) * f j

theorem putRow_hit (f : Fin 1024 → EReal) (j : Fin 1024) : putRow γ f (posOf γ j) = f j := by
  unfold putRow
  refine (Finset.sum_eq_single j (fun k _ hk => ?_) (fun hk => absurd (Finset.mem_univ _) hk)).trans ?_
  · rw [if_neg (fun e => hk (pos_inj γ _ _ e).symm), zero_mul]
  · rw [if_pos rfl, one_mul]

theorem putRow_miss (f : Fin 1024 → EReal) (p : ℕ) (h : ∀ j, posOf γ j ≠ p) : putRow γ f p = 0 := by
  unfold putRow
  refine Finset.sum_eq_zero fun j _ => ?_
  rw [if_neg (fun e => h j e.symm), zero_mul]

/-- Two arrays put apart and added, where adding the second changes nothing. -/
theorem putRow_add (f g : Fin 1024 → EReal) (h : ∀ j, f j + g j = f j) (p : ℕ) : putRow γ f p + putRow γ g p = putRow γ f p := by
  by_cases q : ∃ j, posOf γ j = p
  · obtain ⟨j, hj⟩ := q
    rw [← hj, putRow_hit, putRow_hit, h]
  · have hm : ∀ j, posOf γ j ≠ p := fun j e => q ⟨j, e⟩
    rw [putRow_miss γ f p hm, putRow_miss γ g p hm, zero_add]

/-- The first row of a lane's group, lanes beyond the last group taken as the last; the tokens of a lane's group. -/
def firstOf (k : Fin 8) : ℕ :=
  (if 0 < k.val then rowsOf γ 0 else 0) + (if 1 < k.val then rowsOf γ 1 else 0) + (if 2 < k.val then rowsOf γ 2 else 0)
def tokensOf (k : Fin 8) : ℕ := (Finset.univ.filter fun j => k.val = (γ j).val).card

/-- One entry of a block's run table: the first row of the lane's group, its chunks of 128 rows, zeros. -/
def tableAt (k : Fin 8) (c : Fin 128) : EReal :=
  if c.val = 0 then (firstOf γ k : EReal) else if c.val = 1 then (((tokensOf γ k + 127) / 128 : ℕ) : EReal) else 0

theorem tokens_group (k : Fin 8) (h : k.val < 4) : tokensOf γ k = countOf γ ⟨k.val, h⟩ := by
  unfold tokensOf countOf
  exact congrArg Finset.card (Finset.filter_congr fun j _ => ⟨fun e => Fin.ext e.symm, fun e => (congrArg Fin.val e).symm⟩)

theorem tokens_none (k : Fin 8) (h : ¬ k.val < 4) : tokensOf γ k = 0 := by
  unfold tokensOf
  exact Finset.card_eq_zero.2 (Finset.filter_eq_empty_iff.2 fun j _ e => h (e ▸ (γ j).isLt))

end Cert.Proof.Disp

end
-- ==== Proof.DispBody.lean ====
/-
  What one grid point of the dispatch leaves in its output blocks: at each row the token whose row it is, zero where there is none.
-/
module

public import proofs.«01_k».proof.Proof.Gen.Kernel5Ideal.Frame
public import proofs.«01_k».proof.Proof.DispNat
public import Idealize.ShloMosaic.Lib.Pipeline.ValueKit.Geometry
public import Idealize.ShloMosaic.Lib.Pipeline.ValueKit.Tiles
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.PureOps.Ideal.Laws

@[expose] public section

set_option maxRecDepth 16384

noncomputable section

namespace Cert.Proof.Disp

open Cert.Kernel5Ideal Cert.Kernel5Ideal.Gen Cert.Proof.Comb
open Idealize.ShloMosaic Idealize.ShloMosaic.ValueIdx Idealize.ShloMosaic.TcCoe

/-- A group's lane among the eight. -/
def lane8 (l : Fin 4) : Fin 8 := ⟨l.val, by omega⟩

theorem lane_num (k : Fin 8) (r : Fin 1024) :
    (sitofp (F := Ideal) .f32 (iota .tc S8x1024 32 [0] iota_S8x1024_d0_w32) (ix2 k r) : EReal) = (k.val : EReal) :=
  (congrArg (fun w : BitVec 32 => (((w.toInt : ℤ) : ℝ) : EReal)) (congrArg (BitVec.ofNat 32) (show 0 * 8 + k.val = k.val by omega))).trans
    (word_val k.val (by omega))

theorem row_num (p : Fin 1536) (j : Fin 1024) :
    (sitofp (F := Ideal) .f32 (iota .tc S1536x1024 32 [0] iota_S1536x1024_d0_w32) (ix2 p j) : EReal) = (p.val : EReal) :=
  (congrArg (fun w : BitVec 32 => (((w.toInt : ℤ) : ℝ) : EReal)) (congrArg (BitVec.ofNat 32) (show 0 * 1536 + p.val = p.val by omega))).trans
    (word_val p.val (by omega))

theorem one_num (k : Fin 8) : iota .tc S8x1 32 [0] iota_S8x1_d0_w32 (ix2 k 0) = BitVec.ofNat 32 k.val :=
  congrArg (BitVec.ofNat 32) (show 0 * 8 + k.val = k.val by omega)

theorem tall_lane (v : FVec Ideal S1x1024 .f32) (k : Fin 8) (r : Fin 1024) :
    broadcastTo S8x1024 v broadcasts_S1x1024_S8x1024 (ix2 k r) = v (ix2 0 r) :=
  broadcastTo_apply v broadcasts_S1x1024_S8x1024 (ix2 k r) (ix2 0 r) (fun a => match a with
    | ⟨0, _⟩ => by show 0 = if (1 : ℕ) = 1 then 0 else k.val; rw [if_pos rfl]
    | ⟨1, _⟩ => by show r.val = if (1024 : ℕ) = 1 then 0 else r.val; rw [if_neg (by decide)])

theorem tall_row (v : FVec Ideal S1x1024 .f32) (p : Fin 1536) (j : Fin 1024) :
    broadcastTo S1536x1024 v broadcasts_S1x1024_S1536x1024 (ix2 p j) = v (ix2 0 j) :=
  broadcastTo_apply v broadcasts_S1x1024_S1536x1024 (ix2 p j) (ix2 0 j) (fun a => match a with
    | ⟨0, _⟩ => by show 0 = if (1 : ℕ) = 1 then 0 else p.val; rw [if_pos rfl]
    | ⟨1, _⟩ => by show j.val = if (1024 : ℕ) = 1 then 0 else j.val; rw [if_neg (by decide)])

theorem wide_lane (v : FVec Ideal S8x1 .f32) (k : Fin 8) (r : Fin 1024) :
    broadcastTo S8x1024 v broadcasts_S8x1_S8x1024 (ix2 k r) = v (ix2 k 0) :=
  broadcastTo_apply v broadcasts_S8x1_S8x1024 (ix2 k r) (ix2 k 0) (fun a => match a with
    | ⟨0, _⟩ => by show k.val = if (8 : ℕ) = 1 then 0 else k.val; rw [if_neg (by decide)]
    | ⟨1, _⟩ => by show 0 = if (1 : ℕ) = 1 then 0 else r.val; rw [if_pos rfl])

theorem one_lane (v : FVec Ideal S1x1 .f32) (k : Fin 8) :
    broadcastTo S8x1 v broadcasts_S1x1_S8x1 (ix2 k 0) = v (ix2 0 0) :=
  broadcastTo_apply v broadcasts_S1x1_S8x1 (ix2 k 0) (ix2 0 0) (fun a => match a with
    | ⟨0, _⟩ => by show 0 = if (1 : ℕ) = 1 then 0 else k.val; rw [if_pos rfl]
    | ⟨1, _⟩ => by show 0 = if (1 : ℕ) = 1 then 0 else 0; rw [if_pos rfl])

theorem group_read (v : FVec Ideal S1024x128 .f32) (r : Fin 1024) :
    extractStridedSlice S1x1024 ![32, 0] (transpose S128x1024 [1, 0] v transposes_S1024x128_p1_0_S128x1024) slices_S128x1024_o32_0_S1x1024 (ix2 0 r)
      = v (ix2 r (32 : Fin 128)) :=
  (extractStridedSlice_apply _ _ _ _ (ix2 (32 : Fin 128) r) (fun a => match a with
    | ⟨0, _⟩ => rfl
    | ⟨1, _⟩ => (Nat.zero_add _).symm)).trans
  (transpose_apply _ _ _ _ (ix2 r (32 : Fin 128)) (fun b => match b with
    | ⟨0, _⟩ => rfl
    | ⟨1, _⟩ => rfl))

theorem col_lift (r : Fin 1024) (k : Fin 8) : reduces_S8x1024_S1024.lift (ix1 r) k = ix2 k r := by
  funext a
  match a with
  | ⟨0, _⟩ => rfl
  | ⟨1, _⟩ => rfl

theorem row_lift (k : Fin 8) (j : Fin 1024) : reduces_S8x1024_S8.lift (ix1 k) j = ix2 k j := by
  funext a
  match a with
  | ⟨0, _⟩ => rfl
  | ⟨1, _⟩ => rfl

theorem lane_eq (a l : Fin 4) : (lane8 l).val = a.val ↔ a = l := ⟨fun h => Fin.ext h.symm, fun h => congrArg Fin.val h.symm⟩

variable (γ : Fin 1024 → Fin 4) (v : Vec Ideal S1024x128 .f32) (hγ : ∀ j : Fin 1024, (v (ix2 j (32 : Fin 128)) : EReal) = ((γ j).val : EReal))
include hγ

/-- One in the lane of the token's group, zero in the others. -/
theorem onehot_apply (k : Fin 8) (r : Fin 1024) : (k0_pay2 (F := Ideal) v (ix2 k r) : EReal) = if k.val = (γ r).val then 1 else 0 := by
  show Scalar.select (Ideal.cmp .oeq (sitofp (F := Ideal) .f32 (iota .tc S8x1024 32 [0] iota_S8x1024_d0_w32) (ix2 k r))
    (broadcastTo S8x1024 (extractStridedSlice S1x1024 ![32, 0] (transpose S128x1024 [1, 0] v transposes_S1024x128_p1_0_S128x1024) slices_S128x1024_o32_0_S1x1024)
      broadcasts_S1x1024_S8x1024 (ix2 k r)))
    (Ideal.ofBits .f32 0x3F800000#32) (Ideal.ofBits .f32 0x00000000#32) = _
  rw [lane_num, tall_lane, group_read, hγ, select_oeq, Ideal.ofBits_one_f32, Ideal.ofBits_zero_f32]

theorem rank_apply (b : Vec Ideal S1024x1024 .bf16) (hb : ∀ j r : Fin 1024, (b (ix2 j r) : EReal) = if j < r then 1 else 0) (r : Fin 1024) (l : Fin 4) :
    (k0_pay3 (F := Ideal) v b (ix2 (lane8 l) r) : EReal) = (rankOf γ r l : EReal) := by
  unfold k0_pay3
  rw [shapeCast_self]
  refine (Ideal.matmul_plain_apply (M := 8) (K := 1024) (N := 1024) none (truncf .bf16 (k0_pay2 (F := Ideal) v) bitsLt_bf16_f32 : FVec Ideal S8x1024 .bf16) b _ (lane8 l) r).trans ?_
  rw [constant_apply, Ideal.ofBits_zero_f32, zero_add]
  unfold rankOf
  rw [← Finset.sum_boole]
  refine Finset.sum_congr rfl fun j _ => ?_
  show (k0_pay2 (F := Ideal) v (ix2 (lane8 l) j) : EReal) * (b (ix2 j r) : EReal) = _
  rw [hb, onehot_apply γ v hγ]
  simp only [lane_eq]
  by_cases h : j < r <;> by_cases k : γ j = l <;> simp [h, k]

theorem count_apply (l : Fin 4) :
    (shapeCast S8x1 (multiReduction .add [1] S8 (k0_pay2 (F := Ideal) v) 0x00000000#32 reduces_S8x1024_S8 (.inl rfl) rfl : FVec Ideal S8 .f32)
      shapeCasts_S8_S8x1 (ix2 (lane8 l) 0) : EReal) = (countOf γ l : EReal) := by
  rw [shapeCast_a_a1_apply]
  refine (Ideal.multiReduction_add_single _ _ reduces_S8x1024_S8 _ _ (ix1 (lane8 l))).trans ?_
  unfold countOf
  rw [← Finset.sum_boole]
  refine Finset.sum_congr rfl fun j _ => ?_
  exact (congrArg (k0_pay2 (F := Ideal) v) (row_lift (lane8 l) j)).trans ((onehot_apply γ v hγ (lane8 l) j).trans (if_congr (lane_eq (γ j) l) rfl rfl))

theorem rows_apply (l : Fin 4) : (k0_pay5 (F := Ideal) v (ix2 (lane8 l) 0) : EReal) = (rowsOf γ l : EReal) := by
  unfold k0_pay5 k0_pay4
  show Ideal.liftRound Int.floor (((shapeCast S8x1 (multiReduction .add [1] S8 (k0_pay2 (F := Ideal) v) 0x00000000#32 reduces_S8x1024_S8 (.inl rfl) rfl : FVec Ideal S8 .f32)
      shapeCasts_S8_S8x1 (ix2 (lane8 l) 0) : EReal) + Ideal.ofBits .f32 0x42FE0000#32) * Ideal.ofBits .f32 0x3C000000#32) * Ideal.ofBits .f32 0x43000000#32 = _
  rw [count_apply γ v hγ, bits_127, bits_inv, bits_128, floor_rows]
  rfl

omit hγ in
/-- The rows of one group where the lane is beyond it. -/
theorem part_apply (p : FVec Ideal S8x1 .f32) (e : Fin 4) (n : BitVec 32) (hn : n = BitVec.ofNat 32 e.val) (l : Fin 4) (off : Fin 2 → ℕ)
    (hs : S8x1.Slices off S1x1) (ho : ∀ a, (ix2 (lane8 e) (0 : Fin 1) a).val = off a + (ix2 (0 : Fin 1) (0 : Fin 1) a).val) :
    (select (cmpi .sgt (iota .tc S8x1 32 [0] iota_S8x1_d0_w32) (broadcast S8x1 n))
      (broadcastTo S8x1 (shapeCast S1x1 (extractStridedSlice S1x1 off p hs) shapeCasts_S1x1_S1x1) broadcasts_S1x1_S8x1)
      (broadcast S8x1 (Scalar.ofBits (F := Ideal) .f32 0x00000000#32)) (ix2 (lane8 l) 0) : Ideal .f32)
      = if e < l then (p (ix2 (lane8 e) 0) : EReal) else 0 := by
  show Scalar.select (IntOp.cmpi .sgt (iota .tc S8x1 32 [0] iota_S8x1_d0_w32 (ix2 (lane8 l) 0)) n) (broadcastTo S8x1 _ broadcasts_S1x1_S8x1 (ix2 (lane8 l) 0)) (Ideal.ofBits .f32 0x00000000#32) = _
  rw [one_num, one_lane, shapeCast_self, extractStridedSlice_apply _ _ _ _ (ix2 (lane8 e) 0) ho, hn, select_sgt _ _ (by omega) (by omega), Ideal.ofBits_zero_f32]
  rfl

/-- The starts of all lanes. -/
def startCol (v : Vec Ideal S1024x128 .f32) : FVec Ideal S8x1 .f32 :=
  k0_pay8 (F := Ideal) (k0_pay5 v) (iota .tc S8x1 32 [0] iota_S8x1_d0_w32) (k0_pay6 v) k0_pay7

omit hγ in
theorem startCol_apply (l : Fin 4) : (startCol v (ix2 (lane8 l) 0) : EReal)
    = ((0 + (if (0 : Fin 4) < l then (k0_pay5 (F := Ideal) v (ix2 (lane8 0) 0) : EReal) else 0))
      + (if (1 : Fin 4) < l then (k0_pay5 (F := Ideal) v (ix2 (lane8 1) 0) : EReal) else 0))
      + (if (2 : Fin 4) < l then (k0_pay5 (F := Ideal) v (ix2 (lane8 2) 0) : EReal) else 0) := by
  unfold startCol k0_pay8 k0_pay6 k0_pay7
  refine congrArg₂ (fun a b : EReal => a + b) (congrArg₂ (fun a b : EReal => a + b) (congrArg₂ (fun a b : EReal => a + b) ?_ ?_) ?_) ?_
  · exact Ideal.ofBits_zero_f32
  · exact part_apply (k0_pay5 (F := Ideal) v) 0 0#32 rfl l ![0, 0] slices_S8x1_o0_0_S1x1 (fun a => match a with | ⟨0, _⟩ => rfl | ⟨1, _⟩ => rfl)
  · exact part_apply (k0_pay5 (F := Ideal) v) 1 1#32 rfl l ![1, 0] slices_S8x1_o1_0_S1x1 (fun a => match a with | ⟨0, _⟩ => rfl | ⟨1, _⟩ => rfl)
  · exact part_apply (k0_pay5 (F := Ideal) v) 2 2#32 rfl l ![2, 0] slices_S8x1_o2_0_S1x1 (fun a => match a with | ⟨0, _⟩ => rfl | ⟨1, _⟩ => rfl)

theorem pos_apply (b : Vec Ideal S1024x1024 .bf16) (hb : ∀ j r : Fin 1024, (b (ix2 j r) : EReal) = if j < r then 1 else 0) (r : Fin 1024) (l : Fin 4) :
    (startCol v (ix2 (lane8 l) 0) : EReal) + (k0_pay3 (F := Ideal) v b (ix2 (lane8 l) r) : EReal) = ((startOfGroup γ l + rankOf γ r l : ℕ) : EReal) := by
  rw [startCol_apply, rows_apply γ v hγ, rows_apply γ v hγ, rows_apply γ v hγ, rank_apply γ v hγ b hb]
  have e : ∀ (p : Prop) [Decidable p] (n : ℕ), (if p then (n : EReal) else 0) = ((if p then n else 0 : ℕ) : EReal) := by
    intro p _ n
    split <;> simp
  have h3 : ¬ ((3 : Fin 4) < l) := by omega
  unfold startOfGroup
  rw [Fin.sum_univ_four, if_neg h3, e, e, e, zero_add, add_zero, Nat.cast_add, Nat.cast_add, Nat.cast_add]

omit hγ in
/-- The rows of one group where the lane is beyond it, for all eight lanes. -/
theorem part_lane (p : FVec Ideal S8x1 .f32) (e : Fin 4) (n : BitVec 32) (hn : n = BitVec.ofNat 32 e.val) (k : Fin 8) (off : Fin 2 → ℕ)
    (hs : S8x1.Slices off S1x1) (ho : ∀ a, (ix2 (lane8 e) (0 : Fin 1) a).val = off a + (ix2 (0 : Fin 1) (0 : Fin 1) a).val) :
    (select (cmpi .sgt (iota .tc S8x1 32 [0] iota_S8x1_d0_w32) (broadcast S8x1 n))
      (broadcastTo S8x1 (shapeCast S1x1 (extractStridedSlice S1x1 off p hs) shapeCasts_S1x1_S1x1) broadcasts_S1x1_S8x1)
      (broadcast S8x1 (Scalar.ofBits (F := Ideal) .f32 0x00000000#32)) (ix2 k 0) : Ideal .f32)
      = if e.val < k.val then (p (ix2 (lane8 e) 0) : EReal) else 0 := by
  show Scalar.select (IntOp.cmpi .sgt (iota .tc S8x1 32 [0] iota_S8x1_d0_w32 (ix2 k 0)) n) (broadcastTo S8x1 _ broadcasts_S1x1_S8x1 (ix2 k 0)) (Ideal.ofBits .f32 0x00000000#32) = _
  rw [one_num, one_lane, shapeCast_self, extractStridedSlice_apply _ _ _ _ (ix2 (lane8 e) 0) ho, hn, select_sgt _ _ (by omega) (by omega), Ideal.ofBits_zero_f32]

/-- The start in any of the eight lanes. -/
theorem first_apply (k : Fin 8) : (startCol v (ix2 k 0) : EReal) = (firstOf γ k : EReal) := by
  have h : (startCol v (ix2 k 0) : EReal)
      = ((0 + (if 0 < k.val then (k0_pay5 (F := Ideal) v (ix2 (lane8 0) 0) : EReal) else 0))
        + (if 1 < k.val then (k0_pay5 (F := Ideal) v (ix2 (lane8 1) 0) : EReal) else 0))
        + (if 2 < k.val then (k0_pay5 (F := Ideal) v (ix2 (lane8 2) 0) : EReal) else 0) := by
    unfold startCol k0_pay8 k0_pay6 k0_pay7
    refine congrArg₂ (fun a b : EReal => a + b) (congrArg₂ (fun a b : EReal => a + b) (congrArg₂ (fun a b : EReal => a + b) ?_ ?_) ?_) ?_
    · exact Ideal.ofBits_zero_f32
    · exact part_lane (k0_pay5 (F := Ideal) v) 0 0#32 rfl k ![0, 0] slices_S8x1_o0_0_S1x1 (fun a => match a with | ⟨0, _⟩ => rfl | ⟨1, _⟩ => rfl)
    · exact part_lane (k0_pay5 (F := Ideal) v) 1 1#32 rfl k ![1, 0] slices_S8x1_o1_0_S1x1 (fun a => match a with | ⟨0, _⟩ => rfl | ⟨1, _⟩ => rfl)
    · exact part_lane (k0_pay5 (F := Ideal) v) 2 2#32 rfl k ![2, 0] slices_S8x1_o2_0_S1x1 (fun a => match a with | ⟨0, _⟩ => rfl | ⟨1, _⟩ => rfl)
  have e : ∀ (p : Prop) [Decidable p] (n : ℕ), (if p then (n : EReal) else 0) = ((if p then n else 0 : ℕ) : EReal) := by
    intro p _ n
    split <;> simp
  rw [h, rows_apply γ v hγ, rows_apply γ v hγ, rows_apply γ v hγ, e, e, e, zero_add, ← Nat.cast_add, ← Nat.cast_add]
  rfl

/-- The chunks in any of the eight lanes. -/
theorem chunks_apply (k : Fin 8) : (k0_pay4 (F := Ideal) v (ix2 k 0) : EReal) = (((tokensOf γ k + 127) / 128 : ℕ) : EReal) := by
  have hc : (shapeCast S8x1 (multiReduction .add [1] S8 (k0_pay2 (F := Ideal) v) 0x00000000#32 reduces_S8x1024_S8 (.inl rfl) rfl : FVec Ideal S8 .f32)
      shapeCasts_S8_S8x1 (ix2 k 0) : EReal) = (tokensOf γ k : EReal) := by
    rw [shapeCast_a_a1_apply]
    refine (Ideal.multiReduction_add_single _ _ reduces_S8x1024_S8 _ _ (ix1 k)).trans ?_
    unfold tokensOf
    rw [← Finset.sum_boole]
    refine Finset.sum_congr rfl fun j _ => ?_
    exact (congrArg (k0_pay2 (F := Ideal) v) (row_lift k j)).trans (onehot_apply γ v hγ k j)
  unfold k0_pay4
  show Ideal.liftRound Int.floor (((shapeCast S8x1 (multiReduction .add [1] S8 (k0_pay2 (F := Ideal) v) 0x00000000#32 reduces_S8x1024_S8 (.inl rfl) rfl : FVec Ideal S8 .f32)
      shapeCasts_S8_S8x1 (ix2 k 0) : EReal) + Ideal.ofBits .f32 0x42FE0000#32) * Ideal.ofBits .f32 0x3C000000#32) = _
  rw [hc, bits_127, bits_inv, floor_chunks]

omit hγ in
theorem table_lane (w : FVec Ideal S8x1 .f32) (k : Fin 8) (c : Fin 128) :
    broadcastTo S8x128 w broadcasts_S8x1_S8x128 (ix2 k c) = w (ix2 k 0) :=
  broadcastTo_apply w broadcasts_S8x1_S8x128 (ix2 k c) (ix2 k 0) (fun a => match a with
    | ⟨0, _⟩ => by show k.val = if (8 : ℕ) = 1 then 0 else k.val; rw [if_neg (by decide)]
    | ⟨1, _⟩ => by show 0 = if (1 : ℕ) = 1 then 0 else c.val; rw [if_pos rfl])

omit hγ in
theorem column_num (k : Fin 8) (c : Fin 128) : iota .tc S8x128 32 [1] iota_S8x128_d1_w32 (ix2 k c) = BitVec.ofNat 32 c.val :=
  congrArg (BitVec.ofNat 32) (show 0 * 128 + c.val = c.val by omega)

omit hγ in
/-- A choice by the equality of two small words. -/
theorem select_eq (a b : ℕ) (ha : a < 65536) (hb : b < 65536) {α : Type} (x y : α) :
    Scalar.select (IntOp.cmpi .eq (BitVec.ofNat 32 a) (BitVec.ofNat 32 b)) x y = if a = b then x else y := by
  show (if BitVec.ofBool (BitVec.ofNat 32 a == BitVec.ofNat 32 b) = 1 then x else y) = _
  by_cases h : a = b
  · rw [if_pos h, h, beq_self_eq_true]; rfl
  · have hn : BitVec.ofNat 32 a ≠ BitVec.ofNat 32 b := fun e => h (by
      have e' := congrArg BitVec.toInt e
      rw [word_toInt a ha, word_toInt b hb] at e'
      exact_mod_cast e')
    rw [if_neg h, beq_false_of_ne hn]; rfl

/-- The token's row as the body sums it. -/
theorem row_sum (b : Vec Ideal S1024x1024 .bf16) (hb : ∀ j r : Fin 1024, (b (ix2 j r) : EReal) = if j < r then 1 else 0) (r : Fin 1024) :
    (shapeCast S1x1024 (multiReduction .add [0] S1024 (mulf (k0_pay2 (F := Ideal) v) (addf (broadcastTo S8x1024 (startCol v) broadcasts_S8x1_S8x1024)
      (k0_pay3 (F := Ideal) v b))) 0x00000000#32 reduces_S8x1024_S1024 (.inl rfl) rfl : FVec Ideal S1024 .f32) shapeCasts_S1024_S1x1024 (ix2 0 r) : EReal)
      = (posOf γ r : EReal) := by
  rw [shapeCast_apply _ _ _ (ix1 r) (by rw [Shape.rowMajor_val_one, Shape.rowMajor_val_two]; show r.val = 0 * 1024 + r.val; omega)]
  refine (Ideal.multiReduction_add_single _ _ reduces_S8x1024_S1024 _ _ (ix1 r)).trans ?_
  have h : ∀ k : Fin 8, (mulf (k0_pay2 (F := Ideal) v) (addf (broadcastTo S8x1024 (startCol v) broadcasts_S8x1_S8x1024)
      (k0_pay3 (F := Ideal) v b)) (ix2 k r) : EReal) = (if k.val = (γ r).val then 1 else 0) * ((startCol v (ix2 k 0) : EReal) + (k0_pay3 (F := Ideal) v b (ix2 k r) : EReal)) := by
    intro k
    refine congrArg₂ (fun a b : EReal => a * b) (onehot_apply γ v hγ k r) (congrArg (fun a : EReal => a + (k0_pay3 (F := Ideal) v b (ix2 k r) : EReal)) ?_)
    exact wide_lane (startCol v) k r
  refine (Finset.sum_congr rfl fun k _ => (congrArg (mulf (k0_pay2 (F := Ideal) v) (addf (broadcastTo S8x1024 (startCol v) broadcasts_S8x1_S8x1024)
      (k0_pay3 (F := Ideal) v b))) (col_lift r k)).trans (h k)).trans ?_
  refine (Finset.sum_eq_single (lane8 (γ r)) (fun k _ hk => ?_) (fun hk => absurd (Finset.mem_univ _) hk)).trans ?_
  · rw [if_neg (fun e : k.val = (γ r).val => hk (Fin.ext e)), zero_mul]
  · rw [if_pos (show (lane8 (γ r)).val = (γ r).val from rfl), one_mul, pos_apply γ v hγ b hb]
    rfl

omit hγ in
/-- A token's column of the zero-one matrix is one at the token's row, zero at the others. -/
theorem place_apply (w : FVec Ideal S1x1024 .f32) (j : Fin 1024) (n : ℕ) (hw : (w (ix2 0 j) : EReal) = (n : EReal)) (p : Fin 1536) :
    (select (cmpf .oeq (sitofp (F := Ideal) .f32 (iota .tc S1536x1024 32 [0] iota_S1536x1024_d0_w32)) (broadcastTo S1536x1024 w broadcasts_S1x1024_S1536x1024))
      (broadcast S1536x1024 (Scalar.ofBits (F := Ideal) .f32 0x3F800000#32)) (broadcast S1536x1024 (Scalar.ofBits (F := Ideal) .f32 0x00000000#32)) (ix2 p j) : Ideal .f32)
      = (if p.val = n then 1 else 0 : EReal) := by
  show Scalar.select (Ideal.cmp .oeq (sitofp (F := Ideal) .f32 (iota .tc S1536x1024 32 [0] iota_S1536x1024_d0_w32) (ix2 p j))
    (broadcastTo S1536x1024 w broadcasts_S1x1024_S1536x1024 (ix2 p j))) (Ideal.ofBits .f32 0x3F800000#32) (Ideal.ofBits .f32 0x00000000#32) = _
  rw [row_num, tall_row, hw, select_oeq, Ideal.ofBits_one_f32, Ideal.ofBits_zero_f32]

/-- The three operands side by side. -/
def sideBySide (x : Vec Ideal S1024x1024 .bf16) (v : Vec Ideal S1024x128 .f32) : FVec Ideal S1024x1280 .bf16 :=
  concatenate S1024x1280 1 [⟨S1024x1024, x⟩, ⟨S1024x128, truncf .bf16 v bitsLt_bf16_f32⟩,
    ⟨S1024x128, truncf .bf16 (subf v (extf .f32 (truncf .bf16 v bitsLt_bf16_f32 : FVec Ideal S1024x128 .bf16) bitsLt_bf16_f32)) bitsLt_bf16_f32⟩]
    concatenates_S1024x1024_S1024x128_S1024x128_S1024x1280_d1

omit hγ in
theorem side_first (x : Vec Ideal S1024x1024 .bf16) (j d : Fin 1024) :
    (sideBySide x v (ix2 j (⟨d.val, by omega⟩ : Fin 1280)) : EReal) = x (ix2 j d) := by
  unfold sideBySide
  refine (concatenate_apply_piece (t := S1024x1280) 1 _ _ _ 0 (by show 0 < 3; decide) S1024x1024 _ (by rfl) rfl 0 (by rfl) (ix2 j d)
    (fun b hb => ?_) ?_).trans rfl
  · match b, hb with
    | ⟨0, _⟩, _ => rfl
    | ⟨1, _⟩, hb => exact absurd rfl hb
  · exact Nat.zero_add _

omit hγ in
theorem side_second (x : Vec Ideal S1024x1024 .bf16) (j : Fin 1024) (k : Fin 128) :
    (sideBySide x v (ix2 j (⟨1024 + k.val, by omega⟩ : Fin 1280)) : EReal) = v (ix2 j k) := by
  unfold sideBySide
  refine (concatenate_apply_piece (t := S1024x1280) 1 _ _ _ 1 (by show 1 < 3; decide) S1024x128 _ (by rfl) rfl 1024 (by rfl) (ix2 j k)
    (fun b hb => ?_) ?_).trans rfl
  · match b, hb with
    | ⟨0, _⟩, _ => rfl
    | ⟨1, _⟩, hb => exact absurd rfl hb
  · rfl

omit hγ in
theorem side_third (x : Vec Ideal S1024x1024 .bf16) (j : Fin 1024) (k : Fin 128) :
    (sideBySide x v (ix2 j (⟨1152 + k.val, by omega⟩ : Fin 1280)) : EReal) = (v (ix2 j k) : EReal) - v (ix2 j k) := by
  unfold sideBySide
  refine (concatenate_apply_piece (t := S1024x1280) 1 _ _ _ 2 (by show 2 < 3; decide) S1024x128 _ (by rfl) rfl 1152 (by rfl) (ix2 j k)
    (fun b hb => ?_) ?_).trans rfl
  · match b, hb with
    | ⟨0, _⟩, _ => rfl
    | ⟨1, _⟩, hb => exact absurd rfl hb
  · rfl

/-- The product at a row: the operands' rows put at the tokens' rows. -/
theorem put_apply (x : Vec Ideal S1024x1024 .bf16) (b : Vec Ideal S1024x1024 .bf16)
    (hb : ∀ j r : Fin 1024, (b (ix2 j r) : EReal) = if j < r then 1 else 0) (p : Fin 1536) (c : Fin 1280) :
    (k0_pay9 (F := Ideal) v (k0_pay2 v) (k0_pay3 v b) (k0_pay5 v) (iota .tc S8x1 32 [0] iota_S8x1_d0_w32) (k0_pay6 v) k0_pay7 x (ix2 p c) : EReal)
      = putRow γ (fun j => sideBySide x v (ix2 j c)) p.val := by
  unfold k0_pay9
  refine (Ideal.matmul_plain_apply (M := 1536) (K := 1024) (N := 1280) none
    (truncf .bf16 (select (cmpf .oeq (sitofp (F := Ideal) .f32 (iota .tc S1536x1024 32 [0] iota_S1536x1024_d0_w32)) (broadcastTo S1536x1024 _ broadcasts_S1x1024_S1536x1024))
      (broadcast S1536x1024 (Scalar.ofBits (F := Ideal) .f32 0x3F800000#32)) (broadcast S1536x1024 (Scalar.ofBits (F := Ideal) .f32 0x00000000#32))) bitsLt_bf16_f32 : FVec Ideal S1536x1024 .bf16)
    (sideBySide x v) _ p c).trans ?_
  rw [constant_apply, Ideal.ofBits_zero_f32, zero_add]
  exact Finset.sum_congr rfl fun j _ => congrArg (fun q : EReal => q * (sideBySide x v (ix2 j c) : EReal)) (place_apply _ j (posOf γ j) (row_sum γ v hγ b hb j) p)

omit hγ in
theorem ld_v (x : Vec Ideal S1024x128 .f32) : View.ld x r0_0 = x := View.ld_unit_zero (by funext a; match a with | ⟨0, _⟩ => rfl | ⟨1, _⟩ => rfl) _ x
omit hγ in
theorem ld_x (x : Vec Ideal S1024x1024 .bf16) : View.ld x r0_1 = x := View.ld_unit_zero (by funext a; match a with | ⟨0, _⟩ => rfl | ⟨1, _⟩ => rfl) _ x

/-- **The block of rows after the body.** -/
theorem out_rows (x : Vec Ideal S1024x1024 .bf16) (b : Vec Ideal S1024x1024 .bf16)
    (hb : ∀ j r : Fin 1024, (b (ix2 j r) : EReal) = if j < r then 1 else 0) (p : Fin 1536) (d : Fin 1024) :
    (out0_3 (F := Ideal) x v b (ix3 0 p d) : EReal) = putRow γ (fun j => x (ix2 j d)) p.val := by
  unfold_out out0_3
  rw [View.canon_unit_zero (by funext a; match a with | ⟨0, _⟩ => rfl | ⟨1, _⟩ => rfl | ⟨2, _⟩ => rfl), ld_v, ld_x, ld_x]
  unfold k0_pay10
  rw [shapeCast_apply _ _ _ (ix2 p d) (by
    rw [Shape.rowMajor_val_three, Shape.rowMajor_val_two]
    show p.val * 1024 + d.val = (0 * 1536 + p.val) * 1024 + d.val
    omega)]
  refine (extractStridedSlice_apply ![0, 0]
    (k0_pay9 (F := Ideal) v (k0_pay2 v) (k0_pay3 v b) (k0_pay5 v) (iota .tc S8x1 32 [0] iota_S8x1_d0_w32) (k0_pay6 v) k0_pay7 x)
    slices_S1536x1280_o0_0_S1536x1024 (ix2 p d) (ix2 p (⟨d.val, by omega⟩ : Fin 1280)) (fun a => match a with
    | ⟨0, _⟩ => (Nat.zero_add _).symm
    | ⟨1, _⟩ => (Nat.zero_add _).symm)).trans ?_
  refine (put_apply γ v hγ x b hb p _).trans ?_
  exact congrArg (fun f => putRow γ f p.val) (funext fun j => side_first v x j d)

/-- **The block of gates after the body**, where none is plus infinity. -/
theorem out_gates (x : Vec Ideal S1024x1024 .bf16) (b : Vec Ideal S1024x1024 .bf16)
    (hb : ∀ j r : Fin 1024, (b (ix2 j r) : EReal) = if j < r then 1 else 0)
    (hv : ∀ (j : Fin 1024) (k : Fin 128), (v (ix2 j k) : EReal) + ((v (ix2 j k) : EReal) - v (ix2 j k)) = v (ix2 j k)) (p : Fin 1536) (k : Fin 128) :
    (out0_4 (F := Ideal) x v b (ix3 0 p k) : EReal) = putRow γ (fun j => v (ix2 j k)) p.val := by
  unfold_out out0_4
  rw [View.canon_unit_zero (by funext a; match a with | ⟨0, _⟩ => rfl | ⟨1, _⟩ => rfl | ⟨2, _⟩ => rfl), ld_v, ld_x, ld_x]
  unfold k0_pay11
  rw [shapeCast_apply _ _ _ (ix2 p k) (by
    rw [Shape.rowMajor_val_three, Shape.rowMajor_val_two]
    show p.val * 128 + k.val = (0 * 1536 + p.val) * 128 + k.val
    omega)]
  have e1 := (extractStridedSlice_apply ![0, 1024]
    (k0_pay9 (F := Ideal) v (k0_pay2 v) (k0_pay3 v b) (k0_pay5 v) (iota .tc S8x1 32 [0] iota_S8x1_d0_w32) (k0_pay6 v) k0_pay7 x)
    slices_S1536x1280_o0_1024_S1536x128 (ix2 p k) (ix2 p (⟨1024 + k.val, by omega⟩ : Fin 1280)) (fun a => match a with
    | ⟨0, _⟩ => (Nat.zero_add _).symm
    | ⟨1, _⟩ => rfl)).trans ((put_apply γ v hγ x b hb p _).trans (congrArg (fun f => putRow γ f p.val) (funext fun j => side_second v x j k)))
  have e2 := (extractStridedSlice_apply ![0, 1152]
    (k0_pay9 (F := Ideal) v (k0_pay2 v) (k0_pay3 v b) (k0_pay5 v) (iota .tc S8x1 32 [0] iota_S8x1_d0_w32) (k0_pay6 v) k0_pay7 x)
    slices_S1536x1280_o0_1152_S1536x128 (ix2 p k) (ix2 p (⟨1152 + k.val, by omega⟩ : Fin 1280)) (fun a => match a with
    | ⟨0, _⟩ => (Nat.zero_add _).symm
    | ⟨1, _⟩ => rfl)).trans ((put_apply γ v hγ x b hb p _).trans (congrArg (fun f => putRow γ f p.val) (funext fun j => side_third v x j k)))
  exact (congrArg₂ (fun a b : EReal => a + b) e1 e2).trans (putRow_add γ _ _ (fun j => hv j k) p.val)

/-- **The block's run table after the body.** -/
theorem out_table (x : Vec Ideal S1024x1024 .bf16) (b : Vec Ideal S1024x1024 .bf16) (k : Fin 8) (c : Fin 128) :
    (out0_5 (F := Ideal) x v b (ix3 0 k c) : EReal) = tableAt γ k c := by
  unfold_out out0_5
  rw [View.canon_unit_zero (by funext a; match a with | ⟨0, _⟩ => rfl | ⟨1, _⟩ => rfl | ⟨2, _⟩ => rfl), ld_v]
  unfold k0_pay1
  rw [shapeCast_apply _ _ _ (ix2 k c) (by
    rw [Shape.rowMajor_val_three, Shape.rowMajor_val_two]
    show k.val * 128 + c.val = (0 * 8 + k.val) * 128 + c.val
    omega)]
  show Scalar.select (IntOp.cmpi .eq (iota .tc S8x128 32 [1] iota_S8x128_d1_w32 (ix2 k c)) 0#32)
    (broadcastTo S8x128 (shapeCast S8x1 (startCol v) shapeCasts_S8x1_S8x1) broadcasts_S8x1_S8x128 (ix2 k c))
    (Scalar.select (IntOp.cmpi .eq (iota .tc S8x128 32 [1] iota_S8x128_d1_w32 (ix2 k c)) 1#32)
      (broadcastTo S8x128 (shapeCast S8x1 (k0_pay4 (F := Ideal) v) shapeCasts_S8x1_S8x1) broadcasts_S8x1_S8x128 (ix2 k c))
      (Ideal.ofBits .f32 0x00000000#32)) = _
  rw [shapeCast_self, shapeCast_self, table_lane, table_lane, column_num, Ideal.ofBits_zero_f32,
    select_eq c.val 0 (by omega) (by omega), select_eq c.val 1 (by omega) (by omega), first_apply γ v hγ, chunks_apply γ v hγ]
  rfl

end Cert.Proof.Disp

end
-- ==== Proof.DispTotal.lean ====
/-
  The dispatch's three result arrays over the extended reals, element by element in the arguments.
-/
module

public import proofs.«01_k».proof.Proof.DispBody
public import proofs.«01_k».proof.Proof.Gen.Kernel5Ideal.Value
public import Idealize.ShloMosaic.Lib.Pipeline.ArrRel

@[expose] public section

set_option maxRecDepth 16384

noncomputable section

namespace Cert.Proof.Disp

open Cert.Kernel5Ideal Cert.Kernel5Ideal.Gen Cert.Proof.Comb
open Idealize.ShloMosaic Idealize.ShloMosaic.ValueIdx Idealize.ShloMosaic.TcCoe Idealize.SL.Sem

variable (m : (ℓ : Loc nD τ sig) → Buf (Elt Ideal) ℓ) (c : Dev nD)

abbrev argX : Vec Ideal S32768x1024 .bf16 := m ((c : Thread nD τ).loc main_arg0)
abbrev argG : Vec Ideal S32768x128 .f32 := m ((c : Thread nD τ).loc main_arg1)

/-- One above the diagonal, zero elsewhere. -/
def before : Vec Ideal S1024x1024 .bf16 :=
  uitofp (F := Ideal) .bf16 (cmpi .slt
    (broadcastInDim S1024x1024 ![0, 1] bcast_S1024x1_S1024x1024_0_1 (broadcastInDim S1024x1 ![0] bcast_S1024_S1024x1_0 (iotaInDim S1024 32 0)))
    (broadcastInDim S1024x1024 ![0, 1] bcast_S1x1024_S1024x1024_0_1 (broadcastInDim S1x1024 ![1] bcast_S1024_S1x1024_1 (iotaInDim S1024 32 0))))

theorem V_b : V m c main_v6 = before := by
  unfold_abbrev_sides
  after_results_simp <;> (try dsimp only [Matrix.cons_val]) <;> (try after_results_simp) <;> rfl

theorem before_apply (j r : Fin 1024) : (before (ix2 j r) : EReal) = if j < r then 1 else 0 := by
  have h1 : broadcastInDim S1024x1024 ![0, 1] bcast_S1x1024_S1024x1024_0_1 (broadcastInDim S1x1024 ![1] bcast_S1024_S1x1024_1 (iotaInDim S1024 32 0)) (ix2 j r)
      = BitVec.ofNat 32 r.val := by
    refine (broadcastInDim_apply _ _ _ _ (ix2 (0 : Fin 1) r) (fun a => ?_)).trans ((broadcastInDim_apply _ _ _ _ (ix1 r) (fun a => ?_)).trans rfl)
    · match a with
      | ⟨0, _⟩ => rfl
      | ⟨1, _⟩ => rfl
    · match a with
      | ⟨0, _⟩ => rfl
  have h2 : broadcastInDim S1024x1024 ![0, 1] bcast_S1024x1_S1024x1024_0_1 (broadcastInDim S1024x1 ![0] bcast_S1024_S1024x1_0 (iotaInDim S1024 32 0)) (ix2 j r)
      = BitVec.ofNat 32 j.val := by
    refine (broadcastInDim_apply _ _ _ _ (ix2 j (0 : Fin 1)) (fun a => ?_)).trans ((broadcastInDim_apply _ _ _ _ (ix1 j) (fun a => ?_)).trans rfl)
    · match a with
      | ⟨0, _⟩ => rfl
      | ⟨1, _⟩ => rfl
    · match a with
      | ⟨0, _⟩ => rfl
  refine (congrArg (fun w : BitVec 1 => (((w.toNat : ℝ)) : EReal)) ((congrArg₂ (IntOp.cmpi .slt) h2 h1).trans (slt_word j.val r.val (by omega) (by omega)))).trans ?_
  exact bit_val (j.val < r.val)

/-- A point's block, and a token of it among all rows. -/
def blkOf (t : Fin grid0.N) : Fin 32 := ⟨(grid0.coords t 0).val, (grid0.coords t 0).isLt⟩
def tokAt (b : Fin 32) (j : Fin 1024) : Fin 32768 := ⟨b.val * 1024 + j.val, by omega⟩

theorem idx0 : ∀ t : Fin grid0.N, cc0_transform_0 (grid0.coords t) = ![(grid0.coords t 0).val, 0] := by decide +kernel
theorem idx1 : ∀ t : Fin grid0.N, cc0_transform_1 (grid0.coords t) = ![(grid0.coords t 0).val, 0] := by decide +kernel
theorem idx2 : ∀ t : Fin grid0.N, cc0_transform_2 (grid0.coords t) = ![0, 0] := by decide +kernel
theorem idx3 : ∀ t : Fin grid0.N, cc0_transform_3 (grid0.coords t) = ![(grid0.coords t 0).val, 0, 0] := by decide +kernel
theorem idx4 : ∀ t : Fin grid0.N, cc0_transform_4 (grid0.coords t) = ![(grid0.coords t 0).val, 0, 0] := by decide +kernel
theorem idx5 : ∀ t : Fin grid0.N, cc0_transform_5 (grid0.coords t) = ![(grid0.coords t 0).val, 0, 0] := by decide +kernel

theorem blk_x (t : Fin grid0.N) (r d : Fin 1024) : iblk m c 0 t (ix2 r d) = V m c main_arg0 (ix2 (tokAt (blkOf t) r) d) := by
  unfold iblk
  refine congrArg (V m c main_arg0) (funext fun a => Fin.ext ?_)
  refine (Pipeline.Window.rect_emb_val _ _ _ _).trans ?_
  show cc0_transform_0 (grid0.coords t) a * (![1024, 1024] : Fin 2 → ℕ) a + _ = _
  rw [idx0 t]
  match a with
  | ⟨0, _⟩ => rfl
  | ⟨1, _⟩ => show 0 * 1024 + d.val = d.val; omega

theorem blk_g (t : Fin grid0.N) (r : Fin 1024) (k : Fin 128) : iblk m c 1 t (ix2 r k) = V m c main_arg1 (ix2 (tokAt (blkOf t) r) k) := by
  unfold iblk
  refine congrArg (V m c main_arg1) (funext fun a => Fin.ext ?_)
  refine (Pipeline.Window.rect_emb_val _ _ _ _).trans ?_
  show cc0_transform_1 (grid0.coords t) a * (![1024, 128] : Fin 2 → ℕ) a + _ = _
  rw [idx1 t]
  match a with
  | ⟨0, _⟩ => rfl
  | ⟨1, _⟩ => show 0 * 128 + k.val = k.val; omega

theorem blk_b (t : Fin grid0.N) (r j : Fin 1024) : iblk m c 2 t (ix2 r j) = V m c main_v6 (ix2 r j) := by
  unfold iblk
  refine congrArg (V m c main_v6) (funext fun a => Fin.ext ?_)
  refine (Pipeline.Window.rect_emb_val _ _ _ _).trans ?_
  show cc0_transform_2 (grid0.coords t) a * (![1024, 1024] : Fin 2 → ℕ) a + _ = _
  rw [idx2 t]
  match a with
  | ⟨0, _⟩ => show 0 * 1024 + r.val = r.val; omega
  | ⟨1, _⟩ => show 0 * 1024 + j.val = j.val; omega

variable (Γ : Fin 32 → Fin 1024 → Fin 4)

/-- The three result arrays. -/
def rowsArr : Vec Ideal S32x1536x1024 .bf16 := fun i =>
  (putRow (Γ (i 0)) (fun j => argX m c (ix2 (tokAt (i 0) j) (i 2))) (i 1).val : EReal)
def gatesArr : Vec Ideal S32x1536x128 .f32 := fun i =>
  (putRow (Γ (i 0)) (fun j => argG m c (ix2 (tokAt (i 0) j) (i 2))) (i 1).val : EReal)
def tableArr : Vec Ideal S32x8x128 .f32 := fun i => (tableAt (Γ (i 0)) (i 1) (i 2) : EReal)

variable (hΓ : ∀ b j, (argG m c (ix2 (tokAt b j) (32 : Fin 128)) : EReal) = ((Γ b j).val : EReal))
  (hF : ∀ (R : Fin 32768) (k : Fin 128), (argG m c (ix2 R k) : EReal) + ((argG m c (ix2 R k) : EReal) - argG m c (ix2 R k)) = argG m c (ix2 R k))

theorem blk_x' (t : Fin grid0.N) (r d : Fin 1024) : iblk m c 0 t (ix2 r d) = argX m c (ix2 (tokAt (blkOf t) r) d) :=
  (blk_x m c t r d).trans (congrFun (V_main_arg0 m c) _)

theorem blk_g' (t : Fin grid0.N) (r : Fin 1024) (k : Fin 128) : iblk m c 1 t (ix2 r k) = argG m c (ix2 (tokAt (blkOf t) r) k) :=
  (blk_g m c t r k).trans (congrFun (V_main_arg1 m c) _)

theorem blk_b' (t : Fin grid0.N) (j r : Fin 1024) : iblk m c 2 t (ix2 j r) = (if j < r then 1 else 0 : EReal) :=
  (blk_b m c t j r).trans ((congrFun (V_b m c) _).trans (before_apply j r))

theorem emb3 (t : Fin grid0.N) (p : Fin 1536) (d : Fin 1024) : ((cfg0.win 3).blk t).view.emb (ix3 0 p d) = ix3 (blkOf t) p d := by
  funext a
  apply Fin.ext
  refine (Pipeline.Window.rect_emb_val _ _ _ _).trans ?_
  show cc0_transform_3 (grid0.coords t) a * (![1, 1536, 1024] : Fin 3 → ℕ) a + _ = _
  rw [idx3 t]
  match a with
  | ⟨0, _⟩ => show (grid0.coords t 0).val * 1 + 0 = (grid0.coords t 0).val; omega
  | ⟨1, _⟩ => show 0 * 1536 + p.val = p.val; omega
  | ⟨2, _⟩ => show 0 * 1024 + d.val = d.val; omega

theorem emb4 (t : Fin grid0.N) (p : Fin 1536) (k : Fin 128) : ((cfg0.win 4).blk t).view.emb (ix3 0 p k) = ix3 (blkOf t) p k := by
  funext a
  apply Fin.ext
  refine (Pipeline.Window.rect_emb_val _ _ _ _).trans ?_
  show cc0_transform_4 (grid0.coords t) a * (![1, 1536, 128] : Fin 3 → ℕ) a + _ = _
  rw [idx4 t]
  match a with
  | ⟨0, _⟩ => show (grid0.coords t 0).val * 1 + 0 = (grid0.coords t 0).val; omega
  | ⟨1, _⟩ => show 0 * 1536 + p.val = p.val; omega
  | ⟨2, _⟩ => show 0 * 128 + k.val = k.val; omega

theorem emb5 (t : Fin grid0.N) (p : Fin 8) (k : Fin 128) : ((cfg0.win 5).blk t).view.emb (ix3 0 p k) = ix3 (blkOf t) p k := by
  funext a
  apply Fin.ext
  refine (Pipeline.Window.rect_emb_val _ _ _ _).trans ?_
  show cc0_transform_5 (grid0.coords t) a * (![1, 8, 128] : Fin 3 → ℕ) a + _ = _
  rw [idx5 t]
  match a with
  | ⟨0, _⟩ => show (grid0.coords t 0).val * 1 + 0 = (grid0.coords t 0).val; omega
  | ⟨1, _⟩ => show 0 * 8 + p.val = p.val; omega
  | ⟨2, _⟩ => show 0 * 128 + k.val = k.val; omega

theorem cov3 : (cfg0.win 3).Covers := by decide +kernel
theorem cov4 : (cfg0.win 4).Covers := by decide +kernel
theorem cov5 : (cfg0.win 5).Covers := by decide +kernel

include hΓ

theorem rows_at (t : Fin grid0.N) (p : Fin 1536) (d : Fin 1024) :
    out0_3 (F := Ideal) (iblk m c 0 t) (iblk m c 1 t) (iblk m c 2 t) (ix3 0 p d) = rowsArr m c Γ (ix3 (blkOf t) p d) := by
  refine (out_rows (Γ (blkOf t)) (iblk m c 1 t) (fun j => (blk_g' m c t j (32 : Fin 128)).trans (hΓ (blkOf t) j)) (iblk m c 0 t) (iblk m c 2 t)
    (blk_b' m c t) p d).trans ?_
  exact congrArg (fun f => putRow (Γ (blkOf t)) f p.val) (funext fun j => blk_x' m c t j d)

theorem rows_any (t : Fin grid0.N) (y : S1x1536x1024.Idx) :
    out0_3 (F := Ideal) (iblk m c 0 t) (iblk m c 1 t) (iblk m c 2 t) y = rowsArr m c Γ (((cfg0.win 3).blk t).view.emb y) := by
  have e : y = ix3 (0 : Fin 1) (y 1) (y 2) := by
    funext a
    match a with
    | ⟨0, _⟩ => exact Subsingleton.elim (α := Fin 1) _ _
    | ⟨1, _⟩ => rfl
    | ⟨2, _⟩ => rfl
  rw [e]
  exact (rows_at m c Γ hΓ t (y 1) (y 2)).trans (congrArg (rowsArr m c Γ) (emb3 t (y 1) (y 2)).symm)

/-- **The call's first result array.** -/
theorem final_rows : (dats m 0 c).arrAt 3 cfg0.N = rowsArr m c Γ := by
  refine (dats m 0 c).arrAt_eq_of_covers 3 (rowsArr m c Γ) cov3 fun t hf y => ?_
  blk_simp
  rw [after0_3]
  exact rows_any m c Γ hΓ t y

theorem table_at (t : Fin grid0.N) (p : Fin 8) (k : Fin 128) :
    out0_5 (F := Ideal) (iblk m c 0 t) (iblk m c 1 t) (iblk m c 2 t) (ix3 0 p k) = tableArr Γ (ix3 (blkOf t) p k) :=
  out_table (Γ (blkOf t)) (iblk m c 1 t) (fun j => (blk_g' m c t j (32 : Fin 128)).trans (hΓ (blkOf t) j)) (iblk m c 0 t) (iblk m c 2 t) p k

theorem table_any (t : Fin grid0.N) (y : S1x8x128.Idx) :
    out0_5 (F := Ideal) (iblk m c 0 t) (iblk m c 1 t) (iblk m c 2 t) y = tableArr Γ (((cfg0.win 5).blk t).view.emb y) := by
  have e : y = ix3 (0 : Fin 1) (y 1) (y 2) := by
    funext a
    match a with
    | ⟨0, _⟩ => exact Subsingleton.elim (α := Fin 1) _ _
    | ⟨1, _⟩ => rfl
    | ⟨2, _⟩ => rfl
  rw [e]
  exact (table_at m c Γ hΓ t (y 1) (y 2)).trans (congrArg (tableArr Γ) (emb5 t (y 1) (y 2)).symm)

/-- **The call's third result array.** -/
theorem final_table : (dats m 0 c).arrAt 5 cfg0.N = tableArr Γ := by
  refine (dats m 0 c).arrAt_eq_of_covers 5 (tableArr Γ) cov5 fun t hf y => ?_
  blk_simp
  rw [after0_5]
  exact table_any m c Γ hΓ t y

include hF

theorem gates_at (t : Fin grid0.N) (p : Fin 1536) (k : Fin 128) :
    out0_4 (F := Ideal) (iblk m c 0 t) (iblk m c 1 t) (iblk m c 2 t) (ix3 0 p k) = gatesArr m c Γ (ix3 (blkOf t) p k) := by
  refine (out_gates (Γ (blkOf t)) (iblk m c 1 t) (fun j => (blk_g' m c t j (32 : Fin 128)).trans (hΓ (blkOf t) j)) (iblk m c 0 t) (iblk m c 2 t)
    (blk_b' m c t) (fun j k => ?_) p k).trans ?_
  · rw [blk_g']
    exact hF _ _
  · exact congrArg (fun f => putRow (Γ (blkOf t)) f p.val) (funext fun j => blk_g' m c t j k)

theorem gates_any (t : Fin grid0.N) (y : S1x1536x128.Idx) :
    out0_4 (F := Ideal) (iblk m c 0 t) (iblk m c 1 t) (iblk m c 2 t) y = gatesArr m c Γ (((cfg0.win 4).blk t).view.emb y) := by
  have e : y = ix3 (0 : Fin 1) (y 1) (y 2) := by
    funext a
    match a with
    | ⟨0, _⟩ => exact Subsingleton.elim (α := Fin 1) _ _
    | ⟨1, _⟩ => rfl
    | ⟨2, _⟩ => rfl
  rw [e]
  exact (gates_at m c Γ hΓ hF t (y 1) (y 2)).trans (congrArg (gatesArr m c Γ) (emb4 t (y 1) (y 2)).symm)

/-- **The call's second result array.** -/
theorem final_gates : (dats m 0 c).arrAt 4 cfg0.N = gatesArr m c Γ := by
  refine (dats m 0 c).arrAt_eq_of_covers 4 (gatesArr m c Γ) cov4 fun t hf y => ?_
  blk_simp
  rw [after0_4]
  exact gates_any m c Γ hΓ hF t y

end Cert.Proof.Disp

end
-- ==== Proof.DispRef.lean ====
/-
  The dispatch's reference over the extended reals: its scatters put a token's values at the row its group and rank name.
-/
module

public import proofs.«01_k».proof.Proof.Gen.Reference5Ideal.Read
public import proofs.«01_k».proof.Proof.CombRef
public import proofs.«01_k».proof.Proof.DispNat
public import Idealize.ShloMosaic.Lib.ValueIdx
public import Idealize.ShloMosaic.Lib.ValueLayout
public import Idealize.ShloMosaic.Lib.Routing.OpsSet
public import Idealize.ShloMosaic.Lib.Routing.OpsPair
public import Idealize.ShloMosaic.PureOps.Ideal.Laws

@[expose] public section

set_option maxRecDepth 16384

noncomputable section

namespace Cert.Proof.Disp.Ref

open Cert.Reference5Ideal Cert.Reference5Ideal.Gen Cert.Reference5Ideal.Read
open Cert.Proof.Comb Cert.Proof.Comb.Ref
open Idealize.ShloMosaic Idealize.ShloMosaic.ValueIdx Idealize.ShloMosaic.Routing

variable (x0 : Vec Ideal S32768x1024 .bf16) (x1 : Vec Ideal S32768x128 .f32)

/-- The place of a token in its block is the one the combination's reference computes. -/
theorem same_place : val_main_v45 (F := Ideal) x1 = Cert.Reference4Ideal.Read.val_main_v45 (F := Ideal) x1 := rfl

/-- The scatter of rows into rows, one index word each. -/
def putDims (C : ℕ) (h : ScatterDims.WF (shape2 49152 C) (shape2 32768 1) (shape2 32768 C) [1] [0] [0] 1) :
    ScatterDims (shape2 49152 C) (shape2 32768 1) (shape2 32768 C) where
  updateWindowDims := [1]
  insertedWindowDims := [0]
  scatterDimsToOperandDims := [0]
  indexVectorDim := 1
  wf := h

theorem axis_ne : (1 : Fin 2) ≠ 0 := by decide

/-- An update lands at the row its index word names, in its own column. -/
theorem lands (C : ℕ) (h : ScatterDims.WF (shape2 49152 C) (shape2 32768 1) (shape2 32768 C) [1] [0] [0] 1) (idx : IVec (shape2 32768 1) 32)
    (k : Fin 32768) (e c : Fin C) (r : Fin 49152) :
    (putDims C h).resultIdx? (ix2 k e) idx = some (ix2 r c) ↔ (idx (ix2 k (0 : Fin 1))).toInt = (r.val : Int) ∧ e = c := by
  have hm : (0 : Fin 2) ∈ (putDims C h).scatterDimsToOperandDims := List.mem_singleton.2 rfl
  have hwin0 : (putDims C h).window (ix2 k e) 0 = 0 := by
    unfold ScatterDims.window
    rw [dif_neg fun q => (of_decide_eq_true (List.mem_filter.1 q).2) (List.mem_singleton.2 rfl)]
  have hwin1 : (putDims C h).window (ix2 k e) 1 = e.val := by
    unfold ScatterDims.window
    rw [dif_pos (show (1 : Fin 2) ∈ (putDims C h).sKept from List.mem_singleton.2 rfl)]
    rfl
  have hstart1 : (putDims C h).start (ix2 k e) idx 1 = 0 := by
    unfold ScatterDims.start
    rw [dif_neg (show (1 : Fin 2) ∉ (putDims C h).scatterDimsToOperandDims from fun q => axis_ne (List.mem_singleton.1 q))]
  have hstart0 : (putDims C h).start (ix2 k e) idx 0 = (idx (ix2 k (0 : Fin 1))).toInt := by
    unfold ScatterDims.start
    rw [dif_pos hm]
    refine congrArg (fun i => (idx i).toInt) (funext fun b => ?_)
    match b with
    | ⟨0, _⟩ => rfl
    | ⟨1, _⟩ => rfl
  rw [resultIdx?_ix2, hstart0, hwin0, hstart1, hwin1, Fin.ext_iff]
  omega

variable (Γ : Fin 32 → Fin 1024 → Fin 4)

/-- The scatter into zeros, read at a row of a block. -/
theorem put_read (C : ℕ) (h : ScatterDims.WF (shape2 49152 C) (shape2 32768 1) (shape2 32768 C) [1] [0] [0] 1) (idx : IVec (shape2 32768 1) 32)
    (hidx : ∀ b j, (idx (ix2 (tok b j) (0 : Fin 1))).toInt = ((posOf (Γ b) j + 1536 * b.val : ℕ) : Int))
    (z : (shape2 49152 C).Idx → EReal) (hz : ∀ i, z i = 0) (u : (shape2 32768 C).Idx → EReal) (b : Fin 32) (p : Fin 1536) (c : Fin C) (r : Fin 49152)
    (hr : r.val = b.val * 1536 + p.val) :
    Host.scatter (putDims C h) (fun _ b => b) z idx u (ix2 r c) = putRow (Γ b) (fun j => u (ix2 (tok b j) c)) p.val := by
  have key : ∀ (k : Fin 32768) (e : Fin C), (putDims C h).resultIdx? (ix2 k e) idx = some (ix2 r c) → ∃ j, k = tok b j ∧ posOf (Γ b) j = p.val ∧ e = c := by
    intro k e hk
    obtain ⟨h1, h2⟩ := (lands C h idx k e c r).1 hk
    have hd : k.val / 1024 < 32 := by omega
    have hm : k.val % 1024 < 1024 := by omega
    have ek : k = tok ⟨k.val / 1024, hd⟩ ⟨k.val % 1024, hm⟩ := Fin.ext (by
      show k.val = k.val / 1024 * 1024 + k.val % 1024
      omega)
    rw [ek, hidx, hr] at h1
    have hp := pos_lt (Γ ⟨k.val / 1024, hd⟩) ⟨k.val % 1024, hm⟩
    have hb : (⟨k.val / 1024, hd⟩ : Fin 32) = b := Fin.ext (by
      show k.val / 1024 = b.val
      have h1' := Int.ofNat.inj h1
      dsimp only at h1'
      omega)
    have h1' := Int.ofNat.inj h1
    rw [hb] at ek h1' hp
    exact ⟨⟨k.val % 1024, hm⟩, ek, by omega, h2⟩
  by_cases q : ∃ j, posOf (Γ b) j = p.val
  · obtain ⟨j, hj⟩ := q
    rw [← hj, putRow_hit]
    refine scatter_set_hit (putDims C h) z idx u (ix2 r c) _ (fun k hk => ?_) (ix2 (tok b j) c) ((lands C h idx (tok b j) c c r).2 ⟨?_, rfl⟩)
    · rw [eq_ix2 (n0 := 32768) (n1 := C) k] at hk ⊢
      obtain ⟨j', e1, e2, e3⟩ := key _ _ hk
      have ej : j' = j := pos_inj (Γ b) j' j (e2.trans hj.symm)
      exact congrArg u (congrArg₂ (fun (a : Fin 32768) (d : Fin C) => (ix2 a d : (shape2 32768 C).Idx)) (e1.trans (congrArg (tok b) ej)) e3)
    · rw [hidx, hr, hj, Nat.add_comm, Nat.mul_comm]
  · rw [putRow_miss (Γ b) _ p.val (fun j e => q ⟨j, e⟩)]
    refine (scatter_set_miss (putDims C h) z idx u (ix2 r c) (fun k hk => ?_)).trans (hz _)
    rw [eq_ix2 (n0 := 32768) (n1 := C) k] at hk
    obtain ⟨j, _, e2, _⟩ := key _ _ hk
    exact q ⟨j, e2⟩

variable (hΓ : ∀ b j, (x1 (ix2 (tok b j) (32 : Fin 128)) : EReal) = ((Γ b j).val : EReal))
include hΓ

theorem place_word (b : Fin 32) (j : Fin 1024) : val_main_v46 (F := Ideal) x1 (ix2 b j) = BitVec.ofNat 32 (posOf (Γ b) j) := by
  have h : (val_main_v45 (F := Ideal) x1 (ix2 b j) : EReal) = (posOf (Γ b) j : EReal) := by
    rw [same_place, Cert.Reference4Ideal.Read.val_main_v45_apply]
    show (Cert.Reference4Ideal.Read.val_main_v44 (F := Ideal) x1 (ix2 b j) : EReal) + (Cert.Reference4Ideal.Read.val_main_v19 (F := Ideal) x1 (ix2 b j) : EReal) = _
    rw [start_read x1 Γ hΓ, rank_read x1 Γ hΓ, ← Nat.cast_add]
    rfl
  exact (congrArg (Ideal.fptosi 32) h).trans (fptosi_nat _ (pos_lt (Γ b) j))

omit hΓ in
theorem shift_word (b : Fin 32) (j : Fin 1024) : val_main_v51 (F := Ideal) (ix2 b j) = BitVec.ofNat 32 (1536 * b.val) := by
  rw [val_main_v51_apply, val_main_v50_apply, val_main_v49_apply, val_main_v48_apply, val_main_v47_apply, BitVec.ofNat_mul]
  rfl

theorem row_word (b : Fin 32) (j : Fin 1024) : val_main_v53 (F := Ideal) x1 (ix1 (tok b j)) = BitVec.ofNat 32 (posOf (Γ b) j + 1536 * b.val) := by
  have e : idx_main_v53 (ix1 (tok b j)) = ix2 b j := by
    funext a
    apply Fin.ext
    match a with
    | ⟨0, _⟩ => show (b.val * 1024 + j.val) / 1024 = b.val; omega
    | ⟨1, _⟩ => show (b.val * 1024 + j.val) % 1024 = j.val; omega
  rw [val_main_v53_apply, e, val_main_v52_apply, place_word x1 Γ hΓ, shift_word, BitVec.ofNat_add]
  rfl

theorem row_lt (b : Fin 32) (j : Fin 1024) : posOf (Γ b) j + 1536 * b.val < 49152 := by
  have := pos_lt (Γ b) j
  omega

theorem index_first (b : Fin 32) (j : Fin 1024) :
    (val_main_v82 (F := Ideal) x1 (ix2 (tok b j) (0 : Fin 1))).toInt = ((posOf (Γ b) j + 1536 * b.val : ℕ) : Int) := by
  have hp := row_lt x1 Γ hΓ b j
  have e : idx_main_v82 (ix2 (tok b j) (0 : Fin 1)) = ix1 (tok b j) := by
    funext a
    match a with
    | ⟨0, _⟩ => rfl
  rw [val_main_v82_apply, e, val_main_v81_apply, val_main_v78_apply, row_word x1 Γ hΓ, val_main_v77_apply, val_main_c_16_apply]
  have h : IntOp.cmpi .slt (BitVec.ofNat 32 (posOf (Γ b) j + 1536 * b.val)) 0#32 = BitVec.ofBool (decide (posOf (Γ b) j + 1536 * b.val < 0)) :=
    slt_word _ 0 (by omega) (by omega)
  rw [h, decide_eq_false (Nat.not_lt_zero _)]
  exact word_toInt _ (by omega)

theorem index_second (b : Fin 32) (j : Fin 1024) :
    (val_main_v92 (F := Ideal) x1 (ix2 (tok b j) (0 : Fin 1))).toInt = ((posOf (Γ b) j + 1536 * b.val : ℕ) : Int) := by
  have hp := row_lt x1 Γ hΓ b j
  have e : idx_main_v92 (ix2 (tok b j) (0 : Fin 1)) = ix1 (tok b j) := by
    funext a
    match a with
    | ⟨0, _⟩ => rfl
  rw [val_main_v92_apply, e, val_main_v91_apply, val_main_v88_apply, row_word x1 Γ hΓ, val_main_v87_apply, val_main_c_19_apply]
  have h : IntOp.cmpi .slt (BitVec.ofNat 32 (posOf (Γ b) j + 1536 * b.val)) 0#32 = BitVec.ofBool (decide (posOf (Γ b) j + 1536 * b.val < 0)) :=
    slt_word _ 0 (by omega) (by omega)
  rw [h, decide_eq_false (Nat.not_lt_zero _)]
  exact word_toInt _ (by omega)

/-- A row of a block among all blocks' rows. -/
def rowOf (b : Fin 32) (p : Fin 1536) : Fin 49152 := ⟨b.val * 1536 + p.val, by omega⟩

/-- **One entry of the reference's rows.** -/
theorem rows_out (b : Fin 32) (p : Fin 1536) (d : Fin 1024) :
    (val_main_v85 (F := Ideal) x0 x1 (ix3 b p d) : EReal) = putRow (Γ b) (fun j => x0 (ix2 (tok b j) d)) p.val := by
  refine (val_main_v85_apply x0 x1 _).trans ((val_main_v84_apply x0 x1 _).trans ?_)
  have e : idx_main_v84 (ix3 b p d) = ix2 (rowOf b p) d := by
    funext a
    apply Fin.ext
    match a with
    | ⟨0, _⟩ => show ((b.val * 1536 + p.val) * 1024 + d.val) / 1024 = b.val * 1536 + p.val; omega
    | ⟨1, _⟩ => show ((b.val * 1536 + p.val) * 1024 + d.val) % 1024 = d.val; omega
  rw [e]
  unfold val_main_v83
  exact put_read Γ 1024 scatter_S49152x1024_S32768x1_S32768x1024_1_0_0_1_wf (val_main_v82 (F := Ideal) x1) (index_first x1 Γ hΓ)
    (val_main_v76 (F := Ideal)) (fun i => (val_main_v76_apply i).trans Ideal.ofBits_zero_f32) (val_main_v75 (F := Ideal) x0) b p d (rowOf b p) rfl

/-- **One entry of the reference's gates.** -/
theorem gates_out (b : Fin 32) (p : Fin 1536) (k : Fin 128) :
    (val_main_v94 (F := Ideal) x1 (ix3 b p k) : EReal) = putRow (Γ b) (fun j => x1 (ix2 (tok b j) k)) p.val := by
  refine (val_main_v94_apply x1 _).trans ?_
  have e : idx_main_v94 (ix3 b p k) = ix2 (rowOf b p) k := by
    funext a
    apply Fin.ext
    match a with
    | ⟨0, _⟩ => show ((b.val * 1536 + p.val) * 128 + k.val) / 128 = b.val * 1536 + p.val; omega
    | ⟨1, _⟩ => show ((b.val * 1536 + p.val) * 128 + k.val) % 128 = k.val; omega
  rw [e]
  unfold val_main_v93
  exact put_read Γ 128 scatter_S49152x128_S32768x1_S32768x128_1_0_0_1_wf (val_main_v92 (F := Ideal) x1) (index_second x1 Γ hΓ)
    (val_main_v86 (F := Ideal)) (fun i => (val_main_v86_apply i).trans Ideal.ofBits_zero_f32) x1 b p k (rowOf b p) rfl

omit hΓ in
/-- The counts and the padded counts are the ones the combination's reference computes. -/
theorem same_count : val_main_v29 (F := Ideal) x1 = Cert.Reference4Ideal.Read.val_main_v29 (F := Ideal) x1 := rfl
omit hΓ in
theorem same_rows : val_main_v34 (F := Ideal) x1 = Cert.Reference4Ideal.Read.val_main_v34 (F := Ideal) x1 := rfl

omit hΓ in
/-- Whether a group comes before a lane's, lanes beyond the last group taken as the last. -/
theorem earlier_word (k : Fin 8) (l : Fin 4) :
    IntOp.cmpi .slt (BitVec.ofNat 32 l.val) (IntOp.minsi (BitVec.ofNat 32 k.val) 3#32) = BitVec.ofBool (decide (l.val < min k.val 3)) := by
  revert k l
  decide +kernel

omit hΓ in
theorem earlier_bit (b : Fin 32) (k : Fin 8) (l : Fin 4) :
    val_main_call3_v1 (F := Ideal) (ix3 b k l) = BitVec.ofBool (decide (l.val < min k.val 3)) := by
  rw [val_main_call3_v1_apply, val_main_v62_apply, val_main_v60_apply, val_main_v59_apply, val_main_v54_apply, val_main_v61_apply, val_main_v58_apply,
    val_main_v57_apply, val_main_v55_apply, val_main_v56_apply, val_main_c_9_apply]
  exact earlier_word k l

theorem part_read (b : Fin 32) (k : Fin 8) (l : Fin 4) :
    (val_main_v64 (F := Ideal) x1 (ix3 b k l) : EReal) = ((if l.val < min k.val 3 then rowsOf (Γ b) l else 0 : ℕ) : EReal) := by
  rw [val_main_v64_apply, earlier_bit, val_main_call3_v2_apply, val_main_v63_apply, val_main_call3_v3_apply]
  have h : (val_main_v34 (F := Ideal) x1 (idx_main_v63 (idx_main_call3_v2 (ix3 b k l))) : EReal) = (rowsOf (Γ b) l : EReal) := by
    rw [same_rows]
    refine (congrArg (Cert.Reference4Ideal.Read.val_main_v34 (F := Ideal) x1) (funext fun a => ?_)).trans (rows_read x1 Γ hΓ b l)
    match a with
    | ⟨0, _⟩ => rfl
    | ⟨1, _⟩ => rfl
  rw [h]
  show (if BitVec.ofBool (decide (l.val < min k.val 3)) = 1 then _ else Ideal.ofBits .f32 0x00000000#32) = _
  rw [Ideal.ofBits_zero_f32]
  by_cases q : l.val < min k.val 3
  · rw [if_pos q, decide_eq_true q]; rfl
  · rw [if_neg q, decide_eq_false q, Nat.cast_zero]; rfl

theorem first_read (b : Fin 32) (k : Fin 8) : (val_main_v65 (F := Ideal) x1 (ix2 b k) : EReal) = (firstOf (Γ b) k : EReal) := by
  refine (val_main_v65_apply x1 _).trans ?_
  rw [val_main_cst_11_apply]
  refine (congrArg (fun a : EReal => a + _) Ideal.ofBits_zero_f32).trans ((zero_add _).trans ?_)
  have h : ∀ l : Fin 4, (val_main_v64 (F := Ideal) x1 (idx_main_v65 (ix2 b k) l) : EReal) = ((if l.val < min k.val 3 then rowsOf (Γ b) l else 0 : ℕ) : EReal) := by
    intro l
    refine (congrArg (val_main_v64 (F := Ideal) x1) (funext fun a => ?_)).trans (part_read x1 Γ hΓ b k l)
    match a with
    | ⟨0, _⟩ => rfl
    | ⟨1, _⟩ => rfl
    | ⟨2, _⟩ => rfl
  refine (Finset.sum_congr rfl fun l _ => h l).trans ?_
  rw [← Nat.cast_sum, Fin.sum_univ_four]
  unfold firstOf
  refine congrArg (fun n : ℕ => (n : EReal)) ?_
  have e0 : ((0 : Fin 4).val < min k.val 3) = (0 < k.val) := propext (by show 0 < min k.val 3 ↔ _; omega)
  have e1 : ((1 : Fin 4).val < min k.val 3) = (1 < k.val) := propext (by show 1 < min k.val 3 ↔ _; omega)
  have e2 : ((2 : Fin 4).val < min k.val 3) = (2 < k.val) := propext (by show 2 < min k.val 3 ↔ _; omega)
  have e3 : ¬ ((3 : Fin 4).val < min k.val 3) := by show ¬ 3 < min k.val 3; omega
  simp only [e0, e1, e2, if_neg e3, add_zero]

theorem chunk_read (b : Fin 32) (l : Fin 4) : (val_main_v68 (F := Ideal) x1 (ix2 b l) : EReal) = (((countOf (Γ b) l + 127) / 128 : ℕ) : EReal) := by
  rw [val_main_v68_apply, val_main_v67_apply, val_main_v66_apply, same_count]
  show Ideal.liftRound Int.ceil (Ideal.div (Cert.Reference4Ideal.Read.val_main_v29 (F := Ideal) x1 (ix2 b l)) (Ideal.ofBits .f32 0x43000000#32)) = _
  rw [count_read x1 Γ hΓ, bits_128, ceil_chunks]

theorem chunks_read (b : Fin 32) (k : Fin 8) : (val_main_v70 (F := Ideal) x1 (ix2 b k) : EReal) = (((tokensOf (Γ b) k + 127) / 128 : ℕ) : EReal) := by
  unfold val_main_v70
  by_cases q : k.val < 4
  · rw [tokens_group (Γ b) k q]
    refine (concatenate_apply_piece (t := S32x8) 1 _ _ (ix2 b k) 0 (by show 0 < 2; decide) S32x4 _ (by rfl) rfl 0 (by rfl) (ix2 b (⟨k.val, q⟩ : Fin 4))
      (fun a ha => ?_) ?_).trans (chunk_read x1 Γ hΓ b ⟨k.val, q⟩)
    · match a, ha with
      | ⟨0, _⟩, _ => rfl
      | ⟨1, _⟩, ha => exact absurd rfl ha
    · exact Nat.zero_add _
  · rw [tokens_none (Γ b) k q]
    have hk : k.val - 4 < 4 := by omega
    refine (concatenate_apply_piece (t := S32x8) 1 _ _ (ix2 b k) 1 (by show 1 < 2; decide) S32x4 _ (by rfl) rfl 4 (by rfl) (ix2 b (⟨k.val - 4, hk⟩ : Fin 4))
      (fun a ha => ?_) ?_).trans ?_
    · match a, ha with
      | ⟨0, _⟩, _ => rfl
      | ⟨1, _⟩, ha => exact absurd rfl ha
    · show 4 + (k.val - 4) = k.val
      omega
    · rw [val_main_v69_apply]
      refine Ideal.ofBits_zero_f32.trans ?_
      rw [show (0 + 127) / 128 = 0 from rfl, Nat.cast_zero]

/-- **One entry of the reference's run table.** -/
theorem table_out (b : Fin 32) (k : Fin 8) (c : Fin 128) : (val_main_v74 (F := Ideal) x1 (ix3 b k c) : EReal) = tableAt (Γ b) k c := by
  unfold val_main_v74 tableAt
  by_cases q0 : c.val = 0
  · rw [if_pos q0]
    refine (concatenate_apply_piece (t := S32x8x128) 2 _ _ (ix3 b k c) 0 (by show 0 < 3; decide) S32x8x1 _ (by rfl) rfl 0 (by rfl) (ix3 b k (0 : Fin 1))
      (fun a ha => ?_) ?_).trans ((val_main_v71_apply x1 _).trans ?_)
    · match a, ha with
      | ⟨0, _⟩, _ => rfl
      | ⟨1, _⟩, _ => rfl
      | ⟨2, _⟩, ha => exact absurd rfl ha
    · exact q0.symm
    · refine (congrArg (val_main_v65 (F := Ideal) x1) (funext fun a => ?_)).trans (first_read x1 Γ hΓ b k)
      match a with
      | ⟨0, _⟩ => rfl
      | ⟨1, _⟩ => rfl
  · rw [if_neg q0]
    by_cases q1 : c.val = 1
    · rw [if_pos q1]
      refine (concatenate_apply_piece (t := S32x8x128) 2 _ _ (ix3 b k c) 1 (by show 1 < 3; decide) S32x8x1 _ (by rfl) rfl 1 (by rfl) (ix3 b k (0 : Fin 1))
        (fun a ha => ?_) ?_).trans ((val_main_v72_apply x1 _).trans ?_)
      · match a, ha with
        | ⟨0, _⟩, _ => rfl
        | ⟨1, _⟩, _ => rfl
        | ⟨2, _⟩, ha => exact absurd rfl ha
      · exact q1.symm
      · refine (congrArg (val_main_v70 (F := Ideal) x1) (funext fun a => ?_)).trans (chunks_read x1 Γ hΓ b k)
        match a with
        | ⟨0, _⟩ => rfl
        | ⟨1, _⟩ => rfl
    · rw [if_neg q1]
      have hc : c.val - 2 < 126 := by omega
      refine (concatenate_apply_piece (t := S32x8x128) 2 _ _ (ix3 b k c) 2 (by show 2 < 3; decide) S32x8x126 _ (by rfl) rfl 2 (by rfl)
        (ix3 b k (⟨c.val - 2, hc⟩ : Fin 126)) (fun a ha => ?_) ?_).trans ((val_main_v73_apply _).trans Ideal.ofBits_zero_f32)
      · match a, ha with
        | ⟨0, _⟩, _ => rfl
        | ⟨1, _⟩, _ => rfl
        | ⟨2, _⟩, ha => exact absurd rfl ha
      · show 2 + (c.val - 2) = c.val
        omega

end Cert.Proof.Disp.Ref

end
-- ==== Proof.DispPre.lean ====
/-
  The dispatch's precondition: every token's group lane holds 0, 1, 2 or 3, and no entry of its route row is plus infinity.
-/
module

public import proofs.«01_k».proof.Pre_dispatchable
public import proofs.«01_k».proof.Proof.Gen.Pre_dispatchable
public import proofs.«01_k».proof.Proof.CombPre
public import Idealize.ShloMosaic.Lib.ValueIdx
public import Idealize.ShloMosaic.Lib.ValueLayout
public import Idealize.ShloMosaic.Lib.ReduceAll
public import Idealize.ShloMosaic.Lib.Affine

@[expose] public section

noncomputable section

namespace Cert.Proof.Disp.Pre

open Cert.Pre_dispatchable Cert.Pre_dispatchable.Gen Cert.Proof.Comb Cert.Proof.Comb.Pre
open Idealize.ShloMosaic Idealize.ShloMosaic.ValueIdx

attribute [local instance] Cert.Pre_dispatchable.Gen.facts

theorem andi_one : ∀ a b : BitVec 1, IntOp.andi a b = 1#1 → a = 1#1 ∧ b = 1#1 := by decide

theorem bits_top : Ideal.ofBits .f32 0x7F800000#32 = (⊤ : EReal) := by
  simp [Ideal.ofBits, Ideal.ieee]

/-- What is less than infinity keeps its value when what is left of it after its own removal is added. -/
theorem add_rest_of_olt (a : EReal) (h : Ideal.cmp .olt a ⊤ = 1#1) : a + (a - a) = a := by
  have h' : BitVec.ofBool (decide (a < ⊤)) = 1#1 := h
  have hl : a < ⊤ := by
    by_contra e
    rw [decide_eq_false e] at h'
    exact absurd h' (by decide)
  by_cases hb : a = ⊥
  · rw [hb, EReal.bot_add]
  · rw [EReal.sub_self hl.ne hb, add_zero]

instance : Subsingleton Cert.Pre_dispatchable.S_.Idx := ⟨fun a b => funext fun i => i.elim0⟩

variable (X : FVec Ideal S32768x1024 .bf16) (G : FVec Ideal S32768x128 .f32) (h : Cert.Pre_dispatchable.fn (F := Ideal) X G = fun _ => 1#1)
include h

theorem lane_group (R : Fin 32768) : ∃ l : Fin 4, (G (ix2 R (32 : Fin 128)) : EReal) = (l.val : EReal) := by
  have h0 := congrFun h (fun a => a.elim0)
  dsimp only [Cert.Pre_dispatchable.fn, Cert.Pre_dispatchable.fn_part1] at h0
  have h1 := Host.reduce_andi_all _ _ _ _ _ (andi_one _ _ h0).1 (ix1 R)
  have e := lane_read G Facts.slices_S32768x128_S32768x1_0_32 Facts.shapeCasts_S32768x1_S32768 R
  rcases ori_one _ _ h1 with h2 | a3
  · rcases ori_one _ _ h2 with h3 | a2
    · rcases ori_one _ _ h3 with a0 | a1
      · refine ⟨0, e.symm.trans ((oeq_one a0).trans ?_)⟩
        exact Ideal.ofBits_zero_f32.trans Nat.cast_zero.symm
      · refine ⟨1, e.symm.trans ((oeq_one a1).trans ?_)⟩
        exact Ideal.ofBits_one_f32.trans Nat.cast_one.symm
    · exact ⟨2, e.symm.trans ((oeq_one a2).trans bits_2)⟩
  · exact ⟨3, e.symm.trans ((oeq_one a3).trans bits_3)⟩

/-- The groups of all blocks' tokens. -/
theorem groups :
    ∃ Γ : Fin 32 → Fin 1024 → Fin 4, ∀ (b : Fin 32) (j : Fin 1024) (R : Fin 32768), R.val = b.val * 1024 + j.val →
      (G (ix2 R (32 : Fin 128)) : EReal) = ((Γ b j).val : EReal) := by
  refine ⟨fun b j => Classical.choose (lane_group X G h ⟨b.val * 1024 + j.val, by omega⟩), fun b j R hR => ?_⟩
  have e : R = ⟨b.val * 1024 + j.val, by omega⟩ := Fin.ext hR
  rw [e]
  exact Classical.choose_spec (lane_group X G h ⟨b.val * 1024 + j.val, by omega⟩)

theorem rest (R : Fin 32768) (k : Fin 128) : (G (ix2 R k) : EReal) + ((G (ix2 R k) : EReal) - G (ix2 R k)) = G (ix2 R k) := by
  have h0 := congrFun h (fun a => a.elim0)
  dsimp only [Cert.Pre_dispatchable.fn, Cert.Pre_dispatchable.fn_part1] at h0
  have h1 := Host.reduce_andi_all _ _ _ _ _ (andi_one _ _ h0).2 (ix2 R k)
  refine add_rest_of_olt (G (ix2 R k)) ?_
  exact (congrArg (Ideal.cmp .olt (G (ix2 R k) : EReal)) bits_top).symm.trans h1

end Cert.Proof.Disp.Pre

end
-- ==== Proof.lean ====
/-
  The proof of `Cert.Claim`: the kernel, its idealization and the reference run and keep their arguments, the idealization
  preserves the kernel, and at the extended reals the kernel's result is the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_grouped
public import proofs.«01_k».proof.Proof.Gen.Kernel5
public import proofs.«01_k».proof.Proof.Gen.Kernel5.Skeleton
public import proofs.«01_k».proof.Proof.Gen.Kernel5.Launch
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_dispatchable
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_routed
public import proofs.«01_k».proof.Proof.Frame
public import proofs.«01_k».proof.Proof.Gates
public import proofs.«01_k».proof.Proof.Ref
public import proofs.«01_k».proof.Proof.ProjRef
public import proofs.«01_k».proof.Proof.OutRef
public import proofs.«01_k».proof.Proof.CombTotal
public import proofs.«01_k».proof.Proof.CombRef
public import proofs.«01_k».proof.Proof.CombPre
public import proofs.«01_k».proof.Proof.DispTotal
public import proofs.«01_k».proof.Proof.DispRef
public import proofs.«01_k».proof.Proof.DispPre
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts Cert.Pre_routed.Gen.facts
attribute [local instance] Cert.Kernel2.Gen.facts Cert.Kernel2Ideal.Gen.facts Cert.Reference2Ideal.Gen.facts
attribute [local instance] Cert.Kernel3.Gen.facts Cert.Kernel3Ideal.Gen.facts Cert.Reference3Ideal.Gen.facts
attribute [local instance] Cert.Kernel4.Gen.facts Cert.Kernel4Ideal.Gen.facts Cert.Reference4Ideal.Gen.facts Cert.Pre_grouped.Gen.facts
attribute [local instance] Cert.Kernel5.Gen.facts Cert.Kernel5Ideal.Gen.facts Cert.Reference5Ideal.Gen.facts Cert.Pre_dispatchable.Gen.facts

/-- The reference runs and keeps its arguments. -/
theorem frame_reference : Cert.quiescent_ReferenceIdeal := fun m ρ _ =>
  (θ_run Cert.ReferenceIdeal.defs _ _).mono (fun r h => And.intro (fun c => (h c).2) (sem_eq_zero_of_no_sems (by decide) r.2))
    (Cert.ReferenceIdeal.Value.run (F := Ideal) m ρ)

/-- Of equal arguments, the reference's result is the kernel's. -/
theorem results_same (m : (ℓ : Loc Cert.KernelIdeal.nD Cert.KernelIdeal.τ Cert.KernelIdeal.sig) → Buf (Elt Ideal) ℓ) :
    Cert.ReferenceIdeal.Read.val_main_v9 (F := Ideal)
      (m (((0 : Dev Cert.KernelIdeal.nD).tc : Thread Cert.KernelIdeal.nD Cert.KernelIdeal.τ).loc Cert.KernelIdeal.main_arg1))
      (m (((0 : Dev Cert.KernelIdeal.nD).tc : Thread Cert.KernelIdeal.nD Cert.KernelIdeal.τ).loc Cert.KernelIdeal.main_arg2))
      (m (((0 : Dev Cert.KernelIdeal.nD).tc : Thread Cert.KernelIdeal.nD Cert.KernelIdeal.τ).loc Cert.KernelIdeal.main_arg3))
      (m (((0 : Dev Cert.KernelIdeal.nD).tc : Thread Cert.KernelIdeal.nD Cert.KernelIdeal.τ).loc Cert.KernelIdeal.main_arg4))
      (m (((0 : Dev Cert.KernelIdeal.nD).tc : Thread Cert.KernelIdeal.nD Cert.KernelIdeal.τ).loc Cert.KernelIdeal.main_arg5)) = fullSum m := by
  funext j
  obtain ⟨q, r, d, rfl⟩ : ∃ (q : Fin 32) (r : Fin 1536) (d : Fin 1024), j = ValueIdx.ix3 q r d :=
    ⟨j 0, j 1, j 2, ValueIdx.eq_ix3 (n0 := 32) (n1 := 1536) (n2 := 1024) j⟩
  exact reference_read _ _ _ _ _ q r d

/-- **The kernel and the reference end with equal results.** -/
theorem values : Cert.algebraic_KernelIdeal_ReferenceIdeal := fun m g m' g' hp hm => by
  have hU := runs_ok _ _ _ _ _ _ (hp 0)
  have hG := gates_ok _ _ _ _ _ _ (hp 0)
  refine ⟨fun c => (Subsingleton.elim c 0 : c = 0) ▸ fullSum m, ?_, ?_⟩
  · refine (θ_run Cert.KernelIdeal.defs _ _).mono (fun r h c => ?_) (run_main (F := Ideal) m g (tableOK_of_runs _ hU))
    obtain rfl : c = 0 := Subsingleton.elim c 0
    exact And.intro (result_eq m hU hG r h.1) (args_kept m r h.1 0)
  · refine (θ_run Cert.ReferenceIdeal.defs _ _).mono (fun r h c => ?_) (Cert.ReferenceIdeal.Value.run (F := Ideal) m' g')
    obtain rfl : c = 0 := Subsingleton.elim c 0
    obtain ⟨_, e1, e2, e3, e4, e5⟩ := hm 0
    refine And.intro ((h 0).1.trans ?_) (h 0).2
    refine (Cert.ReferenceIdeal.Read.val_main_v9_eq _ _ _ _ _).trans ?_
    rw [e1, e2, e3, e4, e5]
    exact results_same m

/-- The reference projection runs and keeps its arguments. -/
theorem frame_projection : Cert.quiescent_Reference2Ideal := fun m ρ _ =>
  (θ_run Cert.Reference2Ideal.defs _ _).mono (fun r h => And.intro (fun c => (h c).2.2) (sem_eq_zero_of_no_sems (by decide) r.2))
    (Cert.Reference2Ideal.Value.run (F := Ideal) m ρ)

section
variable (m : (ℓ : Loc Cert.Kernel2Ideal.nD Cert.Kernel2Ideal.τ Cert.Kernel2Ideal.sig) → Buf (Elt Ideal) ℓ)

/-- Of equal arguments, the reference projection's results are the kernel's. -/
theorem wide_same : Cert.Reference2Ideal.Read.val_main_v25 (F := Ideal) (Proj.argX m 0) (Proj.argN m 0) (Proj.argW m 0) = Proj.wideArr m 0 := by
  funext j
  obtain ⟨r, d, rfl⟩ : ∃ (r : Fin 32768) (d : Fin 5632), j = ValueIdx.ix2 r d := ⟨j 0, j 1, ValueIdx.eq_ix2 (n0 := 32768) (n1 := 5632) j⟩
  exact Proj.wide_ref _ _ _ r d

theorem small_same : Cert.Reference2Ideal.Read.val_main_v26 (F := Ideal) (Proj.argX m 0) (Proj.argN m 0) (Proj.argW m 0) = Proj.smallArr m 0 := by
  funext j
  obtain ⟨r, d, rfl⟩ : ∃ (r : Fin 32768) (d : Fin 128), j = ValueIdx.ix2 r d := ⟨j 0, j 1, ValueIdx.eq_ix2 (n0 := 32768) (n1 := 128) j⟩
  exact Proj.small_ref _ _ _ r d

end

/-- **The input projection and its reference end with equal results.** -/
theorem projections : Cert.algebraic_Kernel2Ideal_Reference2Ideal := fun m g m' g' _ hm => by
  refine ⟨fun c => Proj.wideArr m c, fun c => Proj.smallArr m c, ?_, ?_⟩
  · refine (θ_run Cert.Kernel2Ideal.defs _ _).mono (fun r h c => ?_) (Cert.Kernel2Ideal.Value.run_blocks (F := Ideal) m g)
    obtain ⟨h0, h1, h2⟩ := h c
    exact ⟨h0.trans (Proj.final_wide m c), h1.trans (Proj.final_small m c), h2⟩
  · refine (θ_run Cert.Reference2Ideal.defs _ _).mono (fun r h c => ?_) (Cert.Reference2Ideal.Value.run (F := Ideal) m' g')
    obtain rfl : c = 0 := Subsingleton.elim c 0
    obtain ⟨e0, e1, e2⟩ := hm 0
    obtain ⟨h0, h1, h2⟩ := h 0
    refine ⟨h0.trans ?_, h1.trans ?_, h2⟩
    · refine (Cert.Reference2Ideal.Read.val_main_v25_eq m' 0).trans ?_
      rw [e0, e1, e2]
      exact wide_same m
    · refine (Cert.Reference2Ideal.Read.val_main_v26_eq _ _ _).trans ?_
      rw [e0, e1, e2]
      exact small_same m

/-- The reference output projection runs and keeps its arguments. -/
theorem frame_output : Cert.quiescent_Reference3Ideal := fun m ρ _ =>
  (θ_run Cert.Reference3Ideal.defs _ _).mono (fun r h => And.intro (fun c => (h c).2.2) (sem_eq_zero_of_no_sems (by decide) r.2))
    (Cert.Reference3Ideal.Value.run (F := Ideal) m ρ)

section
variable (m : (ℓ : Loc Cert.Kernel3Ideal.nD Cert.Kernel3Ideal.τ Cert.Kernel3Ideal.sig) → Buf (Elt Ideal) ℓ)

/-- Of equal arguments, the reference output projection's results are the kernel's. -/
theorem out_mix_same : Cert.Reference3Ideal.Read.val_main_v17 (F := Ideal) (Out.argS m 0) (Out.argA m 0) (Out.argX m 0) (Out.argW m 0) (Out.argN m 0)
    = Out.mixArr m 0 := by
  funext j
  obtain ⟨r, d, rfl⟩ : ∃ (r : Fin 32768) (d : Fin 1024), j = ValueIdx.ix2 r d := ⟨j 0, j 1, ValueIdx.eq_ix2 (n0 := 32768) (n1 := 1024) j⟩
  exact Out.mix_ref _ _ _ _ _ r d

theorem out_next_same : Cert.Reference3Ideal.Read.val_main_v31 (F := Ideal) (Out.argS m 0) (Out.argA m 0) (Out.argX m 0) (Out.argW m 0) (Out.argN m 0)
    (Out.argF m 0) = Out.nextArr m 0 := by
  funext j
  obtain ⟨r, d, rfl⟩ : ∃ (r : Fin 32768) (d : Fin 1024), j = ValueIdx.ix2 r d := ⟨j 0, j 1, ValueIdx.eq_ix2 (n0 := 32768) (n1 := 1024) j⟩
  exact Out.next_ref _ _ _ _ _ _ r d

end

/-- **The output projection and its reference end with equal results.** -/
theorem outputs : Cert.algebraic_Kernel3Ideal_Reference3Ideal := fun m g m' g' _ hm => by
  refine ⟨fun c => Out.mixArr m c, fun c => Out.nextArr m c, Out.run_out m g, ?_⟩
  refine (θ_run Cert.Reference3Ideal.defs _ _).mono (fun r h c => ?_) (Cert.Reference3Ideal.Value.run (F := Ideal) m' g')
  obtain rfl : c = 0 := Subsingleton.elim c 0
  obtain ⟨e0, e1, e2, e3, e4, e5, _⟩ := hm 0
  obtain ⟨h0, h1, h2⟩ := h 0
  refine ⟨h0.trans ?_, h1.trans ?_, h2⟩
  · refine (Cert.Reference3Ideal.Read.val_main_v17_eq _ _ _ _ _).trans ?_
    rw [e0, e1, e2, e3, e4]
    exact out_mix_same m
  · refine (Cert.Reference3Ideal.Read.val_main_v31_eq m' 0).trans ?_
    rw [e0, e1, e2, e3, e4, e5]
    exact out_next_same m

/-- The reference combination runs and keeps its arguments. -/
theorem frame_combine : Cert.quiescent_Reference4Ideal := fun m ρ _ =>
  (θ_run Cert.Reference4Ideal.defs _ _).mono (fun r h => And.intro (fun c => (h c).2) (sem_eq_zero_of_no_sems (by decide) r.2))
    (Cert.Reference4Ideal.Value.run (F := Ideal) m ρ)

/-- Of equal arguments, the reference combination's result is the kernel's. -/
theorem combined_same (m : (ℓ : Loc Cert.Kernel4Ideal.nD Cert.Kernel4Ideal.τ Cert.Kernel4Ideal.sig) → Buf (Elt Ideal) ℓ) (Γ : Fin 32 → Fin 1024 → Fin 4)
    (hΓ : ∀ (b : Fin 32) (j : Fin 1024) (R : Fin 32768), R.val = b.val * 1024 + j.val →
      (Comb.argG m 0 (ValueIdx.ix2 R (32 : Fin 128)) : EReal) = ((Γ b j).val : EReal)) :
    Cert.Reference4Ideal.Read.val_main_v50 (F := Ideal) (Comb.argY m 0) (Comb.argG m 0) (Comb.argX m 0) = Comb.combArr m 0 Γ := by
  funext j
  obtain ⟨r, d, rfl⟩ : ∃ (r : Fin 32768) (d : Fin 1024), j = ValueIdx.ix2 r d := ⟨j 0, j 1, ValueIdx.eq_ix2 (n0 := 32768) (n1 := 1024) j⟩
  refine Comb.Ref.out_read _ _ _ Γ (fun b j => hΓ b j (Comb.Ref.tok b j) rfl) r d (Comb.seqRow r) (Comb.tokRow r) (Fin.ext ?_)
  show r.val = r.val / 1024 * 1024 + r.val % 1024
  omega

/-- **The combination and its reference end with equal results.** -/
theorem combined : Cert.algebraic_Kernel4Ideal_Reference4Ideal_pre_grouped := fun m g m' g' hp hm => by
  obtain ⟨Γ, hΓ⟩ := Comb.Pre.groups _ _ _ (hp 0)
  refine ⟨fun c => Comb.combArr m c Γ, ?_, ?_⟩
  · refine (θ_run Cert.Kernel4Ideal.defs _ _).mono (fun r h c => ?_) (Cert.Kernel4Ideal.Value.run_blocks (F := Ideal) m g)
    obtain rfl : c = 0 := Subsingleton.elim c 0
    obtain ⟨h0, h1⟩ := h 0
    refine ⟨h0.trans (Comb.final_comb m 0 Γ (fun R => hΓ (Comb.seqRow R) (Comb.tokRow R) R ?_)), h1⟩
    show R.val = R.val / 1024 * 1024 + R.val % 1024
    omega
  · refine (θ_run Cert.Reference4Ideal.defs _ _).mono (fun r h c => ?_) (Cert.Reference4Ideal.Value.run (F := Ideal) m' g')
    obtain rfl : c = 0 := Subsingleton.elim c 0
    obtain ⟨e0, e1, e2⟩ := hm 0
    obtain ⟨h0, h1⟩ := h 0
    refine ⟨h0.trans ?_, h1⟩
    refine (Cert.Reference4Ideal.Read.val_main_v50_eq m' 0).trans ?_
    rw [e0, e1, e2]
    exact combined_same m Γ hΓ

/-- The reference dispatch runs and keeps its arguments. -/
theorem frame_dispatch : Cert.quiescent_Reference5Ideal := fun m ρ _ =>
  (θ_run Cert.Reference5Ideal.defs _ _).mono (fun r h => And.intro (fun c => (h c).2.2.2) (sem_eq_zero_of_no_sems (by decide) r.2))
    (Cert.Reference5Ideal.Value.run (F := Ideal) m ρ)

section
variable (m : (ℓ : Loc Cert.Kernel5Ideal.nD Cert.Kernel5Ideal.τ Cert.Kernel5Ideal.sig) → Buf (Elt Ideal) ℓ) (Γ : Fin 32 → Fin 1024 → Fin 4)
  (hΓ : ∀ (b : Fin 32) (j : Fin 1024) (R : Fin 32768), R.val = b.val * 1024 + j.val →
    (Disp.argG m 0 (ValueIdx.ix2 R (32 : Fin 128)) : EReal) = ((Γ b j).val : EReal))
include hΓ

/-- Of equal arguments, the reference dispatch's results are the kernel's. -/
theorem rows_same : Cert.Reference5Ideal.Read.val_main_v85 (F := Ideal) (Disp.argX m 0) (Disp.argG m 0) = Disp.rowsArr m 0 Γ := by
  funext j
  obtain ⟨b, p, d, rfl⟩ : ∃ (b : Fin 32) (p : Fin 1536) (d : Fin 1024), j = ValueIdx.ix3 b p d :=
    ⟨j 0, j 1, j 2, ValueIdx.eq_ix3 (n0 := 32) (n1 := 1536) (n2 := 1024) j⟩
  exact Disp.Ref.rows_out _ _ Γ (fun b j => hΓ b j (Comb.Ref.tok b j) rfl) b p d

theorem gates_same : Cert.Reference5Ideal.Read.val_main_v94 (F := Ideal) (Disp.argG m 0) = Disp.gatesArr m 0 Γ := by
  funext j
  obtain ⟨b, p, k, rfl⟩ : ∃ (b : Fin 32) (p : Fin 1536) (k : Fin 128), j = ValueIdx.ix3 b p k :=
    ⟨j 0, j 1, j 2, ValueIdx.eq_ix3 (n0 := 32) (n1 := 1536) (n2 := 128) j⟩
  exact Disp.Ref.gates_out _ Γ (fun b j => hΓ b j (Comb.Ref.tok b j) rfl) b p k

theorem table_same : Cert.Reference5Ideal.Read.val_main_v74 (F := Ideal) (Disp.argG m 0) = Disp.tableArr Γ := by
  funext j
  obtain ⟨b, p, k, rfl⟩ : ∃ (b : Fin 32) (p : Fin 8) (k : Fin 128), j = ValueIdx.ix3 b p k :=
    ⟨j 0, j 1, j 2, ValueIdx.eq_ix3 (n0 := 32) (n1 := 8) (n2 := 128) j⟩
  exact Disp.Ref.table_out _ Γ (fun b j => hΓ b j (Comb.Ref.tok b j) rfl) b p k

end

/-- **The dispatch and its reference end with equal results.** -/
theorem dispatched : Cert.algebraic_Kernel5Ideal_Reference5Ideal_pre_dispatchable := fun m g m' g' hp hm => by
  obtain ⟨Γ, hΓ⟩ := Disp.Pre.groups _ _ (hp 0)
  have hF := Disp.Pre.rest _ _ (hp 0)
  refine ⟨fun c => Disp.rowsArr m c Γ, fun c => Disp.gatesArr m c Γ, fun _ => Disp.tableArr Γ, ?_, ?_⟩
  · refine (θ_run Cert.Kernel5Ideal.defs _ _).mono (fun r h c => ?_) (Cert.Kernel5Ideal.Value.run_blocks (F := Ideal) m g)
    obtain rfl : c = 0 := Subsingleton.elim c 0
    obtain ⟨h0, h1, h2, h3⟩ := h 0
    exact ⟨h0.trans (Disp.final_rows m 0 Γ (fun b j => hΓ b j (Disp.tokAt b j) rfl)),
      h1.trans (Disp.final_gates m 0 Γ (fun b j => hΓ b j (Disp.tokAt b j) rfl) hF),
      h2.trans (Disp.final_table m 0 Γ (fun b j => hΓ b j (Disp.tokAt b j) rfl)), h3⟩
  · refine (θ_run Cert.Reference5Ideal.defs _ _).mono (fun r h c => ?_) (Cert.Reference5Ideal.Value.run (F := Ideal) m' g')
    obtain rfl : c = 0 := Subsingleton.elim c 0
    obtain ⟨e0, e1⟩ := hm 0
    obtain ⟨h0, h1, h2, h3⟩ := h 0
    refine ⟨h0.trans ?_, h1.trans ?_, h2.trans ?_, h3⟩
    · refine (Cert.Reference5Ideal.Read.val_main_v85_eq m' 0).trans ?_
      rw [e0, e1]
      exact rows_same m Γ hΓ
    · refine (Cert.Reference5Ideal.Read.val_main_v94_eq m' 0).trans ?_
      rw [e1]
      exact gates_same m Γ hΓ
    · refine (Cert.Reference5Ideal.Read.val_main_v74_eq _).trans ?_
      rw [e1]
      exact table_same m Γ hΓ

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts,
  Cert.Reference5Ideal.Gen.facts, Cert.Pre_routed.Gen.facts, Cert.Pre_grouped.Gen.facts, Cert.Pre_dispatchable.Gen.facts,
  frame_kernel, frame_ideal, frame_reference, fun m ρ _ => frame_reference m ρ trivial, fun m ρ _ => Cert.Kernel2.Gen.frame m ρ,
  fun m ρ _ => Cert.Kernel2Ideal.Gen.frame m ρ, frame_projection, fun m ρ _ => Cert.Kernel3.Gen.frame m ρ,
  fun m ρ _ => Cert.Kernel3Ideal.Gen.frame m ρ, frame_output, fun m ρ _ => Cert.Kernel4.Gen.frame m ρ,
  fun m ρ _ => Cert.Kernel4Ideal.Gen.frame m ρ, fun m ρ _ => Cert.Kernel4Ideal.Gen.frame m ρ, frame_combine, fun m ρ _ => frame_combine m ρ trivial,
  fun m ρ _ => Cert.Kernel5.Gen.frame m ρ, fun m ρ _ => Cert.Kernel5Ideal.Gen.frame m ρ, fun m ρ _ => Cert.Kernel5Ideal.Gen.frame m ρ, frame_dispatch,
  fun m ρ _ => frame_dispatch m ρ trivial, trivial, values, trivial, projections, trivial, outputs, trivial, combined,
  trivial, dispatched⟩

end Cert.Proof

end
